-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12)
      ∧ r.2.mem ((c.tc : Thread Cert.Kernel3.nD Cert.Kernel3.τ).loc Cert.Kernel3.main_arg13) = m ((c.tc : Thread Cert.Kernel3.nD Cert.Kernel3.τ).loc Cert.Kernel3.main_arg13))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
      ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12)
      ∧ r.2.mem ((c.tc : Thread Cert.Reference3Ideal.nD Cert.Reference3Ideal.τ).loc Cert.Reference3Ideal.main_arg13) = m ((c.tc : Thread Cert.Reference3Ideal.nD Cert.Reference3Ideal.τ).loc Cert.Reference3Ideal.main_arg13))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v139_1)) (v1 : (c : Dev Cert.KernelIdeal.nD) → Buf (Elt Ideal) ((c.tc : Thread Cert.KernelIdeal.nD Cert.KernelIdeal.τ).loc Cert.KernelIdeal.main_v139_2)) (v2 : (c : Dev Cert.KernelIdeal.nD) → Buf (Elt Ideal) ((c.tc : Thread Cert.KernelIdeal.nD Cert.KernelIdeal.τ).loc Cert.KernelIdeal.main_v139_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v139_1) = v0 c
          ∧ r.2.mem ((c.tc : Thread Cert.KernelIdeal.nD Cert.KernelIdeal.τ).loc Cert.KernelIdeal.main_v139_2) = v1 c
          ∧ r.2.mem ((c.tc : Thread Cert.KernelIdeal.nD Cert.KernelIdeal.τ).loc Cert.KernelIdeal.main_v139_3) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v156) = v0 c
          ∧ r.2.mem ((c.tc : Thread Cert.ReferenceIdeal.nD Cert.ReferenceIdeal.τ).loc Cert.ReferenceIdeal.main_v162) = v1 c
          ∧ r.2.mem ((c.tc : Thread Cert.ReferenceIdeal.nD Cert.ReferenceIdeal.τ).loc Cert.ReferenceIdeal.main_v169) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v2_0)) (v1 : (c : Dev Cert.Kernel2Ideal.nD) → Buf (Elt Ideal) ((c.tc : Thread Cert.Kernel2Ideal.nD Cert.Kernel2Ideal.τ).loc Cert.Kernel2Ideal.main_v2_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2_0) = v0 c
          ∧ r.2.mem ((c.tc : Thread Cert.Kernel2Ideal.nD Cert.Kernel2Ideal.τ).loc Cert.Kernel2Ideal.main_v2_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v45) = v0 c
          ∧ r.2.mem ((c.tc : Thread Cert.Reference2Ideal.nD Cert.Reference2Ideal.τ).loc Cert.Reference2Ideal.main_v29) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)
      ∧ m' ((c.tc : Thread Cert.Reference3Ideal.nD Cert.Reference3Ideal.τ).loc Cert.Reference3Ideal.main_arg13) = m ((c.tc : Thread Cert.Kernel3Ideal.nD Cert.Kernel3Ideal.τ).loc Cert.Kernel3Ideal.main_arg13)) →
    ∃ (v0 : (c : Dev Cert.Kernel3Ideal.nD) → Buf (Elt Ideal) ((c.tc : Thread Cert.Kernel3Ideal.nD Cert.Kernel3Ideal.τ).loc Cert.Kernel3Ideal.main_v9_4)) (v1 : (c : Dev Cert.Kernel3Ideal.nD) → Buf (Elt Ideal) ((c.tc : Thread Cert.Kernel3Ideal.nD Cert.Kernel3Ideal.τ).loc Cert.Kernel3Ideal.main_v9_5)) (v2 : (c : Dev Cert.Kernel3Ideal.nD) → Buf (Elt Ideal) ((c.tc : Thread Cert.Kernel3Ideal.nD Cert.Kernel3Ideal.τ).loc Cert.Kernel3Ideal.main_v9_6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v9_4) = v0 c
          ∧ r.2.mem ((c.tc : Thread Cert.Kernel3Ideal.nD Cert.Kernel3Ideal.τ).loc Cert.Kernel3Ideal.main_v9_5) = v1 c
          ∧ r.2.mem ((c.tc : Thread Cert.Kernel3Ideal.nD Cert.Kernel3Ideal.τ).loc Cert.Kernel3Ideal.main_v9_6) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
          ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v422) = v0 c
          ∧ r.2.mem ((c.tc : Thread Cert.Reference3Ideal.nD Cert.Reference3Ideal.τ).loc Cert.Reference3Ideal.main_v423) = v1 c
          ∧ r.2.mem ((c.tc : Thread Cert.Reference3Ideal.nD Cert.Reference3Ideal.τ).loc Cert.Reference3Ideal.main_v407) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12)
          ∧ r.2.mem ((c.tc : Thread Cert.Reference3Ideal.nD Cert.Reference3Ideal.τ).loc Cert.Reference3Ideal.main_arg13) = m' ((c.tc : Thread Cert.Reference3Ideal.nD Cert.Reference3Ideal.τ).loc Cert.Reference3Ideal.main_arg13))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Kernel.lean ====
abbrev S2x2048x1024 : Shape := ⟨3, ![2, 2048, 1024]⟩
abbrev S2x2048x2560 : Shape := ⟨3, ![2, 2048, 2560]⟩
abbrev S1024x1024 : Shape := ⟨2, ![1024, 1024]⟩
abbrev S4x128x128 : Shape := ⟨3, ![4, 128, 128]⟩
abbrev S4x128 : Shape := ⟨2, ![4, 128]⟩
abbrev S512 : Shape := ⟨1, ![512]⟩
abbrev S31x512 : Shape := ⟨2, ![31, 512]⟩
abbrev S512x512 : Shape := ⟨2, ![512, 512]⟩
abbrev S2x2048x512 : Shape := ⟨3, ![2, 2048, 512]⟩
abbrev S2x2048x4x128 : Shape := ⟨4, ![2, 2048, 4, 128]⟩
abbrev S2x2048x1x128 : Shape := ⟨4, ![2, 2048, 1, 128]⟩
abbrev S2x2048x128 : Shape := ⟨3, ![2, 2048, 128]⟩
abbrev S_ : Shape := ⟨0, ![]⟩
abbrev S2048 : Shape := ⟨1, ![2048]⟩
abbrev S1x2048x1 : Shape := ⟨3, ![1, 2048, 1]⟩
abbrev S4x128x2x2048 : Shape := ⟨4, ![4, 128, 2, 2048]⟩
abbrev S1x1x4x128 : Shape := ⟨4, ![1, 1, 4, 128]⟩
abbrev S2x2078x512 : Shape := ⟨3, ![2, 2078, 512]⟩
abbrev S2048x1 : Shape := ⟨2, ![2048, 1]⟩
abbrev S31 : Shape := ⟨1, ![31]⟩
abbrev S1x31 : Shape := ⟨2, ![1, 31]⟩
abbrev S2048x31 : Shape := ⟨2, ![2048, 31]⟩
abbrev S2048x31x1 : Shape := ⟨3, ![2048, 31, 1]⟩
abbrev S2x2048x31x512 : Shape := ⟨4, ![2, 2048, 31, 512]⟩
abbrev S1x1x31x512 : Shape := ⟨4, ![1, 1, 31, 512]⟩
abbrev S1x1x512 : Shape := ⟨3, ![1, 1, 512]⟩
abbrev S2x2048 : Shape := ⟨2, ![2, 2048]⟩
abbrev S2x2048x1 : Shape := ⟨3, ![2, 2048, 1]⟩
abbrev S1x512 : Shape := ⟨2, ![1, 512]⟩
abbrev S6x8x512 : Shape := ⟨3, ![6, 8, 512]⟩
abbrev S31x8x512 : Shape := ⟨3, ![31, 8, 512]⟩
abbrev S1x512x1024 : Shape := ⟨3, ![1, 512, 1024]⟩
abbrev S1x512x2560 : Shape := ⟨3, ![1, 512, 2560]⟩
abbrev S1x512x512 : Shape := ⟨3, ![1, 512, 512]⟩
abbrev S528x512 : Shape := ⟨2, ![528, 512]⟩
abbrev S544x512 : Shape := ⟨2, ![544, 512]⟩
abbrev S88x128 : Shape := ⟨2, ![88, 128]⟩
abbrev S512x1024 : Shape := ⟨2, ![512, 1024]⟩
abbrev S16x512 : Shape := ⟨2, ![16, 512]⟩
abbrev S32x512 : Shape := ⟨2, ![32, 512]⟩
abbrev S1x256x1024 : Shape := ⟨3, ![1, 256, 1024]⟩
abbrev S256x1024 : Shape := ⟨2, ![256, 1024]⟩
abbrev S256x512 : Shape := ⟨2, ![256, 512]⟩
abbrev S1x256x512 : Shape := ⟨3, ![1, 256, 512]⟩
abbrev S1x8x512 : Shape := ⟨3, ![1, 8, 512]⟩
abbrev S8x512 : Shape := ⟨2, ![8, 512]⟩
abbrev S32x8x512 : Shape := ⟨3, ![32, 8, 512]⟩
abbrev S256x128 : Shape := ⟨2, ![256, 128]⟩
abbrev S1x128x128 : Shape := ⟨3, ![1, 128, 128]⟩
abbrev S128x128 : Shape := ⟨2, ![128, 128]⟩
abbrev S1x256x128 : Shape := ⟨3, ![1, 256, 128]⟩
abbrev S272x128 : Shape := ⟨2, ![272, 128]⟩
abbrev S256 : Shape := ⟨1, ![256]⟩
abbrev S256x1 : Shape := ⟨2, ![256, 1]⟩
abbrev S1x64x128 : Shape := ⟨3, ![1, 64, 128]⟩
abbrev S64x128 : Shape := ⟨2, ![64, 128]⟩
abbrev S1x128 : Shape := ⟨2, ![1, 128]⟩
abbrev S1x8x128 : Shape := ⟨3, ![1, 8, 128]⟩
abbrev S8x128 : Shape := ⟨2, ![8, 128]⟩
abbrev S8x8x128 : Shape := ⟨3, ![8, 8, 128]⟩

abbrev nBuf : Space → Nat
  | .hbm => 182
  | .vmem => 30
  | .smem => 0
  | _ => 0

abbrev hbmTy0_0 (i : Nat) : BufTy := match i % 128 with
  | 0 => ⟨S2x2048x1024, .f32⟩
  | 1 => ⟨S2x2048x2560, .f32⟩
  | 2 => ⟨S1024x1024, .f32⟩
  | 3 => ⟨S4x128x128, .f32⟩
  | 4 => ⟨S4x128, .f32⟩
  | 5 => ⟨S512, .f32⟩
  | 6 => ⟨S31x512, .f32⟩
  | 7 => ⟨S512, .f32⟩
  | 8 => ⟨S512, .f32⟩
  | 9 => ⟨S512, .f32⟩
  | 10 => ⟨S512x512, .f32⟩
  | 11 => ⟨S512, .f32⟩
  | 12 => ⟨S2x2048x512, .f32⟩
  | 13 => ⟨S2x2048x4x128, .f32⟩
  | 14 => ⟨S2x2048x1x128, .f32⟩
  | 15 => ⟨S2x2048x128, .f32⟩
  | 16 => ⟨S_, .f32⟩
  | 17 => ⟨S_, .f32⟩
  | 18 => ⟨S2x2048x128, .f32⟩
  | 19 => ⟨S2048, .i32⟩
  | 20 => ⟨S_, .i32⟩
  | 21 => ⟨S2048, .i32⟩
  | 22 => ⟨S2048, .i32⟩
  | 23 => ⟨S_, .i32⟩
  | 24 => ⟨S2048, .i32⟩
  | 25 => ⟨S2048, .i32⟩
  | 26 => ⟨S2048, .f32⟩
  | 27 => ⟨S1x2048x1, .f32⟩
  | 28 => ⟨S2x2048x128, .f32⟩
  | 29 => ⟨S2x2048x128, .f32⟩
  | 30 => ⟨S2x2048x1x128, .f32⟩
  | 31 => ⟨S2x2048x128, .f32⟩
  | 32 => ⟨S_, .f32⟩
  | 33 => ⟨S_, .f32⟩
  | 34 => ⟨S2x2048x128, .f32⟩
  | 35 => ⟨S2048, .i32⟩
  | 36 => ⟨S_, .i32⟩
  | 37 => ⟨S2048, .i32⟩
  | 38 => ⟨S2048, .i32⟩
  | 39 => ⟨S_, .i32⟩
  | 40 => ⟨S2048, .i32⟩
  | 41 => ⟨S2048, .i32⟩
  | 42 => ⟨S2048, .f32⟩
  | 43 => ⟨S1x2048x1, .f32⟩
  | 44 => ⟨S2x2048x128, .f32⟩
  | 45 => ⟨S2x2048x128, .f32⟩
  | 46 => ⟨S2x2048x1x128, .f32⟩
  | 47 => ⟨S2x2048x128, .f32⟩
  | 48 => ⟨S_, .f32⟩
  | 49 => ⟨S_, .f32⟩
  | 50 => ⟨S2x2048x128, .f32⟩
  | 51 => ⟨S2048, .i32⟩
  | 52 => ⟨S_, .i32⟩
  | 53 => ⟨S2048, .i32⟩
  | 54 => ⟨S2048, .i32⟩
  | 55 => ⟨S_, .i32⟩
  | 56 => ⟨S2048, .i32⟩
  | 57 => ⟨S2048, .i32⟩
  | 58 => ⟨S2048, .f32⟩
  | 59 => ⟨S1x2048x1, .f32⟩
  | 60 => ⟨S2x2048x128, .f32⟩
  | 61 => ⟨S2x2048x128, .f32⟩
  | 62 => ⟨S2x2048x1x128, .f32⟩
  | 63 => ⟨S2x2048x128, .f32⟩
  | 64 => ⟨S_, .f32⟩
  | 65 => ⟨S_, .f32⟩
  | 66 => ⟨S2x2048x128, .f32⟩
  | 67 => ⟨S2048, .i32⟩
  | 68 => ⟨S_, .i32⟩
  | 69 => ⟨S2048, .i32⟩
  | 70 => ⟨S2048, .i32⟩
  | 71 => ⟨S_, .i32⟩
  | 72 => ⟨S2048, .i32⟩
  | 73 => ⟨S2048, .i32⟩
  | 74 => ⟨S2048, .f32⟩
  | 75 => ⟨S1x2048x1, .f32⟩
  | 76 => ⟨S2x2048x128, .f32⟩
  | 77 => ⟨S2x2048x128, .f32⟩
  | 78 => ⟨S2x2048x1x128, .f32⟩
  | 79 => ⟨S2x2048x1x128, .f32⟩
  | 80 => ⟨S2x2048x1x128, .f32⟩
  | 81 => ⟨S2x2048x1x128, .f32⟩
  | 82 => ⟨S2x2048x4x128, .f32⟩
  | 83 => ⟨S2x2048x4x128, .f32⟩
  | 84 => ⟨S4x128x2x2048, .f32⟩
  | 85 => ⟨S2x2048x4x128, .f32⟩
  | 86 => ⟨S1x1x4x128, .f32⟩
  | 87 => ⟨S2x2048x4x128, .f32⟩
  | 88 => ⟨S2x2048x4x128, .f32⟩
  | 89 => ⟨S2x2048x512, .f32⟩
  | 90 => ⟨S2x2048x512, .f32⟩
  | 91 => ⟨S2x2048x512, .f32⟩
  | 92 => ⟨S2x2048x512, .f32⟩
  | 93 => ⟨S2x2048x512, .f32⟩
  | 94 => ⟨S_, .f32⟩
  | 95 => ⟨S2x2048x512, .f32⟩
  | 96 => ⟨S2x2048x512, .f32⟩
  | 97 => ⟨S_, .f32⟩
  | 98 => ⟨S2x2048x512, .f32⟩
  | 99 => ⟨S2x2048x512, .f32⟩
  | 100 => ⟨S2x2048x512, .f32⟩
  | 101 => ⟨S_, .f32⟩
  | 102 => ⟨S2x2078x512, .f32⟩
  | 103 => ⟨S2048, .i32⟩
  | 104 => ⟨S2048x1, .i32⟩
  | 105 => ⟨S31, .i32⟩
  | 106 => ⟨S1x31, .i32⟩
  | 107 => ⟨S2048x31, .i32⟩
  | 108 => ⟨S2048x31, .i32⟩
  | 109 => ⟨S2048x31, .i32⟩
  | 110 => ⟨S_, .i32⟩
  | 111 => ⟨S2048x31, .i32⟩
  | 112 => ⟨S2048x31, .i1⟩
  | 113 => ⟨S_, .i32⟩
  | 114 => ⟨S2048x31, .i32⟩
  | 115 => ⟨S2048x31, .i32⟩
  | 116 => ⟨S2048x31, .i32⟩
  | 117 => ⟨S2048x31x1, .i32⟩
  | 118 => ⟨S2x2048x31x512, .f32⟩
  | 119 => ⟨S1x1x31x512, .f32⟩
  | 120 => ⟨S2x2048x31x512, .f32⟩
  | 121 => ⟨S2x2048x31x512, .f32⟩
  | 122 => ⟨S_, .f32⟩
  | 123 => ⟨S2x2048x512, .f32⟩
  | 124 => ⟨S1x1x512, .f32⟩
  | 125 => ⟨S2x2048x512, .f32⟩
  | 126 => ⟨S2x2048x512, .f32⟩
  | 127 => ⟨S_, .f32⟩
  | _ => ⟨S2x2048x1024, .f32⟩

abbrev hbmTy0_1 (i : Nat) : BufTy := match i % 128 with
  | 0 => ⟨S2x2048, .f32⟩
  | 1 => ⟨S2x2048x1, .f32⟩
  | 2 => ⟨S_, .f32⟩
  | 3 => ⟨S2x2048x1, .f32⟩
  | 4 => ⟨S2x2048x1, .f32⟩
  | 5 => ⟨S2x2048x512, .f32⟩
  | 6 => ⟨S2x2048x512, .f32⟩
  | 7 => ⟨S2x2048x512, .f32⟩
  | 8 => ⟨S_, .f32⟩
  | 9 => ⟨S2x2048, .f32⟩
  | 10 => ⟨S2x2048x1, .f32⟩
  | 11 => ⟨S_, .f32⟩
  | 12 => ⟨S2x2048x1, .f32⟩
  | 13 => ⟨S2x2048x1, .f32⟩
  | 14 => ⟨S2x2048x512, .f32⟩
  | 15 => ⟨S2x2048x512, .f32⟩
  | 16 => ⟨S_, .f32⟩
  | 17 => ⟨S2x2048x1, .f32⟩
  | 18 => ⟨S2x2048x1, .f32⟩
  | 19 => ⟨S2x2048x1, .f32⟩
  | 20 => ⟨S2x2048x512, .f32⟩
  | 21 => ⟨S2x2048x512, .f32⟩
  | 22 => ⟨S1x1x512, .f32⟩
  | 23 => ⟨S2x2048x512, .f32⟩
  | 24 => ⟨S2x2048x512, .f32⟩
  | 25 => ⟨S1x1x512, .f32⟩
  | 26 => ⟨S2x2048x512, .f32⟩
  | 27 => ⟨S2x2048x512, .f32⟩
  | 28 => ⟨S2x2048x512, .f32⟩
  | 29 => ⟨S2x2048x512, .f32⟩
  | 30 => ⟨S_, .f32⟩
  | 31 => ⟨S2x2048x512, .f32⟩
  | 32 => ⟨S2x2048x512, .f32⟩
  | 33 => ⟨S_, .f32⟩
  | 34 => ⟨S2x2048x512, .f32⟩
  | 35 => ⟨S2x2048x512, .f32⟩
  | 36 => ⟨S2x2048x512, .f32⟩
  | 37 => ⟨S2x2048x512, .f32⟩
  | 38 => ⟨S1x1x512, .f32⟩
  | 39 => ⟨S2x2048x512, .f32⟩
  | 40 => ⟨S2x2048x512, .f32⟩
  | 41 => ⟨S2x2048x512, .f32⟩
  | 42 => ⟨S2x2048x512, .bf16⟩
  | 43 => ⟨S1024x1024, .bf16⟩
  | 44 => ⟨S512x512, .bf16⟩
  | 45 => ⟨S1x512, .f32⟩
  | 46 => ⟨S1x512, .f32⟩
  | 47 => ⟨S1x512, .f32⟩
  | 48 => ⟨S2x2048x2560, .bf16⟩
  | 49 => ⟨S1024x1024, .f32⟩
  | 50 => ⟨S512x512, .f32⟩
  | 51 => ⟨S4x128x128, .f32⟩
  | 52 => ⟨S6x8x512, .f32⟩
  | 53 => ⟨S31x8x512, .f32⟩
  | _ => ⟨S2x2048x1024, .f32⟩

abbrev hbmTy (i : Nat) : BufTy := match i / 128 with
  | 0 => hbmTy0_0 i
  | 1 => hbmTy0_1 i
  | _ => ⟨S2x2048x1024, .f32⟩

abbrev bufTy : (tb : Table) → Fin (tcTables nBuf tb) → BufTy
  | .hbm, ⟨i, _⟩ => hbmTy i
  | .local _ .vmem, ⟨0, _⟩ => ⟨S1x512x1024, .f32⟩
  | .local _ .vmem, ⟨1, _⟩ => ⟨S1x512x1024, .f32⟩
  | .local _ .vmem, ⟨2, _⟩ => ⟨S1x512x2560, .f32⟩
  | .local _ .vmem, ⟨3, _⟩ => ⟨S1x512x2560, .f32⟩
  | .local _ .vmem, ⟨4, _⟩ => ⟨S1x512x512, .f32⟩
  | .local _ .vmem, ⟨5, _⟩ => ⟨S1x512x512, .f32⟩
  | .local _ .vmem, ⟨6, _⟩ => ⟨S1x512x512, .f32⟩
  | .local _ .vmem, ⟨7, _⟩ => ⟨S1x512x512, .f32⟩
  | .local _ .vmem, ⟨8, _⟩ => ⟨S1x512x512, .f32⟩
  | .local _ .vmem, ⟨9, _⟩ => ⟨S1x512x512, .f32⟩
  | .local _ .vmem, ⟨10, _⟩ => ⟨S1x512x512, .bf16⟩
  | .local _ .vmem, ⟨11, _⟩ => ⟨S1x512x512, .bf16⟩
  | .local _ .vmem, ⟨12, _⟩ => ⟨S1024x1024, .bf16⟩
  | .local _ .vmem, ⟨13, _⟩ => ⟨S512x512, .bf16⟩
  | .local _ .vmem, ⟨14, _⟩ => ⟨S4x128x128, .f32⟩
  | .local _ .vmem, ⟨15, _⟩ => ⟨S1x512, .f32⟩
  | .local _ .vmem, ⟨16, _⟩ => ⟨S31x512, .f32⟩
  | .local _ .vmem, ⟨17, _⟩ => ⟨S1x512, .f32⟩
  | .local _ .vmem, ⟨18, _⟩ => ⟨S1x512, .f32⟩
  | .local _ .vmem, ⟨19, _⟩ => ⟨S1x512x2560, .bf16⟩
  | .local _ .vmem, ⟨20, _⟩ => ⟨S1x512x2560, .bf16⟩
  | .local _ .vmem, ⟨21, _⟩ => ⟨S1024x1024, .f32⟩
  | .local _ .vmem, ⟨22, _⟩ => ⟨S512x512, .f32⟩
  | .local _ .vmem, ⟨23, _⟩ => ⟨S4x128x128, .f32⟩
  | .local _ .vmem, ⟨24, _⟩ => ⟨S6x8x512, .f32⟩
  | .local _ .vmem, ⟨25, _⟩ => ⟨S31x8x512, .f32⟩
  | .local _ .vmem, ⟨26, _⟩ => ⟨S528x512, .f32⟩
  | .local _ .vmem, ⟨27, _⟩ => ⟨S544x512, .f32⟩
  | .local _ .vmem, ⟨28, _⟩ => ⟨S88x128, .f32⟩
  | .local _ .vmem, ⟨29, _⟩ => ⟨S512x1024, .bf16⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_c : Ref sig .tc := ⟨.hbm, 20, rfl⟩
abbrev main_v7 : Ref sig .tc := ⟨.hbm, 21, rfl⟩
abbrev main_v8 : Ref sig .tc := ⟨.hbm, 22, rfl⟩
abbrev main_c_0 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_1 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_c_2 : Ref sig .tc := ⟨.hbm, 36, rfl⟩
abbrev main_v20 : Ref sig .tc := ⟨.hbm, 37, rfl⟩
abbrev main_v21 : Ref sig .tc := ⟨.hbm, 38, rfl⟩
abbrev main_c_3 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_4 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_5 : Ref sig .tc := ⟨.hbm, 52, rfl⟩
abbrev main_v33 : Ref sig .tc := ⟨.hbm, 53, rfl⟩
abbrev main_v34 : Ref sig .tc := ⟨.hbm, 54, rfl⟩
abbrev main_c_6 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_7 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_c_8 : Ref sig .tc := ⟨.hbm, 68, rfl⟩
abbrev main_v46 : Ref sig .tc := ⟨.hbm, 69, rfl⟩
abbrev main_v47 : Ref sig .tc := ⟨.hbm, 70, rfl⟩
abbrev main_c_9 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_cst_10 : Ref sig .tc := ⟨.hbm, 94, rfl⟩
abbrev main_v70 : Ref sig .tc := ⟨.hbm, 95, rfl⟩
abbrev main_v71 : Ref sig .tc := ⟨.hbm, 96, rfl⟩
abbrev main_cst_11 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_cst_12 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_c_13 : Ref sig .tc := ⟨.hbm, 110, rfl⟩
abbrev main_v83 : Ref sig .tc := ⟨.hbm, 111, rfl⟩
abbrev main_v84 : Ref sig .tc := ⟨.hbm, 112, rfl⟩
abbrev main_c_14 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_cst_15 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_cst_16 : Ref sig .tc := ⟨.hbm, 127, rfl⟩
abbrev main_v97 : Ref sig .tc := ⟨.hbm, 128, rfl⟩
abbrev main_v98 : Ref sig .tc := ⟨.hbm, 129, rfl⟩
abbrev main_cst_17 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_cst_18 : Ref sig .tc := ⟨.hbm, 136, rfl⟩
abbrev main_v104 : Ref sig .tc := ⟨.hbm, 137, rfl⟩
abbrev main_v105 : Ref sig .tc := ⟨.hbm, 138, rfl⟩
abbrev main_cst_19 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_cst_20 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩
abbrev main_cst_21 : Ref sig .tc := ⟨.hbm, 158, rfl⟩
abbrev main_v123 : Ref sig .tc := ⟨.hbm, 159, rfl⟩
abbrev main_v124 : Ref sig .tc := ⟨.hbm, 160, rfl⟩
abbrev main_cst_22 : Ref sig .tc := ⟨.hbm, 161, rfl⟩
abbrev main_v125 : Ref sig .tc := ⟨.hbm, 162, rfl⟩
abbrev main_v126 : Ref sig .tc := ⟨.hbm, 163, rfl⟩
abbrev main_v127 : Ref sig .tc := ⟨.hbm, 164, rfl⟩
abbrev main_v128 : Ref sig .tc := ⟨.hbm, 165, rfl⟩
abbrev main_v129 : Ref sig .tc := ⟨.hbm, 166, rfl⟩
abbrev main_v130 : Ref sig .tc := ⟨.hbm, 167, rfl⟩
abbrev main_v131 : Ref sig .tc := ⟨.hbm, 168, rfl⟩
abbrev main_v132 : Ref sig .tc := ⟨.hbm, 169, rfl⟩
abbrev main_v133 : Ref sig .tc := ⟨.hbm, 170, rfl⟩
abbrev main_v134 : Ref sig .tc := ⟨.hbm, 171, rfl⟩
abbrev main_v135 : Ref sig .tc := ⟨.hbm, 172, rfl⟩
abbrev main_v136 : Ref sig .tc := ⟨.hbm, 173, rfl⟩
abbrev main_v137 : Ref sig .tc := ⟨.hbm, 174, rfl⟩
abbrev main_v138 : Ref sig .tc := ⟨.hbm, 175, rfl⟩
abbrev main_v139_0 : Ref sig .tc := ⟨.hbm, 176, rfl⟩
abbrev main_v139_1 : Ref sig .tc := ⟨.hbm, 177, rfl⟩
abbrev main_v139_2 : Ref sig .tc := ⟨.hbm, 178, rfl⟩
abbrev main_v139_3 : Ref sig .tc := ⟨.hbm, 179, rfl⟩
abbrev main_v139_4 : Ref sig .tc := ⟨.hbm, 180, rfl⟩
abbrev main_v139_5 : Ref sig .tc := ⟨.hbm, 181, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg15_0 : Ref sig .tc := ⟨.vmem, 22, rfl⟩
abbrev cc0_stg16_0 : Ref sig .tc := ⟨.vmem, 23, rfl⟩
abbrev cc0_stg17_0 : Ref sig .tc := ⟨.vmem, 24, rfl⟩
abbrev cc0_stg18_0 : Ref sig .tc := ⟨.vmem, 25, rfl⟩
abbrev cc0_scratch0 : Ref sig .tc := ⟨.vmem, 26, rfl⟩
abbrev cc0_scratch1 : Ref sig .tc := ⟨.vmem, 27, rfl⟩
abbrev cc0_scratch2 : Ref sig .tc := ⟨.vmem, 28, rfl⟩
abbrev cc0_scratch3 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem13_1 : DmaSem sig := 20
abbrev cc0_sem14_0 : DmaSem sig := 21
abbrev cc0_sem15_0 : DmaSem sig := 22
abbrev cc0_sem16_0 : DmaSem sig := 23
abbrev cc0_sem17_0 : DmaSem sig := 24
abbrev cc0_sem18_0 : DmaSem sig := 25

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c0_i32 : BitVec 32 := 0#32
  let c0_i32_0 : BitVec 32 := 0#32
  ![arg0.toNat, v0.toNat, c0_i32.toNat]

def cc0_transform_1 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c0_i32 : BitVec 32 := 0#32
  let c0_i32_0 : BitVec 32 := 0#32
  ![arg0.toNat, v0.toNat, c0_i32.toNat]

def cc0_transform_2 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c0_i32 : BitVec 32 := 0#32
  let c0_i32_0 : BitVec 32 := 0#32
  ![arg0.toNat, v0.toNat, c0_i32.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c0_i32 : BitVec 32 := 0#32
  let c0_i32_0 : BitVec 32 := 0#32
  ![arg0.toNat, v0.toNat, c0_i32.toNat]

def cc0_transform_4 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c0_i32 : BitVec 32 := 0#32
  let c0_i32_0 : BitVec 32 := 0#32
  ![arg0.toNat, v0.toNat, c0_i32.toNat]

def cc0_transform_5 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c0_i32 : BitVec 32 := 0#32
  let c0_i32_0 : BitVec 32 := 0#32
  ![arg0.toNat, v0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c0_i32 : BitVec 32 := 0#32
  let c0_i32_0 : BitVec 32 := 0#32
  ![arg0.toNat, v0.toNat, c0_i32.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x2560 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S512x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S4x128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S31x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1x512x2560 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 1 → Memref sig .tc .vmem S1024x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S512x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S4x128x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S6x8x512 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 1 → Memref sig .tc .vmem S31x8x512 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]
-- ==== ReferenceIdeal.lean ====
abbrev S2x2048x1024 : Shape := ⟨3, ![2, 2048, 1024]⟩
abbrev S2x2048x2560 : Shape := ⟨3, ![2, 2048, 2560]⟩
abbrev S1024x1024 : Shape := ⟨2, ![1024, 1024]⟩
abbrev S4x128x128 : Shape := ⟨3, ![4, 128, 128]⟩
abbrev S4x128 : Shape := ⟨2, ![4, 128]⟩
abbrev S512 : Shape := ⟨1, ![512]⟩
abbrev S31x512 : Shape := ⟨2, ![31, 512]⟩
abbrev S512x512 : Shape := ⟨2, ![512, 512]⟩
abbrev S2x2048x512 : Shape := ⟨3, ![2, 2048, 512]⟩
abbrev S2x2048x4x128 : Shape := ⟨4, ![2, 2048, 4, 128]⟩
abbrev S2x2048x1x128 : Shape := ⟨4, ![2, 2048, 1, 128]⟩
abbrev S2x2048x128 : Shape := ⟨3, ![2, 2048, 128]⟩
abbrev S_ : Shape := ⟨0, ![]⟩
abbrev S2048 : Shape := ⟨1, ![2048]⟩
abbrev S1x2048x1 : Shape := ⟨3, ![1, 2048, 1]⟩
abbrev S4x128x2x2048 : Shape := ⟨4, ![4, 128, 2, 2048]⟩
abbrev S1x1x4x128 : Shape := ⟨4, ![1, 1, 4, 128]⟩
abbrev S1x1x512 : Shape := ⟨3, ![1, 1, 512]⟩
abbrev S2x2078x512 : Shape := ⟨3, ![2, 2078, 512]⟩
abbrev S2048x1 : Shape := ⟨2, ![2048, 1]⟩
abbrev S31 : Shape := ⟨1, ![31]⟩
abbrev S1x31 : Shape := ⟨2, ![1, 31]⟩
abbrev S2048x31 : Shape := ⟨2, ![2048, 31]⟩
abbrev S2048x31x1 : Shape := ⟨3, ![2048, 31, 1]⟩
abbrev S2x2048x31x512 : Shape := ⟨4, ![2, 2048, 31, 512]⟩
abbrev S1x1x31x512 : Shape := ⟨4, ![1, 1, 31, 512]⟩
abbrev S2x2048 : Shape := ⟨2, ![2, 2048]⟩
abbrev S2x2048x1 : Shape := ⟨3, ![2, 2048, 1]⟩

abbrev nBuf : Space → Nat
  | .hbm => 211
  | .vmem => 0
  | .smem => 0
  | _ => 0

abbrev hbmTy0_0 (i : Nat) : BufTy := match i % 128 with
  | 0 => ⟨S2x2048x1024, .f32⟩
  | 1 => ⟨S2x2048x2560, .f32⟩
  | 2 => ⟨S1024x1024, .f32⟩
  | 3 => ⟨S4x128x128, .f32⟩
  | 4 => ⟨S4x128, .f32⟩
  | 5 => ⟨S512, .f32⟩
  | 6 => ⟨S31x512, .f32⟩
  | 7 => ⟨S512, .f32⟩
  | 8 => ⟨S512, .f32⟩
  | 9 => ⟨S512, .f32⟩
  | 10 => ⟨S512x512, .f32⟩
  | 11 => ⟨S512, .f32⟩
  | 12 => ⟨S2x2048x512, .f32⟩
  | 13 => ⟨S2x2048x4x128, .f32⟩
  | 14 => ⟨S2x2048x1x128, .f32⟩
  | 15 => ⟨S2x2048x128, .f32⟩
  | 16 => ⟨S_, .f32⟩
  | 17 => ⟨S_, .f32⟩
  | 18 => ⟨S2x2048x128, .f32⟩
  | 19 => ⟨S2048, .i32⟩
  | 20 => ⟨S_, .i32⟩
  | 21 => ⟨S2048, .i32⟩
  | 22 => ⟨S2048, .i32⟩
  | 23 => ⟨S_, .i32⟩
  | 24 => ⟨S2048, .i32⟩
  | 25 => ⟨S2048, .i32⟩
  | 26 => ⟨S2048, .f32⟩
  | 27 => ⟨S1x2048x1, .f32⟩
  | 28 => ⟨S2x2048x128, .f32⟩
  | 29 => ⟨S2x2048x128, .f32⟩
  | 30 => ⟨S2x2048x1x128, .f32⟩
  | 31 => ⟨S2x2048x128, .f32⟩
  | 32 => ⟨S_, .f32⟩
  | 33 => ⟨S_, .f32⟩
  | 34 => ⟨S2x2048x128, .f32⟩
  | 35 => ⟨S2048, .i32⟩
  | 36 => ⟨S_, .i32⟩
  | 37 => ⟨S2048, .i32⟩
  | 38 => ⟨S2048, .i32⟩
  | 39 => ⟨S_, .i32⟩
  | 40 => ⟨S2048, .i32⟩
  | 41 => ⟨S2048, .i32⟩
  | 42 => ⟨S2048, .f32⟩
  | 43 => ⟨S1x2048x1, .f32⟩
  | 44 => ⟨S2x2048x128, .f32⟩
  | 45 => ⟨S2x2048x128, .f32⟩
  | 46 => ⟨S2x2048x1x128, .f32⟩
  | 47 => ⟨S2x2048x128, .f32⟩
  | 48 => ⟨S_, .f32⟩
  | 49 => ⟨S_, .f32⟩
  | 50 => ⟨S2x2048x128, .f32⟩
  | 51 => ⟨S2048, .i32⟩
  | 52 => ⟨S_, .i32⟩
  | 53 => ⟨S2048, .i32⟩
  | 54 => ⟨S2048, .i32⟩
  | 55 => ⟨S_, .i32⟩
  | 56 => ⟨S2048, .i32⟩
  | 57 => ⟨S2048, .i32⟩
  | 58 => ⟨S2048, .f32⟩
  | 59 => ⟨S1x2048x1, .f32⟩
  | 60 => ⟨S2x2048x128, .f32⟩
  | 61 => ⟨S2x2048x128, .f32⟩
  | 62 => ⟨S2x2048x1x128, .f32⟩
  | 63 => ⟨S2x2048x128, .f32⟩
  | 64 => ⟨S_, .f32⟩
  | 65 => ⟨S_, .f32⟩
  | 66 => ⟨S2x2048x128, .f32⟩
  | 67 => ⟨S2048, .i32⟩
  | 68 => ⟨S_, .i32⟩
  | 69 => ⟨S2048, .i32⟩
  | 70 => ⟨S2048, .i32⟩
  | 71 => ⟨S_, .i32⟩
  | 72 => ⟨S2048, .i32⟩
  | 73 => ⟨S2048, .i32⟩
  | 74 => ⟨S2048, .f32⟩
  | 75 => ⟨S1x2048x1, .f32⟩
  | 76 => ⟨S2x2048x128, .f32⟩
  | 77 => ⟨S2x2048x128, .f32⟩
  | 78 => ⟨S2x2048x1x128, .f32⟩
  | 79 => ⟨S2x2048x1x128, .f32⟩
  | 80 => ⟨S2x2048x1x128, .f32⟩
  | 81 => ⟨S2x2048x1x128, .f32⟩
  | 82 => ⟨S2x2048x4x128, .f32⟩
  | 83 => ⟨S2x2048x4x128, .f32⟩
  | 84 => ⟨S4x128x2x2048, .f32⟩
  | 85 => ⟨S2x2048x4x128, .f32⟩
  | 86 => ⟨S1x1x4x128, .f32⟩
  | 87 => ⟨S2x2048x4x128, .f32⟩
  | 88 => ⟨S2x2048x4x128, .f32⟩
  | 89 => ⟨S2x2048x512, .f32⟩
  | 90 => ⟨S1x1x512, .f32⟩
  | 91 => ⟨S2x2048x512, .f32⟩
  | 92 => ⟨S2x2048x512, .f32⟩
  | 93 => ⟨S2x2048x512, .f32⟩
  | 94 => ⟨S2x2048x512, .f32⟩
  | 95 => ⟨S2x2048x512, .f32⟩
  | 96 => ⟨S_, .f32⟩
  | 97 => ⟨S2x2048x512, .f32⟩
  | 98 => ⟨S2x2048x512, .f32⟩
  | 99 => ⟨S_, .f32⟩
  | 100 => ⟨S2x2048x512, .f32⟩
  | 101 => ⟨S2x2048x512, .f32⟩
  | 102 => ⟨S2x2048x512, .f32⟩
  | 103 => ⟨S2x2048x512, .f32⟩
  | 104 => ⟨S2x2048x512, .f32⟩
  | 105 => ⟨S2x2048x512, .f32⟩
  | 106 => ⟨S2x2048x512, .f32⟩
  | 107 => ⟨S2x2048x512, .f32⟩
  | 108 => ⟨S_, .f32⟩
  | 109 => ⟨S2x2048x512, .f32⟩
  | 110 => ⟨S2x2048x512, .f32⟩
  | 111 => ⟨S_, .f32⟩
  | 112 => ⟨S2x2048x512, .f32⟩
  | 113 => ⟨S2x2048x512, .f32⟩
  | 114 => ⟨S2x2048x512, .f32⟩
  | 115 => ⟨S_, .f32⟩
  | 116 => ⟨S2x2078x512, .f32⟩
  | 117 => ⟨S2048, .i32⟩
  | 118 => ⟨S2048x1, .i32⟩
  | 119 => ⟨S31, .i32⟩
  | 120 => ⟨S1x31, .i32⟩
  | 121 => ⟨S2048x31, .i32⟩
  | 122 => ⟨S2048x31, .i32⟩
  | 123 => ⟨S2048x31, .i32⟩
  | 124 => ⟨S_, .i32⟩
  | 125 => ⟨S2048x31, .i32⟩
  | 126 => ⟨S2048x31, .i1⟩
  | 127 => ⟨S_, .i32⟩
  | _ => ⟨S2x2048x1024, .f32⟩

abbrev hbmTy0_1 (i : Nat) : BufTy := match i % 128 with
  | 0 => ⟨S2048x31, .i32⟩
  | 1 => ⟨S2048x31, .i32⟩
  | 2 => ⟨S2048x31, .i32⟩
  | 3 => ⟨S2048x31x1, .i32⟩
  | 4 => ⟨S2x2048x31x512, .f32⟩
  | 5 => ⟨S1x1x31x512, .f32⟩
  | 6 => ⟨S2x2048x31x512, .f32⟩
  | 7 => ⟨S2x2048x31x512, .f32⟩
  | 8 => ⟨S_, .f32⟩
  | 9 => ⟨S2x2048x512, .f32⟩
  | 10 => ⟨S1x1x512, .f32⟩
  | 11 => ⟨S2x2048x512, .f32⟩
  | 12 => ⟨S2x2048x512, .f32⟩
  | 13 => ⟨S_, .f32⟩
  | 14 => ⟨S2x2048, .f32⟩
  | 15 => ⟨S2x2048x1, .f32⟩
  | 16 => ⟨S_, .f32⟩
  | 17 => ⟨S2x2048x1, .f32⟩
  | 18 => ⟨S2x2048x1, .f32⟩
  | 19 => ⟨S2x2048x512, .f32⟩
  | 20 => ⟨S2x2048x512, .f32⟩
  | 21 => ⟨S2x2048x512, .f32⟩
  | 22 => ⟨S_, .f32⟩
  | 23 => ⟨S2x2048, .f32⟩
  | 24 => ⟨S2x2048x1, .f32⟩
  | 25 => ⟨S_, .f32⟩
  | 26 => ⟨S2x2048x1, .f32⟩
  | 27 => ⟨S2x2048x1, .f32⟩
  | 28 => ⟨S2x2048x512, .f32⟩
  | 29 => ⟨S2x2048x512, .f32⟩
  | 30 => ⟨S_, .f32⟩
  | 31 => ⟨S2x2048x1, .f32⟩
  | 32 => ⟨S2x2048x1, .f32⟩
  | 33 => ⟨S2x2048x1, .f32⟩
  | 34 => ⟨S2x2048x512, .f32⟩
  | 35 => ⟨S2x2048x512, .f32⟩
  | 36 => ⟨S1x1x512, .f32⟩
  | 37 => ⟨S2x2048x512, .f32⟩
  | 38 => ⟨S2x2048x512, .f32⟩
  | 39 => ⟨S1x1x512, .f32⟩
  | 40 => ⟨S2x2048x512, .f32⟩
  | 41 => ⟨S2x2048x512, .f32⟩
  | 42 => ⟨S2x2048x512, .f32⟩
  | 43 => ⟨S2x2048x512, .f32⟩
  | 44 => ⟨S_, .f32⟩
  | 45 => ⟨S2x2048x512, .f32⟩
  | 46 => ⟨S2x2048x512, .f32⟩
  | 47 => ⟨S_, .f32⟩
  | 48 => ⟨S2x2048x512, .f32⟩
  | 49 => ⟨S2x2048x512, .f32⟩
  | 50 => ⟨S2x2048x512, .f32⟩
  | 51 => ⟨S2x2048x512, .f32⟩
  | 52 => ⟨S1x1x512, .f32⟩
  | 53 => ⟨S2x2048x512, .f32⟩
  | 54 => ⟨S2x2048x512, .f32⟩
  | 55 => ⟨S2x2048x512, .f32⟩
  | 56 => ⟨S2x2048x512, .f32⟩
  | 57 => ⟨S2x2048x512, .f32⟩
  | 58 => ⟨S_, .f32⟩
  | 59 => ⟨S2x2048x512, .f32⟩
  | 60 => ⟨S2x2048x512, .f32⟩
  | 61 => ⟨S_, .f32⟩
  | 62 => ⟨S2x2048x512, .f32⟩
  | 63 => ⟨S2x2048x512, .f32⟩
  | 64 => ⟨S2x2048x512, .f32⟩
  | 65 => ⟨S2x2048x512, .f32⟩
  | 66 => ⟨S2x2048x1024, .f32⟩
  | 67 => ⟨S2x2048x1024, .f32⟩
  | 68 => ⟨S1024x1024, .f32⟩
  | 69 => ⟨S1024x1024, .f32⟩
  | 70 => ⟨S2x2048x1024, .f32⟩
  | 71 => ⟨S2x2048x512, .f32⟩
  | 72 => ⟨S2x2048x512, .f32⟩
  | 73 => ⟨S2x2048x512, .f32⟩
  | 74 => ⟨S512x512, .f32⟩
  | 75 => ⟨S512x512, .f32⟩
  | 76 => ⟨S2x2048x512, .f32⟩
  | 77 => ⟨S2x2048x512, .f32⟩
  | 78 => ⟨S2x2048x512, .f32⟩
  | 79 => ⟨S2x2048x4x128, .f32⟩
  | 80 => ⟨S4x128x2x2048, .f32⟩
  | 81 => ⟨S4x128x128, .f32⟩
  | 82 => ⟨S4x128x128, .f32⟩
  | _ => ⟨S2x2048x1024, .f32⟩

abbrev hbmTy (i : Nat) : BufTy := match i / 128 with
  | 0 => hbmTy0_0 i
  | 1 => hbmTy0_1 i
  | _ => ⟨S2x2048x1024, .f32⟩

abbrev bufTy : (tb : Table) → Fin (tcTables nBuf tb) → BufTy
  | .hbm, ⟨i, _⟩ => hbmTy i
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_c : Ref sig .tc := ⟨.hbm, 20, rfl⟩
abbrev main_v7 : Ref sig .tc := ⟨.hbm, 21, rfl⟩
abbrev main_v8 : Ref sig .tc := ⟨.hbm, 22, rfl⟩
abbrev main_c_0 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_1 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_c_2 : Ref sig .tc := ⟨.hbm, 36, rfl⟩
abbrev main_v20 : Ref sig .tc := ⟨.hbm, 37, rfl⟩
abbrev main_v21 : Ref sig .tc := ⟨.hbm, 38, rfl⟩
abbrev main_c_3 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_4 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_5 : Ref sig .tc := ⟨.hbm, 52, rfl⟩
abbrev main_v33 : Ref sig .tc := ⟨.hbm, 53, rfl⟩
abbrev main_v34 : Ref sig .tc := ⟨.hbm, 54, rfl⟩
abbrev main_c_6 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_7 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_c_8 : Ref sig .tc := ⟨.hbm, 68, rfl⟩
abbrev main_v46 : Ref sig .tc := ⟨.hbm, 69, rfl⟩
abbrev main_v47 : Ref sig .tc := ⟨.hbm, 70, rfl⟩
abbrev main_c_9 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_cst_10 : Ref sig .tc := ⟨.hbm, 96, rfl⟩
abbrev main_v72 : Ref sig .tc := ⟨.hbm, 97, rfl⟩
abbrev main_v73 : Ref sig .tc := ⟨.hbm, 98, rfl⟩
abbrev main_cst_11 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_cst_12 : Ref sig .tc := ⟨.hbm, 108, rfl⟩
abbrev main_v82 : Ref sig .tc := ⟨.hbm, 109, rfl⟩
abbrev main_v83 : Ref sig .tc := ⟨.hbm, 110, rfl⟩
abbrev main_cst_13 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_cst_14 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_c_15 : Ref sig .tc := ⟨.hbm, 124, rfl⟩
abbrev main_v95 : Ref sig .tc := ⟨.hbm, 125, rfl⟩
abbrev main_v96 : Ref sig .tc := ⟨.hbm, 126, rfl⟩
abbrev main_c_16 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_cst_17 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_cst_18 : Ref sig .tc := ⟨.hbm, 141, rfl⟩
abbrev main_v109 : Ref sig .tc := ⟨.hbm, 142, rfl⟩
abbrev main_v110 : Ref sig .tc := ⟨.hbm, 143, rfl⟩
abbrev main_cst_19 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_cst_20 : Ref sig .tc := ⟨.hbm, 150, rfl⟩
abbrev main_v116 : Ref sig .tc := ⟨.hbm, 151, rfl⟩
abbrev main_v117 : Ref sig .tc := ⟨.hbm, 152, rfl⟩
abbrev main_cst_21 : Ref sig .tc := ⟨.hbm, 153, rfl⟩
abbrev main_v118 : Ref sig .tc := ⟨.hbm, 154, rfl⟩
abbrev main_v119 : Ref sig .tc := ⟨.hbm, 155, rfl⟩
abbrev main_v120 : Ref sig .tc := ⟨.hbm, 156, rfl⟩
abbrev main_v121 : Ref sig .tc := ⟨.hbm, 157, rfl⟩
abbrev main_cst_22 : Ref sig .tc := ⟨.hbm, 158, rfl⟩
abbrev main_v122 : Ref sig .tc := ⟨.hbm, 159, rfl⟩
abbrev main_v123 : Ref sig .tc := ⟨.hbm, 160, rfl⟩
abbrev main_v124 : Ref sig .tc := ⟨.hbm, 161, rfl⟩
abbrev main_v125 : Ref sig .tc := ⟨.hbm, 162, rfl⟩
abbrev main_v126 : Ref sig .tc := ⟨.hbm, 163, rfl⟩
abbrev main_v127 : Ref sig .tc := ⟨.hbm, 164, rfl⟩
abbrev main_v128 : Ref sig .tc := ⟨.hbm, 165, rfl⟩
abbrev main_v129 : Ref sig .tc := ⟨.hbm, 166, rfl⟩
abbrev main_v130 : Ref sig .tc := ⟨.hbm, 167, rfl⟩
abbrev main_v131 : Ref sig .tc := ⟨.hbm, 168, rfl⟩
abbrev main_v132 : Ref sig .tc := ⟨.hbm, 169, rfl⟩
abbrev main_v133 : Ref sig .tc := ⟨.hbm, 170, rfl⟩
abbrev main_v134 : Ref sig .tc := ⟨.hbm, 171, rfl⟩
abbrev main_cst_23 : Ref sig .tc := ⟨.hbm, 172, rfl⟩
abbrev main_v135 : Ref sig .tc := ⟨.hbm, 173, rfl⟩
abbrev main_v136 : Ref sig .tc := ⟨.hbm, 174, rfl⟩
abbrev main_cst_24 : Ref sig .tc := ⟨.hbm, 175, rfl⟩
abbrev main_v137 : Ref sig .tc := ⟨.hbm, 176, rfl⟩
abbrev main_v138 : Ref sig .tc := ⟨.hbm, 177, rfl⟩
abbrev main_v139 : Ref sig .tc := ⟨.hbm, 178, rfl⟩
abbrev main_v140 : Ref sig .tc := ⟨.hbm, 179, rfl⟩
abbrev main_v141 : Ref sig .tc := ⟨.hbm, 180, rfl⟩
abbrev main_v142 : Ref sig .tc := ⟨.hbm, 181, rfl⟩
abbrev main_v143 : Ref sig .tc := ⟨.hbm, 182, rfl⟩
abbrev main_v144 : Ref sig .tc := ⟨.hbm, 183, rfl⟩
abbrev main_v145 : Ref sig .tc := ⟨.hbm, 184, rfl⟩
abbrev main_v146 : Ref sig .tc := ⟨.hbm, 185, rfl⟩
abbrev main_cst_25 : Ref sig .tc := ⟨.hbm, 186, rfl⟩
abbrev main_v147 : Ref sig .tc := ⟨.hbm, 187, rfl⟩
abbrev main_v148 : Ref sig .tc := ⟨.hbm, 188, rfl⟩
abbrev main_cst_26 : Ref sig .tc := ⟨.hbm, 189, rfl⟩
abbrev main_v149 : Ref sig .tc := ⟨.hbm, 190, rfl⟩
abbrev main_v150 : Ref sig .tc := ⟨.hbm, 191, rfl⟩
abbrev main_v151 : Ref sig .tc := ⟨.hbm, 192, rfl⟩
abbrev main_v152 : Ref sig .tc := ⟨.hbm, 193, rfl⟩
abbrev main_v153 : Ref sig .tc := ⟨.hbm, 194, rfl⟩
abbrev main_v154 : Ref sig .tc := ⟨.hbm, 195, rfl⟩
abbrev main_v155 : Ref sig .tc := ⟨.hbm, 196, rfl⟩
abbrev main_v156 : Ref sig .tc := ⟨.hbm, 197, rfl⟩
abbrev main_v157 : Ref sig .tc := ⟨.hbm, 198, rfl⟩
abbrev main_v158 : Ref sig .tc := ⟨.hbm, 199, rfl⟩
abbrev main_v159 : Ref sig .tc := ⟨.hbm, 200, rfl⟩
abbrev main_v160 : Ref sig .tc := ⟨.hbm, 201, rfl⟩
abbrev main_v161 : Ref sig .tc := ⟨.hbm, 202, rfl⟩
abbrev main_v162 : Ref sig .tc := ⟨.hbm, 203, rfl⟩
abbrev main_v163 : Ref sig .tc := ⟨.hbm, 204, rfl⟩
abbrev main_v164 : Ref sig .tc := ⟨.hbm, 205, rfl⟩
abbrev main_v165 : Ref sig .tc := ⟨.hbm, 206, rfl⟩
abbrev main_v166 : Ref sig .tc := ⟨.hbm, 207, rfl⟩
abbrev main_v167 : Ref sig .tc := ⟨.hbm, 208, rfl⟩
abbrev main_v168 : Ref sig .tc := ⟨.hbm, 209, rfl⟩
abbrev main_v169 : Ref sig .tc := ⟨.hbm, 210, rfl⟩

abbrev nD : Nat := 1
abbrev τ : Topo := Topo.v7x

variable {F : FTy → Type} [FloatOps F]
-- ==== Kernel2.lean ====
abbrev S2x2048x1024 : Shape := ⟨3, ![2, 2048, 1024]⟩
abbrev S2x2048x2560 : Shape := ⟨3, ![2, 2048, 2560]⟩
abbrev S1024 : Shape := ⟨1, ![1024]⟩
abbrev S2560x1024 : Shape := ⟨2, ![2560, 1024]⟩
abbrev S_ : Shape := ⟨0, ![]⟩
abbrev S8x128 : Shape := ⟨2, ![8, 128]⟩
abbrev S1x1024 : Shape := ⟨2, ![1, 1024]⟩
abbrev S8x1024 : Shape := ⟨2, ![8, 1024]⟩
abbrev S1x512x1024 : Shape := ⟨3, ![1, 512, 1024]⟩
abbrev S3x512x1024 : Shape := ⟨3, ![3, 512, 1024]⟩
abbrev S3x512x2560 : Shape := ⟨3, ![3, 512, 2560]⟩
abbrev S3x3 : Shape := ⟨2, ![3, 3]⟩
abbrev S1x1 : Shape := ⟨2, ![1, 1]⟩
abbrev S512x1024 : Shape := ⟨2, ![512, 1024]⟩
abbrev S1x512x2560 : Shape := ⟨3, ![1, 512, 2560]⟩
abbrev S512x2560 : Shape := ⟨2, ![512, 2560]⟩
abbrev S512 : Shape := ⟨1, ![512]⟩
abbrev S512x1 : Shape := ⟨2, ![512, 1]⟩
abbrev S64x8x1024 : Shape := ⟨3, ![64, 8, 1024]⟩

abbrev nBuf : Space → Nat
  | .hbm => 10
  | .vmem => 9
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S2x2048x2560, .bf16⟩
  | .hbm, ⟨3, _⟩ => ⟨S1024, .f32⟩
  | .hbm, ⟨4, _⟩ => ⟨S2560x1024, .bf16⟩
  | .hbm, ⟨5, _⟩ => ⟨S_, .f32⟩
  | .hbm, ⟨6, _⟩ => ⟨S8x128, .f32⟩
  | .hbm, ⟨7, _⟩ => ⟨S1x1024, .f32⟩
  | .hbm, ⟨8, _⟩ => ⟨S2x2048x1024, .f32⟩
  | .hbm, ⟨9, _⟩ => ⟨S8x1024, .f32⟩
  | .local _ .vmem, ⟨0, _⟩ => ⟨S1x1024, .f32⟩
  | .local _ .vmem, ⟨1, _⟩ => ⟨S2560x1024, .bf16⟩
  | .local _ .vmem, ⟨2, _⟩ => ⟨S8x128, .f32⟩
  | .local _ .vmem, ⟨3, _⟩ => ⟨S1x512x1024, .f32⟩
  | .local _ .vmem, ⟨4, _⟩ => ⟨S1x512x1024, .f32⟩
  | .local _ .vmem, ⟨5, _⟩ => ⟨S8x1024, .f32⟩
  | .local _ .vmem, ⟨6, _⟩ => ⟨S3x512x1024, .f32⟩
  | .local _ .vmem, ⟨7, _⟩ => ⟨S3x512x1024, .f32⟩
  | .local _ .vmem, ⟨8, _⟩ => ⟨S3x512x2560, .bf16⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5

abbrev nD : Nat := 1
abbrev τ : Topo := Topo.v7x

variable {F : FTy → Type} [FloatOps F]

abbrev grid0 : Pipeline.Grid := ⟨2, ![2, 4], ![false, false]⟩

def k0_cond1 (i : grid0.Coords) : BitVec 1 :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c0_i32 : BitVec 32 := 0#32
  let v2 : BitVec 1 := Scalar.cmpi .eq v1 c0_i32
  let v3 : BitVec 32 := Scalar.extui v2
  let c0_i32_0 : BitVec 32 := 0#32
  let v4 : BitVec 1 := Scalar.cmpi .ne v3 c0_i32_0
  v4

def k0_mult1 : BitVec 32 :=
  let c0_i32_86 : BitVec 32 := 0#32
  let c4_i32_87 : BitVec 32 := 4#32
  let c0_i32_88 : BitVec 32 := 0#32
  let v173 : BitVec 1 := Scalar.cmpi .eq c4_i32_87 c0_i32_88
  let c1_i32_89 : BitVec 32 := 1#32
  let v174 : BitVec 32 := Scalar.select v173 c1_i32_89 c4_i32_87
  let v175 : BitVec 32 := Scalar.remsi c0_i32_86 v174
  let c0_i32_91 : BitVec 32 := 0#32
  let v177 : BitVec 1 := Scalar.cmpi .slt v175 c0_i32_91
  let c0_i32_92 : BitVec 32 := 0#32
  let v178 : BitVec 1 := Scalar.cmpi .slt v174 c0_i32_92
  let v179 : BitVec 1 := Scalar.xori v177 v178
  let c0_i32_90 : BitVec 32 := 0#32
  let v176 : BitVec 1 := Scalar.cmpi .ne v175 c0_i32_90
  let v180 : BitVec 1 := Scalar.andi v179 v176
  let v181 : BitVec 32 := Scalar.addi v175 v174
  let v182 : BitVec 32 := Scalar.select v180 v181 v175
  let c512_i32_93 : BitVec 32 := 512#32
  let v183 : BitVec 32 := Scalar.muli v182 c512_i32_93
  v183
def k0_off1 (c0_i32_79 : BitVec 32) : Fin 2 → Nat :=
  let c0_i32_118 : BitVec 32 := 0#32
  let c3_i32_80 : BitVec 32 := 3#32
  let c0_i32_81 : BitVec 32 := 0#32
  let v163 : BitVec 1 := Scalar.cmpi .eq c3_i32_80 c0_i32_81
  let c1_i32_82 : BitVec 32 := 1#32
  let v164 : BitVec 32 := Scalar.select v163 c1_i32_82 c3_i32_80
  let v165 : BitVec 32 := Scalar.remsi c0_i32_79 v164
  let c0_i32_84 : BitVec 32 := 0#32
  let v167 : BitVec 1 := Scalar.cmpi .slt v165 c0_i32_84
  let c0_i32_85 : BitVec 32 := 0#32
  let v168 : BitVec 1 := Scalar.cmpi .slt v164 c0_i32_85
  let v169 : BitVec 1 := Scalar.xori v167 v168
  let c0_i32_83 : BitVec 32 := 0#32
  let v166 : BitVec 1 := Scalar.cmpi .ne v165 c0_i32_83
  let v170 : BitVec 1 := Scalar.andi v169 v166
  let v171 : BitVec 32 := Scalar.addi v165 v164
  let v172 : BitVec 32 := Scalar.select v170 v171 v165
  ![0, v172.toNat]
def k0_off2 (c0_i32_79 : BitVec 32) : Fin 3 → Nat :=
  let c3_i32_80 : BitVec 32 := 3#32
  let c0_i32_81 : BitVec 32 := 0#32
  let v163 : BitVec 1 := Scalar.cmpi .eq c3_i32_80 c0_i32_81
  let c1_i32_82 : BitVec 32 := 1#32
  let v164 : BitVec 32 := Scalar.select v163 c1_i32_82 c3_i32_80
  let v165 : BitVec 32 := Scalar.remsi c0_i32_79 v164
  let c0_i32_84 : BitVec 32 := 0#32
  let v167 : BitVec 1 := Scalar.cmpi .slt v165 c0_i32_84
  let c0_i32_85 : BitVec 32 := 0#32
  let v168 : BitVec 1 := Scalar.cmpi .slt v164 c0_i32_85
  let v169 : BitVec 1 := Scalar.xori v167 v168
  let c0_i32_83 : BitVec 32 := 0#32
  let v166 : BitVec 1 := Scalar.cmpi .ne v165 c0_i32_83
  let v170 : BitVec 1 := Scalar.andi v169 v166
  let v171 : BitVec 32 := Scalar.addi v165 v164
  let v172 : BitVec 32 := Scalar.select v170 v171 v165
  let c0_i32_119 : BitVec 32 := 0#32
  let c0_i32_120 : BitVec 32 := 0#32
  ![v172.toNat, 0, 0]
def k0_off3 (c0_i32_94 : BitVec 32) (c0_i32_86 : BitVec 32) : Fin 3 → Nat :=
  let c0_i32_96 : BitVec 32 := 0#32
  let v186 : BitVec 1 := Scalar.cmpi .sgt c0_i32_94 c0_i32_96
  let v187 : BitVec 32 := Scalar.extui v186
  let c0_i32_97 : BitVec 32 := 0#32
  let v188 : BitVec 1 := Scalar.cmpi .slt c0_i32_94 c0_i32_97
  let v189 : BitVec 32 := Scalar.extui v188
  let v190 : BitVec 32 := Scalar.subi v187 v189
  let c4_i32_95 : BitVec 32 := 4#32
  let c0_i32_98 : BitVec 32 := 0#32
  let v191 : BitVec 1 := Scalar.cmpi .sgt c4_i32_95 c0_i32_98
  let v192 : BitVec 32 := Scalar.extui v191
  let c0_i32_99 : BitVec 32 := 0#32
  let v193 : BitVec 1 := Scalar.cmpi .slt c4_i32_95 c0_i32_99
  let v194 : BitVec 32 := Scalar.extui v193
  let v195 : BitVec 32 := Scalar.subi v192 v194
  let v196 : BitVec 1 := Scalar.cmpi .ne v190 v195
  let v197 : BitVec 32 := Scalar.remsi c0_i32_94 c4_i32_95
  let c0_i32_100 : BitVec 32 := 0#32
  let v198 : BitVec 1 := Scalar.cmpi .ne v197 c0_i32_100
  let v199 : BitVec 1 := Scalar.andi v196 v198
  let v185 : BitVec 32 := Scalar.divsi c0_i32_94 c4_i32_95
  let c1_i32_101 : BitVec 32 := 1#32
  let v200 : BitVec 32 := Scalar.subi v185 c1_i32_101
  let v201 : BitVec 32 := Scalar.select v199 v200 v185
  let c4_i32_87 : BitVec 32 := 4#32
  let c0_i32_88 : BitVec 32 := 0#32
  let v173 : BitVec 1 := Scalar.cmpi .eq c4_i32_87 c0_i32_88
  let c1_i32_89 : BitVec 32 := 1#32
  let v174 : BitVec 32 := Scalar.select v173 c1_i32_89 c4_i32_87
  let v175 : BitVec 32 := Scalar.remsi c0_i32_86 v174
  let c0_i32_91 : BitVec 32 := 0#32
  let v177 : BitVec 1 := Scalar.cmpi .slt v175 c0_i32_91
  let c0_i32_92 : BitVec 32 := 0#32
  let v178 : BitVec 1 := Scalar.cmpi .slt v174 c0_i32_92
  let v179 : BitVec 1 := Scalar.xori v177 v178
  let c0_i32_90 : BitVec 32 := 0#32
  let v176 : BitVec 1 := Scalar.cmpi .ne v175 c0_i32_90
  let v180 : BitVec 1 := Scalar.andi v179 v176
  let v181 : BitVec 32 := Scalar.addi v175 v174
  let v182 : BitVec 32 := Scalar.select v180 v181 v175
  let c512_i32_93 : BitVec 32 := 512#32
  let v183 : BitVec 32 := Scalar.muli v182 c512_i32_93
  let v184 : BitVec 32 := v183
  let c0_i32_121 : BitVec 32 := 0#32
  ![v201.toNat, v184.toNat, 0]
def k0_off3_at (r : Fin 2) : BitVec 32 × BitVec 32 :=
  if r.val < 1 then
    (0#32, 0#32)
  else
    (1#32, 1#32)
def k0_off4 (c0_i32_79 : BitVec 32) : Fin 2 → Nat :=
  let c1_i32_122 : BitVec 32 := 1#32
  let c3_i32_80 : BitVec 32 := 3#32
  let c0_i32_81 : BitVec 32 := 0#32
  let v163 : BitVec 1 := Scalar.cmpi .eq c3_i32_80 c0_i32_81
  let c1_i32_82 : BitVec 32 := 1#32
  let v164 : BitVec 32 := Scalar.select v163 c1_i32_82 c3_i32_80
  let v165 : BitVec 32 := Scalar.remsi c0_i32_79 v164
  let c0_i32_84 : BitVec 32 := 0#32
  let v167 : BitVec 1 := Scalar.cmpi .slt v165 c0_i32_84
  let c0_i32_85 : BitVec 32 := 0#32
  let v168 : BitVec 1 := Scalar.cmpi .slt v164 c0_i32_85
  let v169 : BitVec 1 := Scalar.xori v167 v168
  let c0_i32_83 : BitVec 32 := 0#32
  let v166 : BitVec 1 := Scalar.cmpi .ne v165 c0_i32_83
  let v170 : BitVec 1 := Scalar.andi v169 v166
  let v171 : BitVec 32 := Scalar.addi v165 v164
  let v172 : BitVec 32 := Scalar.select v170 v171 v165
  ![1, v172.toNat]
def k0_off5 (c0_i32_79 : BitVec 32) : Fin 2 → Nat :=
  let c2_i32_126 : BitVec 32 := 2#32
  let c3_i32_80 : BitVec 32 := 3#32
  let c0_i32_81 : BitVec 32 := 0#32
  let v163 : BitVec 1 := Scalar.cmpi .eq c3_i32_80 c0_i32_81
  let c1_i32_82 : BitVec 32 := 1#32
  let v164 : BitVec 32 := Scalar.select v163 c1_i32_82 c3_i32_80
  let v165 : BitVec 32 := Scalar.remsi c0_i32_79 v164
  let c0_i32_84 : BitVec 32 := 0#32
  let v167 : BitVec 1 := Scalar.cmpi .slt v165 c0_i32_84
  let c0_i32_85 : BitVec 32 := 0#32
  let v168 : BitVec 1 := Scalar.cmpi .slt v164 c0_i32_85
  let v169 : BitVec 1 := Scalar.xori v167 v168
  let c0_i32_83 : BitVec 32 := 0#32
  let v166 : BitVec 1 := Scalar.cmpi .ne v165 c0_i32_83
  let v170 : BitVec 1 := Scalar.andi v169 v166
  let v171 : BitVec 32 := Scalar.addi v165 v164
  let v172 : BitVec 32 := Scalar.select v170 v171 v165
  ![2, v172.toNat]
def k0_off6 (c0_i32_79 : BitVec 32) : Fin 3 → Nat :=
  let c3_i32_80 : BitVec 32 := 3#32
  let c0_i32_81 : BitVec 32 := 0#32
  let v163 : BitVec 1 := Scalar.cmpi .eq c3_i32_80 c0_i32_81
  let c1_i32_82 : BitVec 32 := 1#32
  let v164 : BitVec 32 := Scalar.select v163 c1_i32_82 c3_i32_80
  let v165 : BitVec 32 := Scalar.remsi c0_i32_79 v164
  let c0_i32_84 : BitVec 32 := 0#32
  let v167 : BitVec 1 := Scalar.cmpi .slt v165 c0_i32_84
  let c0_i32_85 : BitVec 32 := 0#32
  let v168 : BitVec 1 := Scalar.cmpi .slt v164 c0_i32_85
  let v169 : BitVec 1 := Scalar.xori v167 v168
  let c0_i32_83 : BitVec 32 := 0#32
  let v166 : BitVec 1 := Scalar.cmpi .ne v165 c0_i32_83
  let v170 : BitVec 1 := Scalar.andi v169 v166
  let v171 : BitVec 32 := Scalar.addi v165 v164
  let v172 : BitVec 32 := Scalar.select v170 v171 v165
  let c0_i32_127 : BitVec 32 := 0#32
  let c0_i32_128 : BitVec 32 := 0#32
  ![v172.toNat, 0, 0]
def k0_off7 (c0_i32_110 : BitVec 32) (c0_i32_86 : BitVec 32) : Fin 3 → Nat :=
  let c0_i32_112 : BitVec 32 := 0#32
  let v220 : BitVec 1 := Scalar.cmpi .sgt c0_i32_110 c0_i32_112
  let v221 : BitVec 32 := Scalar.extui v220
  let c0_i32_113 : BitVec 32 := 0#32
  let v222 : BitVec 1 := Scalar.cmpi .slt c0_i32_110 c0_i32_113
  let v223 : BitVec 32 := Scalar.extui v222
  let v224 : BitVec 32 := Scalar.subi v221 v223
  let c4_i32_111 : BitVec 32 := 4#32
  let c0_i32_114 : BitVec 32 := 0#32
  let v225 : BitVec 1 := Scalar.cmpi .sgt c4_i32_111 c0_i32_114
  let v226 : BitVec 32 := Scalar.extui v225
  let c0_i32_115 : BitVec 32 := 0#32
  let v227 : BitVec 1 := Scalar.cmpi .slt c4_i32_111 c0_i32_115
  let v228 : BitVec 32 := Scalar.extui v227
  let v229 : BitVec 32 := Scalar.subi v226 v228
  let v230 : BitVec 1 := Scalar.cmpi .ne v224 v229
  let v231 : BitVec 32 := Scalar.remsi c0_i32_110 c4_i32_111
  let c0_i32_116 : BitVec 32 := 0#32
  let v232 : BitVec 1 := Scalar.cmpi .ne v231 c0_i32_116
  let v233 : BitVec 1 := Scalar.andi v230 v232
  let v219 : BitVec 32 := Scalar.divsi c0_i32_110 c4_i32_111
  let c1_i32_117 : BitVec 32 := 1#32
  let v234 : BitVec 32 := Scalar.subi v219 c1_i32_117
  let v235 : BitVec 32 := Scalar.select v233 v234 v219
  let c4_i32_87 : BitVec 32 := 4#32
  let c0_i32_88 : BitVec 32 := 0#32
  let v173 : BitVec 1 := Scalar.cmpi .eq c4_i32_87 c0_i32_88
  let c1_i32_89 : BitVec 32 := 1#32
  let v174 : BitVec 32 := Scalar.select v173 c1_i32_89 c4_i32_87
  let v175 : BitVec 32 := Scalar.remsi c0_i32_86 v174
  let c0_i32_91 : BitVec 32 := 0#32
  let v177 : BitVec 1 := Scalar.cmpi .slt v175 c0_i32_91
  let c0_i32_92 : BitVec 32 := 0#32
  let v178 : BitVec 1 := Scalar.cmpi .slt v174 c0_i32_92
  let v179 : BitVec 1 := Scalar.xori v177 v178
  let c0_i32_90 : BitVec 32 := 0#32
  let v176 : BitVec 1 := Scalar.cmpi .ne v175 c0_i32_90
  let v180 : BitVec 1 := Scalar.andi v179 v176
  let v181 : BitVec 32 := Scalar.addi v175 v174
  let v182 : BitVec 32 := Scalar.select v180 v181 v175
  let c512_i32_93 : BitVec 32 := 512#32
  let v183 : BitVec 32 := Scalar.muli v182 c512_i32_93
  let v184 : BitVec 32 := v183
  let c0_i32_129 : BitVec 32 := 0#32
  ![v235.toNat, v184.toNat, 0]
def k0_off7_at (r : Fin 2) : BitVec 32 × BitVec 32 :=
  if r.val < 1 then
    (0#32, 0#32)
  else
    (1#32, 1#32)
def k0_mult2 : BitVec 32 :=
  let c1_i32_137 : BitVec 32 := 1#32
  let c4_i32_138 : BitVec 32 := 4#32
  let c0_i32_139 : BitVec 32 := 0#32
  let v264 : BitVec 1 := Scalar.cmpi .eq c4_i32_138 c0_i32_139
  let c1_i32_140 : BitVec 32 := 1#32
  let v265 : BitVec 32 := Scalar.select v264 c1_i32_140 c4_i32_138
  let v266 : BitVec 32 := Scalar.remsi c1_i32_137 v265
  let c0_i32_142 : BitVec 32 := 0#32
  let v268 : BitVec 1 := Scalar.cmpi .slt v266 c0_i32_142
  let c0_i32_143 : BitVec 32 := 0#32
  let v269 : BitVec 1 := Scalar.cmpi .slt v265 c0_i32_143
  let v270 : BitVec 1 := Scalar.xori v268 v269
  let c0_i32_141 : BitVec 32 := 0#32
  let v267 : BitVec 1 := Scalar.cmpi .ne v266 c0_i32_141
  let v271 : BitVec 1 := Scalar.andi v270 v267
  let v272 : BitVec 32 := Scalar.addi v266 v265
  let v273 : BitVec 32 := Scalar.select v271 v272 v266
  let c512_i32_144 : BitVec 32 := 512#32
  let v274 : BitVec 32 := Scalar.muli v273 c512_i32_144
  v274
def k0_cond2 (i : grid0.Coords) : BitVec 1 :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c3_i32 : BitVec 32 := 3#32
  let v5 : BitVec 32 := Scalar.addi v1 c3_i32
  let c1_i32 : BitVec 32 := 1#32
  let v6 : BitVec 32 := Scalar.subi v5 c1_i32
  let c8_i32 : BitVec 32 := 8#32
  let v7 : BitVec 1 := Scalar.cmpi .slt v6 c8_i32
  let v8 : BitVec 32 := Scalar.extui v7
  let c0_i32_1 : BitVec 32 := 0#32
  let v9 : BitVec 1 := Scalar.cmpi .ne v8 c0_i32_1
  v9

def k0_mult3 (i : grid0.Coords) : BitVec 32 :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c3_i32_74 : BitVec 32 := 3#32
  let v157 : BitVec 32 := Scalar.addi v1 c3_i32_74
  let c1_i32_75 : BitVec 32 := 1#32
  let v158 : BitVec 32 := Scalar.subi v157 c1_i32_75
  let c4_i32_82 : BitVec 32 := 4#32
  let c0_i32_83 : BitVec 32 := 0#32
  let v169 : BitVec 1 := Scalar.cmpi .eq c4_i32_82 c0_i32_83
  let c1_i32_84 : BitVec 32 := 1#32
  let v170 : BitVec 32 := Scalar.select v169 c1_i32_84 c4_i32_82
  let v171 : BitVec 32 := Scalar.remsi v158 v170
  let c0_i32_86 : BitVec 32 := 0#32
  let v173 : BitVec 1 := Scalar.cmpi .slt v171 c0_i32_86
  let c0_i32_87 : BitVec 32 := 0#32
  let v174 : BitVec 1 := Scalar.cmpi .slt v170 c0_i32_87
  let v175 : BitVec 1 := Scalar.xori v173 v174
  let c0_i32_85 : BitVec 32 := 0#32
  let v172 : BitVec 1 := Scalar.cmpi .ne v171 c0_i32_85
  let v176 : BitVec 1 := Scalar.andi v175 v172
  let v177 : BitVec 32 := Scalar.addi v171 v170
  let v178 : BitVec 32 := Scalar.select v176 v177 v171
  let c512_i32_88 : BitVec 32 := 512#32
  let v179 : BitVec 32 := Scalar.muli v178 c512_i32_88
  v179
def k0_off8 (i : grid0.Coords) : Fin 2 → Nat :=
  let c0_i32_110 : BitVec 32 := 0#32
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c3_i32_74 : BitVec 32 := 3#32
  let v157 : BitVec 32 := Scalar.addi v1 c3_i32_74
  let c1_i32_75 : BitVec 32 := 1#32
  let v158 : BitVec 32 := Scalar.subi v157 c1_i32_75
  let c3_i32_76 : BitVec 32 := 3#32
  let c0_i32_77 : BitVec 32 := 0#32
  let v159 : BitVec 1 := Scalar.cmpi .eq c3_i32_76 c0_i32_77
  let c1_i32_78 : BitVec 32 := 1#32
  let v160 : BitVec 32 := Scalar.select v159 c1_i32_78 c3_i32_76
  let v161 : BitVec 32 := Scalar.remsi v158 v160
  let c0_i32_80 : BitVec 32 := 0#32
  let v163 : BitVec 1 := Scalar.cmpi .slt v161 c0_i32_80
  let c0_i32_81 : BitVec 32 := 0#32
  let v164 : BitVec 1 := Scalar.cmpi .slt v160 c0_i32_81
  let v165 : BitVec 1 := Scalar.xori v163 v164
  let c0_i32_79 : BitVec 32 := 0#32
  let v162 : BitVec 1 := Scalar.cmpi .ne v161 c0_i32_79
  let v166 : BitVec 1 := Scalar.andi v165 v162
  let v167 : BitVec 32 := Scalar.addi v161 v160
  let v168 : BitVec 32 := Scalar.select v166 v167 v161
  ![0, v168.toNat]
def k0_off9 (i : grid0.Coords) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c3_i32_74 : BitVec 32 := 3#32
  let v157 : BitVec 32 := Scalar.addi v1 c3_i32_74
  let c1_i32_75 : BitVec 32 := 1#32
  let v158 : BitVec 32 := Scalar.subi v157 c1_i32_75
  let c3_i32_76 : BitVec 32 := 3#32
  let c0_i32_77 : BitVec 32 := 0#32
  let v159 : BitVec 1 := Scalar.cmpi .eq c3_i32_76 c0_i32_77
  let c1_i32_78 : BitVec 32 := 1#32
  let v160 : BitVec 32 := Scalar.select v159 c1_i32_78 c3_i32_76
  let v161 : BitVec 32 := Scalar.remsi v158 v160
  let c0_i32_80 : BitVec 32 := 0#32
  let v163 : BitVec 1 := Scalar.cmpi .slt v161 c0_i32_80
  let c0_i32_81 : BitVec 32 := 0#32
  let v164 : BitVec 1 := Scalar.cmpi .slt v160 c0_i32_81
  let v165 : BitVec 1 := Scalar.xori v163 v164
  let c0_i32_79 : BitVec 32 := 0#32
  let v162 : BitVec 1 := Scalar.cmpi .ne v161 c0_i32_79
  let v166 : BitVec 1 := Scalar.andi v165 v162
  let v167 : BitVec 32 := Scalar.addi v161 v160
  let v168 : BitVec 32 := Scalar.select v166 v167 v161
  let c0_i32_111 : BitVec 32 := 0#32
  let c0_i32_112 : BitVec 32 := 0#32
  ![v168.toNat, 0, 0]
def k0_off10 (i : grid0.Coords) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c3_i32_74 : BitVec 32 := 3#32
  let v157 : BitVec 32 := Scalar.addi v1 c3_i32_74
  let c1_i32_75 : BitVec 32 := 1#32
  let v158 : BitVec 32 := Scalar.subi v157 c1_i32_75
  let c0_i32_90 : BitVec 32 := 0#32
  let v182 : BitVec 1 := Scalar.cmpi .sgt v158 c0_i32_90
  let v183 : BitVec 32 := Scalar.extui v182
  let c0_i32_91 : BitVec 32 := 0#32
  let v184 : BitVec 1 := Scalar.cmpi .slt v158 c0_i32_91
  let v185 : BitVec 32 := Scalar.extui v184
  let v186 : BitVec 32 := Scalar.subi v183 v185
  let c4_i32_89 : BitVec 32 := 4#32
  let c0_i32_92 : BitVec 32 := 0#32
  let v187 : BitVec 1 := Scalar.cmpi .sgt c4_i32_89 c0_i32_92
  let v188 : BitVec 32 := Scalar.extui v187
  let c0_i32_93 : BitVec 32 := 0#32
  let v189 : BitVec 1 := Scalar.cmpi .slt c4_i32_89 c0_i32_93
  let v190 : BitVec 32 := Scalar.extui v189
  let v191 : BitVec 32 := Scalar.subi v188 v190
  let v192 : BitVec 1 := Scalar.cmpi .ne v186 v191
  let v193 : BitVec 32 := Scalar.remsi v158 c4_i32_89
  let c0_i32_94 : BitVec 32 := 0#32
  let v194 : BitVec 1 := Scalar.cmpi .ne v193 c0_i32_94
  let v195 : BitVec 1 := Scalar.andi v192 v194
  let v181 : BitVec 32 := Scalar.divsi v158 c4_i32_89
  let c1_i32_95 : BitVec 32 := 1#32
  let v196 : BitVec 32 := Scalar.subi v181 c1_i32_95
  let v197 : BitVec 32 := Scalar.select v195 v196 v181
  let c4_i32_82 : BitVec 32 := 4#32
  let c0_i32_83 : BitVec 32 := 0#32
  let v169 : BitVec 1 := Scalar.cmpi .eq c4_i32_82 c0_i32_83
  let c1_i32_84 : BitVec 32 := 1#32
  let v170 : BitVec 32 := Scalar.select v169 c1_i32_84 c4_i32_82
  let v171 : BitVec 32 := Scalar.remsi v158 v170
  let c0_i32_86 : BitVec 32 := 0#32
  let v173 : BitVec 1 := Scalar.cmpi .slt v171 c0_i32_86
  let c0_i32_87 : BitVec 32 := 0#32
  let v174 : BitVec 1 := Scalar.cmpi .slt v170 c0_i32_87
  let v175 : BitVec 1 := Scalar.xori v173 v174
  let c0_i32_85 : BitVec 32 := 0#32
  let v172 : BitVec 1 := Scalar.cmpi .ne v171 c0_i32_85
  let v176 : BitVec 1 := Scalar.andi v175 v172
  let v177 : BitVec 32 := Scalar.addi v171 v170
  let v178 : BitVec 32 := Scalar.select v176 v177 v171
  let c512_i32_88 : BitVec 32 := 512#32
  let v179 : BitVec 32 := Scalar.muli v178 c512_i32_88
  let v180 : BitVec 32 := v179
  let c0_i32_113 : BitVec 32 := 0#32
  ![v197.toNat, v180.toNat, 0]
def k0_off11 (i : grid0.Coords) : Fin 2 → Nat :=
  let c1_i32_114 : BitVec 32 := 1#32
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c3_i32_74 : BitVec 32 := 3#32
  let v157 : BitVec 32 := Scalar.addi v1 c3_i32_74
  let c1_i32_75 : BitVec 32 := 1#32
  let v158 : BitVec 32 := Scalar.subi v157 c1_i32_75
  let c3_i32_76 : BitVec 32 := 3#32
  let c0_i32_77 : BitVec 32 := 0#32
  let v159 : BitVec 1 := Scalar.cmpi .eq c3_i32_76 c0_i32_77
  let c1_i32_78 : BitVec 32 := 1#32
  let v160 : BitVec 32 := Scalar.select v159 c1_i32_78 c3_i32_76
  let v161 : BitVec 32 := Scalar.remsi v158 v160
  let c0_i32_80 : BitVec 32 := 0#32
  let v163 : BitVec 1 := Scalar.cmpi .slt v161 c0_i32_80
  let c0_i32_81 : BitVec 32 := 0#32
  let v164 : BitVec 1 := Scalar.cmpi .slt v160 c0_i32_81
  let v165 : BitVec 1 := Scalar.xori v163 v164
  let c0_i32_79 : BitVec 32 := 0#32
  let v162 : BitVec 1 := Scalar.cmpi .ne v161 c0_i32_79
  let v166 : BitVec 1 := Scalar.andi v165 v162
  let v167 : BitVec 32 := Scalar.addi v161 v160
  let v168 : BitVec 32 := Scalar.select v166 v167 v161
  ![1, v168.toNat]
def k0_off12 (i : grid0.Coords) : Fin 2 → Nat :=
  let c2_i32_118 : BitVec 32 := 2#32
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c3_i32_74 : BitVec 32 := 3#32
  let v157 : BitVec 32 := Scalar.addi v1 c3_i32_74
  let c1_i32_75 : BitVec 32 := 1#32
  let v158 : BitVec 32 := Scalar.subi v157 c1_i32_75
  let c3_i32_76 : BitVec 32 := 3#32
  let c0_i32_77 : BitVec 32 := 0#32
  let v159 : BitVec 1 := Scalar.cmpi .eq c3_i32_76 c0_i32_77
  let c1_i32_78 : BitVec 32 := 1#32
  let v160 : BitVec 32 := Scalar.select v159 c1_i32_78 c3_i32_76
  let v161 : BitVec 32 := Scalar.remsi v158 v160
  let c0_i32_80 : BitVec 32 := 0#32
  let v163 : BitVec 1 := Scalar.cmpi .slt v161 c0_i32_80
  let c0_i32_81 : BitVec 32 := 0#32
  let v164 : BitVec 1 := Scalar.cmpi .slt v160 c0_i32_81
  let v165 : BitVec 1 := Scalar.xori v163 v164
  let c0_i32_79 : BitVec 32 := 0#32
  let v162 : BitVec 1 := Scalar.cmpi .ne v161 c0_i32_79
  let v166 : BitVec 1 := Scalar.andi v165 v162
  let v167 : BitVec 32 := Scalar.addi v161 v160
  let v168 : BitVec 32 := Scalar.select v166 v167 v161
  ![2, v168.toNat]
def k0_off13 (i : grid0.Coords) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c3_i32_74 : BitVec 32 := 3#32
  let v157 : BitVec 32 := Scalar.addi v1 c3_i32_74
  let c1_i32_75 : BitVec 32 := 1#32
  let v158 : BitVec 32 := Scalar.subi v157 c1_i32_75
  let c3_i32_76 : BitVec 32 := 3#32
  let c0_i32_77 : BitVec 32 := 0#32
  let v159 : BitVec 1 := Scalar.cmpi .eq c3_i32_76 c0_i32_77
  let c1_i32_78 : BitVec 32 := 1#32
  let v160 : BitVec 32 := Scalar.select v159 c1_i32_78 c3_i32_76
  let v161 : BitVec 32 := Scalar.remsi v158 v160
  let c0_i32_80 : BitVec 32 := 0#32
  let v163 : BitVec 1 := Scalar.cmpi .slt v161 c0_i32_80
  let c0_i32_81 : BitVec 32 := 0#32
  let v164 : BitVec 1 := Scalar.cmpi .slt v160 c0_i32_81
  let v165 : BitVec 1 := Scalar.xori v163 v164
  let c0_i32_79 : BitVec 32 := 0#32
  let v162 : BitVec 1 := Scalar.cmpi .ne v161 c0_i32_79
  let v166 : BitVec 1 := Scalar.andi v165 v162
  let v167 : BitVec 32 := Scalar.addi v161 v160
  let v168 : BitVec 32 := Scalar.select v166 v167 v161
  let c0_i32_119 : BitVec 32 := 0#32
  let c0_i32_120 : BitVec 32 := 0#32
  ![v168.toNat, 0, 0]
def k0_off14 (i : grid0.Coords) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c3_i32_74 : BitVec 32 := 3#32
  let v157 : BitVec 32 := Scalar.addi v1 c3_i32_74
  let c1_i32_75 : BitVec 32 := 1#32
  let v158 : BitVec 32 := Scalar.subi v157 c1_i32_75
  let c0_i32_104 : BitVec 32 := 0#32
  let v216 : BitVec 1 := Scalar.cmpi .sgt v158 c0_i32_104
  let v217 : BitVec 32 := Scalar.extui v216
  let c0_i32_105 : BitVec 32 := 0#32
  let v218 : BitVec 1 := Scalar.cmpi .slt v158 c0_i32_105
  let v219 : BitVec 32 := Scalar.extui v218
  let v220 : BitVec 32 := Scalar.subi v217 v219
  let c4_i32_103 : BitVec 32 := 4#32
  let c0_i32_106 : BitVec 32 := 0#32
  let v221 : BitVec 1 := Scalar.cmpi .sgt c4_i32_103 c0_i32_106
  let v222 : BitVec 32 := Scalar.extui v221
  let c0_i32_107 : BitVec 32 := 0#32
  let v223 : BitVec 1 := Scalar.cmpi .slt c4_i32_103 c0_i32_107
  let v224 : BitVec 32 := Scalar.extui v223
  let v225 : BitVec 32 := Scalar.subi v222 v224
  let v226 : BitVec 1 := Scalar.cmpi .ne v220 v225
  let v227 : BitVec 32 := Scalar.remsi v158 c4_i32_103
  let c0_i32_108 : BitVec 32 := 0#32
  let v228 : BitVec 1 := Scalar.cmpi .ne v227 c0_i32_108
  let v229 : BitVec 1 := Scalar.andi v226 v228
  let v215 : BitVec 32 := Scalar.divsi v158 c4_i32_103
  let c1_i32_109 : BitVec 32 := 1#32
  let v230 : BitVec 32 := Scalar.subi v215 c1_i32_109
  let v231 : BitVec 32 := Scalar.select v229 v230 v215
  let c4_i32_82 : BitVec 32 := 4#32
  let c0_i32_83 : BitVec 32 := 0#32
  let v169 : BitVec 1 := Scalar.cmpi .eq c4_i32_82 c0_i32_83
  let c1_i32_84 : BitVec 32 := 1#32
  let v170 : BitVec 32 := Scalar.select v169 c1_i32_84 c4_i32_82
  let v171 : BitVec 32 := Scalar.remsi v158 v170
  let c0_i32_86 : BitVec 32 := 0#32
  let v173 : BitVec 1 := Scalar.cmpi .slt v171 c0_i32_86
  let c0_i32_87 : BitVec 32 := 0#32
  let v174 : BitVec 1 := Scalar.cmpi .slt v170 c0_i32_87
  let v175 : BitVec 1 := Scalar.xori v173 v174
  let c0_i32_85 : BitVec 32 := 0#32
  let v172 : BitVec 1 := Scalar.cmpi .ne v171 c0_i32_85
  let v176 : BitVec 1 := Scalar.andi v175 v172
  let v177 : BitVec 32 := Scalar.addi v171 v170
  let v178 : BitVec 32 := Scalar.select v176 v177 v171
  let c512_i32_88 : BitVec 32 := 512#32
  let v179 : BitVec 32 := Scalar.muli v178 c512_i32_88
  let v180 : BitVec 32 := v179
  let c0_i32_121 : BitVec 32 := 0#32
  ![v231.toNat, v180.toNat, 0]
def k0_mult4 (i : grid0.Coords) : BitVec 32 :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c4_i32_8 : BitVec 32 := 4#32
  let c0_i32_9 : BitVec 32 := 0#32
  let v20 : BitVec 1 := Scalar.cmpi .eq c4_i32_8 c0_i32_9
  let c1_i32_10 : BitVec 32 := 1#32
  let v21 : BitVec 32 := Scalar.select v20 c1_i32_10 c4_i32_8
  let v22 : BitVec 32 := Scalar.remsi v1 v21
  let c0_i32_12 : BitVec 32 := 0#32
  let v24 : BitVec 1 := Scalar.cmpi .slt v22 c0_i32_12
  let c0_i32_13 : BitVec 32 := 0#32
  let v25 : BitVec 1 := Scalar.cmpi .slt v21 c0_i32_13
  let v26 : BitVec 1 := Scalar.xori v24 v25
  let c0_i32_11 : BitVec 32 := 0#32
  let v23 : BitVec 1 := Scalar.cmpi .ne v22 c0_i32_11
  let v27 : BitVec 1 := Scalar.andi v26 v23
  let v28 : BitVec 32 := Scalar.addi v22 v21
  let v29 : BitVec 32 := Scalar.select v27 v28 v22
  let c512_i32 : BitVec 32 := 512#32
  let v30 : BitVec 32 := Scalar.muli v29 c512_i32
  v30
def k0_off15 (i : grid0.Coords) : Fin 2 → Nat :=
  let c0_i32_35 : BitVec 32 := 0#32
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c3_i32_2 : BitVec 32 := 3#32
  let c0_i32_3 : BitVec 32 := 0#32
  let v10 : BitVec 1 := Scalar.cmpi .eq c3_i32_2 c0_i32_3
  let c1_i32_4 : BitVec 32 := 1#32
  let v11 : BitVec 32 := Scalar.select v10 c1_i32_4 c3_i32_2
  let v12 : BitVec 32 := Scalar.remsi v1 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  ![0, v19.toNat]
def k0_off16 (i : grid0.Coords) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c3_i32_2 : BitVec 32 := 3#32
  let c0_i32_3 : BitVec 32 := 0#32
  let v10 : BitVec 1 := Scalar.cmpi .eq c3_i32_2 c0_i32_3
  let c1_i32_4 : BitVec 32 := 1#32
  let v11 : BitVec 32 := Scalar.select v10 c1_i32_4 c3_i32_2
  let v12 : BitVec 32 := Scalar.remsi v1 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c0_i32_36 : BitVec 32 := 0#32
  let c0_i32_37 : BitVec 32 := 0#32
  ![v19.toNat, 0, 0]
def k0_off17 (i : grid0.Coords) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c0_i32_15 : BitVec 32 := 0#32
  let v33 : BitVec 1 := Scalar.cmpi .sgt v1 c0_i32_15
  let v34 : BitVec 32 := Scalar.extui v33
  let c0_i32_16 : BitVec 32 := 0#32
  let v35 : BitVec 1 := Scalar.cmpi .slt v1 c0_i32_16
  let v36 : BitVec 32 := Scalar.extui v35
  let v37 : BitVec 32 := Scalar.subi v34 v36
  let c4_i32_14 : BitVec 32 := 4#32
  let c0_i32_17 : BitVec 32 := 0#32
  let v38 : BitVec 1 := Scalar.cmpi .sgt c4_i32_14 c0_i32_17
  let v39 : BitVec 32 := Scalar.extui v38
  let c0_i32_18 : BitVec 32 := 0#32
  let v40 : BitVec 1 := Scalar.cmpi .slt c4_i32_14 c0_i32_18
  let v41 : BitVec 32 := Scalar.extui v40
  let v42 : BitVec 32 := Scalar.subi v39 v41
  let v43 : BitVec 1 := Scalar.cmpi .ne v37 v42
  let v44 : BitVec 32 := Scalar.remsi v1 c4_i32_14
  let c0_i32_19 : BitVec 32 := 0#32
  let v45 : BitVec 1 := Scalar.cmpi .ne v44 c0_i32_19
  let v46 : BitVec 1 := Scalar.andi v43 v45
  let v32 : BitVec 32 := Scalar.divsi v1 c4_i32_14
  let c1_i32_20 : BitVec 32 := 1#32
  let v47 : BitVec 32 := Scalar.subi v32 c1_i32_20
  let v48 : BitVec 32 := Scalar.select v46 v47 v32
  let c4_i32_8 : BitVec 32 := 4#32
  let c0_i32_9 : BitVec 32 := 0#32
  let v20 : BitVec 1 := Scalar.cmpi .eq c4_i32_8 c0_i32_9
  let c1_i32_10 : BitVec 32 := 1#32
  let v21 : BitVec 32 := Scalar.select v20 c1_i32_10 c4_i32_8
  let v22 : BitVec 32 := Scalar.remsi v1 v21
  let c0_i32_12 : BitVec 32 := 0#32
  let v24 : BitVec 1 := Scalar.cmpi .slt v22 c0_i32_12
  let c0_i32_13 : BitVec 32 := 0#32
  let v25 : BitVec 1 := Scalar.cmpi .slt v21 c0_i32_13
  let v26 : BitVec 1 := Scalar.xori v24 v25
  let c0_i32_11 : BitVec 32 := 0#32
  let v23 : BitVec 1 := Scalar.cmpi .ne v22 c0_i32_11
  let v27 : BitVec 1 := Scalar.andi v26 v23
  let v28 : BitVec 32 := Scalar.addi v22 v21
  let v29 : BitVec 32 := Scalar.select v27 v28 v22
  let c512_i32 : BitVec 32 := 512#32
  let v30 : BitVec 32 := Scalar.muli v29 c512_i32
  let v31 : BitVec 32 := v30
  let c0_i32_38 : BitVec 32 := 0#32
  ![v48.toNat, v31.toNat, 0]
def k0_off18 (i : grid0.Coords) : Fin 2 → Nat :=
  let c1_i32_39 : BitVec 32 := 1#32
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c3_i32_2 : BitVec 32 := 3#32
  let c0_i32_3 : BitVec 32 := 0#32
  let v10 : BitVec 1 := Scalar.cmpi .eq c3_i32_2 c0_i32_3
  let c1_i32_4 : BitVec 32 := 1#32
  let v11 : BitVec 32 := Scalar.select v10 c1_i32_4 c3_i32_2
  let v12 : BitVec 32 := Scalar.remsi v1 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  ![1, v19.toNat]
def k0_off19 (i : grid0.Coords) : Fin 2 → Nat :=
  let c2_i32 : BitVec 32 := 2#32
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c3_i32_2 : BitVec 32 := 3#32
  let c0_i32_3 : BitVec 32 := 0#32
  let v10 : BitVec 1 := Scalar.cmpi .eq c3_i32_2 c0_i32_3
  let c1_i32_4 : BitVec 32 := 1#32
  let v11 : BitVec 32 := Scalar.select v10 c1_i32_4 c3_i32_2
  let v12 : BitVec 32 := Scalar.remsi v1 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  ![2, v19.toNat]
def k0_off20 (i : grid0.Coords) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c3_i32_2 : BitVec 32 := 3#32
  let c0_i32_3 : BitVec 32 := 0#32
  let v10 : BitVec 1 := Scalar.cmpi .eq c3_i32_2 c0_i32_3
  let c1_i32_4 : BitVec 32 := 1#32
  let v11 : BitVec 32 := Scalar.select v10 c1_i32_4 c3_i32_2
  let v12 : BitVec 32 := Scalar.remsi v1 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c0_i32_43 : BitVec 32 := 0#32
  let c0_i32_44 : BitVec 32 := 0#32
  ![v19.toNat, 0, 0]
def k0_off21 (i : grid0.Coords) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c0_i32_29 : BitVec 32 := 0#32
  let v67 : BitVec 1 := Scalar.cmpi .sgt v1 c0_i32_29
  let v68 : BitVec 32 := Scalar.extui v67
  let c0_i32_30 : BitVec 32 := 0#32
  let v69 : BitVec 1 := Scalar.cmpi .slt v1 c0_i32_30
  let v70 : BitVec 32 := Scalar.extui v69
  let v71 : BitVec 32 := Scalar.subi v68 v70
  let c4_i32_28 : BitVec 32 := 4#32
  let c0_i32_31 : BitVec 32 := 0#32
  let v72 : BitVec 1 := Scalar.cmpi .sgt c4_i32_28 c0_i32_31
  let v73 : BitVec 32 := Scalar.extui v72
  let c0_i32_32 : BitVec 32 := 0#32
  let v74 : BitVec 1 := Scalar.cmpi .slt c4_i32_28 c0_i32_32
  let v75 : BitVec 32 := Scalar.extui v74
  let v76 : BitVec 32 := Scalar.subi v73 v75
  let v77 : BitVec 1 := Scalar.cmpi .ne v71 v76
  let v78 : BitVec 32 := Scalar.remsi v1 c4_i32_28
  let c0_i32_33 : BitVec 32 := 0#32
  let v79 : BitVec 1 := Scalar.cmpi .ne v78 c0_i32_33
  let v80 : BitVec 1 := Scalar.andi v77 v79
  let v66 : BitVec 32 := Scalar.divsi v1 c4_i32_28
  let c1_i32_34 : BitVec 32 := 1#32
  let v81 : BitVec 32 := Scalar.subi v66 c1_i32_34
  let v82 : BitVec 32 := Scalar.select v80 v81 v66
  let c4_i32_8 : BitVec 32 := 4#32
  let c0_i32_9 : BitVec 32 := 0#32
  let v20 : BitVec 1 := Scalar.cmpi .eq c4_i32_8 c0_i32_9
  let c1_i32_10 : BitVec 32 := 1#32
  let v21 : BitVec 32 := Scalar.select v20 c1_i32_10 c4_i32_8
  let v22 : BitVec 32 := Scalar.remsi v1 v21
  let c0_i32_12 : BitVec 32 := 0#32
  let v24 : BitVec 1 := Scalar.cmpi .slt v22 c0_i32_12
  let c0_i32_13 : BitVec 32 := 0#32
  let v25 : BitVec 1 := Scalar.cmpi .slt v21 c0_i32_13
  let v26 : BitVec 1 := Scalar.xori v24 v25
  let c0_i32_11 : BitVec 32 := 0#32
  let v23 : BitVec 1 := Scalar.cmpi .ne v22 c0_i32_11
  let v27 : BitVec 1 := Scalar.andi v26 v23
  let v28 : BitVec 32 := Scalar.addi v22 v21
  let v29 : BitVec 32 := Scalar.select v27 v28 v22
  let c512_i32 : BitVec 32 := 512#32
  let v30 : BitVec 32 := Scalar.muli v29 c512_i32
  let v31 : BitVec 32 := v30
  let c0_i32_45 : BitVec 32 := 0#32
  ![v82.toNat, v31.toNat, 0]
def k0_off22 (i : grid0.Coords) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c3_i32_46 : BitVec 32 := 3#32
  let c0_i32_47 : BitVec 32 := 0#32
  let v101 : BitVec 1 := Scalar.cmpi .eq c3_i32_46 c0_i32_47
  let c1_i32_48 : BitVec 32 := 1#32
  let v102 : BitVec 32 := Scalar.select v101 c1_i32_48 c3_i32_46
  let v103 : BitVec 32 := Scalar.remsi v1 v102
  let c0_i32_50 : BitVec 32 := 0#32
  let v105 : BitVec 1 := Scalar.cmpi .slt v103 c0_i32_50
  let c0_i32_51 : BitVec 32 := 0#32
  let v106 : BitVec 1 := Scalar.cmpi .slt v102 c0_i32_51
  let v107 : BitVec 1 := Scalar.xori v105 v106
  let c0_i32_49 : BitVec 32 := 0#32
  let v104 : BitVec 1 := Scalar.cmpi .ne v103 c0_i32_49
  let v108 : BitVec 1 := Scalar.andi v107 v104
  let v109 : BitVec 32 := Scalar.addi v103 v102
  let v110 : BitVec 32 := Scalar.select v108 v109 v103
  let v111 : Index := Scalar.indexCast v110
  let c0 : Index := 0#32
  let c0_52 : Index := 0#32
  ![v111.toNat, 0, 0]
def k0_off23 (i : grid0.Coords) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c3_i32_46 : BitVec 32 := 3#32
  let c0_i32_47 : BitVec 32 := 0#32
  let v101 : BitVec 1 := Scalar.cmpi .eq c3_i32_46 c0_i32_47
  let c1_i32_48 : BitVec 32 := 1#32
  let v102 : BitVec 32 := Scalar.select v101 c1_i32_48 c3_i32_46
  let v103 : BitVec 32 := Scalar.remsi v1 v102
  let c0_i32_50 : BitVec 32 := 0#32
  let v105 : BitVec 1 := Scalar.cmpi .slt v103 c0_i32_50
  let c0_i32_51 : BitVec 32 := 0#32
  let v106 : BitVec 1 := Scalar.cmpi .slt v102 c0_i32_51
  let v107 : BitVec 1 := Scalar.xori v105 v106
  let c0_i32_49 : BitVec 32 := 0#32
  let v104 : BitVec 1 := Scalar.cmpi .ne v103 c0_i32_49
  let v108 : BitVec 1 := Scalar.andi v107 v104
  let v109 : BitVec 32 := Scalar.addi v103 v102
  let v110 : BitVec 32 := Scalar.select v108 v109 v103
  let v124 : Index := Scalar.indexCast v110
  let c0_55 : Index := 0#32
  let c0_56 : Index := 0#32
  ![v124.toNat, 0, 0]
def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S2560x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]
-- ==== Reference2Ideal.lean ====
abbrev S2x2048x1024 : Shape := ⟨3, ![2, 2048, 1024]⟩
abbrev S2x2048x2560 : Shape := ⟨3, ![2, 2048, 2560]⟩
abbrev S1024 : Shape := ⟨1, ![1024]⟩
abbrev S2560x1024 : Shape := ⟨2, ![2560, 1024]⟩
abbrev S8x1024 : Shape := ⟨2, ![8, 1024]⟩
abbrev S_ : Shape := ⟨0, ![]⟩
abbrev S2x2048 : Shape := ⟨2, ![2, 2048]⟩
abbrev S2x2048x1 : Shape := ⟨3, ![2, 2048, 1]⟩
abbrev S2x256x8x1024 : Shape := ⟨4, ![2, 256, 8, 1024]⟩
abbrev S1x1x8x1024 : Shape := ⟨4, ![1, 1, 8, 1024]⟩

abbrev nBuf : Space → Nat
  | .hbm => 60
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S2x2048x2560, .bf16⟩
  | .hbm, ⟨3, _⟩ => ⟨S1024, .f32⟩
  | .hbm, ⟨4, _⟩ => ⟨S2560x1024, .bf16⟩
  | .hbm, ⟨5, _⟩ => ⟨S8x1024, .f32⟩
  | .hbm, ⟨6, _⟩ => ⟨S2x2048x1024, .f32⟩
  | .hbm, ⟨7, _⟩ => ⟨S_, .f32⟩
  | .hbm, ⟨8, _⟩ => ⟨S2x2048, .f32⟩
  | .hbm, ⟨9, _⟩ => ⟨S2x2048x1, .f32⟩
  | .hbm, ⟨10, _⟩ => ⟨S_, .f32⟩
  | .hbm, ⟨11, _⟩ => ⟨S2x2048x1, .f32⟩
  | .hbm, ⟨12, _⟩ => ⟨S2x2048x1, .f32⟩
  | .hbm, ⟨13, _⟩ => ⟨S_, .f32⟩
  | .hbm, ⟨14, _⟩ => ⟨S2x2048x1, .f32⟩
  | .hbm, ⟨15, _⟩ => ⟨S2x2048x1, .f32⟩
  | .hbm, ⟨16, _⟩ => ⟨S2x2048x1, .f32⟩
  | .hbm, ⟨17, _⟩ => ⟨S2x2048x1, .f32⟩
  | .hbm, ⟨18, _⟩ => ⟨S_, .f32⟩
  | .hbm, ⟨19, _⟩ => ⟨S2x2048x1, .f32⟩
  | .hbm, ⟨20, _⟩ => ⟨S2x2048x1, .f32⟩
  | .hbm, ⟨21, _⟩ => ⟨S2x2048x1024, .f32⟩
  | .hbm, ⟨22, _⟩ => ⟨S2x2048x1024, .f32⟩
  | .hbm, ⟨23, _⟩ => ⟨S2x256x8x1024, .f32⟩
  | .hbm, ⟨24, _⟩ => ⟨S1x1x8x1024, .f32⟩
  | .hbm, ⟨25, _⟩ => ⟨S2x256x8x1024, .f32⟩
  | .hbm, ⟨26, _⟩ => ⟨S2x256x8x1024, .f32⟩
  | .hbm, ⟨27, _⟩ => ⟨S2x2048x1024, .f32⟩
  | .hbm, ⟨28, _⟩ => ⟨S2560x1024, .f32⟩
  | .hbm, ⟨29, _⟩ => ⟨S2x2048x2560, .f32⟩
  | .hbm, ⟨30, _⟩ => ⟨S2x2048x2560, .f32⟩
  | .hbm, ⟨31, _⟩ => ⟨S2x2048x1024, .f32⟩
  | .hbm, ⟨32, _⟩ => ⟨S2x256x8x1024, .f32⟩
  | .hbm, ⟨33, _⟩ => ⟨S2x256x8x1024, .f32⟩
  | .hbm, ⟨34, _⟩ => ⟨S_, .f32⟩
  | .hbm, ⟨35, _⟩ => ⟨S8x1024, .f32⟩
  | .hbm, ⟨36, _⟩ => ⟨S1x1x8x1024, .f32⟩
  | .hbm, ⟨37, _⟩ => ⟨S2x256x8x1024, .f32⟩
  | .hbm, ⟨38, _⟩ => ⟨S2x256x8x1024, .f32⟩
  | .hbm, ⟨39, _⟩ => ⟨S_, .f32⟩
  | .hbm, ⟨40, _⟩ => ⟨S8x1024, .f32⟩
  | .hbm, ⟨41, _⟩ => ⟨S2x2048x1024, .f32⟩
  | .hbm, ⟨42, _⟩ => ⟨S2x2048x1024, .f32⟩
  | .hbm, ⟨43, _⟩ => ⟨S_, .f32⟩
  | .hbm, ⟨44, _⟩ => ⟨S2x2048, .f32⟩
  | .hbm, ⟨45, _⟩ => ⟨S2x2048x1, .f32⟩
  | .hbm, ⟨46, _⟩ => ⟨S2x2048x1024, .f32⟩
  | .hbm, ⟨47, _⟩ => ⟨S2x2048x1024, .f32⟩
  | .hbm, ⟨48, _⟩ => ⟨S2x2048x1024, .f32⟩
  | .hbm, ⟨49, _⟩ => ⟨S2x2048x1, .f32⟩
  | .hbm, ⟨50, _⟩ => ⟨S_, .f32⟩
  | .hbm, ⟨51, _⟩ => ⟨S2x2048x1, .f32⟩
  | .hbm, ⟨52, _⟩ => ⟨S2x2048x1, .f32⟩
  | .hbm, ⟨53, _⟩ => ⟨S_, .f32⟩
  | .hbm, ⟨54, _⟩ => ⟨S2x2048, .f32⟩
  | .hbm, ⟨55, _⟩ => ⟨S2x2048x1024, .f32⟩
  | .hbm, ⟨56, _⟩ => ⟨S2x2048x1024, .f32⟩
  | .hbm, ⟨57, _⟩ => ⟨S2x2048x1024, .f32⟩
  | .hbm, ⟨58, _⟩ => ⟨S2x2048x1024, .f32⟩
  | .hbm, ⟨59, _⟩ => ⟨S2x2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_3 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_4 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_5 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_6 : Ref sig .tc := ⟨.hbm, 50, rfl⟩
abbrev main_v38 : Ref sig .tc := ⟨.hbm, 51, rfl⟩
abbrev main_v39 : Ref sig .tc := ⟨.hbm, 52, rfl⟩
abbrev main_cst_7 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩

abbrev nD : Nat := 1
abbrev τ : Topo := Topo.v7x

variable {F : FTy → Type} [FloatOps F]
-- ==== Kernel3.lean ====
abbrev S2x2048x1024 : Shape := ⟨3, ![2, 2048, 1024]⟩
abbrev S2x2048x2560 : Shape := ⟨3, ![2, 2048, 2560]⟩
abbrev S4x128x128 : Shape := ⟨3, ![4, 128, 128]⟩
abbrev S4x128 : Shape := ⟨2, ![4, 128]⟩
abbrev S512 : Shape := ⟨1, ![512]⟩
abbrev S31x512 : Shape := ⟨2, ![31, 512]⟩
abbrev S512x512 : Shape := ⟨2, ![512, 512]⟩
abbrev S1024x1024 : Shape := ⟨2, ![1024, 1024]⟩
abbrev S1024 : Shape := ⟨1, ![1024]⟩
abbrev S1x512 : Shape := ⟨2, ![1, 512]⟩
abbrev S1x1024 : Shape := ⟨2, ![1, 1024]⟩
abbrev S2x2048x512 : Shape := ⟨3, ![2, 2048, 512]⟩
abbrev S8x128 : Shape := ⟨2, ![8, 128]⟩
abbrev S8x1024 : Shape := ⟨2, ![8, 1024]⟩
abbrev S1x512x1024 : Shape := ⟨3, ![1, 512, 1024]⟩
abbrev S1x512x2560 : Shape := ⟨3, ![1, 512, 2560]⟩
abbrev S1x512x512 : Shape := ⟨3, ![1, 512, 512]⟩
abbrev S528x512 : Shape := ⟨2, ![528, 512]⟩
abbrev S552x512 : Shape := ⟨2, ![552, 512]⟩
abbrev S512x1024 : Shape := ⟨2, ![512, 1024]⟩
abbrev S16x512 : Shape := ⟨2, ![16, 512]⟩
abbrev S32x512 : Shape := ⟨2, ![32, 512]⟩
abbrev S8x512 : Shape := ⟨2, ![8, 512]⟩
abbrev S512x128 : Shape := ⟨2, ![512, 128]⟩
abbrev S528x128 : Shape := ⟨2, ![528, 128]⟩
abbrev S1x512x128 : Shape := ⟨3, ![1, 512, 128]⟩
abbrev S1x128x128 : Shape := ⟨3, ![1, 128, 128]⟩
abbrev S128x128 : Shape := ⟨2, ![128, 128]⟩
abbrev S1x128 : Shape := ⟨2, ![1, 128]⟩
abbrev S520x128 : Shape := ⟨2, ![520, 128]⟩
abbrev S512x1 : Shape := ⟨2, ![512, 1]⟩
abbrev S1 : Shape := ⟨1, ![1]⟩
abbrev S1x1x1 : Shape := ⟨3, ![1, 1, 1]⟩
abbrev S64x8x1024 : Shape := ⟨3, ![64, 8, 1024]⟩

abbrev nBuf : Space → Nat
  | .hbm => 30
  | .vmem => 32
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S2x2048x2560, .f32⟩
  | .hbm, ⟨3, _⟩ => ⟨S4x128x128, .f32⟩
  | .hbm, ⟨4, _⟩ => ⟨S4x128, .f32⟩
  | .hbm, ⟨5, _⟩ => ⟨S512, .f32⟩
  | .hbm, ⟨6, _⟩ => ⟨S31x512, .f32⟩
  | .hbm, ⟨7, _⟩ => ⟨S512, .f32⟩
  | .hbm, ⟨8, _⟩ => ⟨S512, .f32⟩
  | .hbm, ⟨9, _⟩ => ⟨S512, .f32⟩
  | .hbm, ⟨10, _⟩ => ⟨S512x512, .f32⟩
  | .hbm, ⟨11, _⟩ => ⟨S512, .f32⟩
  | .hbm, ⟨12, _⟩ => ⟨S1024x1024, .f32⟩
  | .hbm, ⟨13, _⟩ => ⟨S1024, .f32⟩
  | .hbm, ⟨14, _⟩ => ⟨S512x512, .bf16⟩
  | .hbm, ⟨15, _⟩ => ⟨S1024x1024, .bf16⟩
  | .hbm, ⟨16, _⟩ => ⟨S1x512, .f32⟩
  | .hbm, ⟨17, _⟩ => ⟨S1x512, .f32⟩
  | .hbm, ⟨18, _⟩ => ⟨S1x512, .f32⟩
  | .hbm, ⟨19, _⟩ => ⟨S1x512, .f32⟩
  | .hbm, ⟨20, _⟩ => ⟨S1x512, .f32⟩
  | .hbm, ⟨21, _⟩ => ⟨S1x512, .f32⟩
  | .hbm, ⟨22, _⟩ => ⟨S1x1024, .f32⟩
  | .hbm, ⟨23, _⟩ => ⟨S2x2048x512, .f32⟩
  | .hbm, ⟨24, _⟩ => ⟨S2x2048x512, .f32⟩
  | .hbm, ⟨25, _⟩ => ⟨S2x2048x512, .f32⟩
  | .hbm, ⟨26, _⟩ => ⟨S2x2048x512, .bf16⟩
  | .hbm, ⟨27, _⟩ => ⟨S2x2048x1024, .f32⟩
  | .hbm, ⟨28, _⟩ => ⟨S8x128, .f32⟩
  | .hbm, ⟨29, _⟩ => ⟨S8x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x1024, .f32⟩
  | .local _ .vmem, ⟨3, _⟩ => ⟨S1x512x1024, .f32⟩
  | .local _ .vmem, ⟨4, _⟩ => ⟨S1x512x2560, .f32⟩
  | .local _ .vmem, ⟨5, _⟩ => ⟨S1x512x2560, .f32⟩
  | .local _ .vmem, ⟨6, _⟩ => ⟨S4x128x128, .f32⟩
  | .local _ .vmem, ⟨7, _⟩ => ⟨S1x512, .f32⟩
  | .local _ .vmem, ⟨8, _⟩ => ⟨S1x512, .f32⟩
  | .local _ .vmem, ⟨9, _⟩ => ⟨S31x512, .f32⟩
  | .local _ .vmem, ⟨10, _⟩ => ⟨S1x512, .f32⟩
  | .local _ .vmem, ⟨11, _⟩ => ⟨S1x512, .f32⟩
  | .local _ .vmem, ⟨12, _⟩ => ⟨S1x512, .f32⟩
  | .local _ .vmem, ⟨13, _⟩ => ⟨S512x512, .bf16⟩
  | .local _ .vmem, ⟨14, _⟩ => ⟨S1x512, .f32⟩
  | .local _ .vmem, ⟨15, _⟩ => ⟨S1024x1024, .bf16⟩
  | .local _ .vmem, ⟨16, _⟩ => ⟨S1x1024, .f32⟩
  | .local _ .vmem, ⟨17, _⟩ => ⟨S1x512x512, .f32⟩
  | .local _ .vmem, ⟨18, _⟩ => ⟨S1x512x512, .f32⟩
  | .local _ .vmem, ⟨19, _⟩ => ⟨S1x512x512, .f32⟩
  | .local _ .vmem, ⟨20, _⟩ => ⟨S1x512x512, .f32⟩
  | .local _ .vmem, ⟨21, _⟩ => ⟨S1x512x512, .f32⟩
  | .local _ .vmem, ⟨22, _⟩ => ⟨S1x512x512, .f32⟩
  | .local _ .vmem, ⟨23, _⟩ => ⟨S1x512x512, .bf16⟩
  | .local _ .vmem, ⟨24, _⟩ => ⟨S1x512x512, .bf16⟩
  | .local _ .vmem, ⟨25, _⟩ => ⟨S1x512x1024, .f32⟩
  | .local _ .vmem, ⟨26, _⟩ => ⟨S1x512x1024, .f32⟩
  | .local _ .vmem, ⟨27, _⟩ => ⟨S8x128, .f32⟩
  | .local _ .vmem, ⟨28, _⟩ => ⟨S8x1024, .f32⟩
  | .local _ .vmem, ⟨29, _⟩ => ⟨S528x512, .f32⟩
  | .local _ .vmem, ⟨30, _⟩ => ⟨S552x512, .f32⟩
  | .local _ .vmem, ⟨31, _⟩ => ⟨S512x1024, .bf16⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9_0 : Ref sig .tc := ⟨.hbm, 23, rfl⟩
abbrev main_v9_1 : Ref sig .tc := ⟨.hbm, 24, rfl⟩
abbrev main_v9_2 : Ref sig .tc := ⟨.hbm, 25, rfl⟩
abbrev main_v9_3 : Ref sig .tc := ⟨.hbm, 26, rfl⟩
abbrev main_v9_4 : Ref sig .tc := ⟨.hbm, 27, rfl⟩
abbrev main_v9_5 : Ref sig .tc := ⟨.hbm, 28, rfl⟩
abbrev main_v9_6 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg14_1 : Ref sig .tc := ⟨.vmem, 18, rfl⟩
abbrev cc0_stg15_0 : Ref sig .tc := ⟨.vmem, 19, rfl⟩
abbrev cc0_stg15_1 : Ref sig .tc := ⟨.vmem, 20, rfl⟩
abbrev cc0_stg16_0 : Ref sig .tc := ⟨.vmem, 21, rfl⟩
abbrev cc0_stg16_1 : Ref sig .tc := ⟨.vmem, 22, rfl⟩
abbrev cc0_stg17_0 : Ref sig .tc := ⟨.vmem, 23, rfl⟩
abbrev cc0_stg17_1 : Ref sig .tc := ⟨.vmem, 24, rfl⟩
abbrev cc0_stg18_0 : Ref sig .tc := ⟨.vmem, 25, rfl⟩
abbrev cc0_stg18_1 : Ref sig .tc := ⟨.vmem, 26, rfl⟩
abbrev cc0_stg19_0 : Ref sig .tc := ⟨.vmem, 27, rfl⟩
abbrev cc0_stg20_0 : Ref sig .tc := ⟨.vmem, 28, rfl⟩
abbrev cc0_scratch0 : Ref sig .tc := ⟨.vmem, 29, rfl⟩
abbrev cc0_scratch1 : Ref sig .tc := ⟨.vmem, 30, rfl⟩
abbrev cc0_scratch2 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem14_1 : DmaSem sig := 18
abbrev cc0_sem15_0 : DmaSem sig := 19
abbrev cc0_sem15_1 : DmaSem sig := 20
abbrev cc0_sem16_0 : DmaSem sig := 21
abbrev cc0_sem16_1 : DmaSem sig := 22
abbrev cc0_sem17_0 : DmaSem sig := 23
abbrev cc0_sem17_1 : DmaSem sig := 24
abbrev cc0_sem18_0 : DmaSem sig := 25
abbrev cc0_sem18_1 : DmaSem sig := 26
abbrev cc0_sem19_0 : DmaSem sig := 27
abbrev cc0_sem20_0 : DmaSem sig := 28

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_19 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x2560 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S4x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S31x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S512x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S1x512x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x512x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x512x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x512x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x512x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 1 → Memref sig .tc .vmem S8x128 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false, false]

abbrev stage0_20 : Fin 1 → Memref sig .tc .vmem S8x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false, false]
-- ==== Reference3Ideal.lean ====
abbrev S2x2048x1024 : Shape := ⟨3, ![2, 2048, 1024]⟩
abbrev S2x2048x2560 : Shape := ⟨3, ![2, 2048, 2560]⟩
abbrev S4x128x128 : Shape := ⟨3, ![4, 128, 128]⟩
abbrev S4x128 : Shape := ⟨2, ![4, 128]⟩
abbrev S512 : Shape := ⟨1, ![512]⟩
abbrev S31x512 : Shape := ⟨2, ![31, 512]⟩
abbrev S512x512 : Shape := ⟨2, ![512, 512]⟩
abbrev S1024x1024 : Shape := ⟨2, ![1024, 1024]⟩
abbrev S1024 : Shape := ⟨1, ![1024]⟩
abbrev S8x1024 : Shape := ⟨2, ![8, 1024]⟩
abbrev S2x2048x512 : Shape := ⟨3, ![2, 2048, 512]⟩
abbrev S2048 : Shape := ⟨1, ![2048]⟩
abbrev S_ : Shape := ⟨0, ![]⟩
abbrev S1x2048x1 : Shape := ⟨3, ![1, 2048, 1]⟩
abbrev S2x2048x128 : Shape := ⟨3, ![2, 2048, 128]⟩
abbrev S2x2049x128 : Shape := ⟨3, ![2, 2049, 128]⟩
abbrev S2x2051x128 : Shape := ⟨3, ![2, 2051, 128]⟩
abbrev S2x2055x128 : Shape := ⟨3, ![2, 2055, 128]⟩
abbrev S2x2063x128 : Shape := ⟨3, ![2, 2063, 128]⟩
abbrev S2x2048x4x128 : Shape := ⟨4, ![2, 2048, 4, 128]⟩
abbrev S4x128x2x2048 : Shape := ⟨4, ![4, 128, 2, 2048]⟩
abbrev S1x1x4x128 : Shape := ⟨4, ![1, 1, 4, 128]⟩
abbrev S1x1x512 : Shape := ⟨3, ![1, 1, 512]⟩
abbrev S2x2078x512 : Shape := ⟨3, ![2, 2078, 512]⟩
abbrev S1x512 : Shape := ⟨2, ![1, 512]⟩
abbrev S2x2048 : Shape := ⟨2, ![2, 2048]⟩
abbrev S2x2048x1 : Shape := ⟨3, ![2, 2048, 1]⟩
abbrev S2x256x8x1024 : Shape := ⟨4, ![2, 256, 8, 1024]⟩
abbrev S1x1x8x1024 : Shape := ⟨4, ![1, 1, 8, 1024]⟩
abbrev S8x128 : Shape := ⟨2, ![8, 128]⟩

abbrev nBuf : Space → Nat
  | .hbm => 481
  | .vmem => 0
  | .smem => 0
  | _ => 0

abbrev hbmTy0_0 (i : Nat) : BufTy := match i % 128 with
  | 0 => ⟨S2x2048x1024, .f32⟩
  | 1 => ⟨S2x2048x1024, .f32⟩
  | 2 => ⟨S2x2048x2560, .f32⟩
  | 3 => ⟨S4x128x128, .f32⟩
  | 4 => ⟨S4x128, .f32⟩
  | 5 => ⟨S512, .f32⟩
  | 6 => ⟨S31x512, .f32⟩
  | 7 => ⟨S512, .f32⟩
  | 8 => ⟨S512, .f32⟩
  | 9 => ⟨S512, .f32⟩
  | 10 => ⟨S512x512, .f32⟩
  | 11 => ⟨S512, .f32⟩
  | 12 => ⟨S1024x1024, .f32⟩
  | 13 => ⟨S1024, .f32⟩
  | 14 => ⟨S8x1024, .f32⟩
  | 15 => ⟨S2x2048x512, .f32⟩
  | 16 => ⟨S2048, .i32⟩
  | 17 => ⟨S_, .i32⟩
  | 18 => ⟨S2048, .i32⟩
  | 19 => ⟨S2048, .i32⟩
  | 20 => ⟨S_, .i32⟩
  | 21 => ⟨S2048, .i32⟩
  | 22 => ⟨S2048, .i32⟩
  | 23 => ⟨S2048, .f32⟩
  | 24 => ⟨S1x2048x1, .f32⟩
  | 25 => ⟨S2x2048x128, .f32⟩
  | 26 => ⟨S_, .f32⟩
  | 27 => ⟨S2x2049x128, .f32⟩
  | 28 => ⟨S2x2048x128, .f32⟩
  | 29 => ⟨S2x2048x128, .f32⟩
  | 30 => ⟨S2x2048x128, .f32⟩
  | 31 => ⟨S2x2048x128, .f32⟩
  | 32 => ⟨S2x2048x128, .f32⟩
  | 33 => ⟨S2048, .i32⟩
  | 34 => ⟨S_, .i32⟩
  | 35 => ⟨S2048, .i32⟩
  | 36 => ⟨S2048, .i32⟩
  | 37 => ⟨S_, .i32⟩
  | 38 => ⟨S2048, .i32⟩
  | 39 => ⟨S2048, .i32⟩
  | 40 => ⟨S2048, .f32⟩
  | 41 => ⟨S1x2048x1, .f32⟩
  | 42 => ⟨S2x2048x128, .f32⟩
  | 43 => ⟨S_, .f32⟩
  | 44 => ⟨S2x2051x128, .f32⟩
  | 45 => ⟨S2x2048x128, .f32⟩
  | 46 => ⟨S2x2048x128, .f32⟩
  | 47 => ⟨S2x2048x128, .f32⟩
  | 48 => ⟨S2x2048x128, .f32⟩
  | 49 => ⟨S2x2048x128, .f32⟩
  | 50 => ⟨S2x2048x128, .f32⟩
  | 51 => ⟨S2x2048x128, .f32⟩
  | 52 => ⟨S2x2048x128, .f32⟩
  | 53 => ⟨S2x2048x128, .f32⟩
  | 54 => ⟨S2048, .i32⟩
  | 55 => ⟨S_, .i32⟩
  | 56 => ⟨S2048, .i32⟩
  | 57 => ⟨S2048, .i32⟩
  | 58 => ⟨S_, .i32⟩
  | 59 => ⟨S2048, .i32⟩
  | 60 => ⟨S2048, .i32⟩
  | 61 => ⟨S2048, .f32⟩
  | 62 => ⟨S1x2048x1, .f32⟩
  | 63 => ⟨S2x2048x128, .f32⟩
  | 64 => ⟨S_, .f32⟩
  | 65 => ⟨S2x2055x128, .f32⟩
  | 66 => ⟨S2x2048x128, .f32⟩
  | 67 => ⟨S2x2048x128, .f32⟩
  | 68 => ⟨S2x2048x128, .f32⟩
  | 69 => ⟨S2x2048x128, .f32⟩
  | 70 => ⟨S2x2048x128, .f32⟩
  | 71 => ⟨S2x2048x128, .f32⟩
  | 72 => ⟨S2x2048x128, .f32⟩
  | 73 => ⟨S2x2048x128, .f32⟩
  | 74 => ⟨S2x2048x128, .f32⟩
  | 75 => ⟨S2x2048x128, .f32⟩
  | 76 => ⟨S2x2048x128, .f32⟩
  | 77 => ⟨S2x2048x128, .f32⟩
  | 78 => ⟨S2x2048x128, .f32⟩
  | 79 => ⟨S2x2048x128, .f32⟩
  | 80 => ⟨S2x2048x128, .f32⟩
  | 81 => ⟨S2x2048x128, .f32⟩
  | 82 => ⟨S2x2048x128, .f32⟩
  | 83 => ⟨S2048, .i32⟩
  | 84 => ⟨S_, .i32⟩
  | 85 => ⟨S2048, .i32⟩
  | 86 => ⟨S2048, .i32⟩
  | 87 => ⟨S_, .i32⟩
  | 88 => ⟨S2048, .i32⟩
  | 89 => ⟨S2048, .i32⟩
  | 90 => ⟨S2048, .f32⟩
  | 91 => ⟨S1x2048x1, .f32⟩
  | 92 => ⟨S2x2048x128, .f32⟩
  | 93 => ⟨S_, .f32⟩
  | 94 => ⟨S2x2063x128, .f32⟩
  | 95 => ⟨S2x2048x128, .f32⟩
  | 96 => ⟨S2x2048x128, .f32⟩
  | 97 => ⟨S2x2048x128, .f32⟩
  | 98 => ⟨S2x2048x128, .f32⟩
  | 99 => ⟨S2x2048x128, .f32⟩
  | 100 => ⟨S2x2048x128, .f32⟩
  | 101 => ⟨S2x2048x128, .f32⟩
  | 102 => ⟨S2x2048x128, .f32⟩
  | 103 => ⟨S2x2048x128, .f32⟩
  | 104 => ⟨S2x2048x128, .f32⟩
  | 105 => ⟨S2x2048x128, .f32⟩
  | 106 => ⟨S2x2048x128, .f32⟩
  | 107 => ⟨S2x2048x128, .f32⟩
  | 108 => ⟨S2x2048x128, .f32⟩
  | 109 => ⟨S2x2048x128, .f32⟩
  | 110 => ⟨S2x2048x128, .f32⟩
  | 111 => ⟨S2x2048x128, .f32⟩
  | 112 => ⟨S2x2048x128, .f32⟩
  | 113 => ⟨S2x2048x128, .f32⟩
  | 114 => ⟨S2x2048x128, .f32⟩
  | 115 => ⟨S2x2048x128, .f32⟩
  | 116 => ⟨S2x2048x128, .f32⟩
  | 117 => ⟨S2x2048x128, .f32⟩
  | 118 => ⟨S2x2048x128, .f32⟩
  | 119 => ⟨S2x2048x128, .f32⟩
  | 120 => ⟨S2x2048x128, .f32⟩
  | 121 => ⟨S2x2048x128, .f32⟩
  | 122 => ⟨S2x2048x128, .f32⟩
  | 123 => ⟨S2x2048x128, .f32⟩
  | 124 => ⟨S2x2048x128, .f32⟩
  | 125 => ⟨S2x2048x128, .f32⟩
  | 126 => ⟨S2x2048x128, .f32⟩
  | 127 => ⟨S2x2048x128, .f32⟩
  | _ => ⟨S2x2048x1024, .f32⟩

abbrev hbmTy0_1 (i : Nat) : BufTy := match i % 128 with
  | 0 => ⟨S2x2048x512, .f32⟩
  | 1 => ⟨S2x2048x512, .f32⟩
  | 2 => ⟨S2x2048x4x128, .f32⟩
  | 3 => ⟨S4x128x2x2048, .f32⟩
  | 4 => ⟨S2x2048x4x128, .f32⟩
  | 5 => ⟨S1x1x4x128, .f32⟩
  | 6 => ⟨S2x2048x4x128, .f32⟩
  | 7 => ⟨S2x2048x4x128, .f32⟩
  | 8 => ⟨S2x2048x512, .f32⟩
  | 9 => ⟨S1x1x512, .f32⟩
  | 10 => ⟨S2x2048x512, .f32⟩
  | 11 => ⟨S2x2048x512, .f32⟩
  | 12 => ⟨S2x2048x512, .f32⟩
  | 13 => ⟨S2x2048x512, .f32⟩
  | 14 => ⟨S2x2048x512, .f32⟩
  | 15 => ⟨S_, .f32⟩
  | 16 => ⟨S2x2048x512, .f32⟩
  | 17 => ⟨S2x2048x512, .f32⟩
  | 18 => ⟨S_, .f32⟩
  | 19 => ⟨S2x2048x512, .f32⟩
  | 20 => ⟨S2x2048x512, .f32⟩
  | 21 => ⟨S2x2048x512, .f32⟩
  | 22 => ⟨S2x2048x512, .f32⟩
  | 23 => ⟨S2x2048x512, .f32⟩
  | 24 => ⟨S2x2048x512, .f32⟩
  | 25 => ⟨S2x2048x512, .f32⟩
  | 26 => ⟨S2x2048x512, .f32⟩
  | 27 => ⟨S_, .f32⟩
  | 28 => ⟨S2x2048x512, .f32⟩
  | 29 => ⟨S2x2048x512, .f32⟩
  | 30 => ⟨S_, .f32⟩
  | 31 => ⟨S2x2048x512, .f32⟩
  | 32 => ⟨S2x2048x512, .f32⟩
  | 33 => ⟨S2x2048x512, .f32⟩
  | 34 => ⟨S_, .f32⟩
  | 35 => ⟨S2x2078x512, .f32⟩
  | 36 => ⟨S2x2048x512, .f32⟩
  | 37 => ⟨S1x512, .f32⟩
  | 38 => ⟨S1x1x512, .f32⟩
  | 39 => ⟨S2x2048x512, .f32⟩
  | 40 => ⟨S2x2048x512, .f32⟩
  | 41 => ⟨S2x2048x512, .f32⟩
  | 42 => ⟨S1x512, .f32⟩
  | 43 => ⟨S1x1x512, .f32⟩
  | 44 => ⟨S2x2048x512, .f32⟩
  | 45 => ⟨S2x2048x512, .f32⟩
  | 46 => ⟨S2x2048x512, .f32⟩
  | 47 => ⟨S1x512, .f32⟩
  | 48 => ⟨S1x1x512, .f32⟩
  | 49 => ⟨S2x2048x512, .f32⟩
  | 50 => ⟨S2x2048x512, .f32⟩
  | 51 => ⟨S2x2048x512, .f32⟩
  | 52 => ⟨S1x512, .f32⟩
  | 53 => ⟨S1x1x512, .f32⟩
  | 54 => ⟨S2x2048x512, .f32⟩
  | 55 => ⟨S2x2048x512, .f32⟩
  | 56 => ⟨S2x2048x512, .f32⟩
  | 57 => ⟨S1x512, .f32⟩
  | 58 => ⟨S1x1x512, .f32⟩
  | 59 => ⟨S2x2048x512, .f32⟩
  | 60 => ⟨S2x2048x512, .f32⟩
  | 61 => ⟨S2x2048x512, .f32⟩
  | 62 => ⟨S1x512, .f32⟩
  | 63 => ⟨S1x1x512, .f32⟩
  | 64 => ⟨S2x2048x512, .f32⟩
  | 65 => ⟨S2x2048x512, .f32⟩
  | 66 => ⟨S2x2048x512, .f32⟩
  | 67 => ⟨S1x512, .f32⟩
  | 68 => ⟨S1x1x512, .f32⟩
  | 69 => ⟨S2x2048x512, .f32⟩
  | 70 => ⟨S2x2048x512, .f32⟩
  | 71 => ⟨S2x2048x512, .f32⟩
  | 72 => ⟨S1x512, .f32⟩
  | 73 => ⟨S1x1x512, .f32⟩
  | 74 => ⟨S2x2048x512, .f32⟩
  | 75 => ⟨S2x2048x512, .f32⟩
  | 76 => ⟨S2x2048x512, .f32⟩
  | 77 => ⟨S1x512, .f32⟩
  | 78 => ⟨S1x1x512, .f32⟩
  | 79 => ⟨S2x2048x512, .f32⟩
  | 80 => ⟨S2x2048x512, .f32⟩
  | 81 => ⟨S2x2048x512, .f32⟩
  | 82 => ⟨S1x512, .f32⟩
  | 83 => ⟨S1x1x512, .f32⟩
  | 84 => ⟨S2x2048x512, .f32⟩
  | 85 => ⟨S2x2048x512, .f32⟩
  | 86 => ⟨S2x2048x512, .f32⟩
  | 87 => ⟨S1x512, .f32⟩
  | 88 => ⟨S1x1x512, .f32⟩
  | 89 => ⟨S2x2048x512, .f32⟩
  | 90 => ⟨S2x2048x512, .f32⟩
  | 91 => ⟨S2x2048x512, .f32⟩
  | 92 => ⟨S1x512, .f32⟩
  | 93 => ⟨S1x1x512, .f32⟩
  | 94 => ⟨S2x2048x512, .f32⟩
  | 95 => ⟨S2x2048x512, .f32⟩
  | 96 => ⟨S2x2048x512, .f32⟩
  | 97 => ⟨S1x512, .f32⟩
  | 98 => ⟨S1x1x512, .f32⟩
  | 99 => ⟨S2x2048x512, .f32⟩
  | 100 => ⟨S2x2048x512, .f32⟩
  | 101 => ⟨S2x2048x512, .f32⟩
  | 102 => ⟨S1x512, .f32⟩
  | 103 => ⟨S1x1x512, .f32⟩
  | 104 => ⟨S2x2048x512, .f32⟩
  | 105 => ⟨S2x2048x512, .f32⟩
  | 106 => ⟨S2x2048x512, .f32⟩
  | 107 => ⟨S1x512, .f32⟩
  | 108 => ⟨S1x1x512, .f32⟩
  | 109 => ⟨S2x2048x512, .f32⟩
  | 110 => ⟨S2x2048x512, .f32⟩
  | 111 => ⟨S2x2048x512, .f32⟩
  | 112 => ⟨S1x512, .f32⟩
  | 113 => ⟨S1x1x512, .f32⟩
  | 114 => ⟨S2x2048x512, .f32⟩
  | 115 => ⟨S2x2048x512, .f32⟩
  | 116 => ⟨S2x2048x512, .f32⟩
  | 117 => ⟨S1x512, .f32⟩
  | 118 => ⟨S1x1x512, .f32⟩
  | 119 => ⟨S2x2048x512, .f32⟩
  | 120 => ⟨S2x2048x512, .f32⟩
  | 121 => ⟨S2x2048x512, .f32⟩
  | 122 => ⟨S1x512, .f32⟩
  | 123 => ⟨S1x1x512, .f32⟩
  | 124 => ⟨S2x2048x512, .f32⟩
  | 125 => ⟨S2x2048x512, .f32⟩
  | 126 => ⟨S2x2048x512, .f32⟩
  | 127 => ⟨S1x512, .f32⟩
  | _ => ⟨S2x2048x1024, .f32⟩

abbrev hbmTy0_2 (i : Nat) : BufTy := match i % 128 with
  | 0 => ⟨S1x1x512, .f32⟩
  | 1 => ⟨S2x2048x512, .f32⟩
  | 2 => ⟨S2x2048x512, .f32⟩
  | 3 => ⟨S2x2048x512, .f32⟩
  | 4 => ⟨S1x512, .f32⟩
  | 5 => ⟨S1x1x512, .f32⟩
  | 6 => ⟨S2x2048x512, .f32⟩
  | 7 => ⟨S2x2048x512, .f32⟩
  | 8 => ⟨S2x2048x512, .f32⟩
  | 9 => ⟨S1x512, .f32⟩
  | 10 => ⟨S1x1x512, .f32⟩
  | 11 => ⟨S2x2048x512, .f32⟩
  | 12 => ⟨S2x2048x512, .f32⟩
  | 13 => ⟨S2x2048x512, .f32⟩
  | 14 => ⟨S1x512, .f32⟩
  | 15 => ⟨S1x1x512, .f32⟩
  | 16 => ⟨S2x2048x512, .f32⟩
  | 17 => ⟨S2x2048x512, .f32⟩
  | 18 => ⟨S2x2048x512, .f32⟩
  | 19 => ⟨S1x512, .f32⟩
  | 20 => ⟨S1x1x512, .f32⟩
  | 21 => ⟨S2x2048x512, .f32⟩
  | 22 => ⟨S2x2048x512, .f32⟩
  | 23 => ⟨S2x2048x512, .f32⟩
  | 24 => ⟨S1x512, .f32⟩
  | 25 => ⟨S1x1x512, .f32⟩
  | 26 => ⟨S2x2048x512, .f32⟩
  | 27 => ⟨S2x2048x512, .f32⟩
  | 28 => ⟨S2x2048x512, .f32⟩
  | 29 => ⟨S1x512, .f32⟩
  | 30 => ⟨S1x1x512, .f32⟩
  | 31 => ⟨S2x2048x512, .f32⟩
  | 32 => ⟨S2x2048x512, .f32⟩
  | 33 => ⟨S2x2048x512, .f32⟩
  | 34 => ⟨S1x512, .f32⟩
  | 35 => ⟨S1x1x512, .f32⟩
  | 36 => ⟨S2x2048x512, .f32⟩
  | 37 => ⟨S2x2048x512, .f32⟩
  | 38 => ⟨S2x2048x512, .f32⟩
  | 39 => ⟨S1x512, .f32⟩
  | 40 => ⟨S1x1x512, .f32⟩
  | 41 => ⟨S2x2048x512, .f32⟩
  | 42 => ⟨S2x2048x512, .f32⟩
  | 43 => ⟨S2x2048x512, .f32⟩
  | 44 => ⟨S1x512, .f32⟩
  | 45 => ⟨S1x1x512, .f32⟩
  | 46 => ⟨S2x2048x512, .f32⟩
  | 47 => ⟨S2x2048x512, .f32⟩
  | 48 => ⟨S2x2048x512, .f32⟩
  | 49 => ⟨S1x512, .f32⟩
  | 50 => ⟨S1x1x512, .f32⟩
  | 51 => ⟨S2x2048x512, .f32⟩
  | 52 => ⟨S2x2048x512, .f32⟩
  | 53 => ⟨S2x2048x512, .f32⟩
  | 54 => ⟨S1x512, .f32⟩
  | 55 => ⟨S1x1x512, .f32⟩
  | 56 => ⟨S2x2048x512, .f32⟩
  | 57 => ⟨S2x2048x512, .f32⟩
  | 58 => ⟨S2x2048x512, .f32⟩
  | 59 => ⟨S1x512, .f32⟩
  | 60 => ⟨S1x1x512, .f32⟩
  | 61 => ⟨S2x2048x512, .f32⟩
  | 62 => ⟨S2x2048x512, .f32⟩
  | 63 => ⟨S2x2048x512, .f32⟩
  | 64 => ⟨S2x2048x512, .f32⟩
  | 65 => ⟨S2x2048x512, .f32⟩
  | 66 => ⟨S2x2048x512, .f32⟩
  | 67 => ⟨S2x2048x512, .f32⟩
  | 68 => ⟨S2x2048x512, .f32⟩
  | 69 => ⟨S2x2048x512, .f32⟩
  | 70 => ⟨S2x2048x512, .f32⟩
  | 71 => ⟨S2x2048x512, .f32⟩
  | 72 => ⟨S2x2048x512, .f32⟩
  | 73 => ⟨S2x2048x512, .f32⟩
  | 74 => ⟨S2x2048x512, .f32⟩
  | 75 => ⟨S2x2048x512, .f32⟩
  | 76 => ⟨S2x2048x512, .f32⟩
  | 77 => ⟨S2x2048x512, .f32⟩
  | 78 => ⟨S2x2048x512, .f32⟩
  | 79 => ⟨S2x2048x512, .f32⟩
  | 80 => ⟨S2x2048x512, .f32⟩
  | 81 => ⟨S2x2048x512, .f32⟩
  | 82 => ⟨S2x2048x512, .f32⟩
  | 83 => ⟨S2x2048x512, .f32⟩
  | 84 => ⟨S2x2048x512, .f32⟩
  | 85 => ⟨S2x2048x512, .f32⟩
  | 86 => ⟨S2x2048x512, .f32⟩
  | 87 => ⟨S2x2048x512, .f32⟩
  | 88 => ⟨S2x2048x512, .f32⟩
  | 89 => ⟨S2x2048x512, .f32⟩
  | 90 => ⟨S2x2048x512, .f32⟩
  | 91 => ⟨S2x2048x512, .f32⟩
  | 92 => ⟨S2x2048x512, .f32⟩
  | 93 => ⟨S1x1x512, .f32⟩
  | 94 => ⟨S2x2048x512, .f32⟩
  | 95 => ⟨S2x2048x512, .f32⟩
  | 96 => ⟨S_, .f32⟩
  | 97 => ⟨S2x2048, .f32⟩
  | 98 => ⟨S2x2048x1, .f32⟩
  | 99 => ⟨S_, .f32⟩
  | 100 => ⟨S2x2048x1, .f32⟩
  | 101 => ⟨S2x2048x1, .f32⟩
  | 102 => ⟨S2x2048x512, .f32⟩
  | 103 => ⟨S2x2048x512, .f32⟩
  | 104 => ⟨S2x2048x512, .f32⟩
  | 105 => ⟨S_, .f32⟩
  | 106 => ⟨S2x2048, .f32⟩
  | 107 => ⟨S2x2048x1, .f32⟩
  | 108 => ⟨S_, .f32⟩
  | 109 => ⟨S2x2048x1, .f32⟩
  | 110 => ⟨S2x2048x1, .f32⟩
  | 111 => ⟨S2x2048x512, .f32⟩
  | 112 => ⟨S2x2048x512, .f32⟩
  | 113 => ⟨S_, .f32⟩
  | 114 => ⟨S2x2048x1, .f32⟩
  | 115 => ⟨S2x2048x1, .f32⟩
  | 116 => ⟨S2x2048x1, .f32⟩
  | 117 => ⟨S2x2048x512, .f32⟩
  | 118 => ⟨S2x2048x512, .f32⟩
  | 119 => ⟨S1x1x512, .f32⟩
  | 120 => ⟨S2x2048x512, .f32⟩
  | 121 => ⟨S2x2048x512, .f32⟩
  | 122 => ⟨S1x1x512, .f32⟩
  | 123 => ⟨S2x2048x512, .f32⟩
  | 124 => ⟨S2x2048x512, .f32⟩
  | 125 => ⟨S2x2048x512, .f32⟩
  | 126 => ⟨S2x2048x512, .f32⟩
  | 127 => ⟨S_, .f32⟩
  | _ => ⟨S2x2048x1024, .f32⟩

abbrev hbmTy0_3 (i : Nat) : BufTy := match i % 128 with
  | 0 => ⟨S2x2048x512, .f32⟩
  | 1 => ⟨S2x2048x512, .f32⟩
  | 2 => ⟨S_, .f32⟩
  | 3 => ⟨S2x2048x512, .f32⟩
  | 4 => ⟨S2x2048x512, .f32⟩
  | 5 => ⟨S2x2048x512, .f32⟩
  | 6 => ⟨S2x2048x512, .f32⟩
  | 7 => ⟨S1x1x512, .f32⟩
  | 8 => ⟨S2x2048x512, .f32⟩
  | 9 => ⟨S2x2048x512, .f32⟩
  | 10 => ⟨S2x2048x512, .f32⟩
  | 11 => ⟨S2x2048x512, .f32⟩
  | 12 => ⟨S2x2048x512, .f32⟩
  | 13 => ⟨S_, .f32⟩
  | 14 => ⟨S2x2048x512, .f32⟩
  | 15 => ⟨S2x2048x512, .f32⟩
  | 16 => ⟨S_, .f32⟩
  | 17 => ⟨S2x2048x512, .f32⟩
  | 18 => ⟨S2x2048x512, .f32⟩
  | 19 => ⟨S2x2048x512, .f32⟩
  | 20 => ⟨S2x2048x512, .f32⟩
  | 21 => ⟨S2x2048x1024, .f32⟩
  | 22 => ⟨S2x2048x1024, .f32⟩
  | 23 => ⟨S2x2048x1024, .f32⟩
  | 24 => ⟨S2x2048x1024, .f32⟩
  | 25 => ⟨S_, .f32⟩
  | 26 => ⟨S2x2048, .f32⟩
  | 27 => ⟨S2x2048x1, .f32⟩
  | 28 => ⟨S_, .f32⟩
  | 29 => ⟨S2x2048x1, .f32⟩
  | 30 => ⟨S2x2048x1, .f32⟩
  | 31 => ⟨S_, .f32⟩
  | 32 => ⟨S2x2048x1, .f32⟩
  | 33 => ⟨S2x2048x1, .f32⟩
  | 34 => ⟨S2x2048x1, .f32⟩
  | 35 => ⟨S2x2048x1, .f32⟩
  | 36 => ⟨S_, .f32⟩
  | 37 => ⟨S2x2048x1, .f32⟩
  | 38 => ⟨S2x2048x1, .f32⟩
  | 39 => ⟨S2x2048x1024, .f32⟩
  | 40 => ⟨S2x2048x1024, .f32⟩
  | 41 => ⟨S2x256x8x1024, .f32⟩
  | 42 => ⟨S1x1x8x1024, .f32⟩
  | 43 => ⟨S2x256x8x1024, .f32⟩
  | 44 => ⟨S2x256x8x1024, .f32⟩
  | 45 => ⟨S2x2048x1024, .f32⟩
  | 46 => ⟨S2x2048x1024, .f32⟩
  | 47 => ⟨S2x2048x1024, .f32⟩
  | 48 => ⟨S_, .f32⟩
  | 49 => ⟨S2x2048x1024, .f32⟩
  | 50 => ⟨S2x2048x1024, .f32⟩
  | 51 => ⟨S_, .f32⟩
  | 52 => ⟨S2x2048, .f32⟩
  | 53 => ⟨S_, .f32⟩
  | 54 => ⟨S2x2048, .f32⟩
  | 55 => ⟨S2x2048, .f32⟩
  | 56 => ⟨S_, .f32⟩
  | 57 => ⟨S_, .f32⟩
  | 58 => ⟨S_, .f32⟩
  | 59 => ⟨S_, .f32⟩
  | 60 => ⟨S_, .f32⟩
  | 61 => ⟨S_, .f32⟩
  | 62 => ⟨S_, .f32⟩
  | 63 => ⟨S2x2048, .f32⟩
  | 64 => ⟨S_, .f32⟩
  | 65 => ⟨S2x2048, .f32⟩
  | 66 => ⟨S2x2048, .f32⟩
  | 67 => ⟨S2x2048x1024, .f32⟩
  | 68 => ⟨S2x2048x1024, .f32⟩
  | 69 => ⟨S2x256x8x1024, .f32⟩
  | 70 => ⟨S2x256x8x1024, .f32⟩
  | 71 => ⟨S_, .f32⟩
  | 72 => ⟨S8x1024, .f32⟩
  | 73 => ⟨S1x1x8x1024, .f32⟩
  | 74 => ⟨S2x256x8x1024, .f32⟩
  | 75 => ⟨S2x256x8x1024, .f32⟩
  | 76 => ⟨S_, .f32⟩
  | 77 => ⟨S8x1024, .f32⟩
  | 78 => ⟨S2x2048x1024, .f32⟩
  | 79 => ⟨S2x2048x1024, .f32⟩
  | 80 => ⟨S_, .f32⟩
  | 81 => ⟨S2x2048, .f32⟩
  | 82 => ⟨S2x2048x1, .f32⟩
  | 83 => ⟨S2x2048x1024, .f32⟩
  | 84 => ⟨S2x2048x1024, .f32⟩
  | 85 => ⟨S2x2048x1, .f32⟩
  | 86 => ⟨S_, .f32⟩
  | 87 => ⟨S2x2048x1, .f32⟩
  | 88 => ⟨S2x2048x1, .f32⟩
  | 89 => ⟨S_, .f32⟩
  | 90 => ⟨S2x2048, .f32⟩
  | 91 => ⟨S2x2048x1024, .f32⟩
  | 92 => ⟨S2x2048x1024, .f32⟩
  | 93 => ⟨S2x2048x1024, .f32⟩
  | 94 => ⟨S2x2048x1024, .f32⟩
  | 95 => ⟨S2x2048x1024, .f32⟩
  | 96 => ⟨S8x128, .f32⟩
  | _ => ⟨S2x2048x1024, .f32⟩

abbrev hbmTy (i : Nat) : BufTy := match i / 128 with
  | 0 => hbmTy0_0 i
  | 1 => hbmTy0_1 i
  | 2 => hbmTy0_2 i
  | 3 => hbmTy0_3 i
  | _ => ⟨S2x2048x1024, .f32⟩

abbrev bufTy : (tb : Table) → Fin (tcTables nBuf tb) → BufTy
  | .hbm, ⟨i, _⟩ => hbmTy i
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_c : Ref sig .tc := ⟨.hbm, 17, rfl⟩
abbrev main_v3 : Ref sig .tc := ⟨.hbm, 18, rfl⟩
abbrev main_v4 : Ref sig .tc := ⟨.hbm, 19, rfl⟩
abbrev main_c_0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_cst : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_c_1 : Ref sig .tc := ⟨.hbm, 34, rfl⟩
abbrev main_v17 : Ref sig .tc := ⟨.hbm, 35, rfl⟩
abbrev main_v18 : Ref sig .tc := ⟨.hbm, 36, rfl⟩
abbrev main_c_2 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_cst_3 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_c_4 : Ref sig .tc := ⟨.hbm, 55, rfl⟩
abbrev main_v35 : Ref sig .tc := ⟨.hbm, 56, rfl⟩
abbrev main_v36 : Ref sig .tc := ⟨.hbm, 57, rfl⟩
abbrev main_c_5 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_6 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_c_7 : Ref sig .tc := ⟨.hbm, 84, rfl⟩
abbrev main_v61 : Ref sig .tc := ⟨.hbm, 85, rfl⟩
abbrev main_v62 : Ref sig .tc := ⟨.hbm, 86, rfl⟩
abbrev main_c_8 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_cst_9 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩
abbrev main_v106 : Ref sig .tc := ⟨.hbm, 132, rfl⟩
abbrev main_v107 : Ref sig .tc := ⟨.hbm, 133, rfl⟩
abbrev main_v108 : Ref sig .tc := ⟨.hbm, 134, rfl⟩
abbrev main_v109 : Ref sig .tc := ⟨.hbm, 135, rfl⟩
abbrev main_v110 : Ref sig .tc := ⟨.hbm, 136, rfl⟩
abbrev main_v111 : Ref sig .tc := ⟨.hbm, 137, rfl⟩
abbrev main_v112 : Ref sig .tc := ⟨.hbm, 138, rfl⟩
abbrev main_v113 : Ref sig .tc := ⟨.hbm, 139, rfl⟩
abbrev main_v114 : Ref sig .tc := ⟨.hbm, 140, rfl⟩
abbrev main_v115 : Ref sig .tc := ⟨.hbm, 141, rfl⟩
abbrev main_v116 : Ref sig .tc := ⟨.hbm, 142, rfl⟩
abbrev main_cst_10 : Ref sig .tc := ⟨.hbm, 143, rfl⟩
abbrev main_v117 : Ref sig .tc := ⟨.hbm, 144, rfl⟩
abbrev main_v118 : Ref sig .tc := ⟨.hbm, 145, rfl⟩
abbrev main_cst_11 : Ref sig .tc := ⟨.hbm, 146, rfl⟩
abbrev main_v119 : Ref sig .tc := ⟨.hbm, 147, rfl⟩
abbrev main_v120 : Ref sig .tc := ⟨.hbm, 148, rfl⟩
abbrev main_v121 : Ref sig .tc := ⟨.hbm, 149, rfl⟩
abbrev main_v122 : Ref sig .tc := ⟨.hbm, 150, rfl⟩
abbrev main_v123 : Ref sig .tc := ⟨.hbm, 151, rfl⟩
abbrev main_v124 : Ref sig .tc := ⟨.hbm, 152, rfl⟩
abbrev main_v125 : Ref sig .tc := ⟨.hbm, 153, rfl⟩
abbrev main_v126 : Ref sig .tc := ⟨.hbm, 154, rfl⟩
abbrev main_cst_12 : Ref sig .tc := ⟨.hbm, 155, rfl⟩
abbrev main_v127 : Ref sig .tc := ⟨.hbm, 156, rfl⟩
abbrev main_v128 : Ref sig .tc := ⟨.hbm, 157, rfl⟩
abbrev main_cst_13 : Ref sig .tc := ⟨.hbm, 158, rfl⟩
abbrev main_v129 : Ref sig .tc := ⟨.hbm, 159, rfl⟩
abbrev main_v130 : Ref sig .tc := ⟨.hbm, 160, rfl⟩
abbrev main_v131 : Ref sig .tc := ⟨.hbm, 161, rfl⟩
abbrev main_cst_14 : Ref sig .tc := ⟨.hbm, 162, rfl⟩
abbrev main_v132 : Ref sig .tc := ⟨.hbm, 163, rfl⟩
abbrev main_v133 : Ref sig .tc := ⟨.hbm, 164, rfl⟩
abbrev main_v134 : Ref sig .tc := ⟨.hbm, 165, rfl⟩
abbrev main_v135 : Ref sig .tc := ⟨.hbm, 166, rfl⟩
abbrev main_v136 : Ref sig .tc := ⟨.hbm, 167, rfl⟩
abbrev main_v137 : Ref sig .tc := ⟨.hbm, 168, rfl⟩
abbrev main_v138 : Ref sig .tc := ⟨.hbm, 169, rfl⟩
abbrev main_v139 : Ref sig .tc := ⟨.hbm, 170, rfl⟩
abbrev main_v140 : Ref sig .tc := ⟨.hbm, 171, rfl⟩
abbrev main_v141 : Ref sig .tc := ⟨.hbm, 172, rfl⟩
abbrev main_v142 : Ref sig .tc := ⟨.hbm, 173, rfl⟩
abbrev main_v143 : Ref sig .tc := ⟨.hbm, 174, rfl⟩
abbrev main_v144 : Ref sig .tc := ⟨.hbm, 175, rfl⟩
abbrev main_v145 : Ref sig .tc := ⟨.hbm, 176, rfl⟩
abbrev main_v146 : Ref sig .tc := ⟨.hbm, 177, rfl⟩
abbrev main_v147 : Ref sig .tc := ⟨.hbm, 178, rfl⟩
abbrev main_v148 : Ref sig .tc := ⟨.hbm, 179, rfl⟩
abbrev main_v149 : Ref sig .tc := ⟨.hbm, 180, rfl⟩
abbrev main_v150 : Ref sig .tc := ⟨.hbm, 181, rfl⟩
abbrev main_v151 : Ref sig .tc := ⟨.hbm, 182, rfl⟩
abbrev main_v152 : Ref sig .tc := ⟨.hbm, 183, rfl⟩
abbrev main_v153 : Ref sig .tc := ⟨.hbm, 184, rfl⟩
abbrev main_v154 : Ref sig .tc := ⟨.hbm, 185, rfl⟩
abbrev main_v155 : Ref sig .tc := ⟨.hbm, 186, rfl⟩
abbrev main_v156 : Ref sig .tc := ⟨.hbm, 187, rfl⟩
abbrev main_v157 : Ref sig .tc := ⟨.hbm, 188, rfl⟩
abbrev main_v158 : Ref sig .tc := ⟨.hbm, 189, rfl⟩
abbrev main_v159 : Ref sig .tc := ⟨.hbm, 190, rfl⟩
abbrev main_v160 : Ref sig .tc := ⟨.hbm, 191, rfl⟩
abbrev main_v161 : Ref sig .tc := ⟨.hbm, 192, rfl⟩
abbrev main_v162 : Ref sig .tc := ⟨.hbm, 193, rfl⟩
abbrev main_v163 : Ref sig .tc := ⟨.hbm, 194, rfl⟩
abbrev main_v164 : Ref sig .tc := ⟨.hbm, 195, rfl⟩
abbrev main_v165 : Ref sig .tc := ⟨.hbm, 196, rfl⟩
abbrev main_v166 : Ref sig .tc := ⟨.hbm, 197, rfl⟩
abbrev main_v167 : Ref sig .tc := ⟨.hbm, 198, rfl⟩
abbrev main_v168 : Ref sig .tc := ⟨.hbm, 199, rfl⟩
abbrev main_v169 : Ref sig .tc := ⟨.hbm, 200, rfl⟩
abbrev main_v170 : Ref sig .tc := ⟨.hbm, 201, rfl⟩
abbrev main_v171 : Ref sig .tc := ⟨.hbm, 202, rfl⟩
abbrev main_v172 : Ref sig .tc := ⟨.hbm, 203, rfl⟩
abbrev main_v173 : Ref sig .tc := ⟨.hbm, 204, rfl⟩
abbrev main_v174 : Ref sig .tc := ⟨.hbm, 205, rfl⟩
abbrev main_v175 : Ref sig .tc := ⟨.hbm, 206, rfl⟩
abbrev main_v176 : Ref sig .tc := ⟨.hbm, 207, rfl⟩
abbrev main_v177 : Ref sig .tc := ⟨.hbm, 208, rfl⟩
abbrev main_v178 : Ref sig .tc := ⟨.hbm, 209, rfl⟩
abbrev main_v179 : Ref sig .tc := ⟨.hbm, 210, rfl⟩
abbrev main_v180 : Ref sig .tc := ⟨.hbm, 211, rfl⟩
abbrev main_v181 : Ref sig .tc := ⟨.hbm, 212, rfl⟩
abbrev main_v182 : Ref sig .tc := ⟨.hbm, 213, rfl⟩
abbrev main_v183 : Ref sig .tc := ⟨.hbm, 214, rfl⟩
abbrev main_v184 : Ref sig .tc := ⟨.hbm, 215, rfl⟩
abbrev main_v185 : Ref sig .tc := ⟨.hbm, 216, rfl⟩
abbrev main_v186 : Ref sig .tc := ⟨.hbm, 217, rfl⟩
abbrev main_v187 : Ref sig .tc := ⟨.hbm, 218, rfl⟩
abbrev main_v188 : Ref sig .tc := ⟨.hbm, 219, rfl⟩
abbrev main_v189 : Ref sig .tc := ⟨.hbm, 220, rfl⟩
abbrev main_v190 : Ref sig .tc := ⟨.hbm, 221, rfl⟩
abbrev main_v191 : Ref sig .tc := ⟨.hbm, 222, rfl⟩
abbrev main_v192 : Ref sig .tc := ⟨.hbm, 223, rfl⟩
abbrev main_v193 : Ref sig .tc := ⟨.hbm, 224, rfl⟩
abbrev main_v194 : Ref sig .tc := ⟨.hbm, 225, rfl⟩
abbrev main_v195 : Ref sig .tc := ⟨.hbm, 226, rfl⟩
abbrev main_v196 : Ref sig .tc := ⟨.hbm, 227, rfl⟩
abbrev main_v197 : Ref sig .tc := ⟨.hbm, 228, rfl⟩
abbrev main_v198 : Ref sig .tc := ⟨.hbm, 229, rfl⟩
abbrev main_v199 : Ref sig .tc := ⟨.hbm, 230, rfl⟩
abbrev main_v200 : Ref sig .tc := ⟨.hbm, 231, rfl⟩
abbrev main_v201 : Ref sig .tc := ⟨.hbm, 232, rfl⟩
abbrev main_v202 : Ref sig .tc := ⟨.hbm, 233, rfl⟩
abbrev main_v203 : Ref sig .tc := ⟨.hbm, 234, rfl⟩
abbrev main_v204 : Ref sig .tc := ⟨.hbm, 235, rfl⟩
abbrev main_v205 : Ref sig .tc := ⟨.hbm, 236, rfl⟩
abbrev main_v206 : Ref sig .tc := ⟨.hbm, 237, rfl⟩
abbrev main_v207 : Ref sig .tc := ⟨.hbm, 238, rfl⟩
abbrev main_v208 : Ref sig .tc := ⟨.hbm, 239, rfl⟩
abbrev main_v209 : Ref sig .tc := ⟨.hbm, 240, rfl⟩
abbrev main_v210 : Ref sig .tc := ⟨.hbm, 241, rfl⟩
abbrev main_v211 : Ref sig .tc := ⟨.hbm, 242, rfl⟩
abbrev main_v212 : Ref sig .tc := ⟨.hbm, 243, rfl⟩
abbrev main_v213 : Ref sig .tc := ⟨.hbm, 244, rfl⟩
abbrev main_v214 : Ref sig .tc := ⟨.hbm, 245, rfl⟩
abbrev main_v215 : Ref sig .tc := ⟨.hbm, 246, rfl⟩
abbrev main_v216 : Ref sig .tc := ⟨.hbm, 247, rfl⟩
abbrev main_v217 : Ref sig .tc := ⟨.hbm, 248, rfl⟩
abbrev main_v218 : Ref sig .tc := ⟨.hbm, 249, rfl⟩
abbrev main_v219 : Ref sig .tc := ⟨.hbm, 250, rfl⟩
abbrev main_v220 : Ref sig .tc := ⟨.hbm, 251, rfl⟩
abbrev main_v221 : Ref sig .tc := ⟨.hbm, 252, rfl⟩
abbrev main_v222 : Ref sig .tc := ⟨.hbm, 253, rfl⟩
abbrev main_v223 : Ref sig .tc := ⟨.hbm, 254, rfl⟩
abbrev main_v224 : Ref sig .tc := ⟨.hbm, 255, rfl⟩
abbrev main_v225 : Ref sig .tc := ⟨.hbm, 256, rfl⟩
abbrev main_v226 : Ref sig .tc := ⟨.hbm, 257, rfl⟩
abbrev main_v227 : Ref sig .tc := ⟨.hbm, 258, rfl⟩
abbrev main_v228 : Ref sig .tc := ⟨.hbm, 259, rfl⟩
abbrev main_v229 : Ref sig .tc := ⟨.hbm, 260, rfl⟩
abbrev main_v230 : Ref sig .tc := ⟨.hbm, 261, rfl⟩
abbrev main_v231 : Ref sig .tc := ⟨.hbm, 262, rfl⟩
abbrev main_v232 : Ref sig .tc := ⟨.hbm, 263, rfl⟩
abbrev main_v233 : Ref sig .tc := ⟨.hbm, 264, rfl⟩
abbrev main_v234 : Ref sig .tc := ⟨.hbm, 265, rfl⟩
abbrev main_v235 : Ref sig .tc := ⟨.hbm, 266, rfl⟩
abbrev main_v236 : Ref sig .tc := ⟨.hbm, 267, rfl⟩
abbrev main_v237 : Ref sig .tc := ⟨.hbm, 268, rfl⟩
abbrev main_v238 : Ref sig .tc := ⟨.hbm, 269, rfl⟩
abbrev main_v239 : Ref sig .tc := ⟨.hbm, 270, rfl⟩
abbrev main_v240 : Ref sig .tc := ⟨.hbm, 271, rfl⟩
abbrev main_v241 : Ref sig .tc := ⟨.hbm, 272, rfl⟩
abbrev main_v242 : Ref sig .tc := ⟨.hbm, 273, rfl⟩
abbrev main_v243 : Ref sig .tc := ⟨.hbm, 274, rfl⟩
abbrev main_v244 : Ref sig .tc := ⟨.hbm, 275, rfl⟩
abbrev main_v245 : Ref sig .tc := ⟨.hbm, 276, rfl⟩
abbrev main_v246 : Ref sig .tc := ⟨.hbm, 277, rfl⟩
abbrev main_v247 : Ref sig .tc := ⟨.hbm, 278, rfl⟩
abbrev main_v248 : Ref sig .tc := ⟨.hbm, 279, rfl⟩
abbrev main_v249 : Ref sig .tc := ⟨.hbm, 280, rfl⟩
abbrev main_v250 : Ref sig .tc := ⟨.hbm, 281, rfl⟩
abbrev main_v251 : Ref sig .tc := ⟨.hbm, 282, rfl⟩
abbrev main_v252 : Ref sig .tc := ⟨.hbm, 283, rfl⟩
abbrev main_v253 : Ref sig .tc := ⟨.hbm, 284, rfl⟩
abbrev main_v254 : Ref sig .tc := ⟨.hbm, 285, rfl⟩
abbrev main_v255 : Ref sig .tc := ⟨.hbm, 286, rfl⟩
abbrev main_v256 : Ref sig .tc := ⟨.hbm, 287, rfl⟩
abbrev main_v257 : Ref sig .tc := ⟨.hbm, 288, rfl⟩
abbrev main_v258 : Ref sig .tc := ⟨.hbm, 289, rfl⟩
abbrev main_v259 : Ref sig .tc := ⟨.hbm, 290, rfl⟩
abbrev main_v260 : Ref sig .tc := ⟨.hbm, 291, rfl⟩
abbrev main_v261 : Ref sig .tc := ⟨.hbm, 292, rfl⟩
abbrev main_v262 : Ref sig .tc := ⟨.hbm, 293, rfl⟩
abbrev main_v263 : Ref sig .tc := ⟨.hbm, 294, rfl⟩
abbrev main_v264 : Ref sig .tc := ⟨.hbm, 295, rfl⟩
abbrev main_v265 : Ref sig .tc := ⟨.hbm, 296, rfl⟩
abbrev main_v266 : Ref sig .tc := ⟨.hbm, 297, rfl⟩
abbrev main_v267 : Ref sig .tc := ⟨.hbm, 298, rfl⟩
abbrev main_v268 : Ref sig .tc := ⟨.hbm, 299, rfl⟩
abbrev main_v269 : Ref sig .tc := ⟨.hbm, 300, rfl⟩
abbrev main_v270 : Ref sig .tc := ⟨.hbm, 301, rfl⟩
abbrev main_v271 : Ref sig .tc := ⟨.hbm, 302, rfl⟩
abbrev main_v272 : Ref sig .tc := ⟨.hbm, 303, rfl⟩
abbrev main_v273 : Ref sig .tc := ⟨.hbm, 304, rfl⟩
abbrev main_v274 : Ref sig .tc := ⟨.hbm, 305, rfl⟩
abbrev main_v275 : Ref sig .tc := ⟨.hbm, 306, rfl⟩
abbrev main_v276 : Ref sig .tc := ⟨.hbm, 307, rfl⟩
abbrev main_v277 : Ref sig .tc := ⟨.hbm, 308, rfl⟩
abbrev main_v278 : Ref sig .tc := ⟨.hbm, 309, rfl⟩
abbrev main_v279 : Ref sig .tc := ⟨.hbm, 310, rfl⟩
abbrev main_v280 : Ref sig .tc := ⟨.hbm, 311, rfl⟩
abbrev main_v281 : Ref sig .tc := ⟨.hbm, 312, rfl⟩
abbrev main_v282 : Ref sig .tc := ⟨.hbm, 313, rfl⟩
abbrev main_v283 : Ref sig .tc := ⟨.hbm, 314, rfl⟩
abbrev main_v284 : Ref sig .tc := ⟨.hbm, 315, rfl⟩
abbrev main_v285 : Ref sig .tc := ⟨.hbm, 316, rfl⟩
abbrev main_v286 : Ref sig .tc := ⟨.hbm, 317, rfl⟩
abbrev main_v287 : Ref sig .tc := ⟨.hbm, 318, rfl⟩
abbrev main_v288 : Ref sig .tc := ⟨.hbm, 319, rfl⟩
abbrev main_v289 : Ref sig .tc := ⟨.hbm, 320, rfl⟩
abbrev main_v290 : Ref sig .tc := ⟨.hbm, 321, rfl⟩
abbrev main_v291 : Ref sig .tc := ⟨.hbm, 322, rfl⟩
abbrev main_v292 : Ref sig .tc := ⟨.hbm, 323, rfl⟩
abbrev main_v293 : Ref sig .tc := ⟨.hbm, 324, rfl⟩
abbrev main_v294 : Ref sig .tc := ⟨.hbm, 325, rfl⟩
abbrev main_v295 : Ref sig .tc := ⟨.hbm, 326, rfl⟩
abbrev main_v296 : Ref sig .tc := ⟨.hbm, 327, rfl⟩
abbrev main_v297 : Ref sig .tc := ⟨.hbm, 328, rfl⟩
abbrev main_v298 : Ref sig .tc := ⟨.hbm, 329, rfl⟩
abbrev main_v299 : Ref sig .tc := ⟨.hbm, 330, rfl⟩
abbrev main_v300 : Ref sig .tc := ⟨.hbm, 331, rfl⟩
abbrev main_v301 : Ref sig .tc := ⟨.hbm, 332, rfl⟩
abbrev main_v302 : Ref sig .tc := ⟨.hbm, 333, rfl⟩
abbrev main_v303 : Ref sig .tc := ⟨.hbm, 334, rfl⟩
abbrev main_v304 : Ref sig .tc := ⟨.hbm, 335, rfl⟩
abbrev main_v305 : Ref sig .tc := ⟨.hbm, 336, rfl⟩
abbrev main_v306 : Ref sig .tc := ⟨.hbm, 337, rfl⟩
abbrev main_v307 : Ref sig .tc := ⟨.hbm, 338, rfl⟩
abbrev main_v308 : Ref sig .tc := ⟨.hbm, 339, rfl⟩
abbrev main_v309 : Ref sig .tc := ⟨.hbm, 340, rfl⟩
abbrev main_v310 : Ref sig .tc := ⟨.hbm, 341, rfl⟩
abbrev main_v311 : Ref sig .tc := ⟨.hbm, 342, rfl⟩
abbrev main_v312 : Ref sig .tc := ⟨.hbm, 343, rfl⟩
abbrev main_v313 : Ref sig .tc := ⟨.hbm, 344, rfl⟩
abbrev main_v314 : Ref sig .tc := ⟨.hbm, 345, rfl⟩
abbrev main_v315 : Ref sig .tc := ⟨.hbm, 346, rfl⟩
abbrev main_v316 : Ref sig .tc := ⟨.hbm, 347, rfl⟩
abbrev main_v317 : Ref sig .tc := ⟨.hbm, 348, rfl⟩
abbrev main_v318 : Ref sig .tc := ⟨.hbm, 349, rfl⟩
abbrev main_v319 : Ref sig .tc := ⟨.hbm, 350, rfl⟩
abbrev main_v320 : Ref sig .tc := ⟨.hbm, 351, rfl⟩
abbrev main_cst_15 : Ref sig .tc := ⟨.hbm, 352, rfl⟩
abbrev main_v321 : Ref sig .tc := ⟨.hbm, 353, rfl⟩
abbrev main_v322 : Ref sig .tc := ⟨.hbm, 354, rfl⟩
abbrev main_cst_16 : Ref sig .tc := ⟨.hbm, 355, rfl⟩
abbrev main_v323 : Ref sig .tc := ⟨.hbm, 356, rfl⟩
abbrev main_v324 : Ref sig .tc := ⟨.hbm, 357, rfl⟩
abbrev main_v325 : Ref sig .tc := ⟨.hbm, 358, rfl⟩
abbrev main_v326 : Ref sig .tc := ⟨.hbm, 359, rfl⟩
abbrev main_v327 : Ref sig .tc := ⟨.hbm, 360, rfl⟩
abbrev main_cst_17 : Ref sig .tc := ⟨.hbm, 361, rfl⟩
abbrev main_v328 : Ref sig .tc := ⟨.hbm, 362, rfl⟩
abbrev main_v329 : Ref sig .tc := ⟨.hbm, 363, rfl⟩
abbrev main_cst_18 : Ref sig .tc := ⟨.hbm, 364, rfl⟩
abbrev main_v330 : Ref sig .tc := ⟨.hbm, 365, rfl⟩
abbrev main_v331 : Ref sig .tc := ⟨.hbm, 366, rfl⟩
abbrev main_v332 : Ref sig .tc := ⟨.hbm, 367, rfl⟩
abbrev main_v333 : Ref sig .tc := ⟨.hbm, 368, rfl⟩
abbrev main_cst_19 : Ref sig .tc := ⟨.hbm, 369, rfl⟩
abbrev main_v334 : Ref sig .tc := ⟨.hbm, 370, rfl⟩
abbrev main_v335 : Ref sig .tc := ⟨.hbm, 371, rfl⟩
abbrev main_v336 : Ref sig .tc := ⟨.hbm, 372, rfl⟩
abbrev main_v337 : Ref sig .tc := ⟨.hbm, 373, rfl⟩
abbrev main_v338 : Ref sig .tc := ⟨.hbm, 374, rfl⟩
abbrev main_v339 : Ref sig .tc := ⟨.hbm, 375, rfl⟩
abbrev main_v340 : Ref sig .tc := ⟨.hbm, 376, rfl⟩
abbrev main_v341 : Ref sig .tc := ⟨.hbm, 377, rfl⟩
abbrev main_v342 : Ref sig .tc := ⟨.hbm, 378, rfl⟩
abbrev main_v343 : Ref sig .tc := ⟨.hbm, 379, rfl⟩
abbrev main_v344 : Ref sig .tc := ⟨.hbm, 380, rfl⟩
abbrev main_v345 : Ref sig .tc := ⟨.hbm, 381, rfl⟩
abbrev main_v346 : Ref sig .tc := ⟨.hbm, 382, rfl⟩
abbrev main_cst_20 : Ref sig .tc := ⟨.hbm, 383, rfl⟩
abbrev main_v347 : Ref sig .tc := ⟨.hbm, 384, rfl⟩
abbrev main_v348 : Ref sig .tc := ⟨.hbm, 385, rfl⟩
abbrev main_cst_21 : Ref sig .tc := ⟨.hbm, 386, rfl⟩
abbrev main_v349 : Ref sig .tc := ⟨.hbm, 387, rfl⟩
abbrev main_v350 : Ref sig .tc := ⟨.hbm, 388, rfl⟩
abbrev main_v351 : Ref sig .tc := ⟨.hbm, 389, rfl⟩
abbrev main_v352 : Ref sig .tc := ⟨.hbm, 390, rfl⟩
abbrev main_v353 : Ref sig .tc := ⟨.hbm, 391, rfl⟩
abbrev main_v354 : Ref sig .tc := ⟨.hbm, 392, rfl⟩
abbrev main_v355 : Ref sig .tc := ⟨.hbm, 393, rfl⟩
abbrev main_v356 : Ref sig .tc := ⟨.hbm, 394, rfl⟩
abbrev main_v357 : Ref sig .tc := ⟨.hbm, 395, rfl⟩
abbrev main_v358 : Ref sig .tc := ⟨.hbm, 396, rfl⟩
abbrev main_cst_22 : Ref sig .tc := ⟨.hbm, 397, rfl⟩
abbrev main_v359 : Ref sig .tc := ⟨.hbm, 398, rfl⟩
abbrev main_v360 : Ref sig .tc := ⟨.hbm, 399, rfl⟩
abbrev main_cst_23 : Ref sig .tc := ⟨.hbm, 400, rfl⟩
abbrev main_v361 : Ref sig .tc := ⟨.hbm, 401, rfl⟩
abbrev main_v362 : Ref sig .tc := ⟨.hbm, 402, rfl⟩
abbrev main_v363 : Ref sig .tc := ⟨.hbm, 403, rfl⟩
abbrev main_v364 : Ref sig .tc := ⟨.hbm, 404, rfl⟩
abbrev main_v365 : Ref sig .tc := ⟨.hbm, 405, rfl⟩
abbrev main_v366 : Ref sig .tc := ⟨.hbm, 406, rfl⟩
abbrev main_v367 : Ref sig .tc := ⟨.hbm, 407, rfl⟩
abbrev main_v368 : Ref sig .tc := ⟨.hbm, 408, rfl⟩
abbrev main_cst_24 : Ref sig .tc := ⟨.hbm, 409, rfl⟩
abbrev main_v369 : Ref sig .tc := ⟨.hbm, 410, rfl⟩
abbrev main_v370 : Ref sig .tc := ⟨.hbm, 411, rfl⟩
abbrev main_cst_25 : Ref sig .tc := ⟨.hbm, 412, rfl⟩
abbrev main_v371 : Ref sig .tc := ⟨.hbm, 413, rfl⟩
abbrev main_v372 : Ref sig .tc := ⟨.hbm, 414, rfl⟩
abbrev main_cst_26 : Ref sig .tc := ⟨.hbm, 415, rfl⟩
abbrev main_v373 : Ref sig .tc := ⟨.hbm, 416, rfl⟩
abbrev main_v374 : Ref sig .tc := ⟨.hbm, 417, rfl⟩
abbrev main_v375 : Ref sig .tc := ⟨.hbm, 418, rfl⟩
abbrev main_v376 : Ref sig .tc := ⟨.hbm, 419, rfl⟩
abbrev main_cst_27 : Ref sig .tc := ⟨.hbm, 420, rfl⟩
abbrev main_v377 : Ref sig .tc := ⟨.hbm, 421, rfl⟩
abbrev main_v378 : Ref sig .tc := ⟨.hbm, 422, rfl⟩
abbrev main_v379 : Ref sig .tc := ⟨.hbm, 423, rfl⟩
abbrev main_v380 : Ref sig .tc := ⟨.hbm, 424, rfl⟩
abbrev main_v381 : Ref sig .tc := ⟨.hbm, 425, rfl⟩
abbrev main_v382 : Ref sig .tc := ⟨.hbm, 426, rfl⟩
abbrev main_v383 : Ref sig .tc := ⟨.hbm, 427, rfl⟩
abbrev main_v384 : Ref sig .tc := ⟨.hbm, 428, rfl⟩
abbrev main_v385 : Ref sig .tc := ⟨.hbm, 429, rfl⟩
abbrev main_v386 : Ref sig .tc := ⟨.hbm, 430, rfl⟩
abbrev main_v387 : Ref sig .tc := ⟨.hbm, 431, rfl⟩
abbrev main_cst_28 : Ref sig .tc := ⟨.hbm, 432, rfl⟩
abbrev main_v388 : Ref sig .tc := ⟨.hbm, 433, rfl⟩
abbrev main_v389 : Ref sig .tc := ⟨.hbm, 434, rfl⟩
abbrev main_cst_29 : Ref sig .tc := ⟨.hbm, 435, rfl⟩
abbrev main_v390 : Ref sig .tc := ⟨.hbm, 436, rfl⟩
abbrev main_cst_30 : Ref sig .tc := ⟨.hbm, 437, rfl⟩
abbrev main_v391 : Ref sig .tc := ⟨.hbm, 438, rfl⟩
abbrev main_v392 : Ref sig .tc := ⟨.hbm, 439, rfl⟩
abbrev main_cst_31 : Ref sig .tc := ⟨.hbm, 440, rfl⟩
abbrev main_v393 : Ref sig .tc := ⟨.hbm, 441, rfl⟩
abbrev main_cst_32 : Ref sig .tc := ⟨.hbm, 442, rfl⟩
abbrev main_v394 : Ref sig .tc := ⟨.hbm, 443, rfl⟩
abbrev main_cst_33 : Ref sig .tc := ⟨.hbm, 444, rfl⟩
abbrev main_cst_34 : Ref sig .tc := ⟨.hbm, 445, rfl⟩
abbrev main_v395 : Ref sig .tc := ⟨.hbm, 446, rfl⟩
abbrev main_v396 : Ref sig .tc := ⟨.hbm, 447, rfl⟩
abbrev main_cst_35 : Ref sig .tc := ⟨.hbm, 448, rfl⟩
abbrev main_v397 : Ref sig .tc := ⟨.hbm, 449, rfl⟩
abbrev main_v398 : Ref sig .tc := ⟨.hbm, 450, rfl⟩
abbrev main_v399 : Ref sig .tc := ⟨.hbm, 451, rfl⟩
abbrev main_v400 : Ref sig .tc := ⟨.hbm, 452, rfl⟩
abbrev main_v401 : Ref sig .tc := ⟨.hbm, 453, rfl⟩
abbrev main_v402 : Ref sig .tc := ⟨.hbm, 454, rfl⟩
abbrev main_cst_36 : Ref sig .tc := ⟨.hbm, 455, rfl⟩
abbrev main_v403 : Ref sig .tc := ⟨.hbm, 456, rfl⟩
abbrev main_v404 : Ref sig .tc := ⟨.hbm, 457, rfl⟩
abbrev main_v405 : Ref sig .tc := ⟨.hbm, 458, rfl⟩
abbrev main_v406 : Ref sig .tc := ⟨.hbm, 459, rfl⟩
abbrev main_cst_37 : Ref sig .tc := ⟨.hbm, 460, rfl⟩
abbrev main_v407 : Ref sig .tc := ⟨.hbm, 461, rfl⟩
abbrev main_v408 : Ref sig .tc := ⟨.hbm, 462, rfl⟩
abbrev main_v409 : Ref sig .tc := ⟨.hbm, 463, rfl⟩
abbrev main_cst_38 : Ref sig .tc := ⟨.hbm, 464, rfl⟩
abbrev main_v410 : Ref sig .tc := ⟨.hbm, 465, rfl⟩
abbrev main_v411 : Ref sig .tc := ⟨.hbm, 466, rfl⟩
abbrev main_v412 : Ref sig .tc := ⟨.hbm, 467, rfl⟩
abbrev main_v413 : Ref sig .tc := ⟨.hbm, 468, rfl⟩
abbrev main_v414 : Ref sig .tc := ⟨.hbm, 469, rfl⟩
abbrev main_cst_39 : Ref sig .tc := ⟨.hbm, 470, rfl⟩
abbrev main_v415 : Ref sig .tc := ⟨.hbm, 471, rfl⟩
abbrev main_v416 : Ref sig .tc := ⟨.hbm, 472, rfl⟩
abbrev main_cst_40 : Ref sig .tc := ⟨.hbm, 473, rfl⟩
abbrev main_v417 : Ref sig .tc := ⟨.hbm, 474, rfl⟩
abbrev main_v418 : Ref sig .tc := ⟨.hbm, 475, rfl⟩
abbrev main_v419 : Ref sig .tc := ⟨.hbm, 476, rfl⟩
abbrev main_v420 : Ref sig .tc := ⟨.hbm, 477, rfl⟩
abbrev main_v421 : Ref sig .tc := ⟨.hbm, 478, rfl⟩
abbrev main_v422 : Ref sig .tc := ⟨.hbm, 479, rfl⟩
abbrev main_v423 : Ref sig .tc := ⟨.hbm, 480, rfl⟩

abbrev nD : Nat := 1
abbrev τ : Topo := Topo.v7x

variable {F : FTy → Type} [FloatOps F]
-- ==== Proof.GradIn.Rings.lean ====
module

public import proofs.«01_k».proof.Proof.Gen.Kernel2Ideal.Frame.Runs

@[expose] public section

set_option maxRecDepth 16384

noncomputable section

/-! A three-slot ring two blocks ahead, no block held apart: what one step takes of it and gives back. -/

namespace Cert.Kernel2Ideal.GradIn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel2Ideal Cert.Kernel2Ideal.Gen

section Generic
variable {M : Type _} [URA M] {C : Fin 3 → Type _} (cell : Fin 3 → sProp M) (slot : (s : Fin 3) → C s → sProp M)
  (flight : (s : Fin 3) → Fin 8 → C s → sProp M)

/-- The ring before its step `k`. -/
def ringAt (k : ℕ) : sProp M :=
  if k = 0 then Ring.At₀ (NB := 8) cell slot (fun _ => iprop(emp)) else Ring.At 2 cell slot (fun _ => iprop(emp)) flight k

/-- The first step takes the three free slots, -/
theorem first_pre (t : ℕ) (h : t = 0) : ringAt cell slot flight t
    ⊢ iprop(Ring.free cell slot (Ring.sl 3 t) ∗ Ring.free cell slot (Ring.sl 3 (t + 1)) ∗ Ring.free cell slot (Ring.sl 3 (t + 2))) := by
  unfold ringAt
  rw [if_pos h, Ring.At₀_eq3' _ _ _ t h (by decide : 3 ≤ 8)]
  iintro ⟨-, H⟩; iexact H
/-- and leaves two flights and a free slot. -/
theorem first_post (t : ℕ) (h : t = 0) :
    iprop(Ring.inflight flight (Ring.sl 3 (t + 1)) (Ring.bk 8 (t + 1)) ∗ Ring.inflight flight (Ring.sl 3 (t + 2)) (Ring.bk 8 (t + 2)) ∗ Ring.free cell slot (Ring.sl 3 t))
      ⊢ ringAt cell slot flight (t + 1) := by
  unfold ringAt
  rw [if_neg (by omega), Ring.At3_one' _ _ _ _ t h (by decide : 3 ≤ 8)]
  exact Ring.with_homes (Idealize.SL.BI.Entails.refl _)

/-- A middle step: two flights and a free slot, -/
theorem mid_pre (t : ℕ) (h : 1 ≤ t) (h2 : t + 2 < 8) : ringAt cell slot flight t
    ⊢ iprop(Ring.inflight flight (Ring.sl 3 t) (Ring.bk 8 t) ∗ Ring.inflight flight (Ring.sl 3 (t + 1)) (Ring.bk 8 (t + 1)) ∗ Ring.free cell slot (Ring.sl 3 (t + 2))) := by
  unfold ringAt
  rw [if_neg (by omega), Ring.At3_here _ _ _ _ t h2]
  iintro ⟨-, H⟩; iexact H
/-- one block on. -/
theorem mid_post (t : ℕ) (h2 : t + 2 < 8) :
    iprop(Ring.inflight flight (Ring.sl 3 (t + 1)) (Ring.bk 8 (t + 1)) ∗ Ring.inflight flight (Ring.sl 3 (t + 2)) (Ring.bk 8 (t + 2)) ∗ Ring.free cell slot (Ring.sl 3 t))
      ⊢ ringAt cell slot flight (t + 1) := by
  unfold ringAt
  rw [if_neg (by omega), Ring.At3_next _ _ _ _ t h2, Ring.slotAt3_next0 _ _ _ t (by omega), Ring.slotAt3_next1 _ _ _ t h2]
  exact Ring.with_homes (Idealize.SL.BI.Entails.refl _)

/-- One of the last two steps: nothing more is started. -/
theorem tail_pre (t : ℕ) (h : 1 ≤ t) (h8 : t < 8) : ringAt cell slot flight t
    ⊢ iprop(Ring.inflight flight (Ring.sl 3 t) (Ring.bk 8 t) ∗ Ring.slotAt 2 cell slot flight t 1 ∗ Ring.free cell slot (Ring.sl 3 (t + 2))) := by
  unfold ringAt
  rw [if_neg (by omega), Ring.At3_here_tail _ _ _ _ t h8]
  iintro ⟨-, H⟩; iexact H
theorem tail_post (t : ℕ) (h2 : 8 ≤ t + 2) (h8 : t < 8) :
    iprop(Ring.slotAt 2 cell slot flight t 1 ∗ Ring.free cell slot (Ring.sl 3 (t + 2)) ∗ Ring.free cell slot (Ring.sl 3 t))
      ⊢ ringAt cell slot flight (t + 1) := by
  unfold ringAt
  rw [if_neg (by omega), Ring.At3_next_tail _ _ _ _ t h2 h8, Ring.slotAt3_tail_role _ _ _ t]
  exact Ring.with_homes (Idealize.SL.BI.Entails.refl _)
end Generic

end Cert.Kernel2Ideal.GradIn

end
-- ==== Proof.GradIn.Slots.lean ====
module

public import proofs.«01_k».proof.Proof.Gen.Kernel2Ideal.Frame.RunA
public import proofs.«01_k».proof.Proof.Gen.Kernel2Ideal.Frame.RunB
public import proofs.«01_k».proof.Proof.Gen.Kernel2Ideal.Frame.RunC
public import Idealize.ShloMosaic.Lib.Pipeline.ValueKit
public import Idealize.ShloMosaic.Lib.WholeRead

@[expose] public section

set_option maxRecDepth 16384

noncomputable section

/-! What a ring slot holds once its transfer has landed: the tile of the operand that the step asked for. -/

namespace Cert.Kernel2Ideal.GradIn

open Idealize.ShloMosaic Idealize.ShloMosaic.TcCoe Idealize.ShloMosaic.Tactic
open Cert.Kernel2Ideal Cert.Kernel2Ideal.Gen

variable {F : FTy → Type} [FloatOps F]

/-- Block `b` of the activations `x`. -/
def tX (c : Dev nD) (W : HbBuf0 (F := F) c hbM0_0) (b : Fin 8) : Vec F S1x512x1024 .f32 :=
  View.readAt (Elt F) hbM0_0.view (Rect.unit (s := S2x2048x1024) ![(b.val / 4), 512 * (b.val % 4), 0] S1x512x1024.size (inb_src0_0 b)).toLoadRect W
/-- Block `b` of the output gradient `dh`. -/
def tH (c : Dev nD) (W : HbBuf0 (F := F) c hbM0_1) (b : Fin 8) : Vec F S1x512x1024 .f32 :=
  View.readAt (Elt F) hbM0_1.view (Rect.unit (s := S2x2048x1024) ![(b.val / 4), 512 * (b.val % 4), 0] S1x512x1024.size (inb_src0_1 b)).toLoadRect W
/-- Block `b` of the projection's gradient. -/
def tP (c : Dev nD) (W : HbBuf0 (F := F) c hbM0_2) (b : Fin 8) : Vec F S1x512x2560 .bf16 :=
  View.readAt (Elt F) hbM0_2.view (Rect.unit (s := S2x2048x2560) ![(b.val / 4), 512 * (b.val % 4), 0] S1x512x2560.size (inb_src0_2 b)).toLoadRect W

theorem cast_inj {e : EltTy} {s t : Shape} (h : s.ShapeCasts t) (x y : Vec F s e) (hxy : shapeCast t x h = shapeCast t y h) : x = y := by
  funext j
  have h2 := congrFun hxy ((Shape.reshapeEquiv h).symm j)
  simpa [shapeCast] using h2

/-- A slot `M[r]` holding the window `N[r']` of another array whole is read through `M` as that window. -/
theorem landed_gen {sp sp' : Space} {sM sN s' : Shape} {e : EltTy} (M : Memref sig .tc sp sM e) (N : Memref sig .tc sp' sN e)
    (r : Rect sM) (r' : Rect sN) (hs : r'.shape = r.shape) (hr : ∀ a, r.stride a = 1) (hr' : ∀ a, r'.stride a = 1)
    (hq : r.shape.Squeezes s') (hq' : r'.shape.Squeezes s') (hc : r.shape.ShapeCasts s') (hc' : r'.shape.ShapeCasts s')
    (f : ((M.slice r hr).squeeze s' hq).view.ty.Contents (Elt F)) (W : N.view.ty.Contents (Elt F)) :
    shapeCast s' (M.view.readAt (Elt F) r.toLoadRect (((M.slice r hr).squeeze s' hq).view.writes (Elt F) f
      [⟨Rect.whole s', ReadAs.same.apply (((N.slice r' hr').squeeze s' hq').view.read (Elt F) W)⟩])) hc
    = shapeCast s' (N.view.readAt (Elt F) r'.toLoadRect W) hc' := by
  refine (Memref.read_squeeze_slice M r hr hq hc _).symm.trans (Eq.trans ?_ (Memref.read_squeeze_slice N r' hr' hq' hc' W))
  exact View.read_writes_whole _ f _

theorem landed0 (c : Dev nD) (W : HbBuf0 (F := F) c hbM0_0) (s : Fin 3) (b : Fin 8) (off : Fin 3 → ℕ) (hoff : off = ![s.val, 0, 0])
    (inb : ∀ a, off a + S1x512x1024.size a ≤ S3x512x1024.size a) (f : HbBuf0 (F := F) c (rslot0_0 s)) :
    View.readAt (Elt F) scM0_0.view (Rect.unit (s := S3x512x1024) off S1x512x1024.size inb).toLoadRect
      ((rslot0_0 s).view.writes (Elt F) f [⟨Rect.whole S512x1024, ReadAs.same.apply ((srcB0_0 b).view.read (Elt F) W)⟩]) = tX c W b := by
  subst hoff
  apply cast_inj shapeCasts_S1x512x1024_S512x1024
  unfold tX rslot0_0 srcB0_0
  exact landed_gen scM0_0 hbM0_0 _ _ rfl (fun _ => rfl) (fun _ => rfl) squeezes_S1x512x1024_S512x1024 squeezes_S1x512x1024_S512x1024 shapeCasts_S1x512x1024_S512x1024 shapeCasts_S1x512x1024_S512x1024 f W

theorem landed1 (c : Dev nD) (W : HbBuf0 (F := F) c hbM0_1) (s : Fin 3) (b : Fin 8) (off : Fin 3 → ℕ) (hoff : off = ![s.val, 0, 0])
    (inb : ∀ a, off a + S1x512x1024.size a ≤ S3x512x1024.size a) (f : HbBuf0 (F := F) c (rslot0_1 s)) :
    View.readAt (Elt F) scM0_1.view (Rect.unit (s := S3x512x1024) off S1x512x1024.size inb).toLoadRect
      ((rslot0_1 s).view.writes (Elt F) f [⟨Rect.whole S512x1024, ReadAs.same.apply ((srcB0_1 b).view.read (Elt F) W)⟩]) = tH c W b := by
  subst hoff
  apply cast_inj shapeCasts_S1x512x1024_S512x1024
  unfold tH rslot0_1 srcB0_1
  exact landed_gen scM0_1 hbM0_1 _ _ rfl (fun _ => rfl) (fun _ => rfl) squeezes_S1x512x1024_S512x1024 squeezes_S1x512x1024_S512x1024 shapeCasts_S1x512x1024_S512x1024 shapeCasts_S1x512x1024_S512x1024 f W

theorem landed2 (c : Dev nD) (W : HbBuf0 (F := F) c hbM0_2) (s : Fin 3) (b : Fin 8) (off : Fin 3 → ℕ) (hoff : off = ![s.val, 0, 0])
    (inb : ∀ a, off a + S1x512x2560.size a ≤ S3x512x2560.size a) (f : HbBuf0 (F := F) c (rslot0_2 s)) :
    View.readAt (Elt F) scM0_2.view (Rect.unit (s := S3x512x2560) off S1x512x2560.size inb).toLoadRect
      ((rslot0_2 s).view.writes (Elt F) f [⟨Rect.whole S512x2560, ReadAs.same.apply ((srcB0_2 b).view.read (Elt F) W)⟩]) = tP c W b := by
  subst hoff
  apply cast_inj (shapeCasts_S1x512x2560_S512x2560)
  unfold tP rslot0_2 srcB0_2
  exact landed_gen scM0_2 hbM0_2 _ _ rfl (fun _ => rfl) (fun _ => rfl) squeezes_S1x512x2560_S512x2560 squeezes_S1x512x2560_S512x2560 shapeCasts_S1x512x2560_S512x2560 shapeCasts_S1x512x2560_S512x2560 f W

/-- The slot the body reads at point `t`. -/
theorem off_x : ∀ t : Fin grid0.N, k0_off22 (grid0.coords t) = ![(Ring.sl 3 t.val).val, 0, 0] := by decide +kernel
theorem off_p : ∀ t : Fin grid0.N, k0_off23 (grid0.coords t) = ![(Ring.sl 3 t.val).val, 0, 0] := by decide +kernel

/-- What the three loads of the ring read, in each of the three cases of the body. -/
theorem x_A (c : Dev nD) (t : Fin cfg0.N) (fh) : kernelRun0_A.sl.v112 (F := F) c t fh = tX c fh (Ring.bk 8 t.val) := by
  unfold kernelRun0_A.sl.v112
  exact landed0 c fh _ _ _ (off_x t) _ _
theorem p_A (c : Dev nD) (t : Fin cfg0.N) (fh) : kernelRun0_A.sl.v125 (F := F) c t fh = tP c fh (Ring.bk 8 t.val) := by
  unfold kernelRun0_A.sl.v125
  exact landed2 c fh _ _ _ (off_p t) _ _
theorem h_A (c : Dev nD) (t : Fin cfg0.N) (fh) : kernelRun0_A.sl.v141 (F := F) c t fh = tH c fh (Ring.bk 8 t.val) := by
  unfold kernelRun0_A.sl.v141
  exact landed1 c fh _ _ _ (off_x t) _ _
theorem x_B (c : Dev nD) (t : Fin cfg0.N) (fh) : kernelRun0_B.sl.v112 (F := F) c t fh = tX c fh (Ring.bk 8 t.val) := by
  unfold kernelRun0_B.sl.v112
  exact landed0 c fh _ _ _ (off_x t) _ _
theorem p_B (c : Dev nD) (t : Fin cfg0.N) (fh) : kernelRun0_B.sl.v125 (F := F) c t fh = tP c fh (Ring.bk 8 t.val) := by
  unfold kernelRun0_B.sl.v125
  exact landed2 c fh _ _ _ (off_p t) _ _
theorem h_B (c : Dev nD) (t : Fin cfg0.N) (fh) : kernelRun0_B.sl.v141 (F := F) c t fh = tH c fh (Ring.bk 8 t.val) := by
  unfold kernelRun0_B.sl.v141
  exact landed1 c fh _ _ _ (off_x t) _ _
theorem x_C (c : Dev nD) (t : Fin cfg0.N) (fh) : kernelRun0_C.sl.v112 (F := F) c t fh = tX c fh (Ring.bk 8 t.val) := by
  unfold kernelRun0_C.sl.v112
  exact landed0 c fh _ _ _ (off_x t) _ _
theorem p_C (c : Dev nD) (t : Fin cfg0.N) (fh) : kernelRun0_C.sl.v125 (F := F) c t fh = tP c fh (Ring.bk 8 t.val) := by
  unfold kernelRun0_C.sl.v125
  exact landed2 c fh _ _ _ (off_p t) _ _
theorem h_C (c : Dev nD) (t : Fin cfg0.N) (fh) : kernelRun0_C.sl.v141 (F := F) c t fh = tH c fh (Ring.bk 8 t.val) := by
  unfold kernelRun0_C.sl.v141
  exact landed1 c fh _ _ _ (off_x t) _ _

end Cert.Kernel2Ideal.GradIn

end
-- ==== Proof.GradIn.Step.lean ====
module

public import proofs.«01_k».proof.Proof.GradIn.Slots
public import Idealize.ShloMosaic.Lib.VecWindow

@[expose] public section

set_option maxRecDepth 16384

noncomputable section

/-! One grid point of the body: what it stores, as plain functions of the tiles and the weights. -/

namespace Cert.Kernel2Ideal.GradIn

open Idealize.ShloMosaic Idealize.ShloMosaic.TcCoe Idealize.ShloMosaic.Tactic
open Cert.Kernel2Ideal Cert.Kernel2Ideal.Gen

variable {F : FTy → Type} [FloatOps F]

/-- The gradient of one tile of `x`. -/
def gxv (xt ht : Vec F S1x512x1024 .f32) (pt : Vec F S1x512x2560 .bf16) (w : Vec F S2560x1024 .bf16) (g : Vec F S1x1024 .f32) :
    Vec F S1x512x1024 .f32 := k0_pay1 (k0_pay8 ht) (k0_pay9 xt pt w g) (k0_pay10 xt)
/-- One word of the token block. -/
def tok (x : Vec F S8x128 .f32) : Vec F S1x1 .f32 := fun i => x ((Rect.unit (s := S8x128) ![0, 0] S1x1.size inb_S8x128_S1x1_0_0).toLoadRect.idx i)
/-- The sums for the gain's gradient, before the first tile and after one more. -/
def g0 (x : Vec F S8x128 .f32) : Vec F S8x1024 .f32 := k0_pay2 (tok x)
def gS (xt : Vec F S1x512x1024 .f32) (pt : Vec F S1x512x2560 .bf16) (w : Vec F S2560x1024 .bf16) (a : Vec F S8x1024 .f32) :
    Vec F S8x1024 .f32 := k0_pay7 xt pt w a

section
variable (c : Dev nD) (t : Fin cfg0.N) (arg5 : Memref sig .tc .vmem S1x1024 .f32) (harg5 : arg5.IsWhole) (arg6 : Memref sig .tc .vmem S2560x1024 .bf16) (harg6 : arg6.IsWhole) (arg7 : Memref sig .tc .vmem S8x128 .f32) (harg7 : arg7.IsWhole) (arg8 : Memref sig .tc .vmem S1x512x1024 .f32) (harg8 : arg8.IsWhole) (arg9 : Memref sig .tc .vmem S8x1024 .f32) (harg9 : arg9.IsWhole)
    (x0 : Vec F S1x1024 .f32) (x1 : Vec F S2560x1024 .bf16) (x2 : Vec F S8x128 .f32) (xo4 : Vec F S8x1024 .f32) (fh0 : HbBuf0 (F := F) c hbM0_0) (fh1 : HbBuf0 (F := F) c hbM0_1) (fh2 : HbBuf0 (F := F) c hbM0_2)

theorem rd5 (inb) : View.readAt (Elt F) arg5.view (Rect.unit (s := S1x1024) ![0, 0] S1x1024.size inb).toLoadRect (harg5.unread x0) = x0 :=
  (View.readAt_full _ _ _).trans (harg5.read_unread x0)
theorem rd6 (inb) : View.readAt (Elt F) arg6.view (Rect.unit (s := S2560x1024) ![0, 0] S2560x1024.size inb).toLoadRect (harg6.unread x1) = x1 :=
  (View.readAt_full _ _ _).trans (harg6.read_unread x1)
theorem rd9 (inb) : View.readAt (Elt F) arg9.view (Rect.unit (s := S8x1024) ![0, 0] S8x1024.size inb).toLoadRect (harg9.unread xo4) = xo4 :=
  (View.readAt_full _ _ _).trans (harg9.read_unread xo4)
theorem rd7 : View.readAt (Elt F) arg7.view (Rect.unit (s := S8x128) ![0, 0] S1x1.size inb_S8x128_S1x1_0_0).toLoadRect (harg7.unread x2) = tok x2 :=
  funext fun i => harg7.readAt_unread x2 _ i

theorem B3 (hc0 : ¬cond0_0 (grid0.coords t)) (hc1 : cond0_1 (grid0.coords t)) (f) :
    arg8.view.read (Elt F) (arg8.view.writes (Elt F) f (kernelRun0_B c t arg5 harg5 arg6 harg6 arg7 harg7 arg8 harg8 arg9 harg9 hc0 hc1 x0 x1 x2 xo4 fh0 fh1 fh2).1)
      = gxv (tX c fh0 (Ring.bk 8 t.val)) (tH c fh1 (Ring.bk 8 t.val)) (tP c fh2 (Ring.bk 8 t.val)) x1 x0 := by
  unfold kernelRun0_B kernelRun0_B.sl.r kernelRun0_B.sl.r_1 kernelRun0_B.sl.r_2; dsimp only
  rw [x_B, p_B, h_B, rd5, rd6]
  exact View.read_writes_full _ f _ _ _
theorem B4 (hc0 : ¬cond0_0 (grid0.coords t)) (hc1 : cond0_1 (grid0.coords t)) (f) :
    arg9.view.read (Elt F) (arg9.view.writes (Elt F) f (kernelRun0_B c t arg5 harg5 arg6 harg6 arg7 harg7 arg8 harg8 arg9 harg9 hc0 hc1 x0 x1 x2 xo4 fh0 fh1 fh2).2.1)
      = gS (tX c fh0 (Ring.bk 8 t.val)) (tP c fh2 (Ring.bk 8 t.val)) x1 xo4 := by
  unfold kernelRun0_B; dsimp only

  rw [x_B, p_B, rd6, rd9]
  exact View.read_writes_full _ f _ _ _
theorem C3 (hc0 : ¬cond0_0 (grid0.coords t)) (hc1 : ¬cond0_1 (grid0.coords t)) (f) :
    arg8.view.read (Elt F) (arg8.view.writes (Elt F) f (kernelRun0_C c t arg5 harg5 arg6 harg6 arg7 harg7 arg8 harg8 arg9 harg9 hc0 hc1 x0 x1 x2 xo4 fh0 fh1 fh2).1)
      = gxv (tX c fh0 (Ring.bk 8 t.val)) (tH c fh1 (Ring.bk 8 t.val)) (tP c fh2 (Ring.bk 8 t.val)) x1 x0 := by
  unfold kernelRun0_C kernelRun0_C.sl.r kernelRun0_C.sl.r_1 kernelRun0_C.sl.r_2; dsimp only
  rw [x_C, p_C, h_C, rd5, rd6]
  exact View.read_writes_full _ f _ _ _
theorem C4 (hc0 : ¬cond0_0 (grid0.coords t)) (hc1 : ¬cond0_1 (grid0.coords t)) (f) :
    arg9.view.read (Elt F) (arg9.view.writes (Elt F) f (kernelRun0_C c t arg5 harg5 arg6 harg6 arg7 harg7 arg8 harg8 arg9 harg9 hc0 hc1 x0 x1 x2 xo4 fh0 fh1 fh2).2.1)
      = gS (tX c fh0 (Ring.bk 8 t.val)) (tP c fh2 (Ring.bk 8 t.val)) x1 xo4 := by
  unfold kernelRun0_C; dsimp only
  rw [x_C, p_C, rd6, rd9]
  exact View.read_writes_full _ f _ _ _
theorem A3 (hc0 : cond0_0 (grid0.coords t)) (hc1 : cond0_1 (grid0.coords t)) (f) :
    arg8.view.read (Elt F) (arg8.view.writes (Elt F) f (kernelRun0_A c t arg5 harg5 arg6 harg6 arg7 harg7 arg8 harg8 arg9 harg9 hc0 hc1 x0 x1 x2 fh0 fh1 fh2).1)
      = gxv (tX c fh0 (Ring.bk 8 t.val)) (tH c fh1 (Ring.bk 8 t.val)) (tP c fh2 (Ring.bk 8 t.val)) x1 x0 := by
  unfold kernelRun0_A kernelRun0_A.sl.r kernelRun0_A.sl.r_1 kernelRun0_A.sl.r_2; dsimp only
  rw [x_A, p_A, h_A, rd5, rd6]
  exact View.read_writes_full _ f _ _ _
theorem A4 (hc0 : cond0_0 (grid0.coords t)) (hc1 : cond0_1 (grid0.coords t)) (f) :
    arg9.view.read (Elt F) (arg9.view.writes (Elt F) f (kernelRun0_A c t arg5 harg5 arg6 harg6 arg7 harg7 arg8 harg8 arg9 harg9 hc0 hc1 x0 x1 x2 fh0 fh1 fh2).2.1)
      = gS (tX c fh0 (Ring.bk 8 t.val)) (tP c fh2 (Ring.bk 8 t.val)) x1 (g0 x2) := by
  unfold kernelRun0_A kernelRun0_A.sl.v129 kernelRun0_A.sl.H4_1; dsimp only
  rw [x_A, p_A, rd6, rd7]

  rw [View.readCov_full]
  exact View.read_writes_full _ f _ _ _
end

end Cert.Kernel2Ideal.GradIn

end
-- ==== Proof.GradIn.Point.lean ====
module

public import proofs.«01_k».proof.Proof.GradIn.Rings
public import proofs.«01_k».proof.Proof.GradIn.Step

@[expose] public section

set_option maxRecDepth 16384

noncomputable section

/-! The body at one grid point, by the point's role in the rings. -/

namespace Cert.Kernel2Ideal.GradIn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen

variable {F : FTy → Type} [FloatOps F]

local notation "𝕄" => MT nD τ sig Unit (Elt F) ℕ (Pipeline.UD sig nD τ) ℕ

variable (c : Dev nD) (t : Fin cfg0.N) (x0 : Vec F S1x1024 .f32) (x1 : Vec F S2560x1024 .bf16) (x2 : Vec F S8x128 .f32)
  (a d4 : Vec F S8x1024 .f32) (d3 : Vec F S1x512x1024 .f32)
  (fh0 : HbBuf0 (F := F) c hbM0_0) (fh1 : HbBuf0 (F := F) c hbM0_1) (fh2 : HbBuf0 (F := F) c hbM0_2) (W : Waits sig Unit)

/-- The three rings at step `k`. -/
def rings (k : ℕ) : sProp 𝕄 := iprop(ringAt (cellP0_0 c) (slotW0_0 c fh0) (flightW0_0 c fh0) k ∗ ringAt (cellP0_1 c) (slotW0_1 c fh1) (flightW0_1 c fh1) k
  ∗ ringAt (cellP0_2 c) (slotW0_2 c fh2) (flightW0_2 c fh2) k)
theorem rings_eq (k : ℕ) : rings c fh0 fh1 fh2 k = iprop(ringAt0_0 c fh0 k ∗ ringAt0_1 c fh1 k ∗ ringAt0_2 c fh2 k) := rfl

/-- What a point finds, its sums' block holding `a`, -/
def before (a : Vec F S8x1024 .f32) : sProp 𝕄 :=
  iprop(rings c fh0 fh1 fh2 t.val ∗ owes (c : Thread nD τ) 0 W
    ∗ owns (c : Thread nD τ) (ms0_0 t) fullShare x0 ∗ owns (c : Thread nD τ) (ms0_1 t) fullShare x1 ∗ owns (c : Thread nD τ) (ms0_2 t) fullShare x2
    ∗ owns (c : Thread nD τ) (ms0_3 t) fullShare d3 ∗ owns (c : Thread nD τ) (ms0_4 t) fullShare a)
/-- and what it leaves. -/
def after (a : Vec F S8x1024 .f32) : sProp 𝕄 :=
  iprop(rings c fh0 fh1 fh2 (t.val + 1) ∗ (∃ W', owes (c : Thread nD τ) 0 W')
    ∗ owns (c : Thread nD τ) (ms0_0 t) fullShare x0 ∗ owns (c : Thread nD τ) (ms0_1 t) fullShare x1 ∗ owns (c : Thread nD τ) (ms0_2 t) fullShare x2
    ∗ owns (c : Thread nD τ) (ms0_3 t) fullShare (gxv (tX c fh0 (Ring.bk 8 t.val)) (tH c fh1 (Ring.bk 8 t.val)) (tP c fh2 (Ring.bk 8 t.val)) x1 x0)
    ∗ owns (c : Thread nD τ) (ms0_4 t) fullShare a)

set_option maxHeartbeats 1600000 in
theorem first_point (h0 : t.val % 8 = 0) (h1 : t.val < 6) :
    before c t x0 x1 x2 d3 fh0 fh1 fh2 W d4
      ⊢ wp frame (wpE (defs₀ (F := F)) Variants.none c none) Set.univ (bodyAt0 t)
        (fun _ => after c t x0 x1 x2 fh0 fh1 fh2 (gS (tX c fh0 (Ring.bk 8 t.val)) (tP c fh2 (Ring.bk 8 t.val)) x1 (g0 x2))) := by
  have hN : t.val < 8 := lt_of_lt_of_eq t.isLt (show cfg0.N = 8 from N_0)
  unfold before after rings bodyAt0
  iintro ⟨⟨R0, R1, R2⟩, HW, H0, H1, H2, H3, H4⟩
  ihave Q0 := (first_pre (cellP0_0 c) (slotW0_0 c fh0) (flightW0_0 c fh0) t.val (by omega)) $$ R0
  icases Q0 with ⟨P0a, P0b, P0c⟩
  ihave Q1 := (first_pre (cellP0_1 c) (slotW0_1 c fh1) (flightW0_1 c fh1) t.val (by omega)) $$ R1
  icases Q1 with ⟨P1a, P1b, P1c⟩
  ihave Q2 := (first_pre (cellP0_2 c) (slotW0_2 c fh2) (flightW0_2 c fh2) t.val (by omega)) $$ R2
  icases Q2 with ⟨P2a, P2b, P2c⟩
  iapply ((kernelRun0_A c t (ms0_0 t) (hs0_0 t) (ms0_1 t) (hs0_1 t) (ms0_2 t) (hs0_2 t) (ms0_3 t) (hs0_3 t) (ms0_4 t) (hs0_4 t) ((hcond0_0 t).mpr h0) ((hcond0_1 t).mpr h1) x0 x1 x2 fh0 fh1 fh2).2.2 W _)
  isplitl [H0]; · iexact H0
  isplitl [H1]; · iexact H1
  isplitl [H2]; · iexact H2
  isplitl [H3]; · iexists _; iexact H3
  isplitl [H4]; · iexists _; iexact H4
  isplitl [P0a]; · iexact P0a
  isplitl [P0b]; · iexact P0b
  isplitl [P0c]; · iexact P0c
  isplitl [P1a]; · iexact P1a
  isplitl [P1b]; · iexact P1b
  isplitl [P1c]; · iexact P1c
  isplitl [P2a]; · iexact P2a
  isplitl [P2b]; · iexact P2b
  isplitl [P2c]; · iexact P2c
  isplitl [HW]; · iexact HW
  iintro ⟨H0, H1, H2, ⟨%e3, H3⟩, ⟨%e4, H4⟩, P0a, P0b, P0c, P1a, P1b, P1c, P2a, P2b, P2c, HW⟩
  isplitl [P0a P0b P0c P1a P1b P1c P2a P2b P2c]
  · isplitl [P0a P0b P0c]
    · iapply (first_post (cellP0_0 c) (slotW0_0 c fh0) (flightW0_0 c fh0) t.val (by omega))
      isplitl [P0a]; · iexact P0a
      isplitl [P0b]; · iexact P0b
      iexact P0c
    isplitl [P1a P1b P1c]
    · iapply (first_post (cellP0_1 c) (slotW0_1 c fh1) (flightW0_1 c fh1) t.val (by omega))
      isplitl [P1a]; · iexact P1a
      isplitl [P1b]; · iexact P1b
      iexact P1c
    iapply (first_post (cellP0_2 c) (slotW0_2 c fh2) (flightW0_2 c fh2) t.val (by omega))
    isplitl [P2a]; · iexact P2a
    isplitl [P2b]; · iexact P2b
    iexact P2c
  isplitl [HW]; · iexact HW
  isplitl [H0]; · iexact H0
  isplitl [H1]; · iexact H1
  isplitl [H2]; · iexact H2
  isplitl [H3]
  · unfold owns; iexists _; isplitr
    swap; · iexact H3
    ipureintro; exact A3 c t _ _ _ _ _ _ _ _ _ _ x0 x1 x2 fh0 fh1 fh2 _ _ _
  unfold owns; iexists _; isplitr
  swap; · iexact H4
  ipureintro; exact A4 c t _ _ _ _ _ _ _ _ _ _ x0 x1 x2 fh0 fh1 fh2 _ _ _

set_option maxHeartbeats 1600000 in
theorem middle_point (h0 : ¬t.val % 8 = 0) (h1 : t.val < 6) :
    before c t x0 x1 x2 d3 fh0 fh1 fh2 W a
      ⊢ wp frame (wpE (defs₀ (F := F)) Variants.none c none) Set.univ (bodyAt0 t)
        (fun _ => after c t x0 x1 x2 fh0 fh1 fh2 (gS (tX c fh0 (Ring.bk 8 t.val)) (tP c fh2 (Ring.bk 8 t.val)) x1 a)) := by
  have hN : t.val < 8 := lt_of_lt_of_eq t.isLt (show cfg0.N = 8 from N_0)
  unfold before after rings bodyAt0
  iintro ⟨⟨R0, R1, R2⟩, HW, H0, H1, H2, H3, H4⟩
  ihave Q0 := (mid_pre (cellP0_0 c) (slotW0_0 c fh0) (flightW0_0 c fh0) t.val (by omega) (by omega)) $$ R0
  icases Q0 with ⟨P0a, P0b, P0c⟩
  ihave Q1 := (mid_pre (cellP0_1 c) (slotW0_1 c fh1) (flightW0_1 c fh1) t.val (by omega) (by omega)) $$ R1
  icases Q1 with ⟨P1a, P1b, P1c⟩
  ihave Q2 := (mid_pre (cellP0_2 c) (slotW0_2 c fh2) (flightW0_2 c fh2) t.val (by omega) (by omega)) $$ R2
  icases Q2 with ⟨P2a, P2b, P2c⟩
  iapply ((kernelRun0_B c t (ms0_0 t) (hs0_0 t) (ms0_1 t) (hs0_1 t) (ms0_2 t) (hs0_2 t) (ms0_3 t) (hs0_3 t) (ms0_4 t) (hs0_4 t) (fun h => h0 ((hcond0_0 t).mp h)) ((hcond0_1 t).mpr h1) x0 x1 x2 a fh0 fh1 fh2).2.2 W _)
  isplitl [H0]; · iexact H0
  isplitl [H1]; · iexact H1
  isplitl [H2]; · iexact H2
  isplitl [H3]; · iexists _; iexact H3
  isplitl [H4]; · iexact H4
  isplitl [P0a]; · iexact P0a
  isplitl [P0b]; · iexact P0b
  isplitl [P0c]; · iexact P0c
  isplitl [P1a]; · iexact P1a
  isplitl [P1b]; · iexact P1b
  isplitl [P1c]; · iexact P1c
  isplitl [P2a]; · iexact P2a
  isplitl [P2b]; · iexact P2b
  isplitl [P2c]; · iexact P2c
  isplitl [HW]; · iexact HW
  iintro ⟨H0, H1, H2, ⟨%e3, H3⟩, ⟨%e4, H4⟩, P0a, P0b, P0c, P1a, P1b, P1c, P2a, P2b, P2c, HW⟩
  isplitl [P0a P0b P0c P1a P1b P1c P2a P2b P2c]
  · isplitl [P0a P0b P0c]
    · iapply (mid_post (cellP0_0 c) (slotW0_0 c fh0) (flightW0_0 c fh0) t.val (by omega))
      isplitl [P0a]; · iexact P0a
      isplitl [P0b]; · iexact P0b
      iexact P0c
    isplitl [P1a P1b P1c]
    · iapply (mid_post (cellP0_1 c) (slotW0_1 c fh1) (flightW0_1 c fh1) t.val (by omega))
      isplitl [P1a]; · iexact P1a
      isplitl [P1b]; · iexact P1b
      iexact P1c
    iapply (mid_post (cellP0_2 c) (slotW0_2 c fh2) (flightW0_2 c fh2) t.val (by omega))
    isplitl [P2a]; · iexact P2a
    isplitl [P2b]; · iexact P2b
    iexact P2c
  isplitl [HW]; · iexact HW
  isplitl [H0]; · iexact H0
  isplitl [H1]; · iexact H1
  isplitl [H2]; · iexact H2
  isplitl [H3]
  · unfold owns; iexists _; isplitr
    swap; · iexact H3
    ipureintro; exact B3 c t _ _ _ _ _ _ _ _ _ _ x0 x1 x2 a fh0 fh1 fh2 _ _ _
  unfold owns; iexists _; isplitr
  swap; · iexact H4
  ipureintro; exact B4 c t _ _ _ _ _ _ _ _ _ _ x0 x1 x2 a fh0 fh1 fh2 _ _ _

set_option maxHeartbeats 1600000 in
theorem last_point (h0 : ¬t.val % 8 = 0) (h1 : ¬t.val < 6) :
    before c t x0 x1 x2 d3 fh0 fh1 fh2 W a
      ⊢ wp frame (wpE (defs₀ (F := F)) Variants.none c none) Set.univ (bodyAt0 t)
        (fun _ => after c t x0 x1 x2 fh0 fh1 fh2 (gS (tX c fh0 (Ring.bk 8 t.val)) (tP c fh2 (Ring.bk 8 t.val)) x1 a)) := by
  have hN : t.val < 8 := lt_of_lt_of_eq t.isLt (show cfg0.N = 8 from N_0)
  unfold before after rings bodyAt0
  iintro ⟨⟨R0, R1, R2⟩, HW, H0, H1, H2, H3, H4⟩
  ihave Q0 := (tail_pre (cellP0_0 c) (slotW0_0 c fh0) (flightW0_0 c fh0) t.val (by omega) hN) $$ R0
  icases Q0 with ⟨P0a, P0b, P0c⟩
  ihave Q1 := (tail_pre (cellP0_1 c) (slotW0_1 c fh1) (flightW0_1 c fh1) t.val (by omega) hN) $$ R1
  icases Q1 with ⟨P1a, P1b, P1c⟩
  ihave Q2 := (tail_pre (cellP0_2 c) (slotW0_2 c fh2) (flightW0_2 c fh2) t.val (by omega) hN) $$ R2
  icases Q2 with ⟨P2a, P2b, P2c⟩
  iapply ((kernelRun0_C c t (ms0_0 t) (hs0_0 t) (ms0_1 t) (hs0_1 t) (ms0_2 t) (hs0_2 t) (ms0_3 t) (hs0_3 t) (ms0_4 t) (hs0_4 t) (fun h => h0 ((hcond0_0 t).mp h)) (fun h => h1 ((hcond0_1 t).mp h)) x0 x1 x2 a fh0 fh1 fh2).2.2 W _)
  isplitl [H0]; · iexact H0
  isplitl [H1]; · iexact H1
  isplitl [H2]; · iexact H2
  isplitl [H3]; · iexists _; iexact H3
  isplitl [H4]; · iexact H4
  isplitl [P0a]; · iexact P0a
  isplitl [P0b]; · iexact P0b
  isplitl [P0c]; · iexact P0c
  isplitl [P1a]; · iexact P1a
  isplitl [P1b]; · iexact P1b
  isplitl [P1c]; · iexact P1c
  isplitl [P2a]; · iexact P2a
  isplitl [P2b]; · iexact P2b
  isplitl [P2c]; · iexact P2c
  isplitl [HW]; · iexact HW
  iintro ⟨H0, H1, H2, ⟨%e3, H3⟩, ⟨%e4, H4⟩, P0a, P0b, P0c, P1a, P1b, P1c, P2a, P2b, P2c, HW⟩
  isplitl [P0a P0b P0c P1a P1b P1c P2a P2b P2c]
  · isplitl [P0a P0b P0c]
    · iapply (tail_post (cellP0_0 c) (slotW0_0 c fh0) (flightW0_0 c fh0) t.val (by omega) hN)
      isplitl [P0a]; · iexact P0a
      isplitl [P0b]; · iexact P0b
      iexact P0c
    isplitl [P1a P1b P1c]
    · iapply (tail_post (cellP0_1 c) (slotW0_1 c fh1) (flightW0_1 c fh1) t.val (by omega) hN)
      isplitl [P1a]; · iexact P1a
      isplitl [P1b]; · iexact P1b
      iexact P1c
    iapply (tail_post (cellP0_2 c) (slotW0_2 c fh2) (flightW0_2 c fh2) t.val (by omega) hN)
    isplitl [P2a]; · iexact P2a
    isplitl [P2b]; · iexact P2b
    iexact P2c
  isplitl [HW]; · iexact HW
  isplitl [H0]; · iexact H0
  isplitl [H1]; · iexact H1
  isplitl [H2]; · iexact H2
  isplitl [H3]
  · unfold owns; iexists _; isplitr
    swap; · iexact H3
    ipureintro; exact C3 c t _ _ _ _ _ _ _ _ _ _ x0 x1 x2 a fh0 fh1 fh2 _ _ _
  unfold owns; iexists _; isplitr
  swap; · iexact H4
  ipureintro; exact C4 c t _ _ _ _ _ _ _ _ _ _ x0 x1 x2 a fh0 fh1 fh2 _ _ _

end Cert.Kernel2Ideal.GradIn

end
-- ==== Proof.GradIn.Frame.lean ====
module

public import proofs.«01_k».proof.Proof.GradIn.Point
public import Idealize.ShloMosaic.Lib.Claim

@[expose] public section

set_option maxRecDepth 16384

noncomputable section

/-! The launch: proof data, the points, the run. -/

namespace Cert.Kernel2Ideal.GradIn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The tiles of the region's operands at point `n`, and the gain gradient's sums after it. -/
abbrev xAt (c : Dev nD) (n : ℕ) := tX (F := F) c (V m c main_arg0) (Ring.bk 8 n)
abbrev hAt (c : Dev nD) (n : ℕ) := tH (F := F) c (V m c main_arg1) (Ring.bk 8 n)
abbrev pAt (c : Dev nD) (n : ℕ) := tP (F := F) c (V m c main_arg2) (Ring.bk 8 n)
def acc (c : Dev nD) : (n : ℕ) → n < cfg0.N → Vec F S8x1024 .f32
  | 0, h => gS (xAt m c 0) (pAt m c 0) (iblk m c 1 ⟨0, h⟩) (g0 (iblk m c 2 ⟨0, h⟩))
  | n + 1, h => gS (xAt m c (n + 1)) (pAt m c (n + 1)) (iblk m c 1 ⟨n + 1, h⟩) (acc c n (Nat.lt_of_succ_lt h))
theorem acc_pos (c : Dev nD) (t : Fin cfg0.N) (h : t.val ≠ 0) : acc m c t.val t.isLt
    = gS (xAt m c t.val) (pAt m c t.val) (iblk m c 1 t) (acc m c (t.val - 1) (Nat.lt_of_le_of_lt (Nat.sub_le _ _) t.isLt)) := by
  obtain ⟨n, hn⟩ := t; cases n with
  | zero => exact absurd rfl h
  | succ n => rfl

/-- Between two points: the register and the rings. -/
def Inv (c : Dev nD) (k : ℕ) : sProp 𝕄 :=
  iprop((∃ g, prngReg c g) ∗ rings c (V m c main_arg0) (V m c main_arg1) (V m c main_arg2) k)

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => gxv (xAt m c t.val) (hAt m c t.val) (pAt m c t.val) (iblk m c 1 t) (iblk m c 0 t)
    | ⟨4, _⟩ => acc m c t.val t.isLt
  Φ t := Inv m c t.val
  q _ := fullShare
  owed _ := 0

theorem A_eq (c : Dev nD) (w : Fin cfg0.W) : (dats m 0 c).A w = V m c (Pipeline.arrRef spec0 w) := by dsimp only [dats]
theorem inv_here (c : Dev nD) (t : Fin cfg0.N) : (dats m 0 c).Φ t.castSucc = Inv m c t.val := by
  dsimp only [dats]; simp only [Fin.val_castSucc]
theorem inv_next (c : Dev nD) (t : Fin cfg0.N) : (dats m 0 c).Φ t.succ = Inv m c (t.val + 1) := by
  dsimp only [dats]; simp only [Fin.val_succ]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t
    = gxv (xAt m c t.val) (hAt m c t.val) (pAt m c t.val) (iblk m c 1 t) (iblk m c 0 t) := by dsimp only [dats]
theorem after4 (c : Dev nD) (t : Fin cfg0.N) : (dats m 0 c).after 4 t = acc m c t.val t.isLt := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
/-- Past the first point the sums' block still holds what the point before left. -/
theorem before4 (c : Dev nD) (t : Fin cfg0.N) (h0 : ¬t.val % 8 = 0) (d) :
    (dats m 0 c).before 4 t d = acc m c (t.val - 1) (Nat.lt_of_le_of_lt (Nat.sub_le _ _) t.isLt) := by
  have hN : t.val < 8 := lt_of_lt_of_eq t.isLt (show cfg0.N = 8 from N_0)
  rw [Dat.before_out_kept _ 4 rfl t (by omega) (Bool.eq_false_iff.mpr fun h => by have := (flush0_4 _).mp h; dsimp only at this; omega)
    (fun _ => rfl) (fun _ _ => rfl)]
  dsimp only [dats]

/-- What the body is called with at a point, and what it returns. -/
def given (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))
def left (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t))

/-- The point's own resources of what it is called with, the register and its sums apart. -/
theorem given_split (c : Dev nD) (t : Fin cfg0.N) (a : Vec F S8x1024 .f32 → Prop) (ha : ∀ d, a ((dats m 0 c).before 4 t d)) :
    given m c t ⊢ iprop(∃ W, ∃ d3, ∃ d4, ⌜a d4⌝ ∗ (∃ g, prngReg c g)
      ∗ before c t (iblk m c 0 t) (iblk m c 1 t) (iblk m c 2 t) d3 (V m c main_arg0) (V m c main_arg1) (V m c main_arg2) W d4) := by
  unfold given before
  simp only [before0, before1, before2]
  rw [inv_here m c t]
  unfold Inv Dat.owesAt Pipeline.owesWithin
  rw [show (dats m 0 c).owed t.castSucc = 0 from rfl]
  iintro ⟨⟨Hg, HR⟩, ⟨%W, -, HW⟩, ⟨%d0, H0⟩, ⟨%d1, H1⟩, ⟨%d2, H2⟩, ⟨%d3, H3⟩, ⟨%d4, H4⟩⟩
  iexists W, _, _
  isplitr; · ipureintro; exact ha d4
  isplitl [Hg]; · iexact Hg
  isplitl [HR]; · iexact HR
  isplitl [HW]; · iexact HW
  isplitl [H0]; · iexact H0
  isplitl [H1]; · iexact H1
  isplitl [H2]; · iexact H2
  isplitl [H3]; · iexact H3
  iexact H4
theorem left_join (c : Dev nD) (t : Fin cfg0.N) (a : Vec F S8x1024 .f32) (ha : a = acc m c t.val t.isLt) :
    iprop((∃ g, prngReg c g) ∗ after c t (iblk m c 0 t) (iblk m c 1 t) (iblk m c 2 t) (V m c main_arg0) (V m c main_arg1) (V m c main_arg2) a)
      ⊢ left m c t := by
  subst ha
  unfold left after
  rw [after0, after1, after2, after3, after4, inv_next m c t]
  unfold Inv Dat.owesAt Pipeline.owesWithin
  rw [show (dats m 0 c).owed t.succ = 0 from rfl]
  iintro ⟨Hg, HR, ⟨%W', HW⟩, H0, H1, H2, H3, H4⟩
  isplitl [Hg HR]
  · isplitl [Hg]; · iexact Hg
    iexact HR
  isplitl [HW]
  · iexists W'; isplitr; · ipureintro; exact fun _ _ => Or.inl trivial
    iexact HW
  isplitl [H0]; · iexact H0
  isplitl [H1]; · iexact H1
  isplitl [H2]; · iexact H2
  isplitl [H3]; · iexact H3
  iexact H4

theorem body_sound (c : Dev nD) (t : Fin cfg0.N) :
    given m c t ⊢ wp frame (wpE (defs₀ (F := F)) Variants.none c none) Set.univ (bodyAt0 t) (fun _ => left m c t) := by
  have hN : t.val < 8 := lt_of_lt_of_eq t.isLt (show cfg0.N = 8 from N_0)
  have key : ∀ (a b : Vec F S8x1024 .f32), b = acc m c t.val t.isLt →
      (∀ W d3, before c t (iblk m c 0 t) (iblk m c 1 t) (iblk m c 2 t) d3 (V m c main_arg0) (V m c main_arg1) (V m c main_arg2) W a
        ⊢ wp frame (wpE (defs₀ (F := F)) Variants.none c none) Set.univ (bodyAt0 t)
          (fun _ => after c t (iblk m c 0 t) (iblk m c 1 t) (iblk m c 2 t) (V m c main_arg0) (V m c main_arg1) (V m c main_arg2) b)) →
      ∀ W d3, iprop((∃ g, prngReg c g) ∗ before c t (iblk m c 0 t) (iblk m c 1 t) (iblk m c 2 t) d3 (V m c main_arg0) (V m c main_arg1) (V m c main_arg2) W a)
        ⊢ wp frame (wpE (defs₀ (F := F)) Variants.none c none) Set.univ (bodyAt0 t) (fun _ => left m c t) := by
    intro a b hb hrun W d3
    exact (BI.sep_mono_r (hrun W d3)).trans (((wp _ _ _ (bodyAt0 t)).frame_l).trans ((wp _ _ _ (bodyAt0 t)).mono fun _ => left_join m c t b hb))
  by_cases h0 : t.val % 8 = 0
  · have h1 : t.val < 6 := by omega
    refine (given_split m c t (fun _ => True) fun _ => trivial).trans ?_
    iintro ⟨%W, %d3, %d4, -, H⟩
    iapply (key d4 _ ?_ (fun W d3 => first_point c t _ _ _ _ _ _ _ _ W h0 h1) W d3) $$ H
    have h : t.val = 0 := by omega
    obtain ⟨n, hn⟩ := t; obtain rfl : n = 0 := h; rfl
  · refine (given_split m c t (fun d => d = acc m c (t.val - 1) (Nat.lt_of_le_of_lt (Nat.sub_le _ _) t.isLt)) fun d => before4 m c t h0 d).trans ?_
    iintro ⟨%W, %d3, %d4, %h4, H⟩
    subst h4
    by_cases h1 : t.val < 6
    · iapply (key _ _ (acc_pos m c t (by omega)).symm (fun W d3 => middle_point c t _ _ _ _ _ _ _ _ W h0 h1) W d3) $$ H
    · iapply (key _ _ (acc_pos m c t (by omega)).symm (fun W d3 => last_point c t _ _ _ _ _ _ _ _ W h0 h1) W d3) $$ H

/-- The body table's row at a point. -/
theorem body_row (t : Fin cfg0.N) : defs₀ (F := F) .tc cfg0.body (cfg0.bodyArgs t (cfg0.slots t)) = bodyAt0 t := by
  unfold defs₀; rw [Defs.onTc_tc]
theorem obligation (c : Dev nD) : BodyObligation (dats (F := F) m 0 c) (defs₀ (F := F)) Variants.none () Set.univ := fun t => by
  rw [bigSep_W0, bigSep_W0, body_row]
  exact triple_restated (body_sound m c t) rfl .rfl fun _ => .rfl

theorem hin (c : Dev nD) : Pipeline.ΦD osem0 spec0 H0 (V m) c ⊢ (dats m 0 c).Φ 0 := by
  rw [PhiD0_eq, show (dats m 0 c).Φ 0 = Inv m c 0 from rfl]
  unfold Inv; rw [rings_eq]
  iintro ⟨⟨HR0_0, HR0_1, HR0_2⟩, Hg, ⟨Hq0, Hq1, Hq2, Hq3, Hq4, Hq5, Hq6, Hq7, Hq8⟩, ⟨Hh0, Hh1, Hh2⟩⟩
  isplitl [Hg]; · iexact Hg
  isplitl [HR0_0 Hq0 Hq1 Hq2 Hh0]
  · iapply (ring0_0_in (F := F) m c)
    isplitl [HR0_0]; · iexact HR0_0
    isplitl [Hq0 Hq1 Hq2]
    · isplitl [Hq0]; · iexact Hq0
      isplitl [Hq1]; · iexact Hq1
      iexact Hq2
    iexact Hh0
  isplitl [HR0_1 Hq3 Hq4 Hq5 Hh1]
  · iapply (ring0_1_in (F := F) m c)
    isplitl [HR0_1]; · iexact HR0_1
    isplitl [Hq3 Hq4 Hq5]
    · isplitl [Hq3]; · iexact Hq3
      isplitl [Hq4]; · iexact Hq4
      iexact Hq5
    iexact Hh1
  iapply (ring0_2_in (F := F) m c)
  isplitl [HR0_2]; · iexact HR0_2
  isplitl [Hq6 Hq7 Hq8]
  · isplitl [Hq6]; · iexact Hq6
    isplitl [Hq7]; · iexact Hq7
    iexact Hq8
  iexact Hh2
theorem hout (c : Dev nD) : (dats m 0 c).Φ (Fin.last cfg0.N) ⊢ Pipeline.ΦD osem0 spec0 H0 (V m) c := by
  rw [PhiD0_eq, show (dats m 0 c).Φ (Fin.last cfg0.N) = Inv m c grid0.N from rfl]
  unfold Inv; rw [rings_eq]
  rw [show grid0.N = 8 by rw [N_0]]
  iintro ⟨Hg, HR0_0, HR0_1, HR0_2⟩
  ihave HX0_0 := (ring0_0_out (F := F) m c) $$ HR0_0
  icases HX0_0 with ⟨HR0_0, ⟨Hq0, Hq1, Hq2⟩, Hh0⟩
  ihave HX0_1 := (ring0_1_out (F := F) m c) $$ HR0_1
  icases HX0_1 with ⟨HR0_1, ⟨Hq3, Hq4, Hq5⟩, Hh1⟩
  ihave HX0_2 := (ring0_2_out (F := F) m c) $$ HR0_2
  icases HX0_2 with ⟨HR0_2, ⟨Hq6, Hq7, Hq8⟩, Hh2⟩
  isplitl [HR0_0 HR0_1 HR0_2]
  · isplitl [HR0_0]; · iexact HR0_0
    isplitl [HR0_1]; · iexact HR0_1
    iexact HR0_2
  isplitl [Hg]
  · iexact Hg
  isplitl [Hq0 Hq1 Hq2 Hq3 Hq4 Hq5 Hq6 Hq7 Hq8]
  · isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    iexact Hq8
  isplitl [Hh0]; · iexact Hh0
  isplitl [Hh1]; · iexact Hh1
  iexact Hh2

-- the launch's implicit arguments are found by unfolding plain definitions in a metavariable's type
set_option backward.isDefEq.respectTransparency.types false in
/-- The region runs, and every counter ends at zero. -/
theorem run : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 osem0 defs₀ Variants.none ownSemFacts0 H0 H0_sub m ρ main
    (hbody := fun c => (obligation m c).loose) (hshare := fun c => (dats m 0 c).share_full fun _ => rfl)
    (howed := fun _ _ => rfl) (V := V m) (hmain := hmain m Variants.none) (hA := A_eq m)
    (hin := hin m) (hout := hout m)
theorem run_post : θ_run defs (onTc (τ := τ) (main (F := F))) (s₀ m ρ) (Pipeline.FramePost cfgs (dats m) 0 (V m)) :=
  (θ_run defs _ _).mono (fun _ h => h.1) (run m ρ)

/-- The arguments end unchanged and the counters at zero. -/
theorem kept : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_post m ρ)) ((θ_run defs _ _).mono (fun _ h => h.2) (run m ρ))

end Cert.Kernel2Ideal.GradIn

end
-- ==== Proof.GradIn.Ref.lean ====
module

public import proofs.«01_k».proof.Proof.Gen.Reference2Ideal.Run
public import Idealize.ShloMosaic.Lib.Pipeline.ValueKit

@[expose] public section

set_option maxRecDepth 16384

noncomputable section

/-! The reference's two results over typed arrays, and read at an index. -/

namespace Cert.Reference2Ideal.GradIn

open Idealize.ShloMosaic Idealize.ShloMosaic.TcCoe Idealize.SL.Sem
open Cert.Reference2Ideal Cert.Reference2Ideal.Gen
open scoped BigOperators

section
variable (x dh : FVec Ideal S2x2048x1024 .f32) (dp : FVec Ideal S2x2048x2560 .bf16) (g : FVec Ideal S1024 .f32) (w : FVec Ideal S2560x1024 .bf16)

/-- The mean square of a row, plus the guard. -/
def ms : FVec Ideal S2x2048x1 .f32 :=
  addf (Host.divf (broadcastInDim S2x2048x1 ![0, 1] bcast_S2x2048_S2x2048x1_0_1 (Host.reduceAdd (mulf x x) (constant S_ .f32 0x00000000#32) reducesTo_S2x2048x1024_S2x2048_d2 h_S_)) (broadcastInDim S2x2048x1 ![] bcast_S_S2x2048x1 (constant S_ .f32 0x44800000#32))) (broadcastInDim S2x2048x1 ![] bcast_S_S2x2048x1 (constant S_ .f32 0x358637BD#32))
/-- The gradient of the normalised rows, -/
def dhn : FVec Ideal S2x2048x1024 .f32 :=
  Host.dotGeneral dot_S2x2048x2560_S2560x1024_S2x2048x1024_2_0_01_1_n_n none (extf .f32 dp bitsLt_bf16_f32) (extf .f32 w bitsLt_bf16_f32)
/-- and that times the gain. -/
def gy : FVec Ideal S2x2048x1024 .f32 :=
  shapeCast S2x2048x1024 (mulf (shapeCast S2x256x8x1024 (dhn dp w) shapeCasts_S2x2048x1024_S2x256x8x1024) (broadcastInDim S2x256x8x1024 ![0, 1, 2, 3] bcast_S1x1x8x1024_S2x256x8x1024_0_1_2_3 (broadcastInDim S1x1x8x1024 ![2, 3] bcast_S8x1024_S1x1x8x1024_2_3 (broadcastInDim S8x1024 ![1] bcast_S1024_S8x1024_1 g)))) shapeCasts_S2x256x8x1024_S2x2048x1024
/-- The share of a row's gradient that comes through its mean square. -/
def through : FVec Ideal S2x2048x1024 .f32 :=
  broadcastInDim S2x2048x1024 ![0, 1] bcast_S2x2048_S2x2048x1024_0_1 (Host.reduceAdd (Host.divf (mulf (shapeCast S2x2048x1 (Host.reduceAdd (mulf x (gy dp g w)) (constant S_ .f32 0x00000000#32) reducesTo_S2x2048x1024_S2x2048_d2 h_S_) shapeCasts_S2x2048_S2x2048x1) (mulf (broadcastInDim S2x2048x1 ![] bcast_S_S2x2048x1 (constant S_ .f32 0xBF000000#32)) (Host.divf (Host.rsqrt (ms x)) (ms x)))) (broadcastInDim S2x2048x1 ![] bcast_S_S2x2048x1 (constant S_ .f32 0x44800000#32))) (constant S_ .f32 0x00000000#32) reducesTo_S2x2048x1_S2x2048_d2 h_S_)
def spread : FVec Ideal S2x2048x1024 .f32 := broadcastInDim S2x2048x1024 ![0, 1, 2] bcast_S2x2048x1_S2x2048x1024_0_1_2 (Host.rsqrt (ms x))

/-- The gradient of `x`. -/
def gx : FVec Ideal S2x2048x1024 .f32 :=
  addf (addf (addf dh (mulf (gy dp g w) (spread x))) (mulf x (through x dp g w))) (mulf (through x dp g w) x)
/-- The gradient of the gain, by residue of the row. -/
def gg : FVec Ideal S8x1024 .f32 :=
  Host.reduceAdd (shapeCast S1x1x8x1024 (Host.reduceAdd (mulf (shapeCast S2x256x8x1024 (mulf x (spread x)) shapeCasts_S2x2048x1024_S2x256x8x1024) (shapeCast S2x256x8x1024 (dhn dp w) shapeCasts_S2x2048x1024_S2x256x8x1024)) (constant S_ .f32 0x00000000#32) reducesTo_S2x256x8x1024_S8x1024_d0_1 h_S_) shapeCasts_S8x1024_S1x1x8x1024) (constant S_ .f32 0x00000000#32) reducesTo_S1x1x8x1024_S8x1024_d0_1 h_S_
end

theorem gx_of (m : (ℓ : Loc nD τ sig) → Buf (Elt Ideal) ℓ) (c : Dev nD) : Value.res_out0 m c
    = gx (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := rfl

theorem gx_at (x dh : FVec Ideal S2x2048x1024 .f32) (dp : FVec Ideal S2x2048x2560 .bf16) (g : FVec Ideal S1024 .f32) (w : FVec Ideal S2560x1024 .bf16)
    (b : Fin 2) (i : Fin 2048) (k : Fin 1024) : gx x dh dp g w (ix3 b i k)
    = dh (ix3 b i k) + (∑ j, dp (ix3 b i j) * w (ix2 j k)) * g (ix1 k)
        * Ideal.rsqrt (Ideal.div (∑ l, x (ix3 b i l) * x (ix3 b i l)) (Ideal.ofBits .f32 1149239296#32) + Ideal.ofBits .f32 897988541#32)
      + x (ix3 b i k) * Ideal.div ((∑ l, x (ix3 b i l) * ((∑ j, dp (ix3 b i j) * w (ix2 j l)) * g (ix1 l))) * (Ideal.ofBits .f32 3204448256#32
          * Ideal.div (Ideal.rsqrt (Ideal.div (∑ l, x (ix3 b i l) * x (ix3 b i l)) (Ideal.ofBits .f32 1149239296#32) + Ideal.ofBits .f32 897988541#32))
              (Ideal.div (∑ l, x (ix3 b i l) * x (ix3 b i l)) (Ideal.ofBits .f32 1149239296#32) + Ideal.ofBits .f32 897988541#32))) (Ideal.ofBits .f32 1149239296#32)
      + Ideal.div ((∑ l, x (ix3 b i l) * ((∑ j, dp (ix3 b i j) * w (ix2 j l)) * g (ix1 l))) * (Ideal.ofBits .f32 3204448256#32
          * Ideal.div (Ideal.rsqrt (Ideal.div (∑ l, x (ix3 b i l) * x (ix3 b i l)) (Ideal.ofBits .f32 1149239296#32) + Ideal.ofBits .f32 897988541#32))
              (Ideal.div (∑ l, x (ix3 b i l) * x (ix3 b i l)) (Ideal.ofBits .f32 1149239296#32) + Ideal.ofBits .f32 897988541#32))) (Ideal.ofBits .f32 1149239296#32)
        * x (ix3 b i k) := by
  pointwise [gx, gy, through, spread, dhn, ms]
  simp only [Finset.univ_unique, Finset.sum_singleton]

/-- A sum over the two leading axes of four, read at an index. -/
theorem sum01 {n0 n1 n2 n3 : ℕ} (h : (⟨4, ![n0, n1, n2, n3]⟩ : Shape).ReducesTo [0, 1] ⟨2, ![n2, n3]⟩)
    (v : (⟨4, ![n0, n1, n2, n3]⟩ : Shape).Idx → EReal) (z : EReal) (i : Fin n2) (k : Fin n3) :
    Ideal.hostReduceAdd h v z (ix2 i k) = z + ∑ a : Fin n0, ∑ b : Fin n1, v (ix4 a b i k) := by
  refine congrArg (z + ·) ((Finset.sum_filter_eq_sum_of_fiber _ (fun p : Fin n0 × Fin n1 => ix4 p.1 p.2 i k)
    (fun _ _ e => Prod.ext (congrFun e 0) (congrFun e 1)) (fun l => ?_) v).trans ?_)
  · constructor
    · intro e
      refine ⟨(l 0, l 1), ?_⟩
      funext a; apply Fin.ext
      match a with
      | ⟨0, _⟩ => rfl
      | ⟨1, _⟩ => rfl
      | ⟨2, _⟩ => exact (congrArg Fin.val (congrFun e 0)).symm
      | ⟨3, _⟩ => exact (congrArg Fin.val (congrFun e 1)).symm
    · rintro ⟨p, rfl⟩
      funext b; apply Fin.ext
      match b with
      | ⟨0, _⟩ => rfl
      | ⟨1, _⟩ => rfl
  · simp only [Fintype.sum_prod_type]

theorem gg_at (x : FVec Ideal S2x2048x1024 .f32) (dp : FVec Ideal S2x2048x2560 .bf16) (w : FVec Ideal S2560x1024 .bf16)
    (i : Fin 8) (k : Fin 1024) : gg x dp w (ix2 i k) = ∑ a : Fin 2, ∑ b : Fin 256,
      x (ix3 a ⟨b.val * 8 + i.val, by omega⟩ k)
        * Ideal.rsqrt (Ideal.div (∑ l, x (ix3 a ⟨b.val * 8 + i.val, by omega⟩ l) * x (ix3 a ⟨b.val * 8 + i.val, by omega⟩ l)) (Ideal.ofBits .f32 1149239296#32) + Ideal.ofBits .f32 897988541#32)
        * ∑ j, dp (ix3 a ⟨b.val * 8 + i.val, by omega⟩ j) * w (ix2 j k) := by
  unfold gg
  rw [ValueIdx.hostReduceAdd_apply, sum01]
  simp only [Finset.univ_unique, Finset.sum_singleton]
  have e : ∀ (y : FVec Ideal S8x1024 .f32) (a b : Fin 1), shapeCast S1x1x8x1024 y shapeCasts_S8x1024_S1x1x8x1024 (ix4 a b i k) = y (ix2 i k) := by
    intro y a b; pointwise
  rw [e, ValueIdx.hostReduceAdd_apply, sum01]
  pointwise [spread, dhn, ms]

end Cert.Reference2Ideal.GradIn

end
-- ==== Proof.GradIn.Row.lean ====
module

public import Idealize.ShloMosaic.Lib.Pipeline.ValueKit
public import Idealize.ShloMosaic.Lib.IdealHost

@[expose] public section

noncomputable section

/-! The derivative of an RMS normalisation on one row, over the extended reals. -/

namespace Cert.Kernel2Ideal.GradIn

open Idealize.ShloMosaic
open scoped BigOperators

theorem lit_n : Ideal.ofBits .f32 1149239296#32 = ((1024 : ℝ) : EReal) := by
  simp [Ideal.ofBits, Ideal.ieee, -EReal.coe_mul]; norm_num
theorem lit_half : Ideal.ofBits .f32 3204448256#32 = ((-(1 / 2) : ℝ) : EReal) := by
  simp [Ideal.ofBits, Ideal.ieee, -EReal.coe_mul, -EReal.coe_neg]; norm_num
theorem lit_eps : ∃ e : ℝ, 0 < e ∧ Ideal.ofBits .f32 897988541#32 = (e : EReal) := by
  refine ⟨_, ?_, by simp [Ideal.ofBits, Ideal.ieee, -EReal.coe_mul]; rfl⟩
  positivity

theorem div_coe (x : EReal) (a : ℝ) (ha : a ≠ 0) : Ideal.div x (a : EReal) = x * ((a⁻¹ : ℝ) : EReal) := by
  unfold Ideal.div; rw [if_neg (by exact_mod_cast ha), EReal.coe_inv]

/-- A nonnegative real factor goes through a sum of two, and of any number of, extended reals. -/
theorem real_mul_add (r : ℝ) (hr : 0 ≤ r) (a b : EReal) : (r : EReal) * (a + b) = r * a + r * b :=
  EReal.left_distrib_of_nonneg_of_ne_top (by exact_mod_cast hr) (EReal.coe_ne_top r) a b
theorem real_mul_sum {ι : Type} [Fintype ι] (r : ℝ) (hr : 0 ≤ r) (f : ι → EReal) : (r : EReal) * ∑ i, f i = ∑ i, (r : EReal) * f i := by
  classical
  have h : ∀ s : Finset ι, (r : EReal) * ∑ i ∈ s, f i = ∑ i ∈ s, (r : EReal) * f i := by
    intro s; induction s using Finset.induction_on with
    | empty => simp
    | insert a s ha ih => rw [Finset.sum_insert ha, Finset.sum_insert ha, real_mul_add r hr, ih]
  exact h _

theorem sq_nonneg' (x : EReal) : 0 ≤ x * x := by
  induction x using EReal.rec with
  | bot => simp
  | top => simp
  | coe x => exact_mod_cast mul_self_nonneg x

/-- Two halves of an extended real times a real make the whole. -/
theorem halves (s : EReal) (c : ℝ) : (((c / 2 : ℝ) : EReal) * s) + ((c / 2 : ℝ) : EReal) * s = (c : EReal) * s := by
  rcases le_total 0 c with h | h
  · rw [mul_comm _ s, mul_comm _ s, ← EReal.left_distrib_of_nonneg (by exact_mod_cast (by linarith : 0 ≤ c / 2)) (by exact_mod_cast (by linarith : 0 ≤ c / 2)), ← EReal.coe_add, add_halves]
  · have e : ∀ d : ℝ, ((d : ℝ) : EReal) * s = -(((-d : ℝ) : EReal) * s) := by intro d; rw [EReal.coe_neg, EReal.neg_mul, neg_neg]
    have h2 : (0 : ℝ) ≤ -(c / 2) := by linarith
    have key : ((-(c / 2) : ℝ) : EReal) * s + ((-(c / 2) : ℝ) : EReal) * s = ((-c : ℝ) : EReal) * s := by
      rw [mul_comm _ s, mul_comm _ s, ← EReal.left_distrib_of_nonneg (by exact_mod_cast h2) (by exact_mod_cast h2), ← EReal.coe_add]
      congr 2; ring
    rw [e (c / 2), e c, ← key]
    induction ((-(c / 2) : ℝ) : EReal) * s using EReal.rec with
    | bot => simp
    | top => simp
    | coe x => norm_cast; ring

/-- The row's identity: the form that subtracts the projection against the form summed by the chain rule. -/
theorem row {n : ℕ} (X G : Fin n → EReal) (D : EReal) (k : Fin n) :
    D + Ideal.rsqrt (Ideal.div (∑ x, X x * X x) (Ideal.ofBits .f32 1149239296#32) + Ideal.ofBits .f32 897988541#32)
        * (G k - X k * Ideal.rsqrt (Ideal.div (∑ x, X x * X x) (Ideal.ofBits .f32 1149239296#32) + Ideal.ofBits .f32 897988541#32)
          * Ideal.div (∑ x, G x * (X x * Ideal.rsqrt (Ideal.div (∑ x, X x * X x) (Ideal.ofBits .f32 1149239296#32) + Ideal.ofBits .f32 897988541#32)))
              (Ideal.ofBits .f32 1149239296#32))
    = D + G k * Ideal.rsqrt (Ideal.div (∑ x, X x * X x) (Ideal.ofBits .f32 1149239296#32) + Ideal.ofBits .f32 897988541#32)
      + X k * Ideal.div ((∑ x, X x * G x) * (Ideal.ofBits .f32 3204448256#32
          * Ideal.div (Ideal.rsqrt (Ideal.div (∑ x, X x * X x) (Ideal.ofBits .f32 1149239296#32) + Ideal.ofBits .f32 897988541#32))
              (Ideal.div (∑ x, X x * X x) (Ideal.ofBits .f32 1149239296#32) + Ideal.ofBits .f32 897988541#32))) (Ideal.ofBits .f32 1149239296#32)
      + Ideal.div ((∑ x, X x * G x) * (Ideal.ofBits .f32 3204448256#32
          * Ideal.div (Ideal.rsqrt (Ideal.div (∑ x, X x * X x) (Ideal.ofBits .f32 1149239296#32) + Ideal.ofBits .f32 897988541#32))
              (Ideal.div (∑ x, X x * X x) (Ideal.ofBits .f32 1149239296#32) + Ideal.ofBits .f32 897988541#32))) (Ideal.ofBits .f32 1149239296#32) * X k := by
  obtain ⟨e, he, hl⟩ := lit_eps
  rw [hl, lit_n, lit_half]
  have hq : 0 ≤ ∑ x, X x * X x := Finset.sum_nonneg fun x _ => sq_nonneg' (X x)
  have hX : ∀ k, X k * X k ≤ ∑ x, X x * X x := fun k => Finset.single_le_sum (f := fun x => X x * X x) (fun x _ => sq_nonneg' (X x)) (Finset.mem_univ k)
  simp only [div_coe _ (1024 : ℝ) (by norm_num)]
  generalize hQ : ∑ x, X x * X x = Q at hq hX ⊢
  have hS : ∀ r : ℝ, 0 ≤ r → ∑ x, G x * (X x * (r : EReal)) = (r : EReal) * ∑ x, X x * G x := by
    intro r hr; rw [real_mul_sum r hr]; refine Finset.sum_congr rfl fun x _ => ?_
    rw [mul_comm (X x), mul_left_comm, mul_comm (G x)]
  induction Q using EReal.rec with
  | bot => simp at hq
  | top =>
    have h1 : (⊤ : EReal) * (((1024 : ℝ)⁻¹ : ℝ) : EReal) + (e : EReal) = ⊤ := by
      rw [EReal.top_mul_coe_of_pos (by norm_num)]; exact EReal.top_add_coe e
    rw [h1]
    have h2 : Ideal.rsqrt ⊤ = 0 := rfl
    rw [h2]
    have h3 : Ideal.div 0 ⊤ = 0 := by simp [Ideal.div]
    rw [h3]; simp
  | coe q =>
    have hq' : (0 : ℝ) ≤ q := by exact_mod_cast hq
    have hXk : ∃ a : ℝ, X k = a := by
      have := hX k
      revert this
      induction X k using EReal.rec with
      | bot => intro h; simp at h
      | top => intro h; simp at h
      | coe a => intro _; exact ⟨a, rfl⟩
    obtain ⟨a, ha⟩ := hXk
    have hv : 0 < q * (1024 : ℝ)⁻¹ + e := by positivity
    rw [← EReal.coe_mul, ← EReal.coe_add]
    generalize q * (1024 : ℝ)⁻¹ + e = v at hv ⊢
    have hr : Ideal.rsqrt (v : EReal) = (((Real.sqrt v)⁻¹ : ℝ) : EReal) := by
      show (if v < 0 then ⊥ else if v = 0 then ⊤ else (((Real.sqrt v)⁻¹ : ℝ) : EReal)) = _
      rw [if_neg (by linarith), if_neg hv.ne']
    rw [hr]
    have hr0 : (0 : ℝ) ≤ (Real.sqrt v)⁻¹ := by positivity
    have hrr : (Real.sqrt v)⁻¹ * (Real.sqrt v)⁻¹ = v⁻¹ := by rw [← mul_inv, Real.mul_self_sqrt hv.le]
    generalize (Real.sqrt v)⁻¹ = r at hr0 hrr ⊢
    rw [hS r hr0, ha, div_coe _ v hv.ne', sub_eq_add_neg, real_mul_add r hr0, ← add_assoc, mul_comm (G k), add_assoc (D + _)]
    generalize ∑ x, X x * G x = S
    congr 1
    have e1 : (a : EReal) * (S * (((-(1 / 2) : ℝ) : EReal) * ((r : EReal) * ((v⁻¹ : ℝ) : EReal))) * (((1024 : ℝ)⁻¹ : ℝ) : EReal))
        = (((-(a * r * r * r * (1024 : ℝ)⁻¹)) / 2 : ℝ) : EReal) * S := by
      rw [← hrr, ← EReal.coe_mul, ← EReal.coe_mul, mul_comm S, mul_comm _ ((((1024 : ℝ)⁻¹ : ℝ) : EReal)), ← mul_assoc, ← mul_assoc, ← EReal.coe_mul, ← EReal.coe_mul]
      congr 2; ring
    rw [mul_comm (S * _ * _) (a : EReal), e1, halves]
    have e2 : (a : EReal) * (r : EReal) * ((r : EReal) * S * (((1024 : ℝ)⁻¹ : ℝ) : EReal)) = ((a * r * r * (1024 : ℝ)⁻¹ : ℝ) : EReal) * S := by
      rw [mul_comm ((r : EReal) * S), ← mul_assoc, ← mul_assoc, ← EReal.coe_mul, ← EReal.coe_mul, ← EReal.coe_mul]
      congr 2; ring
    rw [e2, ← EReal.neg_mul, ← EReal.coe_neg, ← mul_assoc, ← EReal.coe_mul]
    congr 2; ring

end Cert.Kernel2Ideal.GradIn

end
-- ==== Proof.GradIn.Value.lean ====
module

public import proofs.«01_k».proof.Proof.GradIn.Frame
public import proofs.«01_k».proof.Proof.GradIn.Ref
public import proofs.«01_k».proof.Proof.GradIn.Row
public import Idealize.ShloMosaic.Lib.Pipeline.ValueKit

@[expose] public section

set_option maxRecDepth 16384

noncomputable section

/-! The two arrays the region leaves are the reference's two gradients. -/

namespace Cert.Kernel2Ideal.GradIn

open Idealize.ShloMosaic Idealize.ShloMosaic.TcCoe Idealize.SL.Sem
open Idealize.ShloMosaic.Pipeline (Dat)
open Cert.Kernel2Ideal Cert.Kernel2Ideal.Gen
open scoped BigOperators

/-- The row's reciprocal norm, the row's gradient, and one row's term of the gain's gradient. -/
def rr (X : Fin 1024 → EReal) : EReal :=
  Ideal.rsqrt (Ideal.div (∑ l, X l * X l) (Ideal.ofBits .f32 1149239296#32) + Ideal.ofBits .f32 897988541#32)

theorem gxv_at (xt ht : FVec Ideal S1x512x1024 .f32) (pt : FVec Ideal S1x512x2560 .bf16) (w : FVec Ideal S2560x1024 .bf16) (g : FVec Ideal S1x1024 .f32)
    (z : Fin 1) (i : Fin 512) (k : Fin 1024) : gxv (F := Ideal) xt ht pt w g (ix3 z i k)
      = ht (ix3 0 i k) + rr (fun l => xt (ix3 0 i l)) * ((∑ j, pt (ix3 0 i j) * w (ix2 j k)) * g (ix2 0 k)
          - xt (ix3 0 i k) * rr (fun l => xt (ix3 0 i l))
            * Ideal.div (∑ l, (∑ j, pt (ix3 0 i j) * w (ix2 j l)) * g (ix2 0 l) * (xt (ix3 0 i l) * rr (fun l => xt (ix3 0 i l)))) (Ideal.ofBits .f32 1149239296#32)) := by
  obtain rfl : z = 0 := Subsingleton.elim _ _
  unfold rr
  pointwise [gxv, k0_pay1, k0_pay8, k0_pay9, k0_pay10, k0_pay5, k0_pay4, k0_pay3, k0_pay6]

theorem gS_at (xt : FVec Ideal S1x512x1024 .f32) (pt : FVec Ideal S1x512x2560 .bf16) (w : FVec Ideal S2560x1024 .bf16) (a : FVec Ideal S8x1024 .f32)
    (i : Fin 8) (k : Fin 1024) : gS (F := Ideal) xt pt w a (ix2 i k)
      = a (ix2 i k) + ∑ b : Fin 64, (∑ j, pt (ix3 0 ⟨b.val * 8 + i.val, by omega⟩ j) * w (ix2 j k))
          * (xt (ix3 0 ⟨b.val * 8 + i.val, by omega⟩ k) * rr (fun l => xt (ix3 0 ⟨b.val * 8 + i.val, by omega⟩ l))) := by
  unfold rr
  pointwise [gS, k0_pay7, k0_pay5, k0_pay4, k0_pay3, k0_pay6]

/-- A tile read at an index. -/
theorem tX_at (c : Dev nD) (W : FVec Ideal S2x2048x1024 .f32) (b : Fin 8) (z : Fin 1) (i : Fin 512) (k : Fin 1024) :
    tX (F := Ideal) c W b (ix3 z i k) = W (ix3 ⟨b.val / 4, by omega⟩ ⟨512 * (b.val % 4) + i.val, by omega⟩ k) := by
  obtain rfl : z = 0 := Subsingleton.elim _ _
  refine congrArg W (?_ : (Rect.unit (s := S2x2048x1024) ![(b.val / 4), 512 * (b.val % 4), 0] S1x512x1024.size (inb_src0_0 b)).toLoadRect.idx (ix3 0 i k) = _)
  funext a; apply Fin.ext
  match a with
  | ⟨0, _⟩ => rfl
  | ⟨1, _⟩ => show 512 * (b.val % 4) + 1 * i.val = _; rw [one_mul]; rfl
  | ⟨2, _⟩ => show 0 + 1 * k.val = _; rw [one_mul, zero_add]; rfl
theorem tH_at (c : Dev nD) (W : FVec Ideal S2x2048x1024 .f32) (b : Fin 8) (z : Fin 1) (i : Fin 512) (k : Fin 1024) :
    tH (F := Ideal) c W b (ix3 z i k) = W (ix3 ⟨b.val / 4, by omega⟩ ⟨512 * (b.val % 4) + i.val, by omega⟩ k) := by
  obtain rfl : z = 0 := Subsingleton.elim _ _
  refine congrArg W (?_ : (Rect.unit (s := S2x2048x1024) ![(b.val / 4), 512 * (b.val % 4), 0] S1x512x1024.size (inb_src0_1 b)).toLoadRect.idx (ix3 0 i k) = _)
  funext a; apply Fin.ext
  match a with
  | ⟨0, _⟩ => rfl
  | ⟨1, _⟩ => show 512 * (b.val % 4) + 1 * i.val = _; rw [one_mul]; rfl
  | ⟨2, _⟩ => show 0 + 1 * k.val = _; rw [one_mul, zero_add]; rfl
theorem tP_at (c : Dev nD) (W : FVec Ideal S2x2048x2560 .bf16) (b : Fin 8) (z : Fin 1) (i : Fin 512) (k : Fin 2560) :
    tP (F := Ideal) c W b (ix3 z i k) = W (ix3 ⟨b.val / 4, by omega⟩ ⟨512 * (b.val % 4) + i.val, by omega⟩ k) := by
  obtain rfl : z = 0 := Subsingleton.elim _ _
  refine congrArg W (?_ : (Rect.unit (s := S2x2048x2560) ![(b.val / 4), 512 * (b.val % 4), 0] S1x512x2560.size (inb_src0_2 b)).toLoadRect.idx (ix3 0 i k) = _)
  funext a; apply Fin.ext
  match a with
  | ⟨0, _⟩ => rfl
  | ⟨1, _⟩ => show 512 * (b.val % 4) + 1 * i.val = _; rw [one_mul]; rfl
  | ⟨2, _⟩ => show 0 + 1 * k.val = _; rw [one_mul, zero_add]; rfl

/-- A row of the layer's input, the gradient of its normalised row, and a row's term of the gain's gradient. -/
def xl (x : FVec Ideal S2x2048x1024 .f32) (a : Fin 2) (r : Fin 2048) (l : Fin 1024) : EReal := x (ix3 a r l)
def gl (dp : FVec Ideal S2x2048x2560 .bf16) (g : FVec Ideal S1024 .f32) (w : FVec Ideal S2560x1024 .bf16) (a : Fin 2) (r : Fin 2048) (l : Fin 1024) : EReal :=
  (∑ j, dp (ix3 a r j) * w (ix2 j l)) * g (ix1 l)
def term (x : FVec Ideal S2x2048x1024 .f32) (dp : FVec Ideal S2x2048x2560 .bf16) (w : FVec Ideal S2560x1024 .bf16) (a : Fin 2) (r : Fin 2048) (k : Fin 1024) : EReal :=
  (∑ j, dp (ix3 a r j) * w (ix2 j k)) * (x (ix3 a r k) * rr (fun l => x (ix3 a r l)))

theorem gxv_eq (xt ht : FVec Ideal S1x512x1024 .f32) (pt : FVec Ideal S1x512x2560 .bf16) (wt : FVec Ideal S2560x1024 .bf16) (gt : FVec Ideal S1x1024 .f32)
    (x dh : FVec Ideal S2x2048x1024 .f32) (dp : FVec Ideal S2x2048x2560 .bf16) (g : FVec Ideal S1024 .f32) (w : FVec Ideal S2560x1024 .bf16)
    (z : Fin 1) (i : Fin 512) (k : Fin 1024) (a : Fin 2) (r : Fin 2048)
    (hx : ∀ k, xt (ix3 0 i k) = x (ix3 a r k)) (hh : ∀ k, ht (ix3 0 i k) = dh (ix3 a r k)) (hp : ∀ k, pt (ix3 0 i k) = dp (ix3 a r k))
    (hw : ∀ j k, wt (ix2 j k) = w (ix2 j k)) (hg : ∀ k, gt (ix2 0 k) = g (ix1 k)) :
    gxv (F := Ideal) xt ht pt wt gt (ix3 z i k) = Cert.Reference2Ideal.GradIn.gx x dh dp g w (ix3 a r k) := by
  rw [Cert.Reference2Ideal.GradIn.gx_at, gxv_at]
  simp only [hx, hh, hp, hw, hg]
  unfold rr
  exact row (xl x a r) (gl dp g w a r) _ k

theorem gS_eq (xt : FVec Ideal S1x512x1024 .f32) (pt : FVec Ideal S1x512x2560 .bf16) (wt : FVec Ideal S2560x1024 .bf16) (s : FVec Ideal S8x1024 .f32)
    (x : FVec Ideal S2x2048x1024 .f32) (dp : FVec Ideal S2x2048x2560 .bf16) (w : FVec Ideal S2560x1024 .bf16)
    (i : Fin 8) (k : Fin 1024) (a : Fin 2) (r : Fin 64 → Fin 2048)
    (hx : ∀ (b : Fin 64) k, xt (ix3 0 ⟨b.val * 8 + i.val, by omega⟩ k) = x (ix3 a (r b) k)) (hp : ∀ (b : Fin 64) k, pt (ix3 0 ⟨b.val * 8 + i.val, by omega⟩ k) = dp (ix3 a (r b) k))
    (hw : ∀ j k, wt (ix2 j k) = w (ix2 j k)) :
    gS (F := Ideal) xt pt wt s (ix2 i k) = s (ix2 i k) + ∑ b : Fin 64, term x dp w a (r b) k := by
  rw [gS_at]
  simp only [hx, hp, hw]
  rfl

variable (m : (ℓ : Loc nD τ sig) → Buf (Elt Ideal) ℓ)

theorem idx : ∀ t : Fin cfg0.N, win0_0.index t = ![0, 0] ∧ win0_1.index t = ![0, 0] ∧ win0_2.index t = ![0, 0]
    ∧ win0_3.index t = ![t.val / 4, t.val % 4, 0] ∧ win0_4.index t = ![0, 0] := (by decide +kernel : ∀ t : Fin grid0.N, _)

/-- The staged operands: the gain as one row, the weights, the token block of zeros. -/
theorem gain_at (c : Dev nD) (t : Fin cfg0.N) (k : Fin 1024) : (show FVec Ideal S1x1024 .f32 from iblk m c 0 t) (ix2 0 k)
    = (show FVec Ideal S1024 .f32 from m ((c : Thread nD τ).loc main_arg3)) (ix1 k) := by
  blk_simp [iblk, idx t]
  entry_read
  have e : ((View.whole main_v1).slice (win0_0.rect t)).emb (ix2 0 k) = (ix2 0 k : S1x1024.Idx) := by blk_ext [idx t]
  refine (congrArg (shapeCast S1x1024 (show FVec Ideal S1024 .f32 from m ((c : Thread nD τ).loc main_arg3)) shapeCasts_S1024_S1x1024) e).trans ?_
  pointwise
theorem weight_at (c : Dev nD) (t : Fin cfg0.N) : (show FVec Ideal S2560x1024 .bf16 from iblk m c 1 t)
    = (show FVec Ideal S2560x1024 .bf16 from m ((c : Thread nD τ).loc main_arg4)) := by
  blk_ext! [iblk, V, idx t]
theorem zero_at (c : Dev nD) (t : Fin cfg0.N) (j : S8x128.Idx) : (show FVec Ideal S8x128 .f32 from iblk m c 2 t) j = 0 := by
  blk_simp [iblk, idx t]
  entry_read
  exact Ideal.ofBits_zero_f32

theorem bk_val (t : Fin cfg0.N) : (Ring.bk 8 t.val).val = t.val := by
  have hN : t.val < 8 := lt_of_lt_of_eq t.isLt (show cfg0.N = 8 from N_0)
  exact Nat.mod_eq_of_lt hN

/-- Where an element of the block point `t` writes lies. -/
theorem emb3 (t : Fin cfg0.N) (b : Fin 8) (hb : b.val = t.val) (z : Fin 1) (i : Fin 512) (k : Fin 1024) : ((cfg0.win 3).blk t).view.emb (ix3 z i k : S1x512x1024.Idx)
    = (ix3 ⟨b.val / 4, by omega⟩ ⟨512 * (b.val % 4) + i.val, by omega⟩ k : S2x2048x1024.Idx) := by
  obtain rfl : z = 0 := Subsingleton.elim _ _
  funext a; apply Fin.ext
  match a with
  | ⟨0, _⟩ =>
    blk_simp [idx t]
    show _ = b.val / 4
    rw [hb]; rfl
  | ⟨1, _⟩ =>
    blk_simp [idx t]
    show _ = 512 * (b.val % 4) + i.val
    rw [hb, mul_comm]
  | ⟨2, _⟩ => blk_simp [idx t]

/-- What the operands of point `t` hold at an index. -/
theorem x_read (c : Dev nD) (n : ℕ) (i : Fin 512) (k : Fin 1024) : xAt m c n (ix3 0 i k : S1x512x1024.Idx)
    = m ((c : Thread nD τ).loc main_arg0) (ix3 ⟨(Ring.bk 8 n).val / 4, by omega⟩ ⟨512 * ((Ring.bk 8 n).val % 4) + i.val, by omega⟩ k : S2x2048x1024.Idx) :=
  (tX_at c _ _ 0 i k).trans (congrFun (V_main_arg0 m c) _)
theorem h_read (c : Dev nD) (n : ℕ) (i : Fin 512) (k : Fin 1024) : hAt m c n (ix3 0 i k : S1x512x1024.Idx)
    = m ((c : Thread nD τ).loc main_arg1) (ix3 ⟨(Ring.bk 8 n).val / 4, by omega⟩ ⟨512 * ((Ring.bk 8 n).val % 4) + i.val, by omega⟩ k : S2x2048x1024.Idx) :=
  (tH_at c _ _ 0 i k).trans (congrFun (V_main_arg1 m c) _)
theorem p_read (c : Dev nD) (n : ℕ) (i : Fin 512) (k : Fin 2560) : pAt m c n (ix3 0 i k : S1x512x2560.Idx)
    = m ((c : Thread nD τ).loc main_arg2) (ix3 ⟨(Ring.bk 8 n).val / 4, by omega⟩ ⟨512 * ((Ring.bk 8 n).val % 4) + i.val, by omega⟩ k : S2x2048x2560.Idx) :=
  (tP_at c _ _ 0 i k).trans (congrFun (V_main_arg2 m c) _)
theorem w_read (c : Dev nD) (t : Fin cfg0.N) (j : Fin 2560) (k : Fin 1024) : iblk m c 1 t (ix2 j k : S2560x1024.Idx)
    = m ((c : Thread nD τ).loc main_arg4) (ix2 j k : S2560x1024.Idx) := congrFun (weight_at m c t) _
theorem g_read (c : Dev nD) (t : Fin cfg0.N) (k : Fin 1024) : iblk m c 0 t (ix2 0 k : S1x1024.Idx)
    = m ((c : Thread nD τ).loc main_arg3) (ix1 k : S1024.Idx) := gain_at m c t k

theorem gx_final (c : Dev nD) : (dats m 0 c).arrAt 3 cfg0.N
    = Cert.Reference2Ideal.GradIn.gx (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 3 _ (by decide +kernel) fun t _ y => ?_
  blk_simp
  rw [after3]
  obtain ⟨z, i, k, rfl⟩ : ∃ (z : Fin 1) (i : Fin 512) (k : Fin 1024), y = (ix3 z i k : S1x512x1024.Idx) :=
    ⟨y 0, y 1, y 2, funext fun a => by match a with | ⟨0, _⟩ => rfl | ⟨1, _⟩ => rfl | ⟨2, _⟩ => rfl⟩
  refine Eq.trans ?_ (congrArg _ (emb3 t (Ring.bk 8 t.val) (bk_val t) z i k)).symm
  exact gxv_eq _ _ _ _ _ _ _ _ _ _ z i k _ _ (x_read m c t.val i) (h_read m c t.val i) (p_read m c t.val i) (w_read m c t) (g_read m c t)

/-- The row of tile `t` that is `b` groups of eight down, in the group's place `i`. -/
def rowOf (t : ℕ) (i : Fin 8) (b : Fin 64) : Fin 2048 :=
  ⟨512 * ((Ring.bk 8 t).val % 4) + (b.val * 8 + i.val), by have := Nat.mod_lt (Ring.bk 8 t).val (show 0 < 4 by decide); omega⟩
/-- What point `t` adds to the gain's gradient. -/
def adds (c : Dev nD) (t : ℕ) (i : Fin 8) (k : Fin 1024) : EReal :=
  ∑ b : Fin 64, term (m ((c : Thread nD τ).loc main_arg0)) (m ((c : Thread nD τ).loc main_arg2)) (m ((c : Thread nD τ).loc main_arg4))
    ⟨(Ring.bk 8 t).val / 4, by omega⟩ (rowOf t i b) k

theorem step_at (c : Dev nD) (t : Fin cfg0.N) (a : FVec Ideal S8x1024 .f32) (i : Fin 8) (k : Fin 1024) :
    gS (F := Ideal) (xAt m c t.val) (pAt m c t.val) (iblk m c 1 t) a (ix2 i k) = a (ix2 i k) + adds m c t.val i k :=
  gS_eq _ _ _ _ _ _ _ i k _ (rowOf t.val i) (fun b => x_read m c t.val _) (fun b => p_read m c t.val _) (w_read m c t)

theorem zero_g (c : Dev nD) (t : Fin cfg0.N) (i : Fin 8) (k : Fin 1024) : g0 (F := Ideal) (iblk m c 2 t) (ix2 i k) = 0 := by
  have z := zero_at m c t
  pointwise [g0, k0_pay2, tok]
  exact z _

theorem sums (c : Dev nD) (j : S8x1024.Idx) : acc m c 7 (lt_of_lt_of_eq (by decide) (show cfg0.N = 8 from N_0).symm) j
    = ∑ t : Fin cfg0.N, adds m c t.val (j 0) (j 1) := by
  have e : ∀ j : S8x1024.Idx, j = ix2 (j 0) (j 1) := fun j => funext fun a => by match a with | ⟨0, _⟩ => rfl | ⟨1, _⟩ => rfl
  refine (Pipeline.eq_sum_fin_of_reset_step_apply_last (fun n h => acc m c n h) 8 (fun _ => (0 : EReal))
    (fun t j => adds m c t.val (j 0) (j 1)) ?_ ?_ (le_of_eq N_0) (⟨7, lt_of_lt_of_eq (by decide) (show cfg0.N = 8 from N_0).symm⟩ : Fin cfg0.N) (show 7 + 1 = cfg0.N from N_0.symm) j).trans (zero_add _)
  · intro t h j
    have ht : t.val = 0 := by rw [← bk_val t]; exact h
    obtain ⟨n, hn⟩ := t
    obtain rfl : n = 0 := ht
    rw [e j]
    refine (step_at m c ⟨0, hn⟩ _ _ _).trans ?_
    exact congrArg (· + adds m c 0 (j 0) (j 1)) (zero_g m c ⟨0, hn⟩ _ _)
  · intro t h j
    rw [e j]
    exact (congrFun (acc_pos m c t fun h0 => h (by rw [h0])) _).trans (step_at m c t _ _ _)

theorem gg_final (c : Dev nD) : (dats m 0 c).arrAt 4 cfg0.N
    = Cert.Reference2Ideal.GradIn.gg (m ((c : Thread nD τ).loc main_arg0)) (m ((c : Thread nD τ).loc main_arg2)) (m ((c : Thread nD τ).loc main_arg4)) := by
  refine (dats m 0 c).arrAt_eq_of_after_last 4 (⟨7, by decide +kernel⟩ : Fin grid0.N) (by decide +kernel) _ fun j => ?_
  obtain ⟨i, k, rfl⟩ : ∃ (i : Fin 8) (k : Fin 1024), j = (ix2 i k : S8x1024.Idx) :=
    ⟨j 0, j 1, funext fun a => by match a with | ⟨0, _⟩ => rfl | ⟨1, _⟩ => rfl⟩
  rw [after4]
  refine (show _ = acc m c 7 (lt_of_lt_of_eq (by decide) (show cfg0.N = 8 from N_0).symm) (ix2 i k : S8x1024.Idx) from rfl).trans ?_
  rw [sums]
  refine Eq.trans ?_ (show Cert.Reference2Ideal.GradIn.gg (m ((c : Thread nD τ).loc main_arg0)) (m ((c : Thread nD τ).loc main_arg2)) (m ((c : Thread nD τ).loc main_arg4)) (ix2 i k : S8x1024.Idx) = _ from rfl)
  rw [Cert.Reference2Ideal.GradIn.gg_at]
  refine Fin.sum_points_lanes_congr 4 fun t b ha hl => ?_
  have e1 : (⟨(Ring.bk 8 t.val).val / 4, by omega⟩ : Fin 2) = ⟨t.val / 4, ha⟩ := Fin.ext (by show (Ring.bk 8 t.val).val / 4 = _; rw [bk_val t])
  have e2 : rowOf t.val i b = ⟨(t.val % 4 * 64 + b.val) * 8 + i.val, by have := i.isLt; omega⟩ := Fin.ext (by
    show 512 * ((Ring.bk 8 t.val).val % 4) + (b.val * 8 + i.val) = _
    rw [bk_val t]; show _ = (t.val % 4 * 64 + b.val) * 8 + i.val; omega)
  refine (congrArg₂ (fun a r => term (m ((c : Thread nD τ).loc main_arg0)) (m ((c : Thread nD τ).loc main_arg2)) (m ((c : Thread nD τ).loc main_arg4)) a r k) e1 e2).trans ?_
  exact mul_comm (G := EReal) _ _

end Cert.Kernel2Ideal.GradIn

end
-- ==== Proof.GradIn.Claims.lean ====
module

public import proofs.«01_k».proof.Defs
public import proofs.«01_k».proof.Proof.Gen.Kernel2
public import proofs.«01_k».proof.Proof.Gen.Reference2Ideal.Run
public import proofs.«01_k».proof.Proof.GradIn.Value
public import Idealize.ShloMosaic.Adequacy
public import Idealize.ShloMosaic.Init

@[expose] public section

noncomputable section

/-! The five statements about the call that turns the projection's gradient into the gradient of the layer's input and of
the norm's gain. -/

namespace Cert.GradIn

open Idealize.ShloMosaic Idealize.SL.Sem Idealize.ShloMosaic.TcCoe

attribute [local instance] Cert.Kernel2.Gen.facts Cert.Kernel2Ideal.Gen.facts Cert.Reference2Ideal.Gen.facts

/-- The printed program and its ideal reading are one text: their kernel bodies agree label by label, -/
theorem bodies : Cert.Kernel2.defs₀ (F := Bits) = Cert.Kernel2Ideal.defs₀ (F := Bits) := by
  unfold Cert.Kernel2.defs₀ Cert.Kernel2Ideal.defs₀
  refine congrArg Defs.onTc (funext fun l => funext fun a => ?_)
  obtain ⟨n, hn⟩ := l
  cases n with
  | zero => obtain ⟨t, s⟩ := a; rfl
  | succ n => exact absurd hn (Nat.not_lt.2 (Nat.le_add_left _ _))
theorem tables : Cert.Kernel2.defs (F := Bits) = Cert.Kernel2Ideal.defs (F := Bits) :=
  congrArg (Pipeline.defs Cert.Kernel2Ideal.pcfgs) bodies

/-- so one run serves both. -/
theorem frame_kernel : Cert.quiescent_Kernel2 := fun m ρ _ => by
  have h := Cert.Kernel2Ideal.GradIn.kept (F := Bits) m ρ
  rw [← tables] at h
  exact h

theorem frame_ideal : Cert.quiescent_Kernel2Ideal := fun m ρ _ => Cert.Kernel2Ideal.GradIn.kept m ρ

theorem frame_reference : Cert.quiescent_Reference2Ideal := fun m ρ _ =>
  (θ_run Cert.Reference2Ideal.defs _ _).mono (fun r h => ⟨fun c => (h c).2.2, sem_eq_zero_of_no_sems (by decide) r.2⟩)
    (Cert.Reference2Ideal.Value.run m ρ)

open Cert.Kernel2Ideal Cert.Kernel2Ideal.Gen in
theorem kernel_run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v2_0) = Cert.Reference2Ideal.GradIn.gx (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v2_1) = Cert.Reference2Ideal.GradIn.gg (m ((c.tc : Thread nD τ).loc main_arg0)) (m ((c.tc : Thread nD τ).loc main_arg2)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h.1 c).1 3).trans (Cert.Kernel2Ideal.GradIn.gx_final m c),
    ((h.1 c).1 4).trans (Cert.Kernel2Ideal.GradIn.gg_final m c), h.2.1 c⟩)
    (θ_run_and (Cert.Kernel2Ideal.GradIn.run_post m ρ) (Cert.Kernel2Ideal.GradIn.kept m ρ))

theorem values : Cert.algebraic_Kernel2Ideal_Reference2Ideal := by
  intro m g m' g' _ hm
  refine ⟨_, _, kernel_run m g, (θ_run Cert.Reference2Ideal.defs _ _).mono (fun r h c => ?_) (Cert.Reference2Ideal.Value.run m' g')⟩
  obtain ⟨e0, e1, e2, e3, e4⟩ := hm c
  obtain ⟨h0, h1, hk⟩ := h c
  refine ⟨h0.trans ?_, h1.trans ?_, hk⟩
  · refine (Cert.Reference2Ideal.GradIn.gx_of m' c).trans ?_
    rw [e0, e1, e2, e3, e4]
  · rw [← e0, ← e2, ← e4]; rfl

end Cert.GradIn

end
-- ==== Proof.MixGrad.Rows.lean ====
module

public import Idealize.ShloMosaic.Lib.Pipeline.ValueKit

@[expose] public section

noncomputable section

/-! One token's arithmetic in the mixers, over the extended reals, and the sums over tokens both programs take. -/

namespace Cert.MixGrad

open Idealize.ShloMosaic
open scoped BigOperators

/-- The mean of a row of 512. -/
def mean (h : Fin 512 → EReal) : EReal := Ideal.div (∑ x, h x) (Ideal.ofBits .f32 1140850688#32)

/-- The layer norm of a row, with its gain and shift. -/
def normed (h g b : Fin 512 → EReal) (i : Fin 512) : EReal :=
  (h i - mean h) * Ideal.rsqrt (mean (fun x => (h x - mean h) * (h x - mean h)) + Ideal.ofBits .f32 925353388#32) * g i + b i

def swish (x : EReal) : EReal := x * Ideal.logistic x

/-- What a token adds to the gradient of the pointwise convolution's weight. -/
def pwTerm (h g b : Fin 512 → EReal) (dh : Fin 1024 → EReal) (w : Fin 1024 → EReal) (gate : EReal) (i : Fin 512) : EReal :=
  swish (normed h g b i) * ((∑ e, dh e * w e) * swish gate)

/-- What a token adds to the gradient of the pooling mixer's weight. -/
def poolTerm (d : EReal) (dh : Fin 1024 → EReal) (w : Fin 1024 → EReal) (gate scale : EReal) : EReal :=
  d * ((∑ e, dh e * w e) * swish gate * scale)

/-- A sum over the 512 rows of a tile, its upper half added first. -/
theorem halves (f : Fin 512 → EReal) (a : EReal) :
    a + (∑ k : Fin 256, f ⟨256 + k, by omega⟩) + (∑ k : Fin 256, f ⟨k, by omega⟩) = a + ∑ r, f r := by
  have h := Fin.sum_univ_add (a := 256) (b := 256) f
  rw [show (∑ r, f r) = _ from h, add_assoc, add_comm (∑ k : Fin 256, f ⟨256 + k, _⟩)]
  rfl

/-- The tiles of a sequence are visited last to first, sequence by sequence: together they meet every token once. -/
theorem tokens (f : Fin 2 → Fin 2048 → EReal) :
    (∑ t : Fin 8, ∑ r : Fin 512, f ⟨t / 4, by omega⟩ ⟨(3 - t % 4) * 512 + r, by omega⟩) = ∑ b, ∑ s, f b s := by
  have h1 : ∀ b : Fin 2, (∑ s, f b s) = ∑ i : Fin 4, ∑ r : Fin 512, f b ⟨i * 512 + r, by omega⟩ := fun b =>
    (Fin.sum_mul_add_congr fun i r hl => rfl).symm
  have h2 : ∀ b : Fin 2, (∑ s, f b s) = ∑ i : Fin 4, ∑ r : Fin 512, f b ⟨(3 - i) * 512 + r, by omega⟩ := fun b => by
    rw [h1 b, ← Equiv.sum_comp Fin.revPerm]
    refine Finset.sum_congr rfl fun i _ => Finset.sum_congr rfl fun r _ => congrArg (f b) (Fin.ext ?_)
    show (Fin.rev i : ℕ) * 512 + (r : ℕ) = (3 - (i : ℕ)) * 512 + (r : ℕ)
    rw [Fin.val_rev]
    omega
  rw [Finset.sum_congr rfl fun b _ => h2 b]
  exact Fin.sum_divmod_congr fun t ha hs => rfl

end Cert.MixGrad

end
-- ==== Proof.MixGrad.Ref.lean ====
module

public import proofs.«01_k».proof.Proof.Gen.ReferenceIdeal.Run
public import proofs.«01_k».proof.Proof.MixGrad.Rows
public import Idealize.ShloMosaic.Lib.Pipeline.ValueKit

@[expose] public section

set_option maxRecDepth 16384

noncomputable section

/-! The reference's three gradients over typed arrays, and read at an index. The pooled tokens `D` and the convolution's
output `H` are kept as they come. -/

namespace Cert.ReferenceIdeal.MixGrad

open Idealize.ShloMosaic Idealize.ShloMosaic.TcCoe Idealize.SL.Sem
open Cert.ReferenceIdeal Cert.ReferenceIdeal.Gen Cert.MixGrad
open scoped BigOperators

/-- The gate's function of every element. -/
def silu (x : FVec Ideal S2x2048x512 .f32) : FVec Ideal S2x2048x512 .f32 :=
  mulf x (Host.divf (broadcastInDim S2x2048x512 ![] bcast_S_S2x2048x512 (constant S_ .f32 0x3F800000#32)) (addf (broadcastInDim S2x2048x512 ![] bcast_S_S2x2048x512 (constant S_ .f32 0x3F800000#32)) (Host.exp (Host.negf x))))
/-- A vector of the mixer laid along every token. -/
def along (v : FVec Ideal S512 .f32) : FVec Ideal S2x2048x512 .f32 :=
  broadcastInDim S2x2048x512 ![0, 1, 2] bcast_S1x1x512_S2x2048x512_0_1_2 (broadcastInDim S1x1x512 ![2] bcast_S512_S1x1x512_2 v)
/-- The rows' means, -/
def means (x : FVec Ideal S2x2048x512 .f32) : FVec Ideal S2x2048x1 .f32 :=
  Host.divf (broadcastInDim S2x2048x1 ![0, 1] bcast_S2x2048_S2x2048x1_0_1 (Host.reduceAdd x (constant S_ .f32 0x00000000#32) reducesTo_S2x2048x512_S2x2048_d2 h_S_)) (broadcastInDim S2x2048x1 ![] bcast_S_S2x2048x1 (constant S_ .f32 0x44000000#32))
/-- the rows less their means, -/
def centred (H : FVec Ideal S2x2048x512 .f32) : FVec Ideal S2x2048x512 .f32 :=
  subf H (broadcastInDim S2x2048x512 ![0, 1, 2] bcast_S2x2048x1_S2x2048x512_0_1_2 (means H))
/-- and the layer norm. -/
def lnorm (H : FVec Ideal S2x2048x512 .f32) (g b : FVec Ideal S512 .f32) : FVec Ideal S2x2048x512 .f32 :=
  addf (mulf (mulf (centred H) (broadcastInDim S2x2048x512 ![0, 1, 2] bcast_S2x2048x1_S2x2048x512_0_1_2 (Host.rsqrt (addf (means (mulf (centred H) (centred H))) (broadcastInDim S2x2048x1 ![] bcast_S_S2x2048x1 (constant S_ .f32 0x3727C5AC#32)))))) (along g)) (along b)
/-- The gradient of the concatenated mixer outputs. -/
def dy (dh : FVec Ideal S2x2048x1024 .f32) (w : FVec Ideal S1024x1024 .f32) : FVec Ideal S2x2048x1024 .f32 :=
  Host.dotGeneral dot_S2x2048x1024_S1024x1024_S2x2048x1024_2_1_01_0_n_n none dh w
/-- The pooling mixer's linear map, and the convolution mixer's. -/
def zz (D : FVec Ideal S2x2048x4x128 .f32) (pw : FVec Ideal S4x128x128 .f32) (pb : FVec Ideal S4x128 .f32) : FVec Ideal S2x2048x512 .f32 :=
  shapeCast S2x2048x512 (addf (transpose S2x2048x4x128 [2, 3, 0, 1] (Host.dotGeneral dot_S4x128x128_S2x2048x4x128_S4x128x2x2048_1_3_2_01_0_2 none pw D) transposes_S4x128x2x2048_S2x2048x4x128_2_3_0_1) (broadcastInDim S2x2048x4x128 ![0, 1, 2, 3] bcast_S1x1x4x128_S2x2048x4x128_0_1_2_3 (broadcastInDim S1x1x4x128 ![2, 3] bcast_S4x128_S1x1x4x128_2_3 pb))) shapeCasts_S2x2048x4x128_S2x2048x512
def oo (H : FVec Ideal S2x2048x512 .f32) (g b : FVec Ideal S512 .f32) (pw : FVec Ideal S512x512 .f32) (pb : FVec Ideal S512 .f32) : FVec Ideal S2x2048x512 .f32 :=
  addf (Host.dotGeneral dot_S2x2048x512_S512x512_S2x2048x512_2_0_01_1_n_n none (silu (lnorm H g b)) pw) (along pb)
/-- The two gates. -/
def gateA (p : FVec Ideal S2x2048x2560 .f32) : FVec Ideal S2x2048x512 .f32 :=
  silu (extractStridedSlice S2x2048x512 ![0, 0, 512] p slices_S2x2048x2560_S2x2048x512_0_0_512)
def gateB (p : FVec Ideal S2x2048x2560 .f32) : FVec Ideal S2x2048x512 .f32 :=
  silu (extractStridedSlice S2x2048x512 ![0, 0, 2048] p slices_S2x2048x2560_S2x2048x512_0_0_2048)
/-- The concatenated outputs of the mixers. -/
def yy (Z O : FVec Ideal S2x2048x512 .f32) (p : FVec Ideal S2x2048x2560 .f32) (ps : FVec Ideal S512 .f32) : FVec Ideal S2x2048x1024 .f32 :=
  concatenate S2x2048x1024 2 [⟨S2x2048x512, mulf (mulf Z (along ps)) (gateA p)⟩, ⟨S2x2048x512, mulf O (gateB p)⟩] concatenates_S2x2048x512_S2x2048x512_S2x2048x1024_d2

/-- The gradient of the output projection, -/
def gWout (Z O : FVec Ideal S2x2048x512 .f32) (dh : FVec Ideal S2x2048x1024 .f32) (p : FVec Ideal S2x2048x2560 .f32) (ps : FVec Ideal S512 .f32) : FVec Ideal S1024x1024 .f32 :=
  transpose S1024x1024 [1, 0] (Host.dotGeneral dot_S2x2048x1024_S2x2048x1024_S1024x1024_01_01_2_2_n_n none dh (yy Z O p ps)) transposes_S1024x1024_S1024x1024_1_0
/-- of the pointwise convolution, -/
def gPw (H : FVec Ideal S2x2048x512 .f32) (dh : FVec Ideal S2x2048x1024 .f32) (p : FVec Ideal S2x2048x2560 .f32) (w : FVec Ideal S1024x1024 .f32) (g b : FVec Ideal S512 .f32) : FVec Ideal S512x512 .f32 :=
  transpose S512x512 [1, 0] (Host.dotGeneral dot_S2x2048x512_S2x2048x512_S512x512_01_01_2_2_n_n none (mulf (extractStridedSlice S2x2048x512 ![0, 0, 512] (dy dh w) slices_S2x2048x1024_S2x2048x512_0_0_512) (gateB p)) (silu (lnorm H g b))) transposes_S512x512_S512x512_1_0
/-- and of the pooling mixer's map. -/
def gPool (D : FVec Ideal S2x2048x4x128 .f32) (dh : FVec Ideal S2x2048x1024 .f32) (p : FVec Ideal S2x2048x2560 .f32) (w : FVec Ideal S1024x1024 .f32) (ps : FVec Ideal S512 .f32) : FVec Ideal S4x128x128 .f32 :=
  transpose S4x128x128 [0, 2, 1] (Host.dotGeneral dot_S4x128x2x2048_S2x2048x4x128_S4x128x128_23_01_1_3_0_2 none (transpose S4x128x2x2048 [2, 3, 0, 1] (shapeCast S2x2048x4x128 (mulf (mulf (extractStridedSlice S2x2048x512 ![0, 0, 0] (dy dh w) slices_S2x2048x1024_S2x2048x512_0_0_0) (gateA p)) (along ps)) shapeCasts_S2x2048x512_S2x2048x4x128) transposes_S2x2048x4x128_S4x128x2x2048_2_3_0_1) D) transposes_S4x128x128_S4x128x128_0_2_1

theorem silu_at (x : FVec Ideal S2x2048x512 .f32) (b : Fin 2) (s : Fin 2048) (i : Fin 512) : silu x (ix3 b s i) = swish (x (ix3 b s i)) := by
  pointwise [silu]
  rfl
theorem along_at (v : FVec Ideal S512 .f32) (b : Fin 2) (s : Fin 2048) (i : Fin 512) : along v (ix3 b s i) = v (ix1 i) := by
  pointwise [along]
theorem means_at (x : FVec Ideal S2x2048x512 .f32) (b : Fin 2) (s : Fin 2048) : means x (ix3 b s 0) = mean (fun l => x (ix3 b s l)) := by
  unfold mean
  pointwise [means]
theorem centred_at (H : FVec Ideal S2x2048x512 .f32) (b : Fin 2) (s : Fin 2048) (i : Fin 512) :
    centred H (ix3 b s i) = H (ix3 b s i) - mean (fun l => H (ix3 b s l)) := by
  unfold mean
  pointwise [centred, means]
theorem lnorm_at (H : FVec Ideal S2x2048x512 .f32) (g b : FVec Ideal S512 .f32) (q : Fin 2) (s : Fin 2048) (i : Fin 512) :
    lnorm H g b (ix3 q s i) = normed (fun l => H (ix3 q s l)) (fun l => g (ix1 l)) (fun l => b (ix1 l)) i := by
  unfold normed mean
  pointwise [lnorm, centred, means, along]

theorem gateA_at (p : FVec Ideal S2x2048x2560 .f32) (b : Fin 2) (s : Fin 2048) (i : Fin 512) :
    gateA p (ix3 b s i) = swish (p (ix3 b s ⟨512 + i, by omega⟩)) := by
  unfold gateA
  rw [silu_at]
  pointwise
theorem gateB_at (p : FVec Ideal S2x2048x2560 .f32) (b : Fin 2) (s : Fin 2048) (i : Fin 512) :
    gateB p (ix3 b s i) = swish (p (ix3 b s ⟨2048 + i, by omega⟩)) := by
  unfold gateB
  rw [silu_at]
  pointwise

/-- The gradient of the pointwise convolution is a sum of every token's term. -/
theorem gPw_at (H : FVec Ideal S2x2048x512 .f32) (dh : FVec Ideal S2x2048x1024 .f32) (p : FVec Ideal S2x2048x2560 .f32) (w : FVec Ideal S1024x1024 .f32) (g b : FVec Ideal S512 .f32)
    (i j : Fin 512) : gPw H dh p w g b (ix2 i j) = ∑ q : Fin 2, ∑ s : Fin 2048,
      pwTerm (fun l => H (ix3 q s l)) (fun l => g (ix1 l)) (fun l => b (ix1 l)) (fun e => dh (ix3 q s e)) (fun e => w (ix2 ⟨512 + j, by omega⟩ e))
        (p (ix3 q s ⟨2048 + j, by omega⟩)) i := by
  unfold pwTerm
  pointwise [gPw, dy]
  simp only [silu_at, lnorm_at, gateB_at]
  exact Finset.sum_congr rfl fun q _ => Finset.sum_congr rfl fun s _ => mul_comm (G := EReal) _ _

/-- The gradient of the pooling mixer's map, the same. -/
theorem gPool_at (D : FVec Ideal S2x2048x4x128 .f32) (dh : FVec Ideal S2x2048x1024 .f32) (p : FVec Ideal S2x2048x2560 .f32) (w : FVec Ideal S1024x1024 .f32) (ps : FVec Ideal S512 .f32)
    (a : Fin 4) (i j : Fin 128) : gPool D dh p w ps (ix3 a i j) = ∑ q : Fin 2, ∑ s : Fin 2048,
      poolTerm (D (ix4 q s a i)) (fun e => dh (ix3 q s e)) (fun e => w (ix2 ⟨a * 128 + j, by omega⟩ e))
        (p (ix3 q s ⟨512 + (a * 128 + j), by omega⟩)) (ps (ix1 ⟨a * 128 + j, by omega⟩)) := by
  unfold poolTerm
  pointwise [gPool, dy]
  simp only [gateA_at, along_at]
  exact Finset.sum_congr rfl fun q _ => Finset.sum_congr rfl fun s _ => mul_comm (G := EReal) _ _

theorem yy_lo (Z O : FVec Ideal S2x2048x512 .f32) (p : FVec Ideal S2x2048x2560 .f32) (ps : FVec Ideal S512 .f32) (q : Fin 2) (s : Fin 2048) (i : Fin 512) :
    yy Z O p ps (ix3 q s ⟨i, by omega⟩) = Z (ix3 q s i) * ps (ix1 i) * swish (p (ix3 q s ⟨512 + i, by omega⟩)) := by
  pointwise [yy]
  simp only [gateA_at, along_at]
theorem yy_hi (Z O : FVec Ideal S2x2048x512 .f32) (p : FVec Ideal S2x2048x2560 .f32) (ps : FVec Ideal S512 .f32) (q : Fin 2) (s : Fin 2048) (i : Fin 512) :
    yy Z O p ps (ix3 q s ⟨512 + i, by omega⟩) = O (ix3 q s i) * swish (p (ix3 q s ⟨2048 + i, by omega⟩)) := by
  pointwise [yy]
  simp only [gateB_at]
theorem gWout_at (Z O : FVec Ideal S2x2048x512 .f32) (dh : FVec Ideal S2x2048x1024 .f32) (p : FVec Ideal S2x2048x2560 .f32) (ps : FVec Ideal S512 .f32) (i j : Fin 1024) :
    gWout Z O dh p ps (ix2 i j) = ∑ q : Fin 2, ∑ s : Fin 2048, yy Z O p ps (ix3 q s i) * dh (ix3 q s j) := by
  pointwise [gWout]
  exact Finset.sum_congr rfl fun q _ => Finset.sum_congr rfl fun s _ => mul_comm (G := EReal) _ _

section
variable (m : (ℓ : Loc nD τ sig) → Buf (Elt Ideal) ℓ) (c : Dev nD)

/-- The pooled tokens less themselves, and the convolution's output, of the arguments. -/
abbrev pooled : FVec Ideal S2x2048x4x128 .f32 := Value.res_main_v59 (StableHlo.launchContents m c)
abbrev conved : FVec Ideal S2x2048x512 .f32 := Value.res_main_v108 (StableHlo.launchContents m c)

end

/-- Every run leaves these gradients, and the arguments as they were. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v156) = gWout (zz (pooled m c) (m ((c.tc : Thread nD τ).loc main_arg3)) (m ((c.tc : Thread nD τ).loc main_arg4)))
        (oo (conved m c) (m ((c.tc : Thread nD τ).loc main_arg8)) (m ((c.tc : Thread nD τ).loc main_arg9)) (m ((c.tc : Thread nD τ).loc main_arg10)) (m ((c.tc : Thread nD τ).loc main_arg11)))
        (m ((c.tc : Thread nD τ).loc main_arg0)) (m ((c.tc : Thread nD τ).loc main_arg1)) (m ((c.tc : Thread nD τ).loc main_arg5))
      ∧ r.2.mem ((c.tc : Thread nD τ).loc main_v162) = gPw (conved m c) (m ((c.tc : Thread nD τ).loc main_arg0)) (m ((c.tc : Thread nD τ).loc main_arg1)) (m ((c.tc : Thread nD τ).loc main_arg2)) (m ((c.tc : Thread nD τ).loc main_arg8)) (m ((c.tc : Thread nD τ).loc main_arg9))
      ∧ r.2.mem ((c.tc : Thread nD τ).loc main_v169) = gPool (pooled m c) (m ((c.tc : Thread nD τ).loc main_arg0)) (m ((c.tc : Thread nD τ).loc main_arg1)) (m ((c.tc : Thread nD τ).loc main_arg2)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c => h c) (Value.run m ρ)

end Cert.ReferenceIdeal.MixGrad

end
-- ==== Proof.MixGrad.Host.lean ====
module

public import proofs.«01_k».proof.Proof.Gen.KernelIdeal.Frame.Runs
public import proofs.«01_k».proof.Proof.MixGrad.Ref
public import Idealize.ShloMosaic.Lib.StableHlo.RunRead

@[expose] public section

set_option maxRecDepth 16384

noncomputable section

/-! What the host hands the call: the reference's own intermediate arrays. -/

namespace Cert.KernelIdeal.MixGrad

open Idealize.ShloMosaic Idealize.ShloMosaic.TcCoe Idealize.SL.Sem
open Cert.KernelIdeal Cert.KernelIdeal.Gen

variable (m : (ℓ : Loc nD τ sig) → Buf (Elt Ideal) ℓ)
variable (V0 : Valuation Cert.ReferenceIdeal.τ Cert.ReferenceIdeal.sig (Elt Ideal))

set_option maxHeartbeats 4000000 in
/-- The pooled tokens less themselves. -/
theorem V_D (c : Dev nD) (h1 : V0 (Proc.devRef .tc Cert.ReferenceIdeal.main_arg1) = m ((c : Thread nD τ).loc main_arg1)) :
    V m c main_v59 = Cert.ReferenceIdeal.Value.res_main_v59 V0 := by
  unfold Cert.ReferenceIdeal.Value.res_main_v59 Cert.ReferenceIdeal.Value.res_main_v1
  rw [h1]
  show StableHlo.after hostOps0 (fun b => m (c, b)) main_v59 = _
  after_reads_simp
  show subf (F := Ideal) (φ := .f32) (Cert.ReferenceIdeal.Value.fn_main_v58 (StableHlo.upto hostOps0 (fun b => m (c, b)) 70 main_v54) (StableHlo.upto hostOps0 (fun b => m (c, b)) 70 main_v55)
    (StableHlo.upto hostOps0 (fun b => m (c, b)) 70 main_v56) (StableHlo.upto hostOps0 (fun b => m (c, b)) 70 main_v57)) _ = _
  after_reads_simp
  rfl

set_option maxHeartbeats 4000000 in
/-- The convolution's output. -/
theorem V_H (c : Dev nD) (h1 : V0 (Proc.devRef .tc Cert.ReferenceIdeal.main_arg1) = m ((c : Thread nD τ).loc main_arg1))
    (h6 : V0 (Proc.devRef .tc Cert.ReferenceIdeal.main_arg6) = m ((c : Thread nD τ).loc main_arg6))
    (h7 : V0 (Proc.devRef .tc Cert.ReferenceIdeal.main_arg7) = m ((c : Thread nD τ).loc main_arg7)) :
    V m c main_v96 = Cert.ReferenceIdeal.Value.res_main_v108 V0 := by
  unfold Cert.ReferenceIdeal.Value.res_main_v108 Cert.ReferenceIdeal.Value.res_main_v94
  rw [h1, h6, h7]
  show StableHlo.after hostOps0 (fun b => m (c, b)) main_v96 = _
  after_reads_simp
  rfl

set_option maxHeartbeats 4000000 in
/-- The pooling mixer's linear map, -/
theorem V_z (c : Dev nD) (h1 : V0 (Proc.devRef .tc Cert.ReferenceIdeal.main_arg1) = m ((c : Thread nD τ).loc main_arg1)) :
    V m c main_v65 = Cert.ReferenceIdeal.MixGrad.zz (Cert.ReferenceIdeal.Value.res_main_v59 V0) (m ((c : Thread nD τ).loc main_arg3)) (m ((c : Thread nD τ).loc main_arg4)) := by
  rw [← V_D m V0 c h1]
  show StableHlo.after hostOps0 (fun b => m (c, b)) main_v65 = Cert.ReferenceIdeal.MixGrad.zz (StableHlo.after hostOps0 (fun b => m (c, b)) main_v59) _ _
  after_reads_simp
  rfl

set_option maxHeartbeats 4000000 in
/-- and the convolution mixer's. -/
theorem V_o (c : Dev nD) (h1 : V0 (Proc.devRef .tc Cert.ReferenceIdeal.main_arg1) = m ((c : Thread nD τ).loc main_arg1))
    (h6 : V0 (Proc.devRef .tc Cert.ReferenceIdeal.main_arg6) = m ((c : Thread nD τ).loc main_arg6))
    (h7 : V0 (Proc.devRef .tc Cert.ReferenceIdeal.main_arg7) = m ((c : Thread nD τ).loc main_arg7)) :
    V m c main_v131 = Cert.ReferenceIdeal.MixGrad.oo (Cert.ReferenceIdeal.Value.res_main_v108 V0) (m ((c : Thread nD τ).loc main_arg8)) (m ((c : Thread nD τ).loc main_arg9)) (m ((c : Thread nD τ).loc main_arg10)) (m ((c : Thread nD τ).loc main_arg11)) := by
  rw [← V_H m V0 c h1 h6 h7]
  show StableHlo.after hostOps0 (fun b => m (c, b)) main_v131 = Cert.ReferenceIdeal.MixGrad.oo (StableHlo.after hostOps0 (fun b => m (c, b)) main_v96) _ _ _ _
  after_reads_simp
  rfl

/-- The operands the call takes as they are or in another shape. -/
theorem V_arg0 (c : Dev nD) : V m c main_arg0 = m ((c : Thread nD τ).loc main_arg0) := by
  show StableHlo.after hostOps0 (fun b => m (c, b)) main_arg0 = _
  after_reads_simp
theorem V_arg1 (c : Dev nD) : V m c main_arg1 = m ((c : Thread nD τ).loc main_arg1) := by
  show StableHlo.after hostOps0 (fun b => m (c, b)) main_arg1 = _
  after_reads_simp
theorem V_pooled (c : Dev nD) : V m c main_v133
    = (truncf .bf16 (shapeCast S2x2048x512 (show FVec Ideal S2x2048x4x128 .f32 from V m c main_v59) shapeCasts_S2x2048x4x128_S2x2048x512) bitsLt_bf16_f32 : FVec Ideal S2x2048x512 .bf16) := by
  show StableHlo.after hostOps0 (fun b => m (c, b)) main_v133
    = (truncf .bf16 (shapeCast S2x2048x512 (show FVec Ideal S2x2048x4x128 .f32 from StableHlo.after hostOps0 (fun b => m (c, b)) main_v59) shapeCasts_S2x2048x4x128_S2x2048x512) bitsLt_bf16_f32 : FVec Ideal S2x2048x512 .bf16)
  after_reads_simp
  rfl
theorem V_wout (c : Dev nD) : V m c main_v134
    = (truncf .bf16 (show FVec Ideal S1024x1024 .f32 from m ((c : Thread nD τ).loc main_arg2)) bitsLt_bf16_f32 : FVec Ideal S1024x1024 .bf16) := by
  show StableHlo.after hostOps0 (fun b => m (c, b)) main_v134 = _
  after_reads_simp
theorem V_scale (c : Dev nD) : V m c main_v136
    = (shapeCast S1x512 (show FVec Ideal S512 .f32 from m ((c : Thread nD τ).loc main_arg5)) shapeCasts_S512_S1x512 : FVec Ideal S1x512 .f32) := by
  show StableHlo.after hostOps0 (fun b => m (c, b)) main_v136 = _
  after_reads_simp
  rfl
theorem V_gain (c : Dev nD) : V m c main_v137
    = (shapeCast S1x512 (show FVec Ideal S512 .f32 from m ((c : Thread nD τ).loc main_arg8)) shapeCasts_S512_S1x512 : FVec Ideal S1x512 .f32) := by
  show StableHlo.after hostOps0 (fun b => m (c, b)) main_v137 = _
  after_reads_simp
  rfl
theorem V_shift (c : Dev nD) : V m c main_v138
    = (shapeCast S1x512 (show FVec Ideal S512 .f32 from m ((c : Thread nD τ).loc main_arg9)) shapeCasts_S512_S1x512 : FVec Ideal S1x512 .f32) := by
  show StableHlo.after hostOps0 (fun b => m (c, b)) main_v138 = _
  after_reads_simp
  rfl

end Cert.KernelIdeal.MixGrad

end
-- ==== Proof.MixGrad.Point.lean ====
module

public import proofs.«01_k».proof.Proof.Gen.KernelIdeal.Frame
public import proofs.«01_k».proof.Proof.MixGrad.Rows
public import Idealize.ShloMosaic.Lib.Pipeline.ValueKit

@[expose] public section

set_option maxRecDepth 1000000
set_option maxHeartbeats 4000000

noncomputable section

/-! What one grid point adds to the three accumulated gradients, in terms of the blocks it is handed. -/

namespace Cert.KernelIdeal.MixGrad

open Idealize.ShloMosaic Idealize.ShloMosaic.TcCoe Idealize.SL.Sem
open Cert.KernelIdeal Cert.KernelIdeal.Gen Cert.MixGrad
open scoped BigOperators

variable (m : (ℓ : Loc nD τ sig) → Buf (Elt Ideal) ℓ)

/-- The blocks of a point: the gradient from above, the projection, the convolution's output, the two maps' values, the pooled
tokens, the output projection, the scale, and the layer norm's gain and shift. -/
abbrev bDh (c : Dev nD) (t : Fin cfg0.N) : FVec Ideal S1x512x1024 .f32 := iblk m c 0 t
abbrev bProj (c : Dev nD) (t : Fin cfg0.N) : FVec Ideal S1x512x2560 .f32 := iblk m c 1 t
abbrev bH (c : Dev nD) (t : Fin cfg0.N) : FVec Ideal S1x512x512 .f32 := iblk m c 2 t
abbrev bZ (c : Dev nD) (t : Fin cfg0.N) : FVec Ideal S1x512x512 .f32 := iblk m c 3 t
abbrev bO (c : Dev nD) (t : Fin cfg0.N) : FVec Ideal S1x512x512 .f32 := iblk m c 4 t
abbrev bD (c : Dev nD) (t : Fin cfg0.N) : FVec Ideal S1x512x512 .bf16 := iblk m c 5 t
abbrev bW (c : Dev nD) (t : Fin cfg0.N) : FVec Ideal S1024x1024 .bf16 := iblk m c 6 t
abbrev bScale (c : Dev nD) (t : Fin cfg0.N) : FVec Ideal S1x512 .f32 := iblk m c 9 t
abbrev bGain (c : Dev nD) (t : Fin cfg0.N) : FVec Ideal S1x512 .f32 := iblk m c 11 t
abbrev bShift (c : Dev nD) (t : Fin cfg0.N) : FVec Ideal S1x512 .f32 := iblk m c 12 t

/-- What row `r` of the tile adds to the pointwise convolution's gradient. -/
def pwRow (c : Dev nD) (t : Fin cfg0.N) (i j : Fin 512) (r : Fin 512) : EReal :=
  pwTerm (fun l => bH m c t (ix3 0 r l)) (fun l => bGain m c t (ix2 0 l)) (fun l => bShift m c t (ix2 0 l)) (fun e => bDh m c t (ix3 0 r e))
    (fun e => bW m c t (ix2 ⟨512 + j, by omega⟩ e)) (bProj m c t (ix3 0 r ⟨2048 + j, by omega⟩)) i

theorem pw_A (c : Dev nD) (t : Fin cfg0.N) (h0 : t.val % 4 = 0) (h1 : t.val % 8 = 0) (j : S512x512.Idx) :
    (outsAt0 m c t.val t.isLt).2.2.1 j = (show Elt Ideal .f32 from ∑ r, pwRow m c t (j 0) (j 1) r) := by
  rw [outsAt0_A m c t h0 h1]
  frame_out
  open_payloads
  pointwise
  exact (congrArg (fun a : EReal => a + ∑ k : Fin 256, pwRow m c t (j 0) (j 1) ⟨k, by omega⟩) (zero_add (M := EReal) (∑ k : Fin 256, pwRow m c t (j 0) (j 1) ⟨256 + k, by omega⟩)).symm).trans ((halves (pwRow m c t (j 0) (j 1)) 0).trans (zero_add _))

theorem pw_B (c : Dev nD) (t : Fin cfg0.N) (h0 : ¬t.val % 4 = 0) (h1 : ¬t.val % 8 = 0) (j : S512x512.Idx) :
    (outsAt0 m c t.val t.isLt).2.2.1 j = (show Elt Ideal .f32 from (show EReal from (outsAt0 m c (t.val - 1) (Nat.lt_of_le_of_lt (Nat.sub_le _ _) t.isLt)).2.2.1 j) + ∑ r, pwRow m c t (j 0) (j 1) r) := by
  rw [outsAt0_B m c t h0 h1]
  frame_out
  open_payloads
  pointwise
  exact halves (pwRow m c t (j 0) (j 1)) _

theorem pw_C (c : Dev nD) (t : Fin cfg0.N) (h0 : t.val % 4 = 0) (h1 : ¬t.val % 8 = 0) (j : S512x512.Idx) :
    (outsAt0 m c t.val t.isLt).2.2.1 j = (show Elt Ideal .f32 from (show EReal from (outsAt0 m c (t.val - 1) (Nat.lt_of_le_of_lt (Nat.sub_le _ _) t.isLt)).2.2.1 j) + ∑ r, pwRow m c t (j 0) (j 1) r) := by
  rw [outsAt0_C m c t h0 h1]
  frame_out
  open_payloads
  pointwise
  exact halves (pwRow m c t (j 0) (j 1)) _

end Cert.KernelIdeal.MixGrad

end
-- ==== Proof.MixGrad.Blocks.lean ====
module

public import proofs.«01_k».proof.Proof.MixGrad.Host
public import proofs.«01_k».proof.Proof.MixGrad.Point

@[expose] public section

set_option maxRecDepth 16384

noncomputable section

/-! What the blocks of a grid point hold: a tile of 512 tokens of one sequence, the last tile first, or a whole parameter. -/

namespace Cert.KernelIdeal.MixGrad

open Idealize.ShloMosaic Idealize.ShloMosaic.TcCoe Idealize.SL.Sem
open Cert.KernelIdeal Cert.KernelIdeal.Gen Cert.MixGrad

variable (m : (ℓ : Loc nD τ sig) → Buf (Elt Ideal) ℓ)
variable (V0 : Valuation Cert.ReferenceIdeal.τ Cert.ReferenceIdeal.sig (Elt Ideal))

theorem idx : ∀ t : Fin cfg0.N, (win0_0.index t = ![t.val / 4, 3 - t.val % 4, 0] ∧ win0_1.index t = ![t.val / 4, 3 - t.val % 4, 0]
    ∧ win0_2.index t = ![t.val / 4, 3 - t.val % 4, 0] ∧ win0_3.index t = ![t.val / 4, 3 - t.val % 4, 0] ∧ win0_4.index t = ![t.val / 4, 3 - t.val % 4, 0]
    ∧ win0_5.index t = ![t.val / 4, 3 - t.val % 4, 0]) ∧ win0_6.index t = ![0, 0] ∧ win0_9.index t = ![0, 0] ∧ win0_11.index t = ![0, 0]
    ∧ win0_12.index t = ![0, 0] := (by decide +kernel : ∀ t : Fin grid0.N, _)

theorem lt8 (t : Fin cfg0.N) : t.val < 8 := lt_of_lt_of_eq t.isLt (show cfg0.N = 8 from N_0)

/-- The sequence of a point, and the place of row `r` of its tile in it. -/
def sq (t : ℕ) : Fin 2 := ⟨t / 4 % 2, Nat.mod_lt _ (by decide)⟩
def tk (t : ℕ) (r : Fin 512) : Fin 2048 := ⟨(3 - t % 4) * 512 + r, by omega⟩

theorem sq_val (t : Fin cfg0.N) : (sq t.val).val = t.val / 4 := by
  have := lt8 t
  exact Nat.mod_eq_of_lt (by omega)

/-- An element of a point's tile is its place in the whole array. -/
theorem tile_ext {n : ℕ} (t : Fin cfg0.N) (r : Fin 512) (x : Fin n) (y : Shape.Idx ⟨3, ![2, 2048, n]⟩) (h0 : (y 0).val = t.val / 4)
    (h1 : (y 1).val = (3 - t.val % 4) * 512 + r.val) (h2 : (y 2).val = x.val) : y = ix3 (sq t.val) (tk t.val r) x := by
  funext a; apply Fin.ext
  match a with
  | ⟨0, _⟩ => exact h0.trans (sq_val t).symm
  | ⟨1, _⟩ => exact h1
  | ⟨2, _⟩ => exact h2

/-- The tiles of tokens, -/
theorem dh_at (c : Dev nD) (t : Fin cfg0.N) (r : Fin 512) (x : Fin 1024) : bDh m c t (ix3 0 r x)
    = m ((c : Thread nD τ).loc main_arg0) (ix3 (sq t.val) (tk t.val r) x : S2x2048x1024.Idx) :=
  (congrArg (V m c main_arg0) (tile_ext t r x (((View.whole main_arg0).slice (win0_0.rect t)).emb (ix3 0 r x)) (by blk_simp [idx t]; rfl) (by blk_simp [idx t]) (by blk_simp [idx t]))).trans (congrFun (V_arg0 m c) _)
theorem proj_at (c : Dev nD) (t : Fin cfg0.N) (r : Fin 512) (x : Fin 2560) : bProj m c t (ix3 0 r x)
    = m ((c : Thread nD τ).loc main_arg1) (ix3 (sq t.val) (tk t.val r) x : S2x2048x2560.Idx) :=
  (congrArg (V m c main_arg1) (tile_ext t r x (((View.whole main_arg1).slice (win0_1.rect t)).emb (ix3 0 r x)) (by blk_simp [idx t]; rfl) (by blk_simp [idx t]) (by blk_simp [idx t]))).trans (congrFun (V_arg1 m c) _)
theorem h_at (c : Dev nD) (t : Fin cfg0.N) (r : Fin 512) (x : Fin 512) {H : FVec Ideal S2x2048x512 .f32} (hH : V m c main_v96 = H) : bH m c t (ix3 0 r x)
    = H (ix3 (sq t.val) (tk t.val r) x) :=
  (congrArg (V m c main_v96) (tile_ext t r x (((View.whole main_v96).slice (win0_2.rect t)).emb (ix3 0 r x)) (by blk_simp [idx t]; rfl) (by blk_simp [idx t]) (by blk_simp [idx t]))).trans (congrFun hH _)
theorem z_at (c : Dev nD) (t : Fin cfg0.N) (r : Fin 512) (x : Fin 512) {Z : FVec Ideal S2x2048x512 .f32} (hZ : V m c main_v65 = Z) : bZ m c t (ix3 0 r x)
    = Z (ix3 (sq t.val) (tk t.val r) x) :=
  (congrArg (V m c main_v65) (tile_ext t r x (((View.whole main_v65).slice (win0_3.rect t)).emb (ix3 0 r x)) (by blk_simp [idx t]; rfl) (by blk_simp [idx t]) (by blk_simp [idx t]))).trans (congrFun hZ _)
theorem o_at (c : Dev nD) (t : Fin cfg0.N) (r : Fin 512) (x : Fin 512) {O : FVec Ideal S2x2048x512 .f32} (hO : V m c main_v131 = O) : bO m c t (ix3 0 r x)
    = O (ix3 (sq t.val) (tk t.val r) x) :=
  (congrArg (V m c main_v131) (tile_ext t r x (((View.whole main_v131).slice (win0_4.rect t)).emb (ix3 0 r x)) (by blk_simp [idx t]; rfl) (by blk_simp [idx t]) (by blk_simp [idx t]))).trans (congrFun hO _)
theorem pooled_at (c : Dev nD) (t : Fin cfg0.N) (r : Fin 512) (x : Fin 512) {D : FVec Ideal S2x2048x512 .bf16} (hD : V m c main_v133 = D) : bD m c t (ix3 0 r x)
    = D (ix3 (sq t.val) (tk t.val r) x) :=
  (congrArg (V m c main_v133) (tile_ext t r x (((View.whole main_v133).slice (win0_5.rect t)).emb (ix3 0 r x)) (by blk_simp [idx t]; rfl) (by blk_simp [idx t]) (by blk_simp [idx t]))).trans (congrFun hD _)
theorem grouped (D : FVec Ideal S2x2048x4x128 .f32) (q : Fin 2) (s : Fin 2048) (a : Fin 4) (i : Fin 128) :
    (truncf .bf16 (shapeCast S2x2048x512 D shapeCasts_S2x2048x4x128_S2x2048x512) bitsLt_bf16_f32 : FVec Ideal S2x2048x512 .bf16) (ix3 q s ⟨a * 128 + i, by omega⟩)
      = D (ix4 q s a i) := by
  pointwise
theorem d_at (c : Dev nD) (t : Fin cfg0.N) (r : Fin 512) (a : Fin 4) (i : Fin 128) {D : FVec Ideal S2x2048x4x128 .f32} (hD : V m c main_v59 = D) :
    bD m c t (ix3 0 r ⟨a * 128 + i, by omega⟩) = D (ix4 (sq t.val) (tk t.val r) a i) :=
  (pooled_at m c t r _ (by rw [V_pooled, hD])).trans (grouped D _ _ a i)

/-- and the parameters. -/
theorem w_at (c : Dev nD) (t : Fin cfg0.N) (i j : Fin 1024) : bW m c t (ix2 i j) = m ((c : Thread nD τ).loc main_arg2) (ix2 i j : S1024x1024.Idx) := by
  have e : ((View.whole main_v134).slice (win0_6.rect t)).emb (ix2 i j) = (ix2 i j : S1024x1024.Idx) := by blk_ext [idx t]
  refine (congrArg (V m c main_v134) e).trans ((congrFun (V_wout m c) _).trans ?_)
  pointwise
theorem scale_at (c : Dev nD) (t : Fin cfg0.N) (i : Fin 512) : bScale m c t (ix2 0 i) = m ((c : Thread nD τ).loc main_arg5) (ix1 i : S512.Idx) := by
  have e : ((View.whole main_v136).slice (win0_9.rect t)).emb (ix2 0 i) = (ix2 0 i : S1x512.Idx) := by blk_ext [idx t]
  refine (congrArg (V m c main_v136) e).trans ((congrFun (V_scale m c) _).trans ?_)
  pointwise
theorem gain_at (c : Dev nD) (t : Fin cfg0.N) (i : Fin 512) : bGain m c t (ix2 0 i) = m ((c : Thread nD τ).loc main_arg8) (ix1 i : S512.Idx) := by
  have e : ((View.whole main_v137).slice (win0_11.rect t)).emb (ix2 0 i) = (ix2 0 i : S1x512.Idx) := by blk_ext [idx t]
  refine (congrArg (V m c main_v137) e).trans ((congrFun (V_gain m c) _).trans ?_)
  pointwise
theorem shift_at (c : Dev nD) (t : Fin cfg0.N) (i : Fin 512) : bShift m c t (ix2 0 i) = m ((c : Thread nD τ).loc main_arg9) (ix1 i : S512.Idx) := by
  have e : ((View.whole main_v138).slice (win0_12.rect t)).emb (ix2 0 i) = (ix2 0 i : S1x512.Idx) := by blk_ext [idx t]
  refine (congrArg (V m c main_v138) e).trans ((congrFun (V_shift m c) _).trans ?_)
  pointwise

end Cert.KernelIdeal.MixGrad

end
-- ==== Proof.MixGrad.Pool.lean ====
module

public import proofs.«01_k».proof.Proof.MixGrad.Point
public import Idealize.ShloMosaic.Lib.Pipeline.ReadBack

@[expose] public section

set_option maxRecDepth 1000000
set_option maxHeartbeats 400000

noncomputable section

/-! What one grid point adds to the pooling mixer's gradient: its four groups are stored one by one, for the upper half of
the tile and then for the lower, each read back in between. -/

namespace Cert.KernelIdeal.MixGrad

open Idealize.ShloMosaic Idealize.ShloMosaic.TcCoe Idealize.SL.Sem
open Cert.KernelIdeal Cert.KernelIdeal.Gen Cert.MixGrad
open scoped BigOperators

variable (m : (ℓ : Loc nD τ sig) → Buf (Elt Ideal) ℓ)

/-- What row `r` of the tile adds to the pooling mixer's gradient, between lanes `e` and `f`. -/
def poolRow (c : Dev nD) (t : Fin cfg0.N) (e f : Fin 512) (r : Fin 512) : EReal :=
  poolTerm (bD m c t (ix3 0 r e)) (fun l => bDh m c t (ix3 0 r l)) (fun l => bW m c t (ix2 ⟨f, by omega⟩ l))
    (bProj m c t (ix3 0 r ⟨512 + f, by omega⟩)) (bScale m c t (ix2 0 f))

/-- Lane `i` of group `a`. -/
def lane (a : Fin 4) (i : Fin 128) : Fin 512 := ⟨a * 128 + i, by omega⟩

/-- The gradient so far with the tile's rows added. -/
def poolG (c : Dev nD) (t : Fin cfg0.N) (acc : FVec Ideal S4x128x128 .f32) : FVec Ideal S4x128x128 .f32 :=
  fun j => (acc j : EReal) + ∑ r, poolRow m c t (lane (j 0) (j 1)) (lane (j 0) (j 2)) r

/-- Both halves of the tile, added one after the other; group `g` starts at lane `o`. -/
theorem poolG_at (c : Dev nD) (t : Fin cfg0.N) (acc : FVec Ideal S4x128x128 .f32) (g : Fin 4) (o : ℕ) (ho : o = g.val * 128) (i k : Fin 128) :
    (acc (ix3 g i k) + ∑ r : Fin 256, poolRow m c t ⟨o + i, by omega⟩ ⟨o + k, by omega⟩ ⟨256 + r, by omega⟩)
      + ∑ r : Fin 256, poolRow m c t ⟨o + i, by omega⟩ ⟨o + k, by omega⟩ ⟨r, by omega⟩ = poolG m c t acc (ix3 g i k) := by
  subst ho
  exact halves (poolRow m c t (lane g i) (lane g k)) _

/-- The same for the first group. -/
theorem poolG_first (c : Dev nD) (t : Fin cfg0.N) (acc : FVec Ideal S4x128x128 .f32) (i k : Fin 128) :
    (acc (ix3 0 i k) + ∑ r : Fin 256, poolRow m c t ⟨i, by omega⟩ ⟨k, by omega⟩ ⟨256 + r, by omega⟩)
      + ∑ r : Fin 256, poolRow m c t ⟨i, by omega⟩ ⟨k, by omega⟩ ⟨r, by omega⟩ = poolG m c t acc (ix3 0 i k) := by
  have e : ∀ i : Fin 128, (⟨i, by omega⟩ : Fin 512) = lane 0 i := fun i => Fin.ext (show i.val = 0 * 128 + i.val by omega)
  rw [e i, e k]
  exact halves (poolRow m c t (lane 0 i) (lane 0 k)) _

/-- Nothing added so far. -/
def none : FVec Ideal S4x128x128 .f32 := fun _ => (0 : EReal)

theorem poolG_at_none (c : Dev nD) (t : Fin cfg0.N) (g : Fin 4) (o : ℕ) (ho : o = g.val * 128) (i k : Fin 128) :
    (∑ r : Fin 256, poolRow m c t ⟨o + i, by omega⟩ ⟨o + k, by omega⟩ ⟨256 + r, by omega⟩)
      + ∑ r : Fin 256, poolRow m c t ⟨o + i, by omega⟩ ⟨o + k, by omega⟩ ⟨r, by omega⟩ = poolG m c t none (ix3 g i k) := by
  refine Eq.trans ?_ (poolG_at m c t none g o ho i k)
  exact congrArg (fun a : EReal => a + _) (zero_add (M := EReal) _).symm

theorem poolG_first_none (c : Dev nD) (t : Fin cfg0.N) (i k : Fin 128) :
    (∑ r : Fin 256, poolRow m c t ⟨i, by omega⟩ ⟨k, by omega⟩ ⟨256 + r, by omega⟩)
      + ∑ r : Fin 256, poolRow m c t ⟨i, by omega⟩ ⟨k, by omega⟩ ⟨r, by omega⟩ = poolG m c t none (ix3 0 i k) := by
  refine Eq.trans ?_ (poolG_first m c t none i k)
  exact congrArg (fun a : EReal => a + _) (zero_add (M := EReal) _).symm

/-- The place of an element of group `g`. -/
theorem group_emb (g : ℕ) (inb : ∀ a, (![g, 0, 0] : Fin 3 → ℕ) a + (![1, 128, 128] : Fin 3 → ℕ) a ≤ S4x128x128.size a) (x : Shape.Idx ⟨3, ![1, 128, 128]⟩) :
    (Rect.unit (s := S4x128x128) ![g, 0, 0] ![1, 128, 128] inb).emb x = ix3 ⟨g, inb 0⟩ (x 1) (x 2) := by
  funext a
  refine Fin.ext ?_
  have h0 : (x 0).val < 1 := (x 0).isLt
  fin_cases a
  · show g + 1 * (x 0).val = g; omega
  · show 0 + 1 * (x 1).val = (x 1).val; omega
  · show 0 + 1 * (x 2).val = (x 2).val; omega

/-- The four groups are the whole. -/
theorem group_cover (i0 i1 i2 i3) (p0 p1 p2 p3) (j : S4x128x128.Idx) :
    ∃ p ∈ ([⟨Rect.unit ![3, 0, 0] ![1, 128, 128] i3, p3⟩, ⟨Rect.unit ![2, 0, 0] ![1, 128, 128] i2, p2⟩, ⟨Rect.unit ![1, 0, 0] ![1, 128, 128] i1, p1⟩,
      ⟨Rect.unit ![0, 0, 0] ![1, 128, 128] i0, p0⟩] : List (View.Piece (Elt Ideal) S4x128x128 .f32)), j ∈ p.1.set := by
  have hj : (j 0).val < 4 := (j 0).isLt
  have mem : ∀ (g : ℕ) (inb), (j 0).val = g → j ∈ (Rect.unit (s := S4x128x128) ![g, 0, 0] ![1, 128, 128] inb).set := fun g inb h =>
    Rect.mem_set_unit.mpr fun a => by
      fin_cases a
      · exact ⟨h.ge, show (j 0).val < g + 1 by omega⟩
      · exact ⟨Nat.zero_le _, (show (j 1).val < 0 + 128 from by have : (j 1).val < 128 := (j 1).isLt; omega)⟩
      · exact ⟨Nat.zero_le _, (show (j 2).val < 0 + 128 from by have : (j 2).val < 128 := (j 2).isLt; omega)⟩
  have : (j 0).val = 3 ∨ (j 0).val = 2 ∨ (j 0).val = 1 ∨ (j 0).val = 0 := by omega
  rcases this with h | h | h | h
  · exact ⟨_, .head _, mem 3 i3 h⟩
  · exact ⟨_, .tail _ (.head _), mem 2 i2 h⟩
  · exact ⟨_, .tail _ (.tail _ (.head _)), mem 1 i1 h⟩
  · exact ⟨_, .tail _ (.tail _ (.tail _ (.head _))), mem 0 i0 h⟩

theorem pool_A (c : Dev nD) (t : Fin cfg0.N) (h0 : t.val % 4 = 0) (h1 : t.val % 8 = 0) (j : S4x128x128.Idx) :
    (outsAt0 m c t.val t.isLt).2.2.2.1 j = poolG m c t none j := by
  rw [outsAt0_A m c t h0 h1]
  frame_out
  simp (disch := decide) only [↓View.readCov_skip, View.readCov_cons_toLoadRect, View.readCov_fill]
  refine View.canon_append_of_piecesOf (poolG m c t none) [_, _, _, _, _] [_, _, _, _] ⟨?_, ?_, ?_, ?_, trivial⟩ j (group_cover ..) <;> intro x <;> rw [group_emb]
    <;> open_payloads <;> pointwise
  exacts [poolG_at_none m c t 3 384 rfl (x 1) (x 2), poolG_at_none m c t 2 256 rfl (x 1) (x 2), poolG_at_none m c t 1 128 rfl (x 1) (x 2),
    poolG_first_none m c t (x 1) (x 2)]

theorem pool_B (c : Dev nD) (t : Fin cfg0.N) (h0 : ¬t.val % 4 = 0) (h1 : ¬t.val % 8 = 0) (j : S4x128x128.Idx) :
    (outsAt0 m c t.val t.isLt).2.2.2.1 j = poolG m c t (outsAt0 m c (t.val - 1) (Nat.lt_of_le_of_lt (Nat.sub_le _ _) t.isLt)).2.2.2.1 j := by
  rw [outsAt0_B m c t h0 h1]
  frame_out
  simp (disch := decide) only [↓View.readCov_skip, View.readCov_cons_toLoadRect]
  refine View.canon_append_of_piecesOf (poolG m c t _) [_, _, _, _] [_, _, _, _] ⟨?_, ?_, ?_, ?_, trivial⟩ j (group_cover ..) <;> intro x <;> rw [group_emb]
    <;> open_payloads <;> pointwise
  exacts [poolG_at m c t _ 3 384 rfl (x 1) (x 2), poolG_at m c t _ 2 256 rfl (x 1) (x 2), poolG_at m c t _ 1 128 rfl (x 1) (x 2),
    poolG_first m c t _ (x 1) (x 2)]

theorem pool_C (c : Dev nD) (t : Fin cfg0.N) (h0 : t.val % 4 = 0) (h1 : ¬t.val % 8 = 0) (j : S4x128x128.Idx) :
    (outsAt0 m c t.val t.isLt).2.2.2.1 j = poolG m c t (outsAt0 m c (t.val - 1) (Nat.lt_of_le_of_lt (Nat.sub_le _ _) t.isLt)).2.2.2.1 j := by
  rw [outsAt0_C m c t h0 h1]
  frame_out
  simp (disch := decide) only [↓View.readCov_skip, View.readCov_cons_toLoadRect]
  refine View.canon_append_of_piecesOf (poolG m c t _) [_, _, _, _] [_, _, _, _] ⟨?_, ?_, ?_, ?_, trivial⟩ j (group_cover ..) <;> intro x <;> rw [group_emb]
    <;> open_payloads <;> pointwise
  exacts [poolG_at m c t _ 3 384 rfl (x 1) (x 2), poolG_at m c t _ 2 256 rfl (x 1) (x 2), poolG_at m c t _ 1 128 rfl (x 1) (x 2),
    poolG_first m c t _ (x 1) (x 2)]

end Cert.KernelIdeal.MixGrad

end
-- ==== Proof.MixGrad.Wout.lean ====
module

public import proofs.«01_k».proof.Proof.MixGrad.Point
public import Idealize.ShloMosaic.Lib.Pipeline.ReadBack

@[expose] public section

set_option maxRecDepth 1000000
set_option maxHeartbeats 400000

noncomputable section

/-! What one grid point adds to the output projection's gradient. The gated values of the tile are laid down in four pieces,
half by half, before they are multiplied by the gradient from above. -/

namespace Cert.KernelIdeal.MixGrad

open Idealize.ShloMosaic Idealize.ShloMosaic.TcCoe Idealize.SL.Sem
open Cert.KernelIdeal Cert.KernelIdeal.Gen Cert.MixGrad
open scoped BigOperators

variable (m : (ℓ : Loc nD τ sig) → Buf (Elt Ideal) ℓ)

/-- The pooled half of a gated row. -/
def gatedLo (c : Dev nD) (t : Fin cfg0.N) (r : Fin 512) (i : Fin 512) : EReal :=
  bZ m c t (ix3 0 r i) * bScale m c t (ix2 0 i) * swish (bProj m c t (ix3 0 r ⟨512 + i, by omega⟩))

/-- The convolved half of a gated row. -/
def gatedHi (c : Dev nD) (t : Fin cfg0.N) (r : Fin 512) (i : Fin 512) : EReal :=
  bO m c t (ix3 0 r i) * swish (bProj m c t (ix3 0 r ⟨2048 + i, by omega⟩))

/-- The gated values of the tile. -/
def gated (c : Dev nD) (t : Fin cfg0.N) : FVec Ideal S512x1024 .bf16 := fun x =>
  if h : (x 1).val < 512 then gatedLo m c t (x 0) ⟨(x 1).val, h⟩
  else gatedHi m c t (x 0) ⟨(x 1).val - 512, by have : (x 1).val < 1024 := (x 1).isLt; omega⟩

theorem gated_lo (c : Dev nD) (t : Fin cfg0.N) (r i : Fin 512) : gated m c t (ix2 r ⟨i, by omega⟩) = gatedLo m c t r i := by
  unfold gated
  exact dif_pos i.isLt

theorem gated_hi (c : Dev nD) (t : Fin cfg0.N) (r i : Fin 512) : gated m c t (ix2 r ⟨512 + i, by omega⟩) = gatedHi m c t r i := by
  unfold gated
  refine (dif_neg (show ¬(512 + i.val < 512) by omega)).trans ?_
  exact congrArg (gatedHi m c t r) (Fin.ext (Nat.add_sub_cancel_left _ _))

/-- The place of an element of a quarter. -/
theorem quarter_emb (a b : ℕ) (inb : ∀ k, (![a, b] : Fin 2 → ℕ) k + (![256, 512] : Fin 2 → ℕ) k ≤ S512x1024.size k) (x : Shape.Idx ⟨2, ![256, 512]⟩) :
    (Rect.unit (s := S512x1024) ![a, b] ![256, 512] inb).emb x
      = ix2 ⟨a + (x 0).val, Nat.lt_of_lt_of_le (Nat.add_lt_add_left (x 0).isLt a) (inb 0)⟩ ⟨b + (x 1).val, Nat.lt_of_lt_of_le (Nat.add_lt_add_left (x 1).isLt b) (inb 1)⟩ := by
  funext k
  refine Fin.ext ?_
  fin_cases k
  · show a + 1 * (x 0).val = _; rw [Nat.one_mul]; rfl
  · show b + 1 * (x 1).val = _; rw [Nat.one_mul]; rfl

/-- Two quarters side by side hold every element of their half. -/
theorem half_cover (a : ℕ) (i0 i1) (p0 p1) (inb) (x : (Rect.unit (s := S512x1024) ![a, 0] ![256, 1024] inb).shape.Idx) :
    ∃ p ∈ ([⟨Rect.unit ![a, 512] ![256, 512] i1, p1⟩, ⟨Rect.unit ![a, 0] ![256, 512] i0, p0⟩] : List (View.Piece (Elt Ideal) S512x1024 .bf16)),
      (Rect.unit (s := S512x1024) ![a, 0] ![256, 1024] inb).emb x ∈ p.1.set := by
  have h0 : (x 0).val < 256 := (x 0).isLt
  have h1 : (x 1).val < 1024 := (x 1).isLt
  have mem : ∀ (b : ℕ) (inb'), b ≤ (x 1).val → (x 1).val < b + 512 →
      (Rect.unit (s := S512x1024) ![a, 0] ![256, 1024] inb).emb x ∈ (Rect.unit (s := S512x1024) ![a, b] ![256, 512] inb').set := fun b inb' hl hu =>
    Rect.mem_set_unit.mpr fun k => by
      fin_cases k
      · exact ⟨show a ≤ a + 1 * (x 0).val by omega, show a + 1 * (x 0).val < a + 256 by omega⟩
      · exact ⟨show b ≤ 0 + 1 * (x 1).val by omega, show 0 + 1 * (x 1).val < b + 512 by omega⟩
  by_cases h : 512 ≤ (x 1).val
  · exact ⟨_, .head _, mem 512 i1 h (by omega)⟩
  · exact ⟨_, .tail _ (.head _), mem 0 i0 (by omega) (by omega)⟩

/-- A half read back whole from its two quarters, whatever was stored before. -/
theorem half_read (v : View sig .tc .vmem S512x1024 .bf16) (G : FVec Ideal S512x1024 .bf16) (a : ℕ) (i0 i1) (p0 p1) (L : List (View.Piece (Elt Ideal) S512x1024 .bf16)) (inb)
    (h1 : ∀ x, p1 x = G ((Rect.unit (s := S512x1024) ![a, 512] ![256, 512] i1).emb x))
    (h0 : ∀ x, p0 x = G ((Rect.unit (s := S512x1024) ![a, 0] ![256, 512] i0).emb x)) :
    v.readCov (⟨Rect.unit ![a, 512] ![256, 512] i1, p1⟩ :: ⟨Rect.unit ![a, 0] ![256, 512] i0, p0⟩ :: L) (Rect.unit ![a, 0] ![256, 1024] inb).toLoadRect
      = View.ld (Val := Elt Ideal) (e' := .bf16) G (Rect.unit (s := S512x1024) ![a, 0] ![256, 1024] inb) := by
  rw [View.readCov_eq_canon']
  funext x
  exact View.canon_append_of_piecesOf G L [_, _] ⟨h1, h0, trivial⟩ _ (half_cover a i0 i1 p0 p1 inb x)

theorem tile_halves (c : Dev nD) (t : Fin cfg0.N) (i j : Fin 1024) (a : EReal) :
    (a + ∑ r : Fin 256, gated m c t (ix2 ⟨256 + r, by omega⟩ i) * bDh m c t (ix3 0 ⟨256 + r, by omega⟩ j))
      + ∑ r : Fin 256, gated m c t (ix2 ⟨r, by omega⟩ i) * bDh m c t (ix3 0 ⟨r, by omega⟩ j)
      = a + ∑ r, gated m c t (ix2 r i) * bDh m c t (ix3 0 r j) :=
  halves (fun r => gated m c t (ix2 r i) * bDh m c t (ix3 0 r j)) a

theorem tile_halves_none (c : Dev nD) (t : Fin cfg0.N) (i j : Fin 1024) :
    (∑ r : Fin 256, gated m c t (ix2 ⟨256 + r, by omega⟩ i) * bDh m c t (ix3 0 ⟨256 + r, by omega⟩ j))
      + ∑ r : Fin 256, gated m c t (ix2 ⟨r, by omega⟩ i) * bDh m c t (ix3 0 ⟨r, by omega⟩ j)
      = (show EReal from ∑ r, gated m c t (ix2 r i) * bDh m c t (ix3 0 r j)) := by
  refine Eq.trans ?_ ((tile_halves m c t i j 0).trans (zero_add _))
  exact congrArg (fun a : EReal => a + _) (zero_add (M := EReal) _).symm

theorem wout_A (c : Dev nD) (t : Fin cfg0.N) (h0 : t.val % 4 = 0) (h1 : t.val % 8 = 0) (j : S1024x1024.Idx) :
    (outsAt0 m c t.val t.isLt).2.1 j = (show Elt Ideal .f32 from ∑ r, gated m c t (ix2 r (j 0)) * bDh m c t (ix3 0 r (j 1))) := by
  rw [outsAt0_A m c t h0 h1]
  frame_out
  rw [half_read _ (gated m c t), half_read _ (gated m c t)]
  · open_payloads
    pointwise
    exact tile_halves_none m c t (j 0) (j 1)
  all_goals
    intro x
    rw [quarter_emb]
    open_payloads
    pointwise
  exacts [(gated_hi m c t ⟨(x 0).val, _⟩ (x 1)).symm, (gated_lo m c t ⟨(x 0).val, _⟩ (x 1)).symm, (gated_hi m c t ⟨256 + (x 0).val, _⟩ (x 1)).symm,
    (gated_lo m c t ⟨256 + (x 0).val, _⟩ (x 1)).symm]

theorem wout_B (c : Dev nD) (t : Fin cfg0.N) (h0 : ¬t.val % 4 = 0) (h1 : ¬t.val % 8 = 0) (j : S1024x1024.Idx) :
    (outsAt0 m c t.val t.isLt).2.1 j = (show Elt Ideal .f32 from (show EReal from (outsAt0 m c (t.val - 1) (Nat.lt_of_le_of_lt (Nat.sub_le _ _) t.isLt)).2.1 j) + ∑ r, gated m c t (ix2 r (j 0)) * bDh m c t (ix3 0 r (j 1))) := by
  rw [outsAt0_B m c t h0 h1]
  frame_out
  rw [half_read _ (gated m c t), half_read _ (gated m c t)]
  · open_payloads
    pointwise
    exact tile_halves m c t (j 0) (j 1) _
  all_goals
    intro x
    rw [quarter_emb]
    open_payloads
    pointwise
  exacts [(gated_hi m c t ⟨(x 0).val, _⟩ (x 1)).symm, (gated_lo m c t ⟨(x 0).val, _⟩ (x 1)).symm, (gated_hi m c t ⟨256 + (x 0).val, _⟩ (x 1)).symm,
    (gated_lo m c t ⟨256 + (x 0).val, _⟩ (x 1)).symm]

theorem wout_C (c : Dev nD) (t : Fin cfg0.N) (h0 : t.val % 4 = 0) (h1 : ¬t.val % 8 = 0) (j : S1024x1024.Idx) :
    (outsAt0 m c t.val t.isLt).2.1 j = (show Elt Ideal .f32 from (show EReal from (outsAt0 m c (t.val - 1) (Nat.lt_of_le_of_lt (Nat.sub_le _ _) t.isLt)).2.1 j) + ∑ r, gated m c t (ix2 r (j 0)) * bDh m c t (ix3 0 r (j 1))) := by
  rw [outsAt0_C m c t h0 h1]
  frame_out
  rw [half_read _ (gated m c t), half_read _ (gated m c t)]
  · open_payloads
    pointwise
    exact tile_halves m c t (j 0) (j 1) _
  all_goals
    intro x
    rw [quarter_emb]
    open_payloads
    pointwise
  exacts [(gated_hi m c t ⟨(x 0).val, _⟩ (x 1)).symm, (gated_lo m c t ⟨(x 0).val, _⟩ (x 1)).symm, (gated_hi m c t ⟨256 + (x 0).val, _⟩ (x 1)).symm,
    (gated_lo m c t ⟨256 + (x 0).val, _⟩ (x 1)).symm]

end Cert.KernelIdeal.MixGrad

end
-- ==== Proof.MixGrad.Value.lean ====
module

public import proofs.«01_k».proof.Proof.MixGrad.Blocks
public import proofs.«01_k».proof.Proof.MixGrad.Pool
public import proofs.«01_k».proof.Proof.MixGrad.Wout
public import Idealize.ShloMosaic.Lib.Pipeline.ValueKit

@[expose] public section

set_option maxRecDepth 16384

noncomputable section

/-! The three arrays the call accumulates over its eight points are the reference's three gradients. -/

namespace Cert.KernelIdeal.MixGrad

open Idealize.ShloMosaic Idealize.ShloMosaic.TcCoe Idealize.SL.Sem
open Idealize.ShloMosaic.Pipeline (Dat)
open Cert.KernelIdeal Cert.KernelIdeal.Gen Cert.MixGrad
open scoped BigOperators

/-- A sum over the points and the rows of their tiles is a sum over all tokens. -/
theorem point_sum (f : Fin 2 → Fin 2048 → EReal) : (∑ t : Fin cfg0.N, ∑ r : Fin 512, f (sq t.val) (tk t.val r)) = ∑ q, ∑ s, f q s := by
  rw [← tokens f]
  refine Fintype.sum_equiv (finCongr (show cfg0.N = 8 from N_0)) _ _ fun t => Finset.sum_congr rfl fun r _ => ?_
  exact congrArg (fun q => f q (tk t.val r)) (Fin.ext (sq_val t))

/-- The last point. -/
theorem seven : 7 < cfg0.N := lt_of_lt_of_eq (by decide) (show cfg0.N = 8 from N_0).symm

/-- What is started afresh at the first point and added to at every other is in the end the sum over all tokens. -/
theorem summed {ι : Type} (f : (n : ℕ) → n < cfg0.N → ι → EReal) (tok : ι → Fin 2 → Fin 2048 → EReal)
    (h0 : ∀ t : Fin cfg0.N, t.val % 8 = 0 → ∀ i, f t.val t.isLt i = ∑ r, tok i (sq t.val) (tk t.val r))
    (hs : ∀ t : Fin cfg0.N, ¬t.val % 8 = 0 → ∀ i,
      f t.val t.isLt i = f (t.val - 1) (Nat.lt_of_le_of_lt (Nat.sub_le _ _) t.isLt) i + ∑ r, tok i (sq t.val) (tk t.val r)) (i : ι) :
    f 7 seven i = ∑ q, ∑ s, tok i q s :=
  (Pipeline.eq_sum_fin_of_reset_step_apply_last f 8 (fun _ => (0 : EReal)) (fun t i => ∑ r, tok i (sq t.val) (tk t.val r))
    (fun t h i => (h0 t h i).trans (zero_add _).symm) hs (le_of_eq N_0) ⟨7, seven⟩ N_0.symm i).trans ((zero_add _).trans (point_sum (tok i)))

variable (m : (ℓ : Loc nD τ sig) → Buf (Elt Ideal) ℓ)

theorem first_of (t : Fin cfg0.N) (h : t.val % 8 = 0) : t.val % 4 = 0 := by omega

section
variable (c : Dev nD) (D : FVec Ideal S2x2048x4x128 .f32) (H Z O : FVec Ideal S2x2048x512 .f32)

/-- The tokens' terms, from the whole arrays. -/
def pwTok (H : FVec Ideal S2x2048x512 .f32) (i j : Fin 512) (q : Fin 2) (s : Fin 2048) : EReal :=
  pwTerm (fun l => H (ix3 q s l)) (fun l => m ((c : Thread nD τ).loc main_arg8) (ix1 l : S512.Idx)) (fun l => m ((c : Thread nD τ).loc main_arg9) (ix1 l : S512.Idx))
    (fun e => m ((c : Thread nD τ).loc main_arg0) (ix3 q s e : S2x2048x1024.Idx)) (fun e => m ((c : Thread nD τ).loc main_arg2) (ix2 ⟨512 + j, by omega⟩ e : S1024x1024.Idx))
    (m ((c : Thread nD τ).loc main_arg1) (ix3 q s ⟨2048 + j, by omega⟩ : S2x2048x2560.Idx)) i
def poolTok (D : FVec Ideal S2x2048x4x128 .f32) (a : Fin 4) (i j : Fin 128) (q : Fin 2) (s : Fin 2048) : EReal :=
  poolTerm (D (ix4 q s a i)) (fun e => m ((c : Thread nD τ).loc main_arg0) (ix3 q s e : S2x2048x1024.Idx))
    (fun e => m ((c : Thread nD τ).loc main_arg2) (ix2 ⟨a * 128 + j, by omega⟩ e : S1024x1024.Idx))
    (m ((c : Thread nD τ).loc main_arg1) (ix3 q s ⟨512 + (a * 128 + j), by omega⟩ : S2x2048x2560.Idx)) (m ((c : Thread nD τ).loc main_arg5) (ix1 ⟨a * 128 + j, by omega⟩ : S512.Idx))
def woutTok (Z O : FVec Ideal S2x2048x512 .f32) (i j : Fin 1024) (q : Fin 2) (s : Fin 2048) : EReal :=
  Cert.ReferenceIdeal.MixGrad.yy Z O (m ((c : Thread nD τ).loc main_arg1)) (m ((c : Thread nD τ).loc main_arg5)) (ix3 q s i)
    * m ((c : Thread nD τ).loc main_arg0) (ix3 q s j : S2x2048x1024.Idx)

theorem pwRow_eq (hH : V m c main_v96 = H) (t : Fin cfg0.N) (i j r : Fin 512) : pwRow m c t i j r = pwTok m c H i j (sq t.val) (tk t.val r) := by
  unfold pwRow pwTok
  simp only [h_at m c t r _ hH, gain_at, shift_at, dh_at, w_at, proj_at]

theorem poolRow_eq (hD : V m c main_v59 = D) (t : Fin cfg0.N) (a : Fin 4) (i j : Fin 128) (r : Fin 512) :
    poolRow m c t (lane a i) (lane a j) r = poolTok m c D a i j (sq t.val) (tk t.val r) := by
  unfold poolRow poolTok lane
  simp only [d_at m c t r a i hD, scale_at, dh_at, w_at, proj_at]

theorem gated_eq (hZ : V m c main_v65 = Z) (hO : V m c main_v131 = O) (t : Fin cfg0.N) (i : Fin 1024) (r : Fin 512) :
    gated m c t (ix2 r i) = Cert.ReferenceIdeal.MixGrad.yy Z O (m ((c : Thread nD τ).loc main_arg1)) (m ((c : Thread nD τ).loc main_arg5)) (ix3 (sq t.val) (tk t.val r) i) := by
  by_cases h : i.val < 512
  · refine (gated_lo m c t r ⟨i.val, h⟩).trans (Eq.trans ?_ (Cert.ReferenceIdeal.MixGrad.yy_lo Z O _ _ (sq t.val) (tk t.val r) ⟨i.val, h⟩).symm)
    unfold gatedLo
    simp only [z_at m c t r _ hZ, scale_at, proj_at]
  · obtain ⟨k, hk⟩ : ∃ k : Fin 512, i = ⟨512 + k.val, by omega⟩ := ⟨⟨i.val - 512, by omega⟩, Fin.ext (show i.val = 512 + (i.val - 512) by omega)⟩
    rw [hk]
    refine (gated_hi m c t r k).trans (Eq.trans ?_ (Cert.ReferenceIdeal.MixGrad.yy_hi Z O _ _ (sq t.val) (tk t.val r) k).symm)
    unfold gatedHi
    simp only [o_at m c t r _ hO, proj_at]

end

/-- The three accumulated arrays after a point. -/
def accPw (c : Dev nD) (n : ℕ) (h : n < cfg0.N) : S512x512.Idx → EReal := (outsAt0 m c n h).2.2.1
def accPool (c : Dev nD) (n : ℕ) (h : n < cfg0.N) : S4x128x128.Idx → EReal := (outsAt0 m c n h).2.2.2.1
def accWout (c : Dev nD) (n : ℕ) (h : n < cfg0.N) : S1024x1024.Idx → EReal := (outsAt0 m c n h).2.1

theorem accPw_sum (c : Dev nD) (H : FVec Ideal S2x2048x512 .f32) (hH : V m c main_v96 = H) (j : S512x512.Idx) :
    accPw m c 7 seven j = ∑ q, ∑ s, pwTok m c H (j 0) (j 1) q s := by
  have e : ∀ (t : Fin cfg0.N) (j : S512x512.Idx), (∑ r, pwRow m c t (j 0) (j 1) r) = ∑ r, pwTok m c H (j 0) (j 1) (sq t.val) (tk t.val r) :=
    fun t j => Finset.sum_congr rfl fun r _ => pwRow_eq m c H hH t (j 0) (j 1) r
  refine summed (accPw m c) (fun j => pwTok m c H (j 0) (j 1)) (fun t h j => (pw_A m c t (first_of t h) h j).trans (e t j)) (fun t h j => ?_) j
  by_cases h0 : t.val % 4 = 0
  · exact (pw_C m c t h0 h j).trans (congrArg (accPw m c (t.val - 1) _ j + ·) (e t j))
  · exact (pw_B m c t h0 h j).trans (congrArg (accPw m c (t.val - 1) _ j + ·) (e t j))

theorem accPool_sum (c : Dev nD) (D : FVec Ideal S2x2048x4x128 .f32) (hD : V m c main_v59 = D) (j : S4x128x128.Idx) :
    accPool m c 7 seven j = ∑ q, ∑ s, poolTok m c D (j 0) (j 1) (j 2) q s := by
  have e : ∀ (t : Fin cfg0.N) (j : S4x128x128.Idx), (∑ r, poolRow m c t (lane (j 0) (j 1)) (lane (j 0) (j 2)) r) = ∑ r, poolTok m c D (j 0) (j 1) (j 2) (sq t.val) (tk t.val r) :=
    fun t j => Finset.sum_congr rfl fun r _ => poolRow_eq m c D hD t (j 0) (j 1) (j 2) r
  refine summed (accPool m c) (fun j => poolTok m c D (j 0) (j 1) (j 2)) (fun t h j => (pool_A m c t (first_of t h) h j).trans ((zero_add (M := EReal) _).trans (e t j))) (fun t h j => ?_) j
  by_cases h0 : t.val % 4 = 0
  · exact (pool_C m c t h0 h j).trans (congrArg (accPool m c (t.val - 1) _ j + ·) (e t j))
  · exact (pool_B m c t h0 h j).trans (congrArg (accPool m c (t.val - 1) _ j + ·) (e t j))

theorem accWout_sum (c : Dev nD) (Z O : FVec Ideal S2x2048x512 .f32) (hZ : V m c main_v65 = Z) (hO : V m c main_v131 = O) (j : S1024x1024.Idx) :
    accWout m c 7 seven j = ∑ q, ∑ s, woutTok m c Z O (j 0) (j 1) q s := by
  have e : ∀ (t : Fin cfg0.N) (j : S1024x1024.Idx), (∑ r, gated m c t (ix2 r (j 0)) * bDh m c t (ix3 0 r (j 1))) = ∑ r, woutTok m c Z O (j 0) (j 1) (sq t.val) (tk t.val r) :=
    fun t j => Finset.sum_congr rfl fun r _ => congrArg₂ (fun a b : EReal => a * b) (gated_eq m c Z O hZ hO t (j 0) r) (dh_at m c t r (j 1))
  refine summed (accWout m c) (fun j => woutTok m c Z O (j 0) (j 1)) (fun t h j => (wout_A m c t (first_of t h) h j).trans (e t j)) (fun t h j => ?_) j
  by_cases h0 : t.val % 4 = 0
  · exact (wout_C m c t h0 h j).trans (congrArg (accWout m c (t.val - 1) _ j + ·) (e t j))
  · exact (wout_B m c t h0 h j).trans (congrArg (accWout m c (t.val - 1) _ j + ·) (e t j))

/-- The pointwise convolution's gradient, -/
theorem pw_final (c : Dev nD) (H : FVec Ideal S2x2048x512 .f32) (hH : V m c main_v96 = H) : (dats m 0 c).arrAt 15 cfg0.N
    = Cert.ReferenceIdeal.MixGrad.gPw H (m ((c : Thread nD τ).loc main_arg0)) (m ((c : Thread nD τ).loc main_arg1)) (m ((c : Thread nD τ).loc main_arg2)) (m ((c : Thread nD τ).loc main_arg8)) (m ((c : Thread nD τ).loc main_arg9)) := by
  refine (dats m 0 c).arrAt_eq_of_after_last 15 (⟨7, by decide +kernel⟩ : Fin grid0.N) (by decide +kernel) _ fun j => ?_
  obtain ⟨i, k, rfl⟩ : ∃ (i k : Fin 512), j = (ix2 i k : S512x512.Idx) := ⟨j 0, j 1, funext fun a => by match a with | ⟨0, _⟩ => rfl | ⟨1, _⟩ => rfl⟩
  rw [after0_15]
  refine Eq.trans ?_ (show Cert.ReferenceIdeal.MixGrad.gPw H (m ((c : Thread nD τ).loc main_arg0)) (m ((c : Thread nD τ).loc main_arg1)) (m ((c : Thread nD τ).loc main_arg2)) (m ((c : Thread nD τ).loc main_arg8)) (m ((c : Thread nD τ).loc main_arg9)) (ix2 i k : S512x512.Idx) = _ from rfl)
  exact (accPw_sum m c H hH (ix2 i k)).trans (Cert.ReferenceIdeal.MixGrad.gPw_at H _ _ _ _ _ i k).symm

/-- the pooling mixer's, -/
theorem pool_final (c : Dev nD) (D : FVec Ideal S2x2048x4x128 .f32) (hD : V m c main_v59 = D) : (dats m 0 c).arrAt 16 cfg0.N
    = Cert.ReferenceIdeal.MixGrad.gPool D (m ((c : Thread nD τ).loc main_arg0)) (m ((c : Thread nD τ).loc main_arg1)) (m ((c : Thread nD τ).loc main_arg2)) (m ((c : Thread nD τ).loc main_arg5)) := by
  refine (dats m 0 c).arrAt_eq_of_after_last 16 (⟨7, by decide +kernel⟩ : Fin grid0.N) (by decide +kernel) _ fun j => ?_
  obtain ⟨a, i, k, rfl⟩ : ∃ (a : Fin 4) (i k : Fin 128), j = (ix3 a i k : S4x128x128.Idx) := ⟨j 0, j 1, j 2, funext fun a => by match a with | ⟨0, _⟩ => rfl | ⟨1, _⟩ => rfl | ⟨2, _⟩ => rfl⟩
  rw [after0_16]
  refine Eq.trans ?_ (show Cert.ReferenceIdeal.MixGrad.gPool D (m ((c : Thread nD τ).loc main_arg0)) (m ((c : Thread nD τ).loc main_arg1)) (m ((c : Thread nD τ).loc main_arg2)) (m ((c : Thread nD τ).loc main_arg5)) (ix3 a i k : S4x128x128.Idx) = _ from rfl)
  exact (accPool_sum m c D hD (ix3 a i k)).trans (Cert.ReferenceIdeal.MixGrad.gPool_at D _ _ _ _ a i k).symm

/-- and the output projection's. -/
theorem wout_final (c : Dev nD) (Z O : FVec Ideal S2x2048x512 .f32) (hZ : V m c main_v65 = Z) (hO : V m c main_v131 = O) : (dats m 0 c).arrAt 14 cfg0.N
    = Cert.ReferenceIdeal.MixGrad.gWout Z O (m ((c : Thread nD τ).loc main_arg0)) (m ((c : Thread nD τ).loc main_arg1)) (m ((c : Thread nD τ).loc main_arg5)) := by
  refine (dats m 0 c).arrAt_eq_of_after_last 14 (⟨7, by decide +kernel⟩ : Fin grid0.N) (by decide +kernel) _ fun j => ?_
  obtain ⟨i, k, rfl⟩ : ∃ (i k : Fin 1024), j = (ix2 i k : S1024x1024.Idx) := ⟨j 0, j 1, funext fun a => by match a with | ⟨0, _⟩ => rfl | ⟨1, _⟩ => rfl⟩
  rw [after0_14]
  refine Eq.trans ?_ (show Cert.ReferenceIdeal.MixGrad.gWout Z O (m ((c : Thread nD τ).loc main_arg0)) (m ((c : Thread nD τ).loc main_arg1)) (m ((c : Thread nD τ).loc main_arg5)) (ix2 i k : S1024x1024.Idx) = _ from rfl)
  exact (accWout_sum m c Z O hZ hO (ix2 i k)).trans (Cert.ReferenceIdeal.MixGrad.gWout_at Z O _ _ _ i k).symm

end Cert.KernelIdeal.MixGrad

end
-- ==== Proof.MixGrad.Claims.lean ====
module

public import proofs.«01_k».proof.Defs
public import proofs.«01_k».proof.Proof.Gen.Kernel
public import proofs.«01_k».proof.Proof.Gen.KernelIdeal.Value
public import proofs.«01_k».proof.Proof.Gen.ReferenceIdeal.Run
public import proofs.«01_k».proof.Proof.MixGrad.Value
public import Idealize.ShloMosaic.Adequacy
public import Idealize.ShloMosaic.Init

@[expose] public section

noncomputable section

/-! The five statements about the call that turns the gradient of the two mixers' output into the gradients of their weights. -/

namespace Cert.MixGrad

open Idealize.ShloMosaic Idealize.SL.Sem Idealize.ShloMosaic.TcCoe

attribute [local instance] Cert.Kernel.Gen.facts Cert.KernelIdeal.Gen.facts Cert.ReferenceIdeal.Gen.facts

set_option maxHeartbeats 0 in
set_option maxRecDepth 1000000 in
/-- The printed program and its ideal reading are one text: their kernel bodies agree label by label, -/
theorem bodies : Cert.Kernel.defs₀ (F := Bits) = Cert.KernelIdeal.defs₀ (F := Bits) := by
  unfold Cert.Kernel.defs₀ Cert.KernelIdeal.defs₀
  refine congrArg Defs.onTc (funext fun l => funext fun a => ?_)
  obtain ⟨n, hn⟩ := l
  cases n with
  | zero => obtain ⟨t, s⟩ := a; rfl
  | succ n => exact absurd hn (Nat.not_lt.2 (Nat.le_add_left _ _))
theorem tables : Cert.Kernel.defs (F := Bits) = Cert.KernelIdeal.defs (F := Bits) :=
  congrArg (Pipeline.defs Cert.KernelIdeal.pcfgs) bodies

set_option maxHeartbeats 0 in
set_option maxRecDepth 1000000 in
/-- so one run serves both. -/
theorem frame_kernel : Cert.quiescent_Kernel := fun m ρ _ => by
  have h := Cert.KernelIdeal.Gen.frame (F := Bits) m ρ
  rw [← tables] at h
  exact h

theorem frame_ideal : Cert.quiescent_KernelIdeal := fun m ρ _ => Cert.KernelIdeal.Gen.frame m ρ

theorem frame_reference : Cert.quiescent_ReferenceIdeal := fun m ρ _ =>
  (θ_run Cert.ReferenceIdeal.defs _ _).mono (fun r h => ⟨fun c => (h c).2.2.2, sem_eq_zero_of_no_sems (by decide) r.2⟩)
    (Cert.ReferenceIdeal.MixGrad.run m ρ)

theorem values : Cert.algebraic_KernelIdeal_ReferenceIdeal := by
  intro m g m' g' _ hm
  refine ⟨_, _, _, (θ_run Cert.KernelIdeal.defs _ _).mono (fun r h c => ⟨(h c).2.1, (h c).2.2.1, (h c).2.2.2.1, (h c).2.2.2.2.2.2⟩) (Cert.KernelIdeal.Value.run_blocks m g),
    (θ_run Cert.ReferenceIdeal.defs _ _).mono (fun r h c => ?_) (Cert.ReferenceIdeal.MixGrad.run m' g')⟩
  obtain ⟨e0, e1, e2, e3, e4, e5, e6, e7, e8, e9, e10, e11⟩ := hm c
  obtain ⟨hw, hp, hq, hk⟩ := h c
  refine ⟨hw.trans ?_, hp.trans ?_, hq.trans ?_, hk⟩
  · rw [e0, e1, e3, e4, e5, e8, e9, e10, e11]
    exact (Cert.KernelIdeal.MixGrad.wout_final m c _ _ (Cert.KernelIdeal.MixGrad.V_z m (StableHlo.launchContents m' c) c e1)
      (Cert.KernelIdeal.MixGrad.V_o m (StableHlo.launchContents m' c) c e1 e6 e7)).symm
  · rw [e0, e1, e2, e8, e9]
    exact (Cert.KernelIdeal.MixGrad.pw_final m c _ (Cert.KernelIdeal.MixGrad.V_H m (StableHlo.launchContents m' c) c e1 e6 e7)).symm
  · rw [e0, e1, e2, e5]
    exact (Cert.KernelIdeal.MixGrad.pool_final m c _ (Cert.KernelIdeal.MixGrad.V_D m (StableHlo.launchContents m' c) c e1)).symm

end Cert.MixGrad

end
-- ==== Proof.Forward.Rows.lean ====
module

public import proofs.«01_k».proof.Proof.MixGrad.Rows
public import proofs.«01_k».proof.Proof.GradIn.Row

@[expose] public section

noncomputable section

/-! One token of the forward pass, over the extended reals: the two mixers, the output projection, the loss and its gradients. -/

namespace Cert.Forward

open Idealize.ShloMosaic Cert.MixGrad
open scoped BigOperators

/-- A sequence with `p` zeros before it, at place `n`. -/
def ext (p : ℕ) (f : Fin 2048 → EReal) (n : ℕ) : EReal := if h : p ≤ n ∧ n - p < 2048 then f ⟨n - p, h.2⟩ else 0

theorem ext_eq {p p' n n' : ℕ} (f : Fin 2048 → EReal) (h : p + n' = p' + n) : ext p f n = ext p' f n' := by
  unfold ext
  by_cases h1 : p ≤ n ∧ n - p < 2048
  · have h2 : p' ≤ n' ∧ n' - p' < 2048 := by omega
    rw [dif_pos h1, dif_pos h2]
    exact congrArg f (Fin.ext (show n - p = n' - p' by omega))
  · rw [dif_neg h1, dif_neg (by omega)]

theorem ext_in (p : ℕ) (f : Fin 2048 → EReal) (s : Fin 2048) (n : ℕ) (h : n = p + s) : ext p f n = f s := by
  unfold ext
  rw [dif_pos ⟨by omega, by omega⟩]
  exact congrArg f (Fin.ext (show n - p = s by omega))

theorem ext_before (p : ℕ) (f : Fin 2048 → EReal) (n : ℕ) (h : n < p) : ext p f n = 0 := by
  unfold ext
  rw [dif_neg (by omega)]

/-- How many tokens the window of `w` holds at token `s`. -/
def cnt (w s : ℕ) : EReal := ((min (s + 1) w : ℕ) : ℝ)

/-- The window's mean less the token itself. -/
def pooled (w : ℕ) (u : Fin 2048 → EReal) (s : Fin 2048) : EReal :=
  Ideal.div (∑ j : Fin w, ext 16 u (s + 16 - j)) (cnt w s) - u s

/-- The causal convolution of 31 taps. -/
def conv (f : Fin 2048 → EReal) (dw : Fin 31 → EReal) (cb : EReal) (s : Fin 2048) : EReal :=
  (∑ k : Fin 31, ext 32 f (s + 2 + k) * dw k) + cb

/-- The layer's parameters. -/
structure Pars where
  pw : Fin 4 → Fin 128 → Fin 128 → EReal
  pb : Fin 512 → EReal
  ps : Fin 512 → EReal
  dw : Fin 31 → Fin 512 → EReal
  cb : Fin 512 → EReal
  lg : Fin 512 → EReal
  lb : Fin 512 → EReal
  ww : Fin 512 → Fin 512 → EReal
  wb : Fin 512 → EReal
  wo : Fin 1024 → Fin 1024 → EReal
  fg : Fin 1024 → EReal

/-- The windows of the four groups. -/
def width (g : Fin 4) : ℕ := 2 ^ (g.val + 1)

/-- Lane `i` of group `a`. -/
def lane (a : Fin 4) (i : Fin 128) : Fin 512 := ⟨a * 128 + i, by omega⟩

variable (K : Pars) (P : Fin 2048 → Fin 2560 → EReal)

/-- The pooling mixer's linear map, -/
def zTok (s : Fin 2048) (g : Fin 4) (j : Fin 128) : EReal :=
  (∑ i : Fin 128, pooled (width g) (fun s => P s ⟨lane g i, by have := (lane g i).isLt; omega⟩) s * K.pw g i j) + K.pb (lane g j)
/-- the convolution mixer's input and its convolution, -/
def glu (l : Fin 512) (s : Fin 2048) : EReal := P s ⟨1024 + l, by omega⟩ * Ideal.logistic (P s ⟨1536 + l, by omega⟩)
def cTok (s : Fin 2048) (l : Fin 512) : EReal := conv (glu P l) (fun k => K.dw k l) (K.cb l) s
/-- and its linear map. -/
def oTok (s : Fin 2048) (j : Fin 512) : EReal :=
  (∑ i : Fin 512, swish (normed (cTok K P s) K.lg K.lb i) * K.ww i j) + K.wb j
/-- The gated outputs of the two. -/
def loTok (s : Fin 2048) (g : Fin 4) (j : Fin 128) : EReal :=
  zTok K P s g j * K.ps (lane g j) * swish (P s ⟨512 + lane g j, by have := (lane g j).isLt; omega⟩)
def hiTok (s : Fin 2048) (j : Fin 512) : EReal := oTok K P s j * swish (P s ⟨2048 + j, by omega⟩)
def yTok (s : Fin 2048) (e : Fin 1024) : EReal :=
  if h : e.val < 512 then loTok K P s ⟨e / 128, by omega⟩ ⟨e % 128, by omega⟩ else hiTok K P s ⟨e - 512, by omega⟩

theorem yTok_lo (s : Fin 2048) (g : Fin 4) (j : Fin 128) (e : Fin 1024) (h : e.val = g * 128 + j) : yTok K P s e = loTok K P s g j := by
  unfold yTok
  rw [dif_pos (by omega)]
  congr 1 <;> apply Fin.ext <;> simp only [] <;> omega
theorem yTok_hi (s : Fin 2048) (j : Fin 512) (e : Fin 1024) (h : e.val = 512 + j) : yTok K P s e = hiTok K P s j := by
  unfold yTok
  rw [dif_neg (by omega)]
  congr 1; apply Fin.ext; simp only []; omega

/-- The residual stream after the layer. -/
def hTok (x : Fin 1024 → EReal) (s : Fin 2048) (e : Fin 1024) : EReal := x e + ∑ l : Fin 1024, yTok K P s l * K.wo l e

/-- The reciprocal root of the mean square of a row, -/
def rms (X : Fin 1024 → EReal) : EReal :=
  Ideal.rsqrt (Ideal.div (∑ x, X x * X x) (Ideal.ofBits .f32 1149239296#32) + Ideal.ofBits .f32 897988541#32)
/-- the error of the normalised row, -/
def err (X fg tgt : Fin 1024 → EReal) (k : Fin 1024) : EReal := X k * rms X * fg k - tgt k
/-- the gradient of the output, -/
def dout (X fg tgt : Fin 1024 → EReal) (k : Fin 1024) : EReal := err X fg tgt k * Ideal.ofBits .f32 0x3A800000#32
/-- and of the residual stream. -/
def dhTok (X fg tgt : Fin 1024 → EReal) (k : Fin 1024) : EReal :=
  rms X * (dout X fg tgt k * fg k - X k * rms X * Ideal.div (∑ x, dout X fg tgt x * fg x * (X x * rms X)) (Ideal.ofBits .f32 1149239296#32))

theorem lit_inv : Ideal.ofBits .f32 0x3A800000#32 = ((1 / 1024 : ℝ) : EReal) := by
  simp [Ideal.ofBits, Ideal.ieee, -EReal.coe_mul]; norm_num
theorem lit_halfinv : Ideal.ofBits .f32 0x3A000000#32 = ((1 / 2048 : ℝ) : EReal) := by
  simp [Ideal.ofBits, Ideal.ieee, -EReal.coe_mul]; norm_num
theorem lit_h : Ideal.ofBits .f32 0x3F000000#32 = ((1 / 2 : ℝ) : EReal) := by
  simp [Ideal.ofBits, Ideal.ieee, -EReal.coe_mul]; norm_num
theorem lit_two : Ideal.ofBits .f32 0x40000000#32 = ((2 : ℝ) : EReal) := by
  simp [Ideal.ofBits, Ideal.ieee, -EReal.coe_mul]; norm_num

/-- The gradient of the output as the chain rule writes it. -/
theorem dout_eq (X fg tgt : Fin 1024 → EReal) (k : Fin 1024) :
    Ideal.div (Ideal.ofBits .f32 0x3F000000#32) (Ideal.ofBits .f32 0x44800000#32) * (Ideal.ofBits .f32 0x40000000#32 * err X fg tgt k) = dout X fg tgt k := by
  unfold dout
  rw [show Ideal.ofBits .f32 0x44800000#32 = _ from Cert.Kernel2Ideal.GradIn.lit_n, lit_h, lit_two, lit_inv, Cert.Kernel2Ideal.GradIn.div_coe _ _ (by norm_num), ← mul_assoc,
    ← EReal.coe_mul, ← EReal.coe_mul, mul_comm]
  congr 2; norm_num

/-- The gradient of the residual stream as the chain rule writes it. -/
theorem dhTok_eq (X fg tgt : Fin 1024 → EReal) (k : Fin 1024) (Q : EReal)
    (hQ : Q = Ideal.div ((∑ x, X x * (dout X fg tgt x * fg x)) * (Ideal.ofBits .f32 3204448256#32
          * Ideal.div (rms X) (Ideal.div (∑ x, X x * X x) (Ideal.ofBits .f32 1149239296#32) + Ideal.ofBits .f32 897988541#32))) (Ideal.ofBits .f32 1149239296#32)) :
    dout X fg tgt k * fg k * rms X + X k * Q + Q * X k = dhTok X fg tgt k := by
  have h := Cert.Kernel2Ideal.GradIn.row X (fun x => dout X fg tgt x * fg x) 0 k
  rw [zero_add, zero_add] at h
  rw [hQ]
  exact h.symm

/-- The loss: the halved mean squares, summed as one or token by token. -/
theorem loss_eq {ι κ : Type} [Fintype ι] [Fintype κ] (E : ι → κ → EReal) :
    Ideal.ofBits .f32 0x3F000000#32 * (∑ i, Ideal.div (∑ k, E i k * E i k) (Ideal.ofBits .f32 0x44800000#32))
      = ∑ i, (∑ k, E i k * E i k) * Ideal.ofBits .f32 0x3A000000#32 := by
  rw [lit_h, show Ideal.ofBits .f32 0x44800000#32 = _ from Cert.Kernel2Ideal.GradIn.lit_n, lit_halfinv, Cert.Kernel2Ideal.GradIn.real_mul_sum _ (by norm_num)]
  refine Finset.sum_congr rfl fun i _ => ?_
  rw [Cert.Kernel2Ideal.GradIn.div_coe _ _ (by norm_num), mul_comm, mul_assoc, ← EReal.coe_mul]
  congr 2; norm_num

theorem mul_real_sum {ι : Type} [Fintype ι] (f : ι → EReal) : (∑ i, f i) * Ideal.ofBits .f32 0x3A000000#32 = ∑ i, f i * Ideal.ofBits .f32 0x3A000000#32 := by
  rw [lit_halfinv, mul_comm, Cert.Kernel2Ideal.GradIn.real_mul_sum _ (by norm_num)]
  exact Finset.sum_congr rfl fun i _ => mul_comm _ _

/-- The windows' sums, doubled up or token by token. -/
theorem tree2 (a : ℕ → EReal) : a 0 + a 1 = ∑ j : Fin 2, a j := by simp [Fin.sum_univ_succ]
theorem tree4 (a : ℕ → EReal) : (a 0 + a 1) + (a 2 + a 3) = ∑ j : Fin 4, a j := by
  simp [Fin.sum_univ_succ]; ac_rfl
theorem tree8 (a : ℕ → EReal) : ((a 0 + a 1) + (a 2 + a 3)) + ((a 4 + a 5) + (a 6 + a 7)) = ∑ j : Fin 8, a j := by
  simp [Fin.sum_univ_succ]; ac_rfl
theorem tree16 (a : ℕ → EReal) : (((a 0 + a 1) + (a 2 + a 3)) + ((a 4 + a 5) + (a 6 + a 7))) + (((a 8 + a 9) + (a 10 + a 11)) + ((a 12 + a 13) + (a 14 + a 15))) = ∑ j : Fin 16, a j := by
  simp [Fin.sum_univ_succ]; ac_rfl
theorem line4 (a : ℕ → EReal) : a 0 + a 1 + a 2 + a 3 = ∑ j : Fin 4, a j := by
  simp [Fin.sum_univ_succ]; ac_rfl
theorem line8 (a : ℕ → EReal) : a 0 + a 1 + a 2 + a 3 + a 4 + a 5 + a 6 + a 7 = ∑ j : Fin 8, a j := by
  simp [Fin.sum_univ_succ]; ac_rfl
theorem line16 (a : ℕ → EReal) : a 0 + a 1 + a 2 + a 3 + a 4 + a 5 + a 6 + a 7 + a 8 + a 9 + a 10 + a 11 + a 12 + a 13 + a 14 + a 15 = ∑ j : Fin 16, a j := by
  simp [Fin.sum_univ_succ]; ac_rfl

/-- The convolution's taps, in order or gathered by their place in a row of eight. -/
theorem taps_line (a : Fin 31 → EReal) (b : EReal) : a 0 + a 1 + a 2 + a 3 + a 4 + a 5 + a 6 + a 7 + a 8 + a 9 + a 10 + a 11 + a 12 + a 13 + a 14 + a 15
    + a 16 + a 17 + a 18 + a 19 + a 20 + a 21 + a 22 + a 23 + a 24 + a 25 + a 26 + a 27 + a 28 + a 29 + a 30 + b = (∑ k : Fin 31, a k) + b := by
  simp only [Fin.sum_univ_succ, Finset.univ_eq_empty, Finset.sum_empty, add_zero]
  simp only [← add_assoc]
  rfl
theorem taps_tree (a : Fin 31 → EReal) (b : EReal) : b + (a 6 + a 14 + a 22 + a 30) + (a 7 + a 15 + a 23) + (a 0 + a 8 + a 16 + a 24) + (a 1 + a 9 + a 17 + a 25)
    + (a 2 + a 10 + a 18 + a 26) + (a 3 + a 11 + a 19 + a 27) + (a 4 + a 12 + a 20 + a 28) + (a 5 + a 13 + a 21 + a 29) = (∑ k : Fin 31, a k) + b := by
  rw [← taps_line]; ac_rfl

/-- The window's token count, as the host writes it. -/
theorem cnt_word (w s : ℕ) (hw : w ≤ 16) (hs : s < 2048) :
    (FloatOps.sitofp FTy.f32 (IntOp.minsi (IntOp.addi (BitVec.ofNat 32 s) 1#32) (BitVec.ofNat 32 w)) : Ideal .f32) = cnt w s := by
  have t : ∀ n : ℕ, n < 4096 → (BitVec.ofNat 32 n).toInt = n := fun n hn => by
    rw [BitVec.toInt_eq_toNat_of_lt (by rw [BitVec.toNat_ofNat]; omega), BitVec.toNat_ofNat, Nat.mod_eq_of_lt (by omega)]
  have e : IntOp.addi (BitVec.ofNat 32 s) 1#32 = BitVec.ofNat 32 (s + 1) := by
    show BitVec.ofNat 32 s + BitVec.ofNat 32 1 = _
    rw [BitVec.ofNat_add]
  have h : (IntOp.minsi (IntOp.addi (BitVec.ofNat 32 s) 1#32) (BitVec.ofNat 32 w)) = BitVec.ofNat 32 (min (s + 1) w) := by
    rw [e]
    unfold IntOp.minsi
    rw [BitVec.slt_eq_decide, t _ (by omega), t _ (by omega)]
    simp only [decide_eq_true_eq]
    split_ifs with h <;> congr 1 <;> omega
  rw [h]
  show ((((BitVec.ofNat 32 (min (s + 1) w)).toInt : ℝ)) : EReal) = _
  rw [t _ (by omega)]
  rfl

end Cert.Forward

end
-- ==== Proof.Forward.Blocks.lean ====
module

public import proofs.«01_k».proof.Proof.Forward.Rows
public import proofs.«01_k».proof.Proof.Gen.Kernel3Ideal.Frame
public import Idealize.ShloMosaic.Lib.Pipeline.ValueKit
public import Idealize.ShloMosaic.Lib.StableHlo.RunRead

@[expose] public section

set_option maxRecDepth 16384
set_option maxHeartbeats 400000

noncomputable section

/-! What the blocks of a grid point hold: a tile of 512 tokens of one sequence, or a whole parameter. -/

namespace Cert.Kernel3Ideal.Forward

open Idealize.ShloMosaic Idealize.ShloMosaic.TcCoe Idealize.SL.Sem
open Idealize.ShloMosaic.Pipeline (Dat)
open Cert.Kernel3Ideal Cert.Kernel3Ideal.Gen Cert.MixGrad Cert.Forward
open scoped BigOperators

variable (m : (ℓ : Loc nD τ sig) → Buf (Elt Ideal) ℓ)

theorem idx : ∀ t : Fin cfg0.N, (win0_0.index t = ![t.val / 4, t.val % 4, 0] ∧ win0_1.index t = ![t.val / 4, t.val % 4, 0]
    ∧ win0_2.index t = ![t.val / 4, t.val % 4, 0]) ∧ win0_3.index t = ![0, 0, 0] ∧ win0_4.index t = ![0, 0] ∧ win0_5.index t = ![0, 0]
    ∧ win0_6.index t = ![0, 0] ∧ win0_7.index t = ![0, 0] ∧ win0_8.index t = ![0, 0] ∧ win0_9.index t = ![0, 0] ∧ win0_10.index t = ![0, 0]
    ∧ win0_11.index t = ![0, 0] ∧ win0_12.index t = ![0, 0] ∧ win0_13.index t = ![0, 0] ∧ win0_18.index t = ![t.val / 4, t.val % 4, 0] := (by decide +kernel : ∀ t : Fin grid0.N, _)
theorem coord : ∀ t : Fin grid0.N, (grid0.coords t 1).val = t.val % 4 := (by decide +kernel : ∀ t : Fin grid0.N, _)

theorem lt8 (t : Fin cfg0.N) : t.val < 8 := lt_of_lt_of_eq t.isLt (show cfg0.N = 8 from N_0)

/-- The sequence of a point, and the place of row `r` of its tile in it. -/
def sq (t : ℕ) : Fin 2 := ⟨t / 4 % 2, Nat.mod_lt _ (by decide)⟩
def tk (t : ℕ) (r : Fin 512) : Fin 2048 := ⟨512 * (t % 4) + r, by omega⟩

theorem sq_val (t : Fin cfg0.N) : (sq t.val).val = t.val / 4 := by
  have := lt8 t
  exact Nat.mod_eq_of_lt (by omega)

/-- An element of a point's tile is its place in the whole array. -/
theorem tile_ext {n : ℕ} (t : Fin cfg0.N) (r : Fin 512) (x : Fin n) (y : Shape.Idx ⟨3, ![2, 2048, n]⟩) (h0 : (y 0).val = t.val / 4)
    (h1 : (y 1).val = t.val % 4 * 512 + r.val) (h2 : (y 2).val = x.val) : y = ix3 (sq t.val) (tk t.val r) x := by
  funext a; apply Fin.ext
  match a with
  | ⟨0, _⟩ => exact h0.trans (sq_val t).symm
  | ⟨1, _⟩ => exact h1.trans (by rw [mul_comm]; rfl)
  | ⟨2, _⟩ => exact h2

/-- The layer's parameters, the projection and the input of sequence `q`, and the targets, from the call's arguments. -/
def K (c : Dev nD) : Pars where
  pw a i j := m ((c : Thread nD τ).loc main_arg3) (ix3 a i j : S4x128x128.Idx)
  pb l := m ((c : Thread nD τ).loc main_arg4) (ix2 ⟨l / 128, by omega⟩ ⟨l % 128, by omega⟩ : S4x128.Idx)
  ps l := m ((c : Thread nD τ).loc main_arg5) (ix1 l : S512.Idx)
  dw k l := m ((c : Thread nD τ).loc main_arg6) (ix2 k l : S31x512.Idx)
  cb l := m ((c : Thread nD τ).loc main_arg7) (ix1 l : S512.Idx)
  lg l := m ((c : Thread nD τ).loc main_arg8) (ix1 l : S512.Idx)
  lb l := m ((c : Thread nD τ).loc main_arg9) (ix1 l : S512.Idx)
  ww i j := m ((c : Thread nD τ).loc main_arg10) (ix2 i j : S512x512.Idx)
  wb l := m ((c : Thread nD τ).loc main_arg11) (ix1 l : S512.Idx)
  wo i j := m ((c : Thread nD τ).loc main_arg12) (ix2 i j : S1024x1024.Idx)
  fg l := m ((c : Thread nD τ).loc main_arg13) (ix1 l : S1024.Idx)
def P (c : Dev nD) (q : Fin 2) (s : Fin 2048) (e : Fin 2560) : EReal := m ((c : Thread nD τ).loc main_arg2) (ix3 q s e : S2x2048x2560.Idx)
def X0 (c : Dev nD) (q : Fin 2) (s : Fin 2048) (e : Fin 1024) : EReal := m ((c : Thread nD τ).loc main_arg0) (ix3 q s e : S2x2048x1024.Idx)
def T0 (c : Dev nD) (q : Fin 2) (s : Fin 2048) (e : Fin 1024) : EReal := m ((c : Thread nD τ).loc main_arg1) (ix3 q s e : S2x2048x1024.Idx)

theorem V_arg0 (c : Dev nD) : V m c main_arg0 = m ((c : Thread nD τ).loc main_arg0) := by
  show StableHlo.after hostOps0 (fun b => m (c, b)) main_arg0 = _
  after_reads_simp
theorem V_arg1 (c : Dev nD) : V m c main_arg1 = m ((c : Thread nD τ).loc main_arg1) := by
  show StableHlo.after hostOps0 (fun b => m (c, b)) main_arg1 = _
  after_reads_simp
theorem V_arg2 (c : Dev nD) : V m c main_arg2 = m ((c : Thread nD τ).loc main_arg2) := by
  show StableHlo.after hostOps0 (fun b => m (c, b)) main_arg2 = _
  after_reads_simp
theorem V_arg3 (c : Dev nD) : V m c main_arg3 = m ((c : Thread nD τ).loc main_arg3) := by
  show StableHlo.after hostOps0 (fun b => m (c, b)) main_arg3 = _
  after_reads_simp
theorem V_arg6 (c : Dev nD) : V m c main_arg6 = m ((c : Thread nD τ).loc main_arg6) := by
  show StableHlo.after hostOps0 (fun b => m (c, b)) main_arg6 = _
  after_reads_simp
theorem V_v2 (c : Dev nD) : V m c main_v2 = (shapeCast S1x512 (show FVec Ideal S4x128 .f32 from m ((c : Thread nD τ).loc main_arg4)) shapeCasts_S4x128_S1x512 : FVec Ideal S1x512 .f32) := by
  show StableHlo.after hostOps0 (fun b => m (c, b)) main_v2 = _
  after_reads_simp
  rfl
theorem V_v3 (c : Dev nD) : V m c main_v3 = (shapeCast S1x512 (show FVec Ideal S512 .f32 from m ((c : Thread nD τ).loc main_arg5)) shapeCasts_S512_S1x512 : FVec Ideal S1x512 .f32) := by
  show StableHlo.after hostOps0 (fun b => m (c, b)) main_v3 = _
  after_reads_simp
  rfl
theorem V_v4 (c : Dev nD) : V m c main_v4 = (shapeCast S1x512 (show FVec Ideal S512 .f32 from m ((c : Thread nD τ).loc main_arg7)) shapeCasts_S512_S1x512 : FVec Ideal S1x512 .f32) := by
  show StableHlo.after hostOps0 (fun b => m (c, b)) main_v4 = _
  after_reads_simp
  rfl
theorem V_v5 (c : Dev nD) : V m c main_v5 = (shapeCast S1x512 (show FVec Ideal S512 .f32 from m ((c : Thread nD τ).loc main_arg8)) shapeCasts_S512_S1x512 : FVec Ideal S1x512 .f32) := by
  show StableHlo.after hostOps0 (fun b => m (c, b)) main_v5 = _
  after_reads_simp
  rfl
theorem V_v6 (c : Dev nD) : V m c main_v6 = (shapeCast S1x512 (show FVec Ideal S512 .f32 from m ((c : Thread nD τ).loc main_arg9)) shapeCasts_S512_S1x512 : FVec Ideal S1x512 .f32) := by
  show StableHlo.after hostOps0 (fun b => m (c, b)) main_v6 = _
  after_reads_simp
  rfl
theorem V_v7 (c : Dev nD) : V m c main_v7 = (shapeCast S1x512 (show FVec Ideal S512 .f32 from m ((c : Thread nD τ).loc main_arg11)) shapeCasts_S512_S1x512 : FVec Ideal S1x512 .f32) := by
  show StableHlo.after hostOps0 (fun b => m (c, b)) main_v7 = _
  after_reads_simp
  rfl
theorem V_v8 (c : Dev nD) : V m c main_v8 = (shapeCast S1x1024 (show FVec Ideal S1024 .f32 from m ((c : Thread nD τ).loc main_arg13)) shapeCasts_S1024_S1x1024 : FVec Ideal S1x1024 .f32) := by
  show StableHlo.after hostOps0 (fun b => m (c, b)) main_v8 = _
  after_reads_simp
  rfl
theorem V_v0 (c : Dev nD) : V m c main_v0 = (truncf .bf16 (show FVec Ideal S512x512 .f32 from m ((c : Thread nD τ).loc main_arg10)) bitsLt_bf16_f32 : FVec Ideal S512x512 .bf16) := by
  show StableHlo.after hostOps0 (fun b => m (c, b)) main_v0 = _
  after_reads_simp
theorem V_v1 (c : Dev nD) : V m c main_v1 = (truncf .bf16 (show FVec Ideal S1024x1024 .f32 from m ((c : Thread nD τ).loc main_arg12)) bitsLt_bf16_f32 : FVec Ideal S1024x1024 .bf16) := by
  show StableHlo.after hostOps0 (fun b => m (c, b)) main_v1 = _
  after_reads_simp
theorem x_at (c : Dev nD) (t : Fin cfg0.N) (r : Fin 512) (x : Fin 1024) : iblk m c 0 t (ix3 0 r x : S1x512x1024.Idx) = X0 m c (sq t.val) (tk t.val r) x :=
  (congrArg (V m c main_arg0) (tile_ext t r x (((View.whole main_arg0).slice (win0_0.rect t)).emb (ix3 0 r x)) (by blk_simp [idx t]; rfl) (by blk_simp [idx t]) (by blk_simp [idx t]))).trans (congrFun (V_arg0 m c) _)
theorem tgt_at (c : Dev nD) (t : Fin cfg0.N) (r : Fin 512) (x : Fin 1024) : iblk m c 1 t (ix3 0 r x : S1x512x1024.Idx) = T0 m c (sq t.val) (tk t.val r) x :=
  (congrArg (V m c main_arg1) (tile_ext t r x (((View.whole main_arg1).slice (win0_1.rect t)).emb (ix3 0 r x)) (by blk_simp [idx t]; rfl) (by blk_simp [idx t]) (by blk_simp [idx t]))).trans (congrFun (V_arg1 m c) _)
theorem proj_at (c : Dev nD) (t : Fin cfg0.N) (r : Fin 512) (x : Fin 2560) : iblk m c 2 t (ix3 0 r x : S1x512x2560.Idx) = P m c (sq t.val) (tk t.val r) x :=
  (congrArg (V m c main_arg2) (tile_ext t r x (((View.whole main_arg2).slice (win0_2.rect t)).emb (ix3 0 r x)) (by blk_simp [idx t]; rfl) (by blk_simp [idx t]) (by blk_simp [idx t]))).trans (congrFun (V_arg2 m c) _)
theorem pw_at (c : Dev nD) (t : Fin cfg0.N) (g : Fin 4) (i j : Fin 128) : iblk m c 3 t (ix3 g i j : S4x128x128.Idx) = (K m c).pw g i j := by
  have e : ((View.whole main_arg3).slice (win0_3.rect t)).emb (ix3 g i j) = (ix3 g i j : S4x128x128.Idx) := by blk_ext [idx t]
  exact (congrArg (V m c main_arg3) e).trans (congrFun (V_arg3 m c) _)
theorem dw_at (c : Dev nD) (t : Fin cfg0.N) (k : Fin 31) (l : Fin 512) : iblk m c 6 t (ix2 k l : S31x512.Idx) = (K m c).dw k l := by
  have e : ((View.whole main_arg6).slice (win0_6.rect t)).emb (ix2 k l) = (ix2 k l : S31x512.Idx) := by blk_ext [idx t]
  exact (congrArg (V m c main_arg6) e).trans (congrFun (V_arg6 m c) _)
theorem ww_at (c : Dev nD) (t : Fin cfg0.N) (i j : Fin 512) : (iblk m c 10 t (ix2 i j : S512x512.Idx) : EReal) = (K m c).ww i j := by
  have e : ((View.whole main_v0).slice (win0_10.rect t)).emb (ix2 i j) = (ix2 i j : S512x512.Idx) := by blk_ext [idx t]
  refine (congrArg (V m c main_v0) e).trans ((congrFun (V_v0 m c) _).trans ?_)
  pointwise
  rfl
theorem wo_at (c : Dev nD) (t : Fin cfg0.N) (i j : Fin 1024) : (iblk m c 12 t (ix2 i j : S1024x1024.Idx) : EReal) = (K m c).wo i j := by
  have e : ((View.whole main_v1).slice (win0_12.rect t)).emb (ix2 i j) = (ix2 i j : S1024x1024.Idx) := by blk_ext [idx t]
  refine (congrArg (V m c main_v1) e).trans ((congrFun (V_v1 m c) _).trans ?_)
  pointwise
  rfl
theorem pb_at (c : Dev nD) (t : Fin cfg0.N) (l : Fin 512) : iblk m c 4 t (ix2 0 l : S1x512.Idx) = (K m c).pb l := by
  have e : ((View.whole main_v2).slice (win0_4.rect t)).emb (ix2 0 l) = (ix2 0 l : S1x512.Idx) := by blk_ext [idx t]
  refine (congrArg (V m c main_v2) e).trans ((congrFun (V_v2 m c) _).trans ?_)
  pointwise
  rfl
theorem ps_at (c : Dev nD) (t : Fin cfg0.N) (l : Fin 512) : iblk m c 5 t (ix2 0 l : S1x512.Idx) = (K m c).ps l := by
  have e : ((View.whole main_v3).slice (win0_5.rect t)).emb (ix2 0 l) = (ix2 0 l : S1x512.Idx) := by blk_ext [idx t]
  refine (congrArg (V m c main_v3) e).trans ((congrFun (V_v3 m c) _).trans ?_)
  pointwise
  rfl
theorem cb_at (c : Dev nD) (t : Fin cfg0.N) (l : Fin 512) : iblk m c 7 t (ix2 0 l : S1x512.Idx) = (K m c).cb l := by
  have e : ((View.whole main_v4).slice (win0_7.rect t)).emb (ix2 0 l) = (ix2 0 l : S1x512.Idx) := by blk_ext [idx t]
  refine (congrArg (V m c main_v4) e).trans ((congrFun (V_v4 m c) _).trans ?_)
  pointwise
  rfl
theorem lg_at (c : Dev nD) (t : Fin cfg0.N) (l : Fin 512) : iblk m c 8 t (ix2 0 l : S1x512.Idx) = (K m c).lg l := by
  have e : ((View.whole main_v5).slice (win0_8.rect t)).emb (ix2 0 l) = (ix2 0 l : S1x512.Idx) := by blk_ext [idx t]
  refine (congrArg (V m c main_v5) e).trans ((congrFun (V_v5 m c) _).trans ?_)
  pointwise
  rfl
theorem lb_at (c : Dev nD) (t : Fin cfg0.N) (l : Fin 512) : iblk m c 9 t (ix2 0 l : S1x512.Idx) = (K m c).lb l := by
  have e : ((View.whole main_v6).slice (win0_9.rect t)).emb (ix2 0 l) = (ix2 0 l : S1x512.Idx) := by blk_ext [idx t]
  refine (congrArg (V m c main_v6) e).trans ((congrFun (V_v6 m c) _).trans ?_)
  pointwise
  rfl
theorem wb_at (c : Dev nD) (t : Fin cfg0.N) (l : Fin 512) : iblk m c 11 t (ix2 0 l : S1x512.Idx) = (K m c).wb l := by
  have e : ((View.whole main_v7).slice (win0_11.rect t)).emb (ix2 0 l) = (ix2 0 l : S1x512.Idx) := by blk_ext [idx t]
  refine (congrArg (V m c main_v7) e).trans ((congrFun (V_v7 m c) _).trans ?_)
  pointwise
  rfl
theorem fg_at (c : Dev nD) (t : Fin cfg0.N) (l : Fin 1024) : iblk m c 13 t (ix2 0 l : S1x1024.Idx) = (K m c).fg l := by
  have e : ((View.whole main_v8).slice (win0_13.rect t)).emb (ix2 0 l) = (ix2 0 l : S1x1024.Idx) := by blk_ext [idx t]
  refine (congrArg (V m c main_v8) e).trans ((congrFun (V_v8 m c) _).trans ?_)
  pointwise
  rfl

end Cert.Kernel3Ideal.Forward

end
-- ==== Proof.Forward.Pieces.lean ====
module

public import proofs.«01_k».proof.Proof.Gen.Kernel3Ideal.Skeleton
public import proofs.«01_k».proof.Proof.Forward.Rows
public import Idealize.ShloMosaic.Lib.Pipeline.ValueKit
public import Idealize.ShloMosaic.Lib.Pipeline.ReadBack
public import Idealize.ShloMosaic.Lib.KernelVsHost

@[expose] public section

set_option maxRecDepth 1000000
set_option maxHeartbeats 4000000

noncomputable section

/-! The two arrays a tile is stored into piece by piece: the convolution's output and the concatenated mixers. -/

namespace Cert.Kernel3Ideal.Forward

open Idealize.ShloMosaic Idealize.ShloMosaic.TcCoe Idealize.SL.Sem
open Cert.Kernel3Ideal Cert.Kernel3Ideal.Gen Cert.MixGrad Cert.Forward
open scoped BigOperators

/-- One group of lanes of what the tile stores. -/
def conv3 (X : Vec Ideal S552x512 .f32) (b6 : Vec Ideal S31x512 .f32) (b7 : Vec Ideal S1x512 .f32) : Vec Ideal S1x512x128 .f32 :=
  k0_pay81
      (k0_pay79
      (k0_pay77
      (k0_pay75
      (k0_pay73
      (k0_pay71 (View.ld (Val := Elt Ideal) b7 (Rect.unit ![0, 384] ![1, 128] inb_S1x512_S1x128_0_384)) (View.ld (Val := Elt Ideal) X (Rect.unit ![8, 384] ![520, 128] inb_S552x512_S520x128_8_384)) (View.ld (Val := Elt Ideal) b6 (Rect.unit ![6, 384] ![1, 128] inb_S31x512_S1x128_6_384)) (View.ld (Val := Elt Ideal) X (Rect.unit ![16, 384] ![520, 128] inb_S552x512_S520x128_16_384)) (View.ld (Val := Elt Ideal) b6 (Rect.unit ![14, 384] ![1, 128] inb_S31x512_S1x128_14_384)) (View.ld (Val := Elt Ideal) X (Rect.unit ![24, 384] ![520, 128] inb_S552x512_S520x128_24_384)) (View.ld (Val := Elt Ideal) b6 (Rect.unit ![22, 384] ![1, 128] inb_S31x512_S1x128_22_384)) (View.ld (Val := Elt Ideal) X (Rect.unit ![32, 384] ![520, 128] inb_S552x512_S520x128_32_384)) (View.ld (Val := Elt Ideal) b6 (Rect.unit ![30, 384] ![1, 128] inb_S31x512_S1x128_30_384))) k0_pay72 (View.ld (Val := Elt Ideal) X (Rect.unit ![8, 384] ![520, 128] inb_S552x512_S520x128_8_384)) (View.ld (Val := Elt Ideal) b6 (Rect.unit ![7, 384] ![1, 128] inb_S31x512_S1x128_7_384)) (View.ld (Val := Elt Ideal) X (Rect.unit ![16, 384] ![520, 128] inb_S552x512_S520x128_16_384)) (View.ld (Val := Elt Ideal) b6 (Rect.unit ![15, 384] ![1, 128] inb_S31x512_S1x128_15_384)) (View.ld (Val := Elt Ideal) X (Rect.unit ![24, 384] ![520, 128] inb_S552x512_S520x128_24_384)) (View.ld (Val := Elt Ideal) b6 (Rect.unit ![23, 384] ![1, 128] inb_S31x512_S1x128_23_384)))
      (k0_pay74 (View.ld (Val := Elt Ideal) X (Rect.unit ![0, 384] ![520, 128] inb_S552x512_S520x128_0_384)) (View.ld (Val := Elt Ideal) b6 (Rect.unit ![0, 384] ![1, 128] inb_S31x512_S1x128_0_384)) (View.ld (Val := Elt Ideal) X (Rect.unit ![8, 384] ![520, 128] inb_S552x512_S520x128_8_384)) (View.ld (Val := Elt Ideal) b6 (Rect.unit ![8, 384] ![1, 128] inb_S31x512_S1x128_8_384)) (View.ld (Val := Elt Ideal) X (Rect.unit ![16, 384] ![520, 128] inb_S552x512_S520x128_16_384)) (View.ld (Val := Elt Ideal) b6 (Rect.unit ![16, 384] ![1, 128] inb_S31x512_S1x128_16_384))) (View.ld (Val := Elt Ideal) X (Rect.unit ![24, 384] ![520, 128] inb_S552x512_S520x128_24_384)) (View.ld (Val := Elt Ideal) b6 (Rect.unit ![24, 384] ![1, 128] inb_S31x512_S1x128_24_384)) (View.ld (Val := Elt Ideal) X (Rect.unit ![0, 384] ![520, 128] inb_S552x512_S520x128_0_384)) (View.ld (Val := Elt Ideal) b6 (Rect.unit ![1, 384] ![1, 128] inb_S31x512_S1x128_1_384)) (View.ld (Val := Elt Ideal) X (Rect.unit ![8, 384] ![520, 128] inb_S552x512_S520x128_8_384)) (View.ld (Val := Elt Ideal) b6 (Rect.unit ![9, 384] ![1, 128] inb_S31x512_S1x128_9_384)) (View.ld (Val := Elt Ideal) X (Rect.unit ![16, 384] ![520, 128] inb_S552x512_S520x128_16_384)) (View.ld (Val := Elt Ideal) b6 (Rect.unit ![17, 384] ![1, 128] inb_S31x512_S1x128_17_384)) (View.ld (Val := Elt Ideal) X (Rect.unit ![24, 384] ![520, 128] inb_S552x512_S520x128_24_384)) (View.ld (Val := Elt Ideal) b6 (Rect.unit ![25, 384] ![1, 128] inb_S31x512_S1x128_25_384)))
      (k0_pay76 (View.ld (Val := Elt Ideal) X (Rect.unit ![0, 384] ![520, 128] inb_S552x512_S520x128_0_384)) (View.ld (Val := Elt Ideal) b6 (Rect.unit ![2, 384] ![1, 128] inb_S31x512_S1x128_2_384))) (View.ld (Val := Elt Ideal) X (Rect.unit ![8, 384] ![520, 128] inb_S552x512_S520x128_8_384)) (View.ld (Val := Elt Ideal) b6 (Rect.unit ![10, 384] ![1, 128] inb_S31x512_S1x128_10_384)) (View.ld (Val := Elt Ideal) X (Rect.unit ![16, 384] ![520, 128] inb_S552x512_S520x128_16_384)) (View.ld (Val := Elt Ideal) b6 (Rect.unit ![18, 384] ![1, 128] inb_S31x512_S1x128_18_384)) (View.ld (Val := Elt Ideal) X (Rect.unit ![24, 384] ![520, 128] inb_S552x512_S520x128_24_384)) (View.ld (Val := Elt Ideal) b6 (Rect.unit ![26, 384] ![1, 128] inb_S31x512_S1x128_26_384)))
      (k0_pay78 (View.ld (Val := Elt Ideal) X (Rect.unit ![0, 384] ![520, 128] inb_S552x512_S520x128_0_384)) (View.ld (Val := Elt Ideal) b6 (Rect.unit ![3, 384] ![1, 128] inb_S31x512_S1x128_3_384)) (View.ld (Val := Elt Ideal) X (Rect.unit ![8, 384] ![520, 128] inb_S552x512_S520x128_8_384)) (View.ld (Val := Elt Ideal) b6 (Rect.unit ![11, 384] ![1, 128] inb_S31x512_S1x128_11_384)) (View.ld (Val := Elt Ideal) X (Rect.unit ![16, 384] ![520, 128] inb_S552x512_S520x128_16_384)) (View.ld (Val := Elt Ideal) b6 (Rect.unit ![19, 384] ![1, 128] inb_S31x512_S1x128_19_384))) (View.ld (Val := Elt Ideal) X (Rect.unit ![24, 384] ![520, 128] inb_S552x512_S520x128_24_384)) (View.ld (Val := Elt Ideal) b6 (Rect.unit ![27, 384] ![1, 128] inb_S31x512_S1x128_27_384)) (View.ld (Val := Elt Ideal) X (Rect.unit ![0, 384] ![520, 128] inb_S552x512_S520x128_0_384)) (View.ld (Val := Elt Ideal) b6 (Rect.unit ![4, 384] ![1, 128] inb_S31x512_S1x128_4_384)) (View.ld (Val := Elt Ideal) X (Rect.unit ![8, 384] ![520, 128] inb_S552x512_S520x128_8_384)) (View.ld (Val := Elt Ideal) b6 (Rect.unit ![12, 384] ![1, 128] inb_S31x512_S1x128_12_384)) (View.ld (Val := Elt Ideal) X (Rect.unit ![16, 384] ![520, 128] inb_S552x512_S520x128_16_384)) (View.ld (Val := Elt Ideal) b6 (Rect.unit ![20, 384] ![1, 128] inb_S31x512_S1x128_20_384)) (View.ld (Val := Elt Ideal) X (Rect.unit ![24, 384] ![520, 128] inb_S552x512_S520x128_24_384)) (View.ld (Val := Elt Ideal) b6 (Rect.unit ![28, 384] ![1, 128] inb_S31x512_S1x128_28_384)))
      (k0_pay80 (View.ld (Val := Elt Ideal) X (Rect.unit ![0, 384] ![520, 128] inb_S552x512_S520x128_0_384)) (View.ld (Val := Elt Ideal) b6 (Rect.unit ![5, 384] ![1, 128] inb_S31x512_S1x128_5_384))) (View.ld (Val := Elt Ideal) X (Rect.unit ![8, 384] ![520, 128] inb_S552x512_S520x128_8_384)) (View.ld (Val := Elt Ideal) b6 (Rect.unit ![13, 384] ![1, 128] inb_S31x512_S1x128_13_384)) (View.ld (Val := Elt Ideal) X (Rect.unit ![16, 384] ![520, 128] inb_S552x512_S520x128_16_384)) (View.ld (Val := Elt Ideal) b6 (Rect.unit ![21, 384] ![1, 128] inb_S31x512_S1x128_21_384)) (View.ld (Val := Elt Ideal) X (Rect.unit ![24, 384] ![520, 128] inb_S552x512_S520x128_24_384)) (View.ld (Val := Elt Ideal) b6 (Rect.unit ![29, 384] ![1, 128] inb_S31x512_S1x128_29_384))
/-- One group of lanes of what the tile stores. -/
def conv2 (X : Vec Ideal S552x512 .f32) (b6 : Vec Ideal S31x512 .f32) (b7 : Vec Ideal S1x512 .f32) : Vec Ideal S1x512x128 .f32 :=
  k0_pay70
      (k0_pay69
      (k0_pay67
      (k0_pay66
      (k0_pay64
      (k0_pay63
      (k0_pay61 (View.ld (Val := Elt Ideal) b7 (Rect.unit ![0, 256] ![1, 128] inb_S1x512_S1x128_0_256)))
      (k0_pay62 (View.ld (Val := Elt Ideal) X (Rect.unit ![8, 256] ![520, 128] inb_S552x512_S520x128_8_256)) (View.ld (Val := Elt Ideal) b6 (Rect.unit ![6, 256] ![1, 128] inb_S31x512_S1x128_6_256))) (View.ld (Val := Elt Ideal) X (Rect.unit ![16, 256] ![520, 128] inb_S552x512_S520x128_16_256)) (View.ld (Val := Elt Ideal) b6 (Rect.unit ![14, 256] ![1, 128] inb_S31x512_S1x128_14_256)) (View.ld (Val := Elt Ideal) X (Rect.unit ![24, 256] ![520, 128] inb_S552x512_S520x128_24_256)) (View.ld (Val := Elt Ideal) b6 (Rect.unit ![22, 256] ![1, 128] inb_S31x512_S1x128_22_256)) (View.ld (Val := Elt Ideal) X (Rect.unit ![32, 256] ![520, 128] inb_S552x512_S520x128_32_256)) (View.ld (Val := Elt Ideal) b6 (Rect.unit ![30, 256] ![1, 128] inb_S31x512_S1x128_30_256)) (View.ld (Val := Elt Ideal) X (Rect.unit ![8, 256] ![520, 128] inb_S552x512_S520x128_8_256)) (View.ld (Val := Elt Ideal) b6 (Rect.unit ![7, 256] ![1, 128] inb_S31x512_S1x128_7_256)) (View.ld (Val := Elt Ideal) X (Rect.unit ![16, 256] ![520, 128] inb_S552x512_S520x128_16_256)) (View.ld (Val := Elt Ideal) b6 (Rect.unit ![15, 256] ![1, 128] inb_S31x512_S1x128_15_256)) (View.ld (Val := Elt Ideal) X (Rect.unit ![24, 256] ![520, 128] inb_S552x512_S520x128_24_256)) (View.ld (Val := Elt Ideal) b6 (Rect.unit ![23, 256] ![1, 128] inb_S31x512_S1x128_23_256))) (View.ld (Val := Elt Ideal) X (Rect.unit ![0, 256] ![520, 128] inb_S552x512_S520x128_0_256)) (View.ld (Val := Elt Ideal) b6 (Rect.unit ![0, 256] ![1, 128] inb_S31x512_S1x128_0_256)) (View.ld (Val := Elt Ideal) X (Rect.unit ![8, 256] ![520, 128] inb_S552x512_S520x128_8_256)) (View.ld (Val := Elt Ideal) b6 (Rect.unit ![8, 256] ![1, 128] inb_S31x512_S1x128_8_256)) (View.ld (Val := Elt Ideal) X (Rect.unit ![16, 256] ![520, 128] inb_S552x512_S520x128_16_256)) (View.ld (Val := Elt Ideal) b6 (Rect.unit ![16, 256] ![1, 128] inb_S31x512_S1x128_16_256)) (View.ld (Val := Elt Ideal) X (Rect.unit ![24, 256] ![520, 128] inb_S552x512_S520x128_24_256)) (View.ld (Val := Elt Ideal) b6 (Rect.unit ![24, 256] ![1, 128] inb_S31x512_S1x128_24_256)))
      (k0_pay65 (View.ld (Val := Elt Ideal) X (Rect.unit ![0, 256] ![520, 128] inb_S552x512_S520x128_0_256)) (View.ld (Val := Elt Ideal) b6 (Rect.unit ![1, 256] ![1, 128] inb_S31x512_S1x128_1_256)) (View.ld (Val := Elt Ideal) X (Rect.unit ![8, 256] ![520, 128] inb_S552x512_S520x128_8_256)) (View.ld (Val := Elt Ideal) b6 (Rect.unit ![9, 256] ![1, 128] inb_S31x512_S1x128_9_256))) (View.ld (Val := Elt Ideal) X (Rect.unit ![16, 256] ![520, 128] inb_S552x512_S520x128_16_256)) (View.ld (Val := Elt Ideal) b6 (Rect.unit ![17, 256] ![1, 128] inb_S31x512_S1x128_17_256)) (View.ld (Val := Elt Ideal) X (Rect.unit ![24, 256] ![520, 128] inb_S552x512_S520x128_24_256)) (View.ld (Val := Elt Ideal) b6 (Rect.unit ![25, 256] ![1, 128] inb_S31x512_S1x128_25_256)) (View.ld (Val := Elt Ideal) X (Rect.unit ![0, 256] ![520, 128] inb_S552x512_S520x128_0_256)) (View.ld (Val := Elt Ideal) b6 (Rect.unit ![2, 256] ![1, 128] inb_S31x512_S1x128_2_256)) (View.ld (Val := Elt Ideal) X (Rect.unit ![8, 256] ![520, 128] inb_S552x512_S520x128_8_256)) (View.ld (Val := Elt Ideal) b6 (Rect.unit ![10, 256] ![1, 128] inb_S31x512_S1x128_10_256)) (View.ld (Val := Elt Ideal) X (Rect.unit ![16, 256] ![520, 128] inb_S552x512_S520x128_16_256)) (View.ld (Val := Elt Ideal) b6 (Rect.unit ![18, 256] ![1, 128] inb_S31x512_S1x128_18_256)) (View.ld (Val := Elt Ideal) X (Rect.unit ![24, 256] ![520, 128] inb_S552x512_S520x128_24_256)) (View.ld (Val := Elt Ideal) b6 (Rect.unit ![26, 256] ![1, 128] inb_S31x512_S1x128_26_256))) (View.ld (Val := Elt Ideal) X (Rect.unit ![0, 256] ![520, 128] inb_S552x512_S520x128_0_256)) (View.ld (Val := Elt Ideal) b6 (Rect.unit ![3, 256] ![1, 128] inb_S31x512_S1x128_3_256)) (View.ld (Val := Elt Ideal) X (Rect.unit ![8, 256] ![520, 128] inb_S552x512_S520x128_8_256)) (View.ld (Val := Elt Ideal) b6 (Rect.unit ![11, 256] ![1, 128] inb_S31x512_S1x128_11_256)) (View.ld (Val := Elt Ideal) X (Rect.unit ![16, 256] ![520, 128] inb_S552x512_S520x128_16_256)) (View.ld (Val := Elt Ideal) b6 (Rect.unit ![19, 256] ![1, 128] inb_S31x512_S1x128_19_256)) (View.ld (Val := Elt Ideal) X (Rect.unit ![24, 256] ![520, 128] inb_S552x512_S520x128_24_256)) (View.ld (Val := Elt Ideal) b6 (Rect.unit ![27, 256] ![1, 128] inb_S31x512_S1x128_27_256)))
      (k0_pay68 (View.ld (Val := Elt Ideal) X (Rect.unit ![0, 256] ![520, 128] inb_S552x512_S520x128_0_256)) (View.ld (Val := Elt Ideal) b6 (Rect.unit ![4, 256] ![1, 128] inb_S31x512_S1x128_4_256)) (View.ld (Val := Elt Ideal) X (Rect.unit ![8, 256] ![520, 128] inb_S552x512_S520x128_8_256)) (View.ld (Val := Elt Ideal) b6 (Rect.unit ![12, 256] ![1, 128] inb_S31x512_S1x128_12_256))) (View.ld (Val := Elt Ideal) X (Rect.unit ![16, 256] ![520, 128] inb_S552x512_S520x128_16_256)) (View.ld (Val := Elt Ideal) b6 (Rect.unit ![20, 256] ![1, 128] inb_S31x512_S1x128_20_256)) (View.ld (Val := Elt Ideal) X (Rect.unit ![24, 256] ![520, 128] inb_S552x512_S520x128_24_256)) (View.ld (Val := Elt Ideal) b6 (Rect.unit ![28, 256] ![1, 128] inb_S31x512_S1x128_28_256)) (View.ld (Val := Elt Ideal) X (Rect.unit ![0, 256] ![520, 128] inb_S552x512_S520x128_0_256)) (View.ld (Val := Elt Ideal) b6 (Rect.unit ![5, 256] ![1, 128] inb_S31x512_S1x128_5_256)) (View.ld (Val := Elt Ideal) X (Rect.unit ![8, 256] ![520, 128] inb_S552x512_S520x128_8_256)) (View.ld (Val := Elt Ideal) b6 (Rect.unit ![13, 256] ![1, 128] inb_S31x512_S1x128_13_256)) (View.ld (Val := Elt Ideal) X (Rect.unit ![16, 256] ![520, 128] inb_S552x512_S520x128_16_256)) (View.ld (Val := Elt Ideal) b6 (Rect.unit ![21, 256] ![1, 128] inb_S31x512_S1x128_21_256)) (View.ld (Val := Elt Ideal) X (Rect.unit ![24, 256] ![520, 128] inb_S552x512_S520x128_24_256)) (View.ld (Val := Elt Ideal) b6 (Rect.unit ![29, 256] ![1, 128] inb_S31x512_S1x128_29_256)))
/-- One group of lanes of what the tile stores. -/
def conv1 (X : Vec Ideal S552x512 .f32) (b6 : Vec Ideal S31x512 .f32) (b7 : Vec Ideal S1x512 .f32) : Vec Ideal S1x512x128 .f32 :=
  k0_pay60
      (k0_pay58
      (k0_pay56
      (k0_pay54
      (k0_pay52
      (k0_pay49 (View.ld (Val := Elt Ideal) b7 (Rect.unit ![0, 128] ![1, 128] inb_S1x512_S1x128_0_128)))
      (k0_pay50 (View.ld (Val := Elt Ideal) X (Rect.unit ![8, 128] ![520, 128] inb_S552x512_S520x128_8_128)) (View.ld (Val := Elt Ideal) b6 (Rect.unit ![6, 128] ![1, 128] inb_S31x512_S1x128_6_128)) (View.ld (Val := Elt Ideal) X (Rect.unit ![16, 128] ![520, 128] inb_S552x512_S520x128_16_128)) (View.ld (Val := Elt Ideal) b6 (Rect.unit ![14, 128] ![1, 128] inb_S31x512_S1x128_14_128)) (View.ld (Val := Elt Ideal) X (Rect.unit ![24, 128] ![520, 128] inb_S552x512_S520x128_24_128)) (View.ld (Val := Elt Ideal) b6 (Rect.unit ![22, 128] ![1, 128] inb_S31x512_S1x128_22_128)))
      (k0_pay51 (View.ld (Val := Elt Ideal) X (Rect.unit ![32, 128] ![520, 128] inb_S552x512_S520x128_32_128)) (View.ld (Val := Elt Ideal) b6 (Rect.unit ![30, 128] ![1, 128] inb_S31x512_S1x128_30_128))) (View.ld (Val := Elt Ideal) X (Rect.unit ![8, 128] ![520, 128] inb_S552x512_S520x128_8_128)) (View.ld (Val := Elt Ideal) b6 (Rect.unit ![7, 128] ![1, 128] inb_S31x512_S1x128_7_128)) (View.ld (Val := Elt Ideal) X (Rect.unit ![16, 128] ![520, 128] inb_S552x512_S520x128_16_128)) (View.ld (Val := Elt Ideal) b6 (Rect.unit ![15, 128] ![1, 128] inb_S31x512_S1x128_15_128)) (View.ld (Val := Elt Ideal) X (Rect.unit ![24, 128] ![520, 128] inb_S552x512_S520x128_24_128)) (View.ld (Val := Elt Ideal) b6 (Rect.unit ![23, 128] ![1, 128] inb_S31x512_S1x128_23_128)))
      (k0_pay53 (View.ld (Val := Elt Ideal) X (Rect.unit ![0, 128] ![520, 128] inb_S552x512_S520x128_0_128)) (View.ld (Val := Elt Ideal) b6 (Rect.unit ![0, 128] ![1, 128] inb_S31x512_S1x128_0_128)) (View.ld (Val := Elt Ideal) X (Rect.unit ![8, 128] ![520, 128] inb_S552x512_S520x128_8_128)) (View.ld (Val := Elt Ideal) b6 (Rect.unit ![8, 128] ![1, 128] inb_S31x512_S1x128_8_128))) (View.ld (Val := Elt Ideal) X (Rect.unit ![16, 128] ![520, 128] inb_S552x512_S520x128_16_128)) (View.ld (Val := Elt Ideal) b6 (Rect.unit ![16, 128] ![1, 128] inb_S31x512_S1x128_16_128)) (View.ld (Val := Elt Ideal) X (Rect.unit ![24, 128] ![520, 128] inb_S552x512_S520x128_24_128)) (View.ld (Val := Elt Ideal) b6 (Rect.unit ![24, 128] ![1, 128] inb_S31x512_S1x128_24_128)) (View.ld (Val := Elt Ideal) X (Rect.unit ![0, 128] ![520, 128] inb_S552x512_S520x128_0_128)) (View.ld (Val := Elt Ideal) b6 (Rect.unit ![1, 128] ![1, 128] inb_S31x512_S1x128_1_128)) (View.ld (Val := Elt Ideal) X (Rect.unit ![8, 128] ![520, 128] inb_S552x512_S520x128_8_128)) (View.ld (Val := Elt Ideal) b6 (Rect.unit ![9, 128] ![1, 128] inb_S31x512_S1x128_9_128)) (View.ld (Val := Elt Ideal) X (Rect.unit ![16, 128] ![520, 128] inb_S552x512_S520x128_16_128)) (View.ld (Val := Elt Ideal) b6 (Rect.unit ![17, 128] ![1, 128] inb_S31x512_S1x128_17_128)) (View.ld (Val := Elt Ideal) X (Rect.unit ![24, 128] ![520, 128] inb_S552x512_S520x128_24_128)) (View.ld (Val := Elt Ideal) b6 (Rect.unit ![25, 128] ![1, 128] inb_S31x512_S1x128_25_128))) k0_pay55 (View.ld (Val := Elt Ideal) X (Rect.unit ![0, 128] ![520, 128] inb_S552x512_S520x128_0_128)) (View.ld (Val := Elt Ideal) b6 (Rect.unit ![2, 128] ![1, 128] inb_S31x512_S1x128_2_128)) (View.ld (Val := Elt Ideal) X (Rect.unit ![8, 128] ![520, 128] inb_S552x512_S520x128_8_128)) (View.ld (Val := Elt Ideal) b6 (Rect.unit ![10, 128] ![1, 128] inb_S31x512_S1x128_10_128)) (View.ld (Val := Elt Ideal) X (Rect.unit ![16, 128] ![520, 128] inb_S552x512_S520x128_16_128)) (View.ld (Val := Elt Ideal) b6 (Rect.unit ![18, 128] ![1, 128] inb_S31x512_S1x128_18_128)) (View.ld (Val := Elt Ideal) X (Rect.unit ![24, 128] ![520, 128] inb_S552x512_S520x128_24_128)) (View.ld (Val := Elt Ideal) b6 (Rect.unit ![26, 128] ![1, 128] inb_S31x512_S1x128_26_128)))
      (k0_pay57 (View.ld (Val := Elt Ideal) X (Rect.unit ![0, 128] ![520, 128] inb_S552x512_S520x128_0_128)) (View.ld (Val := Elt Ideal) b6 (Rect.unit ![3, 128] ![1, 128] inb_S31x512_S1x128_3_128)) (View.ld (Val := Elt Ideal) X (Rect.unit ![8, 128] ![520, 128] inb_S552x512_S520x128_8_128)) (View.ld (Val := Elt Ideal) b6 (Rect.unit ![11, 128] ![1, 128] inb_S31x512_S1x128_11_128))) (View.ld (Val := Elt Ideal) X (Rect.unit ![16, 128] ![520, 128] inb_S552x512_S520x128_16_128)) (View.ld (Val := Elt Ideal) b6 (Rect.unit ![19, 128] ![1, 128] inb_S31x512_S1x128_19_128)) (View.ld (Val := Elt Ideal) X (Rect.unit ![24, 128] ![520, 128] inb_S552x512_S520x128_24_128)) (View.ld (Val := Elt Ideal) b6 (Rect.unit ![27, 128] ![1, 128] inb_S31x512_S1x128_27_128)) (View.ld (Val := Elt Ideal) X (Rect.unit ![0, 128] ![520, 128] inb_S552x512_S520x128_0_128)) (View.ld (Val := Elt Ideal) b6 (Rect.unit ![4, 128] ![1, 128] inb_S31x512_S1x128_4_128)) (View.ld (Val := Elt Ideal) X (Rect.unit ![8, 128] ![520, 128] inb_S552x512_S520x128_8_128)) (View.ld (Val := Elt Ideal) b6 (Rect.unit ![12, 128] ![1, 128] inb_S31x512_S1x128_12_128)) (View.ld (Val := Elt Ideal) X (Rect.unit ![16, 128] ![520, 128] inb_S552x512_S520x128_16_128)) (View.ld (Val := Elt Ideal) b6 (Rect.unit ![20, 128] ![1, 128] inb_S31x512_S1x128_20_128)) (View.ld (Val := Elt Ideal) X (Rect.unit ![24, 128] ![520, 128] inb_S552x512_S520x128_24_128)) (View.ld (Val := Elt Ideal) b6 (Rect.unit ![28, 128] ![1, 128] inb_S31x512_S1x128_28_128))) k0_pay59 (View.ld (Val := Elt Ideal) X (Rect.unit ![0, 128] ![520, 128] inb_S552x512_S520x128_0_128)) (View.ld (Val := Elt Ideal) b6 (Rect.unit ![5, 128] ![1, 128] inb_S31x512_S1x128_5_128)) (View.ld (Val := Elt Ideal) X (Rect.unit ![8, 128] ![520, 128] inb_S552x512_S520x128_8_128)) (View.ld (Val := Elt Ideal) b6 (Rect.unit ![13, 128] ![1, 128] inb_S31x512_S1x128_13_128)) (View.ld (Val := Elt Ideal) X (Rect.unit ![16, 128] ![520, 128] inb_S552x512_S520x128_16_128)) (View.ld (Val := Elt Ideal) b6 (Rect.unit ![21, 128] ![1, 128] inb_S31x512_S1x128_21_128)) (View.ld (Val := Elt Ideal) X (Rect.unit ![24, 128] ![520, 128] inb_S552x512_S520x128_24_128)) (View.ld (Val := Elt Ideal) b6 (Rect.unit ![29, 128] ![1, 128] inb_S31x512_S1x128_29_128))
/-- One group of lanes of what the tile stores. -/
def conv0 (X : Vec Ideal S552x512 .f32) (b6 : Vec Ideal S31x512 .f32) (b7 : Vec Ideal S1x512 .f32) : Vec Ideal S1x512x128 .f32 :=
  k0_pay48
      (k0_pay46
      (k0_pay44
      (k0_pay42
      (k0_pay40
      (k0_pay38
      (k0_pay36 (View.ld (Val := Elt Ideal) b7 (Rect.unit ![0, 0] ![1, 128] inb_S1x512_S1x128_0_0))) k0_pay37 (View.ld (Val := Elt Ideal) X (Rect.unit ![8, 0] ![520, 128] inb_S552x512_S520x128_8_0)) (View.ld (Val := Elt Ideal) b6 (Rect.unit ![6, 0] ![1, 128] inb_S31x512_S1x128_6_0)) (View.ld (Val := Elt Ideal) X (Rect.unit ![16, 0] ![520, 128] inb_S552x512_S520x128_16_0)) (View.ld (Val := Elt Ideal) b6 (Rect.unit ![14, 0] ![1, 128] inb_S31x512_S1x128_14_0)) (View.ld (Val := Elt Ideal) X (Rect.unit ![24, 0] ![520, 128] inb_S552x512_S520x128_24_0)) (View.ld (Val := Elt Ideal) b6 (Rect.unit ![22, 0] ![1, 128] inb_S31x512_S1x128_22_0)) (View.ld (Val := Elt Ideal) X (Rect.unit ![32, 0] ![520, 128] inb_S552x512_S520x128_32_0)) (View.ld (Val := Elt Ideal) b6 (Rect.unit ![30, 0] ![1, 128] inb_S31x512_S1x128_30_0)))
      (k0_pay39 (View.ld (Val := Elt Ideal) X (Rect.unit ![8, 0] ![520, 128] inb_S552x512_S520x128_8_0)) (View.ld (Val := Elt Ideal) b6 (Rect.unit ![7, 0] ![1, 128] inb_S31x512_S1x128_7_0)) (View.ld (Val := Elt Ideal) X (Rect.unit ![16, 0] ![520, 128] inb_S552x512_S520x128_16_0)) (View.ld (Val := Elt Ideal) b6 (Rect.unit ![15, 0] ![1, 128] inb_S31x512_S1x128_15_0))) (View.ld (Val := Elt Ideal) X (Rect.unit ![24, 0] ![520, 128] inb_S552x512_S520x128_24_0)) (View.ld (Val := Elt Ideal) b6 (Rect.unit ![23, 0] ![1, 128] inb_S31x512_S1x128_23_0)) (View.ld (Val := Elt Ideal) X (Rect.unit ![0, 0] ![520, 128] inb_S552x512_S520x128_0_0)) (View.ld (Val := Elt Ideal) b6 (Rect.unit ![0, 0] ![1, 128] inb_S31x512_S1x128_0_0)) (View.ld (Val := Elt Ideal) X (Rect.unit ![8, 0] ![520, 128] inb_S552x512_S520x128_8_0)) (View.ld (Val := Elt Ideal) b6 (Rect.unit ![8, 0] ![1, 128] inb_S31x512_S1x128_8_0)) (View.ld (Val := Elt Ideal) X (Rect.unit ![16, 0] ![520, 128] inb_S552x512_S520x128_16_0)) (View.ld (Val := Elt Ideal) b6 (Rect.unit ![16, 0] ![1, 128] inb_S31x512_S1x128_16_0)) (View.ld (Val := Elt Ideal) X (Rect.unit ![24, 0] ![520, 128] inb_S552x512_S520x128_24_0)) (View.ld (Val := Elt Ideal) b6 (Rect.unit ![24, 0] ![1, 128] inb_S31x512_S1x128_24_0)))
      (k0_pay41 (View.ld (Val := Elt Ideal) X (Rect.unit ![0, 0] ![520, 128] inb_S552x512_S520x128_0_0)) (View.ld (Val := Elt Ideal) b6 (Rect.unit ![1, 0] ![1, 128] inb_S31x512_S1x128_1_0))) (View.ld (Val := Elt Ideal) X (Rect.unit ![8, 0] ![520, 128] inb_S552x512_S520x128_8_0)) (View.ld (Val := Elt Ideal) b6 (Rect.unit ![9, 0] ![1, 128] inb_S31x512_S1x128_9_0)) (View.ld (Val := Elt Ideal) X (Rect.unit ![16, 0] ![520, 128] inb_S552x512_S520x128_16_0)) (View.ld (Val := Elt Ideal) b6 (Rect.unit ![17, 0] ![1, 128] inb_S31x512_S1x128_17_0)) (View.ld (Val := Elt Ideal) X (Rect.unit ![24, 0] ![520, 128] inb_S552x512_S520x128_24_0)) (View.ld (Val := Elt Ideal) b6 (Rect.unit ![25, 0] ![1, 128] inb_S31x512_S1x128_25_0)))
      (k0_pay43 (View.ld (Val := Elt Ideal) X (Rect.unit ![0, 0] ![520, 128] inb_S552x512_S520x128_0_0)) (View.ld (Val := Elt Ideal) b6 (Rect.unit ![2, 0] ![1, 128] inb_S31x512_S1x128_2_0)) (View.ld (Val := Elt Ideal) X (Rect.unit ![8, 0] ![520, 128] inb_S552x512_S520x128_8_0)) (View.ld (Val := Elt Ideal) b6 (Rect.unit ![10, 0] ![1, 128] inb_S31x512_S1x128_10_0)) (View.ld (Val := Elt Ideal) X (Rect.unit ![16, 0] ![520, 128] inb_S552x512_S520x128_16_0)) (View.ld (Val := Elt Ideal) b6 (Rect.unit ![18, 0] ![1, 128] inb_S31x512_S1x128_18_0))) (View.ld (Val := Elt Ideal) X (Rect.unit ![24, 0] ![520, 128] inb_S552x512_S520x128_24_0)) (View.ld (Val := Elt Ideal) b6 (Rect.unit ![26, 0] ![1, 128] inb_S31x512_S1x128_26_0)) (View.ld (Val := Elt Ideal) X (Rect.unit ![0, 0] ![520, 128] inb_S552x512_S520x128_0_0)) (View.ld (Val := Elt Ideal) b6 (Rect.unit ![3, 0] ![1, 128] inb_S31x512_S1x128_3_0)) (View.ld (Val := Elt Ideal) X (Rect.unit ![8, 0] ![520, 128] inb_S552x512_S520x128_8_0)) (View.ld (Val := Elt Ideal) b6 (Rect.unit ![11, 0] ![1, 128] inb_S31x512_S1x128_11_0)) (View.ld (Val := Elt Ideal) X (Rect.unit ![16, 0] ![520, 128] inb_S552x512_S520x128_16_0)) (View.ld (Val := Elt Ideal) b6 (Rect.unit ![19, 0] ![1, 128] inb_S31x512_S1x128_19_0)) (View.ld (Val := Elt Ideal) X (Rect.unit ![24, 0] ![520, 128] inb_S552x512_S520x128_24_0)) (View.ld (Val := Elt Ideal) b6 (Rect.unit ![27, 0] ![1, 128] inb_S31x512_S1x128_27_0)))
      (k0_pay45 (View.ld (Val := Elt Ideal) X (Rect.unit ![0, 0] ![520, 128] inb_S552x512_S520x128_0_0)) (View.ld (Val := Elt Ideal) b6 (Rect.unit ![4, 0] ![1, 128] inb_S31x512_S1x128_4_0))) (View.ld (Val := Elt Ideal) X (Rect.unit ![8, 0] ![520, 128] inb_S552x512_S520x128_8_0)) (View.ld (Val := Elt Ideal) b6 (Rect.unit ![12, 0] ![1, 128] inb_S31x512_S1x128_12_0)) (View.ld (Val := Elt Ideal) X (Rect.unit ![16, 0] ![520, 128] inb_S552x512_S520x128_16_0)) (View.ld (Val := Elt Ideal) b6 (Rect.unit ![20, 0] ![1, 128] inb_S31x512_S1x128_20_0)) (View.ld (Val := Elt Ideal) X (Rect.unit ![24, 0] ![520, 128] inb_S552x512_S520x128_24_0)) (View.ld (Val := Elt Ideal) b6 (Rect.unit ![28, 0] ![1, 128] inb_S31x512_S1x128_28_0)))
      (k0_pay47 (View.ld (Val := Elt Ideal) X (Rect.unit ![0, 0] ![520, 128] inb_S552x512_S520x128_0_0)) (View.ld (Val := Elt Ideal) b6 (Rect.unit ![5, 0] ![1, 128] inb_S31x512_S1x128_5_0)) (View.ld (Val := Elt Ideal) X (Rect.unit ![8, 0] ![520, 128] inb_S552x512_S520x128_8_0)) (View.ld (Val := Elt Ideal) b6 (Rect.unit ![13, 0] ![1, 128] inb_S31x512_S1x128_13_0)) (View.ld (Val := Elt Ideal) X (Rect.unit ![16, 0] ![520, 128] inb_S552x512_S520x128_16_0)) (View.ld (Val := Elt Ideal) b6 (Rect.unit ![21, 0] ![1, 128] inb_S31x512_S1x128_21_0))) (View.ld (Val := Elt Ideal) X (Rect.unit ![24, 0] ![520, 128] inb_S552x512_S520x128_24_0)) (View.ld (Val := Elt Ideal) b6 (Rect.unit ![29, 0] ![1, 128] inb_S31x512_S1x128_29_0))

/-- The convolution's output of a tile, over the values `X` it reads, by groups of lanes. -/
def convPieces (X : Vec Ideal S552x512 .f32) (b6 : Vec Ideal S31x512 .f32) (b7 : Vec Ideal S1x512 .f32) : List (View.Piece (Elt Ideal) S1x512x512 .f32) :=
  [⟨Rect.unit ![0, 0, 384] ![1, 512, 128] inb_S1x512x512_S1x512x128_0_0_384, conv3 X b6 b7⟩,
    ⟨Rect.unit ![0, 0, 256] ![1, 512, 128] inb_S1x512x512_S1x512x128_0_0_256, conv2 X b6 b7⟩,
    ⟨Rect.unit ![0, 0, 128] ![1, 512, 128] inb_S1x512x512_S1x512x128_0_0_128, conv1 X b6 b7⟩,
    ⟨Rect.unit ![0, 0, 0] ![1, 512, 128] inb_S1x512x512_S1x512x128_0_0_0, conv0 X b6 b7⟩]

/-- One group of lanes of what the tile stores. -/
def mixHi (i : grid0.Coords) (U : Vec Ideal S528x512 .f32) (h1 : Vec Ideal S1x512x512 .f32) (bp : Vec Ideal S1x512x2560 .f32) (b3 : Vec Ideal S4x128x128 .f32)
    (b4 b5 b8 b9 : Vec Ideal S1x512 .f32) (b10 : Vec Ideal S512x512 .bf16) (b11 : Vec Ideal S1x512 .f32) : Vec Ideal S512x512 .bf16 :=
  k0_pay85
      (k0_pay82 h1) b8 b9 b10 b11 (View.ld (Val := Elt Ideal) bp (Rect.unit ![0, 0, 2048] ![1, 512, 512] inb_S1x512x2560_S1x512x512_0_0_2048))
/-- One group of lanes of what the tile stores. -/
def mix3 (i : grid0.Coords) (U : Vec Ideal S528x512 .f32) (h1 : Vec Ideal S1x512x512 .f32) (bp : Vec Ideal S1x512x2560 .f32) (b3 : Vec Ideal S4x128x128 .f32)
    (b4 b5 b8 b9 : Vec Ideal S1x512 .f32) (b10 : Vec Ideal S512x512 .bf16) (b11 : Vec Ideal S1x512 .f32) : Vec Ideal S512x128 .bf16 :=
  k0_pay34
      (k0_pay31
      (k0_pay9 i) (View.ld (Val := Elt Ideal) U (Rect.unit ![0, 384] ![528, 128] inb_S528x512_S528x128_0_384)) (View.ld (Val := Elt Ideal) b3 (Rect.unit ![3, 0, 0] ![1, 128, 128] inb_S4x128x128_S1x128x128_3_0_0))) (View.ld (Val := Elt Ideal) b4 (Rect.unit ![0, 384] ![1, 128] inb_S1x512_S1x128_0_384)) (View.ld (Val := Elt Ideal) bp (Rect.unit ![0, 0, 896] ![1, 512, 128] inb_S1x512x2560_S1x512x128_0_0_896)) (View.ld (Val := Elt Ideal) b5 (Rect.unit ![0, 384] ![1, 128] inb_S1x512_S1x128_0_384))
/-- One group of lanes of what the tile stores. -/
def mix2 (i : grid0.Coords) (U : Vec Ideal S528x512 .f32) (h1 : Vec Ideal S1x512x512 .f32) (bp : Vec Ideal S1x512x2560 .f32) (b3 : Vec Ideal S4x128x128 .f32)
    (b4 b5 b8 b9 : Vec Ideal S1x512 .f32) (b10 : Vec Ideal S512x512 .bf16) (b11 : Vec Ideal S1x512 .f32) : Vec Ideal S512x128 .bf16 :=
  k0_pay28
      (k0_pay24
      (k0_pay9 i) (View.ld (Val := Elt Ideal) U (Rect.unit ![0, 256] ![528, 128] inb_S528x512_S528x128_0_256)) (1#32) (View.ld (Val := Elt Ideal) b3 (Rect.unit ![2, 0, 0] ![1, 128, 128] inb_S4x128x128_S1x128x128_2_0_0)) (View.ld (Val := Elt Ideal) b4 (Rect.unit ![0, 256] ![1, 128] inb_S1x512_S1x128_0_256)))
      (k0_pay26 (View.ld (Val := Elt Ideal) bp (Rect.unit ![0, 0, 768] ![1, 512, 128] inb_S1x512x2560_S1x512x128_0_0_768)))
      (k0_pay27 (View.ld (Val := Elt Ideal) b5 (Rect.unit ![0, 256] ![1, 128] inb_S1x512_S1x128_0_256)))
/-- One group of lanes of what the tile stores. -/
def mix1 (i : grid0.Coords) (U : Vec Ideal S528x512 .f32) (h1 : Vec Ideal S1x512x512 .f32) (bp : Vec Ideal S1x512x2560 .f32) (b3 : Vec Ideal S4x128x128 .f32)
    (b4 b5 b8 b9 : Vec Ideal S1x512 .f32) (b10 : Vec Ideal S512x512 .bf16) (b11 : Vec Ideal S1x512 .f32) : Vec Ideal S512x128 .bf16 :=
  k0_pay21 (View.ld (Val := Elt Ideal) U (Rect.unit ![0, 128] ![528, 128] inb_S528x512_S528x128_0_128))
      (k0_pay15 (View.ld (Val := Elt Ideal) U (Rect.unit ![0, 128] ![528, 128] inb_S528x512_S528x128_0_128)))
      (k0_pay16
      (k0_pay9 i)) (FloatOps.ofBits FTy.f32 1065353216#32) (View.ld (Val := Elt Ideal) b3 (Rect.unit ![1, 0, 0] ![1, 128, 128] inb_S4x128x128_S1x128x128_1_0_0)) (View.ld (Val := Elt Ideal) b4 (Rect.unit ![0, 128] ![1, 128] inb_S1x512_S1x128_0_128)) (View.ld (Val := Elt Ideal) bp (Rect.unit ![0, 0, 640] ![1, 512, 128] inb_S1x512x2560_S1x512x128_0_0_640)) (View.ld (Val := Elt Ideal) b5 (Rect.unit ![0, 128] ![1, 128] inb_S1x512_S1x128_0_128))
/-- One group of lanes of what the tile stores. -/
def mix0 (i : grid0.Coords) (U : Vec Ideal S528x512 .f32) (h1 : Vec Ideal S1x512x512 .f32) (bp : Vec Ideal S1x512x2560 .f32) (b3 : Vec Ideal S4x128x128 .f32)
    (b4 b5 b8 b9 : Vec Ideal S1x512 .f32) (b10 : Vec Ideal S512x512 .bf16) (b11 : Vec Ideal S1x512 .f32) : Vec Ideal S512x128 .bf16 :=
  k0_pay14
      (k0_pay10 i (View.ld (Val := Elt Ideal) U (Rect.unit ![0, 0] ![528, 128] inb_S528x512_S528x128_0_0))) (View.ld (Val := Elt Ideal) b3 (Rect.unit ![0, 0, 0] ![1, 128, 128] inb_S4x128x128_S1x128x128_0_0_0)) (View.ld (Val := Elt Ideal) b4 (Rect.unit ![0, 0] ![1, 128] inb_S1x512_S1x128_0_0)) (View.ld (Val := Elt Ideal) bp (Rect.unit ![0, 0, 512] ![1, 512, 128] inb_S1x512x2560_S1x512x128_0_0_512)) (View.ld (Val := Elt Ideal) b5 (Rect.unit ![0, 0] ![1, 128] inb_S1x512_S1x128_0_0))

/-- The concatenated mixers of a tile, over the values `U` the pooling reads and the convolution's output `h1`. -/
def mixPieces (i : grid0.Coords) (U : Vec Ideal S528x512 .f32) (h1 : Vec Ideal S1x512x512 .f32) (bp : Vec Ideal S1x512x2560 .f32) (b3 : Vec Ideal S4x128x128 .f32)
    (b4 b5 b8 b9 : Vec Ideal S1x512 .f32) (b10 : Vec Ideal S512x512 .bf16) (b11 : Vec Ideal S1x512 .f32) : List (View.Piece (Elt Ideal) S512x1024 .bf16) :=
  [⟨Rect.unit ![0, 512] ![512, 512] inb_S512x1024_S512x512_0_512, mixHi i U h1 bp b3 b4 b5 b8 b9 b10 b11⟩,
    ⟨Rect.unit ![0, 384] ![512, 128] inb_S512x1024_S512x128_0_384, mix3 i U h1 bp b3 b4 b5 b8 b9 b10 b11⟩,
    ⟨Rect.unit ![0, 256] ![512, 128] inb_S512x1024_S512x128_0_256, mix2 i U h1 bp b3 b4 b5 b8 b9 b10 b11⟩,
    ⟨Rect.unit ![0, 128] ![512, 128] inb_S512x1024_S512x128_0_128, mix1 i U h1 bp b3 b4 b5 b8 b9 b10 b11⟩,
    ⟨Rect.unit ![0, 0] ![512, 128] inb_S512x1024_S512x128_0_0, mix0 i U h1 bp b3 b4 b5 b8 b9 b10 b11⟩]

end Cert.Kernel3Ideal.Forward

end
-- ==== Proof.Forward.Scr.lean ====
module

public import proofs.«01_k».proof.Proof.Forward.Pieces
public import Idealize.ShloMosaic.Lib.WritesUnit

@[expose] public section

set_option maxRecDepth 1000000
set_option maxHeartbeats 400000

noncomputable section

namespace Cert.Kernel3Ideal.Forward

open Idealize.ShloMosaic Idealize.ShloMosaic.TcCoe Idealize.SL.Sem
open Cert.Kernel3Ideal Cert.Kernel3Ideal.Gen Cert.MixGrad Cert.Forward
open scoped BigOperators

/-- What the values before the first token of a batch and the first tile's leave for the pooling, -/
def initU (bp : Vec Ideal S1x512x2560 .f32) : List (View.Piece (Elt Ideal) S528x512 .f32) :=
  [⟨Rect.unit ![16, 0] ![512, 512] inb_S528x512_S512x512_16_0, k0_pay8 (View.ld (Val := Elt Ideal) bp (Rect.unit ![0, 0, 0] ![1, 512, 512] inb_S1x512x2560_S1x512x512_0_0_0))⟩,
    ⟨Rect.unit ![0, 0] ![16, 512] inb_S528x512_S16x512_0_0, k0_pay3 (F := Ideal)⟩]
/-- and for the convolution. -/
def initX (bp : Vec Ideal S1x512x2560 .f32) : List (View.Piece (Elt Ideal) S552x512 .f32) :=
  [⟨Rect.unit ![32, 0] ![512, 512] inb_S552x512_S512x512_32_0, k0_pay35 (View.ld (Val := Elt Ideal) bp (Rect.unit ![0, 0, 1024] ![1, 512, 512] inb_S1x512x2560_S1x512x512_0_0_1024))
      (View.ld (Val := Elt Ideal) bp (Rect.unit ![0, 0, 1536] ![1, 512, 512] inb_S1x512x2560_S1x512x512_0_0_1536))⟩,
    ⟨Rect.unit ![544, 0] ![8, 512] inb_S552x512_S8x512_544_0, k0_pay5 (F := Ideal)⟩,
    ⟨Rect.unit ![0, 0] ![32, 512] inb_S552x512_S32x512_0_0, k0_pay4 (F := Ideal)⟩]

variable (bp : Vec Ideal S1x512x2560 .f32)

/-- What the convolution reads of a token. -/
def gluOf (r l : Fin 512) : EReal := (bp (ix3 0 r ⟨1024 + l, by omega⟩) : EReal) * Ideal.logistic (bp (ix3 0 r ⟨1536 + l, by omega⟩))

theorem pay8_at (r l : Fin 512) : k0_pay8 (View.ld (Val := Elt Ideal) (e' := .f32) bp (Rect.unit ![0, 0, 0] ![1, 512, 512] inb_S1x512x2560_S1x512x512_0_0_0)) (ix2 r l)
    = bp (ix3 0 r ⟨l, by omega⟩) := by
  open_payloads
  pointwise
theorem pay35_at (r l : Fin 512) : k0_pay35 (View.ld (Val := Elt Ideal) (e' := .f32) bp (Rect.unit ![0, 0, 1024] ![1, 512, 512] inb_S1x512x2560_S1x512x512_0_0_1024))
      (View.ld (Val := Elt Ideal) (e' := .f32) bp (Rect.unit ![0, 0, 1536] ![1, 512, 512] inb_S1x512x2560_S1x512x512_0_0_1536)) (ix2 r l)
    = gluOf bp r l := by
  open_payloads
  pointwise
  rfl
theorem k0_pay1_at (x : Vec Ideal S16x512 .f32) (k : Fin 16) (l : Fin 512) : k0_pay1 x (ix2 k l) = x (ix2 k l) := by
  open_payloads
  pointwise
theorem k0_pay2_at (x : Vec Ideal S32x512 .f32) (k : Fin 32) (l : Fin 512) : k0_pay2 x (ix2 k l) = x (ix2 k l) := by
  open_payloads
  pointwise
theorem pay3_at (k : Fin 16) (l : Fin 512) : (k0_pay3 (F := Ideal) (ix2 k l) : EReal) = 0 := by
  open_payloads
  pointwise
theorem pay4_at (k : Fin 32) (l : Fin 512) : (k0_pay4 (F := Ideal) (ix2 k l) : EReal) = 0 := by
  open_payloads
  pointwise

theorem tileU (f : (View.whole cc0_scratch0).ty.Contents (Elt Ideal)) (L : List (View.Piece (Elt Ideal) S528x512 .f32)) (k : Fin 528) (r l : Fin 512) (h : k.val = 16 + r) :
    View.read (Elt Ideal) (View.whole cc0_scratch0) ((View.whole cc0_scratch0).writes (Elt Ideal) f (⟨Rect.unit ![16, 0] ![512, 512] inb_S528x512_S512x512_16_0, k0_pay8 (View.ld (Val := Elt Ideal) (e' := .f32) bp (Rect.unit ![0, 0, 0] ![1, 512, 512] inb_S1x512x2560_S1x512x512_0_0_0))⟩ :: L)) (ix2 k l)
      = bp (ix3 0 r ⟨l, by omega⟩) :=
  (View.read_writes_cons_rows_of_mem (Val := Elt Ideal) (View.whole cc0_scratch0) f inb_S528x512_S512x512_16_0 _ L (ix2 k l) (ix2 r l) rfl h rfl).trans (pay8_at bp r l)
theorem offU (f : (View.whole cc0_scratch0).ty.Contents (Elt Ideal)) (L : List (View.Piece (Elt Ideal) S528x512 .f32)) (w) (k : Fin 528) (l : Fin 512) (h : k.val < 16) :
    View.read (Elt Ideal) (View.whole cc0_scratch0) ((View.whole cc0_scratch0).writes (Elt Ideal) f (⟨Rect.unit ![16, 0] ![512, 512] inb_S528x512_S512x512_16_0, w⟩ :: L)) (ix2 k l)
      = View.read (Elt Ideal) (View.whole cc0_scratch0) ((View.whole cc0_scratch0).writes (Elt Ideal) f L) (ix2 k l) :=
  View.read_writes_cons_rows_of_not_mem (Val := Elt Ideal) (View.whole cc0_scratch0) f inb_S528x512_S512x512_16_0 w L (ix2 k l) rfl rfl (.inl h)
theorem canonU (L : List (View.Piece (Elt Ideal) S528x512 .f32)) : View.canon L = View.read (Elt Ideal) (View.whole cc0_scratch0) ((View.whole cc0_scratch0).writes (Elt Ideal) (View.whole cc0_scratch0).junk L) :=
  (View.read_writes_junk_eq_canon (Val := Elt Ideal) (View.whole cc0_scratch0) L).symm

/-- The values before the tile's, then the tile's: within a batch, -/
theorem nextU (prev : Vec Ideal S528x512 .f32) (hw : (Memref.whole cc0_scratch0).IsWhole) (k : Fin 528) (l : Fin 512) (hk : k.val < 528) :
    View.read (Elt Ideal) (View.whole cc0_scratch0) ((View.whole cc0_scratch0).writes (Elt Ideal) (hw.unread prev) [⟨Rect.unit ![16, 0] ![512, 512] inb_S528x512_S512x512_16_0, k0_pay8 (View.ld (Val := Elt Ideal) (e' := .f32) bp (Rect.unit ![0, 0, 0] ![1, 512, 512] inb_S1x512x2560_S1x512x512_0_0_0))⟩]) (ix2 k l)
      = if h : k.val < 16 then prev (ix2 k l) else bp (ix3 0 ⟨k - 16, by omega⟩ ⟨l, by omega⟩) := by
  split_ifs with h
  · exact (offU _ [] _ k l h).trans (congrFun (read_unread_whole cc0_scratch0 hw prev) (ix2 k l))
  · exact tileU bp _ [] k ⟨k - 16, by omega⟩ l (show k.val = 16 + (k.val - 16) by omega)
/-- and at its start. -/
theorem initU_at (k : Fin 528) (l : Fin 512) (hk : k.val < 528) :
    View.canon (initU bp) (ix2 k l) = if h : k.val < 16 then (0 : EReal) else bp (ix3 0 ⟨k - 16, by omega⟩ ⟨l, by omega⟩) := by
  rw [canonU]
  unfold initU
  split_ifs with h
  · refine (offU _ _ _ k l h).trans ?_
    exact (View.read_writes_cons_rows_of_mem (Val := Elt Ideal) (View.whole cc0_scratch0) _ inb_S528x512_S16x512_0_0 _ [] (ix2 k l) (ix2 ⟨k, h⟩ l) rfl (Nat.zero_add _).symm rfl).trans (pay3_at _ _)
  · exact tileU bp _ _ k ⟨k - 16, by omega⟩ l (show k.val = 16 + (k.val - 16) by omega)
/-- What the point leaves for the next: the tile's last values. -/
theorem haloU (f : (View.whole cc0_scratch0).ty.Contents (Elt Ideal)) (L M : List (View.Piece (Elt Ideal) S528x512 .f32)) (k : Fin 16) (l : Fin 512) :
    View.read (Elt Ideal) (View.whole cc0_scratch0) ((View.whole cc0_scratch0).writes (Elt Ideal) f (⟨Rect.unit ![0, 0] ![16, 512] inb_S528x512_S16x512_0_0,
        k0_pay1 ((View.whole cc0_scratch0).readCov (⟨Rect.unit ![16, 0] ![512, 512] inb_S528x512_S512x512_16_0, k0_pay8 (View.ld (Val := Elt Ideal) (e' := .f32) bp (Rect.unit ![0, 0, 0] ![1, 512, 512] inb_S1x512x2560_S1x512x512_0_0_0))⟩ :: L) (Rect.unit ![512, 0] ![16, 512] inb_S528x512_S16x512_512_0).toLoadRect)⟩ :: M))
        (ix2 ⟨k, by omega⟩ l)
      = bp (ix3 0 ⟨496 + k, by omega⟩ ⟨l, by omega⟩) := by
  refine (View.read_writes_cons_rows_of_mem (Val := Elt Ideal) (View.whole cc0_scratch0) f inb_S528x512_S16x512_0_0 _ M (ix2 ⟨k, by omega⟩ l) (ix2 k l) rfl (Nat.zero_add _).symm rfl).trans ?_
  refine (k0_pay1_at _ k l).trans ?_
  rw [View.readCov_eq_canon']
  have hi : (Rect.unit (s := S528x512) ![512, 0] ![16, 512] inb_S528x512_S16x512_512_0).toLoadRect.idx (ix2 k l) = ix2 ⟨512 + k, by omega⟩ l := by
    funext a
    refine Fin.ext ?_
    fin_cases a
    · show 512 + 1 * k.val = 512 + k.val; omega
    · show 0 + 1 * l.val = l.val; omega
  refine (congrArg (View.canon _) hi).trans ?_
  rw [canonU]
  exact tileU bp _ L ⟨512 + k, by omega⟩ ⟨496 + k, by omega⟩ l (show 512 + k.val = 16 + (496 + k.val) by omega)

theorem tileX (f : (View.whole cc0_scratch1).ty.Contents (Elt Ideal)) (L : List (View.Piece (Elt Ideal) S552x512 .f32)) (k : Fin 552) (r l : Fin 512) (h : k.val = 32 + r) :
    View.read (Elt Ideal) (View.whole cc0_scratch1) ((View.whole cc0_scratch1).writes (Elt Ideal) f (⟨Rect.unit ![32, 0] ![512, 512] inb_S552x512_S512x512_32_0, k0_pay35 (View.ld (Val := Elt Ideal) (e' := .f32) bp (Rect.unit ![0, 0, 1024] ![1, 512, 512] inb_S1x512x2560_S1x512x512_0_0_1024))
      (View.ld (Val := Elt Ideal) (e' := .f32) bp (Rect.unit ![0, 0, 1536] ![1, 512, 512] inb_S1x512x2560_S1x512x512_0_0_1536))⟩ :: L)) (ix2 k l)
      = gluOf bp r l :=
  (View.read_writes_cons_rows_of_mem (Val := Elt Ideal) (View.whole cc0_scratch1) f inb_S552x512_S512x512_32_0 _ L (ix2 k l) (ix2 r l) rfl h rfl).trans (pay35_at bp r l)
theorem offX (f : (View.whole cc0_scratch1).ty.Contents (Elt Ideal)) (L : List (View.Piece (Elt Ideal) S552x512 .f32)) (w) (k : Fin 552) (l : Fin 512) (h : k.val < 32) :
    View.read (Elt Ideal) (View.whole cc0_scratch1) ((View.whole cc0_scratch1).writes (Elt Ideal) f (⟨Rect.unit ![32, 0] ![512, 512] inb_S552x512_S512x512_32_0, w⟩ :: L)) (ix2 k l)
      = View.read (Elt Ideal) (View.whole cc0_scratch1) ((View.whole cc0_scratch1).writes (Elt Ideal) f L) (ix2 k l) :=
  View.read_writes_cons_rows_of_not_mem (Val := Elt Ideal) (View.whole cc0_scratch1) f inb_S552x512_S512x512_32_0 w L (ix2 k l) rfl rfl (.inl h)
theorem canonX (L : List (View.Piece (Elt Ideal) S552x512 .f32)) : View.canon L = View.read (Elt Ideal) (View.whole cc0_scratch1) ((View.whole cc0_scratch1).writes (Elt Ideal) (View.whole cc0_scratch1).junk L) :=
  (View.read_writes_junk_eq_canon (Val := Elt Ideal) (View.whole cc0_scratch1) L).symm

/-- The values before the tile's, then the tile's: within a batch, -/
theorem nextX (prev : Vec Ideal S552x512 .f32) (hw : (Memref.whole cc0_scratch1).IsWhole) (k : Fin 552) (l : Fin 512) (hk : k.val < 544) :
    View.read (Elt Ideal) (View.whole cc0_scratch1) ((View.whole cc0_scratch1).writes (Elt Ideal) (hw.unread prev) [⟨Rect.unit ![32, 0] ![512, 512] inb_S552x512_S512x512_32_0, k0_pay35 (View.ld (Val := Elt Ideal) (e' := .f32) bp (Rect.unit ![0, 0, 1024] ![1, 512, 512] inb_S1x512x2560_S1x512x512_0_0_1024))
      (View.ld (Val := Elt Ideal) (e' := .f32) bp (Rect.unit ![0, 0, 1536] ![1, 512, 512] inb_S1x512x2560_S1x512x512_0_0_1536))⟩]) (ix2 k l)
      = if h : k.val < 32 then prev (ix2 k l) else gluOf bp ⟨k - 32, by omega⟩ l := by
  split_ifs with h
  · exact (offX _ [] _ k l h).trans (congrFun (read_unread_whole cc0_scratch1 hw prev) (ix2 k l))
  · exact tileX bp _ [] k ⟨k - 32, by omega⟩ l (show k.val = 32 + (k.val - 32) by omega)
/-- and at its start. -/
theorem initX_at (k : Fin 552) (l : Fin 512) (hk : k.val < 544) :
    View.canon (initX bp) (ix2 k l) = if h : k.val < 32 then (0 : EReal) else gluOf bp ⟨k - 32, by omega⟩ l := by
  rw [canonX]
  unfold initX
  split_ifs with h
  · refine (offX _ _ _ k l h).trans ?_
    refine (View.read_writes_cons_rows_of_not_mem (Val := Elt Ideal) (View.whole cc0_scratch1) _ inb_S552x512_S8x512_544_0 _ _ (ix2 k l) rfl rfl (.inl hk)).trans ?_
    exact (View.read_writes_cons_rows_of_mem (Val := Elt Ideal) (View.whole cc0_scratch1) _ inb_S552x512_S32x512_0_0 _ [] (ix2 k l) (ix2 ⟨k, h⟩ l) rfl (Nat.zero_add _).symm rfl).trans (pay4_at _ _)
  · exact tileX bp _ _ k ⟨k - 32, by omega⟩ l (show k.val = 32 + (k.val - 32) by omega)
/-- What the point leaves for the next: the tile's last values. -/
theorem haloX (f : (View.whole cc0_scratch1).ty.Contents (Elt Ideal)) (L M : List (View.Piece (Elt Ideal) S552x512 .f32)) (k : Fin 32) (l : Fin 512) :
    View.read (Elt Ideal) (View.whole cc0_scratch1) ((View.whole cc0_scratch1).writes (Elt Ideal) f (⟨Rect.unit ![0, 0] ![32, 512] inb_S552x512_S32x512_0_0,
        k0_pay2 ((View.whole cc0_scratch1).readCov (⟨Rect.unit ![32, 0] ![512, 512] inb_S552x512_S512x512_32_0, k0_pay35 (View.ld (Val := Elt Ideal) (e' := .f32) bp (Rect.unit ![0, 0, 1024] ![1, 512, 512] inb_S1x512x2560_S1x512x512_0_0_1024))
      (View.ld (Val := Elt Ideal) (e' := .f32) bp (Rect.unit ![0, 0, 1536] ![1, 512, 512] inb_S1x512x2560_S1x512x512_0_0_1536))⟩ :: L) (Rect.unit ![512, 0] ![32, 512] inb_S552x512_S32x512_512_0).toLoadRect)⟩ :: M))
        (ix2 ⟨k, by omega⟩ l)
      = gluOf bp ⟨480 + k, by omega⟩ l := by
  refine (View.read_writes_cons_rows_of_mem (Val := Elt Ideal) (View.whole cc0_scratch1) f inb_S552x512_S32x512_0_0 _ M (ix2 ⟨k, by omega⟩ l) (ix2 k l) rfl (Nat.zero_add _).symm rfl).trans ?_
  refine (k0_pay2_at _ k l).trans ?_
  rw [View.readCov_eq_canon']
  have hi : (Rect.unit (s := S552x512) ![512, 0] ![32, 512] inb_S552x512_S32x512_512_0).toLoadRect.idx (ix2 k l) = ix2 ⟨512 + k, by omega⟩ l := by
    funext a
    refine Fin.ext ?_
    fin_cases a
    · show 512 + 1 * k.val = 512 + k.val; omega
    · show 0 + 1 * l.val = l.val; omega
  refine (congrArg (View.canon _) hi).trans ?_
  rw [canonX]
  exact tileX bp _ L ⟨512 + k, by omega⟩ ⟨480 + k, by omega⟩ l (show 512 + k.val = 32 + (480 + k.val) by omega)

end Cert.Kernel3Ideal.Forward

end
-- ==== Proof.Forward.Case.lean ====
module

public import proofs.«01_k».proof.Proof.Forward.Scr
public import proofs.«01_k».proof.Proof.Gen.Kernel3Ideal.Frame

@[expose] public section

set_option maxRecDepth 1000000
set_option maxHeartbeats 1000000

noncomputable section

namespace Cert.Kernel3Ideal.Forward

open Idealize.ShloMosaic Idealize.ShloMosaic.TcCoe Idealize.SL.Sem
open Cert.Kernel3Ideal Cert.Kernel3Ideal.Gen Cert.MixGrad Cert.Forward
open scoped BigOperators

variable (m : (ℓ : Loc nD τ sig) → Buf (Elt Ideal) ℓ)

theorem whole3 {s0 s1 s2 : ℕ} (inb : ∀ k, (![0, 0, 0] : Fin 3 → ℕ) k + (![s0, s1, s2] : Fin 3 → ℕ) k ≤ (⟨3, ![s0, s1, s2]⟩ : Shape).size k) (x : Shape.Idx ⟨3, ![s0, s1, s2]⟩) :
    (Rect.unit (s := ⟨3, ![s0, s1, s2]⟩) ![0, 0, 0] ![s0, s1, s2] inb).emb x = x := by
  funext k
  refine Fin.ext ?_
  fin_cases k
  · show 0 + 1 * (x 0).val = (x 0).val; omega
  · show 0 + 1 * (x 1).val = (x 1).val; omega
  · show 0 + 1 * (x 2).val = (x 2).val; omega
theorem whole2 {s0 s1 : ℕ} (inb : ∀ k, (![0, 0] : Fin 2 → ℕ) k + (![s0, s1] : Fin 2 → ℕ) k ≤ (⟨2, ![s0, s1]⟩ : Shape).size k) (x : Shape.Idx ⟨2, ![s0, s1]⟩) :
    (Rect.unit (s := ⟨2, ![s0, s1]⟩) ![0, 0] ![s0, s1] inb).emb x = x := by
  funext k
  refine Fin.ext ?_
  fin_cases k
  · show 0 + 1 * (x 0).val = (x 0).val; omega
  · show 0 + 1 * (x 1).val = (x 1).val; omega
/-- The convolution's output read back whole. -/
theorem conv_read (v : View sig .tc .vmem S1x512x512 .f32) (L : List (View.Piece (Elt Ideal) S1x512x512 .f32)) (inb) :
    v.readCov L (Rect.unit ![0, 0, 0] ![1, 512, 512] inb).toLoadRect = View.canon L := by
  rw [View.readCov_eq_canon']
  funext x
  exact congrArg (View.canon L) (whole3 inb x)
/-- The concatenated mixers read back whole. -/
theorem mix_read (v : View sig .tc .vmem S512x1024 .bf16) (L : List (View.Piece (Elt Ideal) S512x1024 .bf16)) (inb) :
    v.readCov L (Rect.unit ![0, 0] ![512, 1024] inb).toLoadRect = View.canon L := by
  rw [View.readCov_eq_canon']
  funext x
  exact congrArg (View.canon L) (whole2 inb x)
/-- A part of the carried values read back. -/
theorem part_read {S : Shape} (v : View sig .tc .vmem S .f32) (L : List (View.Piece (Elt Ideal) S .f32)) (r : Rect S) :
    v.readCov L r.toLoadRect = View.ld (Val := Elt Ideal) (e' := .f32) (View.canon L) r := View.readCov_eq_canon' v L r.toLoadRect

/-- The point before. -/
abbrev before (c : Dev nD) (t : Fin cfg0.N) := outsAt0 m c (t.val - 1) (Nat.lt_of_le_of_lt (Nat.sub_le _ _) t.isLt)

/-- The concatenated mixers of point `t`, over the values the pooling and the convolution read. -/
def mixAt (c : Dev nD) (t : Fin cfg0.N) (U : Vec Ideal S528x512 .f32) (X : Vec Ideal S552x512 .f32) : Vec Ideal S512x1024 .bf16 :=
  View.canon (mixPieces (grid0.coords t) U (View.canon (convPieces X (iblk m c 6 t) (iblk m c 7 t))) (iblk m c 2 t) (iblk m c 3 t) (iblk m c 4 t) (iblk m c 5 t)
    (iblk m c 8 t) (iblk m c 9 t) (iblk m c 10 t) (iblk m c 11 t))

/-- What a tile stores as the gradient of the residual stream, -/
def dhAt (c : Dev nD) (t : Fin cfg0.N) (Y : Vec Ideal S512x1024 .bf16) : Vec Ideal S1x512x1024 .f32 :=
  k0_pay95 (k0_pay89 (k0_pay86 (iblk m c 0 t)) Y (k0_pay87 (iblk m c 12 t))) (k0_pay90 (k0_pay86 (iblk m c 0 t)) Y (k0_pay87 (iblk m c 12 t)))
    (k0_pay93 (k0_pay86 (iblk m c 0 t)) Y (k0_pay87 (iblk m c 12 t)) (iblk m c 13 t) (iblk m c 1 t)) (iblk m c 13 t)

/-- What the pooling reads within a batch, -/
def midU (c : Dev nD) (t : Fin cfg0.N) : Vec Ideal S528x512 .f32 :=
  View.read (Elt Ideal) (View.whole cc0_scratch0) ((View.whole cc0_scratch0).writes (Elt Ideal) ((Memref.isWhole_whole cc0_scratch0).unread (before m c t).2.2.2.2.2.2.2.1)
    [⟨Rect.unit ![16, 0] ![512, 512] inb_S528x512_S512x512_16_0, k0_pay8 (View.ld (Val := Elt Ideal) (iblk m c 2 t) (Rect.unit ![0, 0, 0] ![1, 512, 512] inb_S1x512x2560_S1x512x512_0_0_0))⟩])
/-- and the convolution. -/
def midX (c : Dev nD) (t : Fin cfg0.N) : Vec Ideal S552x512 .f32 :=
  View.read (Elt Ideal) (View.whole cc0_scratch1) ((View.whole cc0_scratch1).writes (Elt Ideal) ((Memref.isWhole_whole cc0_scratch1).unread (before m c t).2.2.2.2.2.2.2.2)
    [⟨Rect.unit ![32, 0] ![512, 512] inb_S552x512_S512x512_32_0, k0_pay35 (View.ld (Val := Elt Ideal) (iblk m c 2 t) (Rect.unit ![0, 0, 1024] ![1, 512, 512] inb_S1x512x2560_S1x512x512_0_0_1024))
      (View.ld (Val := Elt Ideal) (iblk m c 2 t) (Rect.unit ![0, 0, 1536] ![1, 512, 512] inb_S1x512x2560_S1x512x512_0_0_1536))⟩])

theorem out_B (c : Dev nD) (t : Fin cfg0.N) (h0 : ¬t.val % 4 = 0) (h1 : ¬t.val % 8 = 0) : ∃ U X, U = midU m c t ∧ X = midX m c t ∧
    (outsAt0 m c t.val t.isLt).2.2.2.2.1 = dhAt m c t (mixAt m c t U X) ∧
    (outsAt0 m c t.val t.isLt).2.2.2.2.2.1 = k0_pay92 (k0_pay86 (iblk m c 0 t)) (mixAt m c t U X) (k0_pay87 (iblk m c 12 t)) (iblk m c 13 t) (iblk m c 1 t) (before m c t).2.2.2.2.2.1 ∧
    (outsAt0 m c t.val t.isLt).2.2.2.2.2.2.1 = k0_pay94 (k0_pay86 (iblk m c 0 t)) (mixAt m c t U X) (k0_pay87 (iblk m c 12 t)) (iblk m c 13 t) (iblk m c 1 t) (before m c t).2.2.2.2.2.2.1 := by
  rw [outsAt0_B m c t h0 h1]
  frame_out
  simp only [mix_read, conv_read]
  generalize hX : View.read (Elt Ideal) (View.whole cc0_scratch1) _ = X
  generalize hU : View.read (Elt Ideal) (View.whole cc0_scratch0) _ = U
  exact ⟨U, X, by first | exact hU.symm | rfl, by first | exact hX.symm | rfl, rfl, rfl, rfl⟩
theorem dh_A (c : Dev nD) (t : Fin cfg0.N) (h0 : t.val % 4 = 0) (h1 : t.val % 8 = 0) :
    (outsAt0 m c t.val t.isLt).2.2.2.2.1 = dhAt m c t (mixAt m c t (View.canon (initU (iblk m c 2 t))) (View.canon (initX (iblk m c 2 t)))) := by
  rw [outsAt0_A m c t h0 h1]
  frame_out
  simp only [mix_read, conv_read]
  simp only [part_read]
  generalize hX : View.canon (Val := Elt Ideal) (s := S552x512) (e := .f32) [⟨Rect.unit ![32, 0] ![512, 512] inb_S552x512_S512x512_32_0, k0_pay35 (View.ld (Val := Elt Ideal) (iblk m c 2 t) (Rect.unit ![0, 0, 1024] ![1, 512, 512] inb_S1x512x2560_S1x512x512_0_0_1024))
      (View.ld (Val := Elt Ideal) (iblk m c 2 t) (Rect.unit ![0, 0, 1536] ![1, 512, 512] inb_S1x512x2560_S1x512x512_0_0_1536))⟩,
    ⟨Rect.unit ![544, 0] ![8, 512] inb_S552x512_S8x512_544_0, k0_pay5 (F := Ideal)⟩,
    ⟨Rect.unit ![0, 0] ![32, 512] inb_S552x512_S32x512_0_0, k0_pay4 (F := Ideal)⟩] = X
  generalize hU : View.canon (Val := Elt Ideal) (s := S528x512) (e := .f32) [⟨Rect.unit ![16, 0] ![512, 512] inb_S528x512_S512x512_16_0, k0_pay8 (View.ld (Val := Elt Ideal) (iblk m c 2 t) (Rect.unit ![0, 0, 0] ![1, 512, 512] inb_S1x512x2560_S1x512x512_0_0_0))⟩,
    ⟨Rect.unit ![0, 0] ![16, 512] inb_S528x512_S16x512_0_0, k0_pay3 (F := Ideal)⟩] = U
  rw [show View.canon (initX (iblk m c 2 t)) = X from hX, show View.canon (initU (iblk m c 2 t)) = U from hU]
  rfl

theorem dh_C (c : Dev nD) (t : Fin cfg0.N) (h0 : t.val % 4 = 0) (h1 : ¬t.val % 8 = 0) :
    (outsAt0 m c t.val t.isLt).2.2.2.2.1 = dhAt m c t (mixAt m c t (View.canon (initU (iblk m c 2 t))) (View.canon (initX (iblk m c 2 t)))) := by
  rw [outsAt0_C m c t h0 h1]
  frame_out
  simp only [mix_read, conv_read]
  simp only [part_read]
  generalize hX : View.canon (Val := Elt Ideal) (s := S552x512) (e := .f32) [⟨Rect.unit ![32, 0] ![512, 512] inb_S552x512_S512x512_32_0, k0_pay35 (View.ld (Val := Elt Ideal) (iblk m c 2 t) (Rect.unit ![0, 0, 1024] ![1, 512, 512] inb_S1x512x2560_S1x512x512_0_0_1024))
      (View.ld (Val := Elt Ideal) (iblk m c 2 t) (Rect.unit ![0, 0, 1536] ![1, 512, 512] inb_S1x512x2560_S1x512x512_0_0_1536))⟩,
    ⟨Rect.unit ![544, 0] ![8, 512] inb_S552x512_S8x512_544_0, k0_pay5 (F := Ideal)⟩,
    ⟨Rect.unit ![0, 0] ![32, 512] inb_S552x512_S32x512_0_0, k0_pay4 (F := Ideal)⟩] = X
  generalize hU : View.canon (Val := Elt Ideal) (s := S528x512) (e := .f32) [⟨Rect.unit ![16, 0] ![512, 512] inb_S528x512_S512x512_16_0, k0_pay8 (View.ld (Val := Elt Ideal) (iblk m c 2 t) (Rect.unit ![0, 0, 0] ![1, 512, 512] inb_S1x512x2560_S1x512x512_0_0_0))⟩,
    ⟨Rect.unit ![0, 0] ![16, 512] inb_S528x512_S16x512_0_0, k0_pay3 (F := Ideal)⟩] = U
  rw [show View.canon (initX (iblk m c 2 t)) = X from hX, show View.canon (initU (iblk m c 2 t)) = U from hU]
  rfl

theorem loss_C (c : Dev nD) (t : Fin cfg0.N) (h0 : t.val % 4 = 0) (h1 : ¬t.val % 8 = 0) :
    (outsAt0 m c t.val t.isLt).2.2.2.2.2.1 = k0_pay92 (k0_pay86 (iblk m c 0 t)) (mixAt m c t (View.canon (initU (iblk m c 2 t))) (View.canon (initX (iblk m c 2 t)))) (k0_pay87 (iblk m c 12 t)) (iblk m c 13 t) (iblk m c 1 t) (before m c t).2.2.2.2.2.1 := by
  rw [outsAt0_C m c t h0 h1]
  frame_out
  simp only [mix_read, conv_read]
  simp only [part_read]
  generalize hX : View.canon (Val := Elt Ideal) (s := S552x512) (e := .f32) [⟨Rect.unit ![32, 0] ![512, 512] inb_S552x512_S512x512_32_0, k0_pay35 (View.ld (Val := Elt Ideal) (iblk m c 2 t) (Rect.unit ![0, 0, 1024] ![1, 512, 512] inb_S1x512x2560_S1x512x512_0_0_1024))
      (View.ld (Val := Elt Ideal) (iblk m c 2 t) (Rect.unit ![0, 0, 1536] ![1, 512, 512] inb_S1x512x2560_S1x512x512_0_0_1536))⟩,
    ⟨Rect.unit ![544, 0] ![8, 512] inb_S552x512_S8x512_544_0, k0_pay5 (F := Ideal)⟩,
    ⟨Rect.unit ![0, 0] ![32, 512] inb_S552x512_S32x512_0_0, k0_pay4 (F := Ideal)⟩] = X
  generalize hU : View.canon (Val := Elt Ideal) (s := S528x512) (e := .f32) [⟨Rect.unit ![16, 0] ![512, 512] inb_S528x512_S512x512_16_0, k0_pay8 (View.ld (Val := Elt Ideal) (iblk m c 2 t) (Rect.unit ![0, 0, 0] ![1, 512, 512] inb_S1x512x2560_S1x512x512_0_0_0))⟩,
    ⟨Rect.unit ![0, 0] ![16, 512] inb_S528x512_S16x512_0_0, k0_pay3 (F := Ideal)⟩] = U
  rw [show View.canon (initX (iblk m c 2 t)) = X from hX, show View.canon (initU (iblk m c 2 t)) = U from hU]
  rfl

theorem gfg_C (c : Dev nD) (t : Fin cfg0.N) (h0 : t.val % 4 = 0) (h1 : ¬t.val % 8 = 0) :
    (outsAt0 m c t.val t.isLt).2.2.2.2.2.2.1 = k0_pay94 (k0_pay86 (iblk m c 0 t)) (mixAt m c t (View.canon (initU (iblk m c 2 t))) (View.canon (initX (iblk m c 2 t)))) (k0_pay87 (iblk m c 12 t)) (iblk m c 13 t) (iblk m c 1 t) (before m c t).2.2.2.2.2.2.1 := by
  rw [outsAt0_C m c t h0 h1]
  frame_out
  simp only [mix_read, conv_read]
  simp only [part_read]
  generalize hX : View.canon (Val := Elt Ideal) (s := S552x512) (e := .f32) [⟨Rect.unit ![32, 0] ![512, 512] inb_S552x512_S512x512_32_0, k0_pay35 (View.ld (Val := Elt Ideal) (iblk m c 2 t) (Rect.unit ![0, 0, 1024] ![1, 512, 512] inb_S1x512x2560_S1x512x512_0_0_1024))
      (View.ld (Val := Elt Ideal) (iblk m c 2 t) (Rect.unit ![0, 0, 1536] ![1, 512, 512] inb_S1x512x2560_S1x512x512_0_0_1536))⟩,
    ⟨Rect.unit ![544, 0] ![8, 512] inb_S552x512_S8x512_544_0, k0_pay5 (F := Ideal)⟩,
    ⟨Rect.unit ![0, 0] ![32, 512] inb_S552x512_S32x512_0_0, k0_pay4 (F := Ideal)⟩] = X
  generalize hU : View.canon (Val := Elt Ideal) (s := S528x512) (e := .f32) [⟨Rect.unit ![16, 0] ![512, 512] inb_S528x512_S512x512_16_0, k0_pay8 (View.ld (Val := Elt Ideal) (iblk m c 2 t) (Rect.unit ![0, 0, 0] ![1, 512, 512] inb_S1x512x2560_S1x512x512_0_0_0))⟩,
    ⟨Rect.unit ![0, 0] ![16, 512] inb_S528x512_S16x512_0_0, k0_pay3 (F := Ideal)⟩] = U
  rw [show View.canon (initX (iblk m c 2 t)) = X from hX, show View.canon (initU (iblk m c 2 t)) = U from hU]
  rfl

theorem loss_A (c : Dev nD) (t : Fin cfg0.N) (h0 : t.val % 4 = 0) (h1 : t.val % 8 = 0) :
    (outsAt0 m c t.val t.isLt).2.2.2.2.2.1 = k0_pay92 (k0_pay86 (iblk m c 0 t)) (mixAt m c t (View.canon (initU (iblk m c 2 t))) (View.canon (initX (iblk m c 2 t)))) (k0_pay87 (iblk m c 12 t)) (iblk m c 13 t) (iblk m c 1 t) (k0_pay6 (F := Ideal)) := by
  rw [outsAt0_A m c t h0 h1]
  frame_out
  simp only [mix_read, conv_read]
  simp only [part_read]
  generalize hX : View.canon (Val := Elt Ideal) (s := S552x512) (e := .f32) [⟨Rect.unit ![32, 0] ![512, 512] inb_S552x512_S512x512_32_0, k0_pay35 (View.ld (Val := Elt Ideal) (iblk m c 2 t) (Rect.unit ![0, 0, 1024] ![1, 512, 512] inb_S1x512x2560_S1x512x512_0_0_1024))
      (View.ld (Val := Elt Ideal) (iblk m c 2 t) (Rect.unit ![0, 0, 1536] ![1, 512, 512] inb_S1x512x2560_S1x512x512_0_0_1536))⟩,
    ⟨Rect.unit ![544, 0] ![8, 512] inb_S552x512_S8x512_544_0, k0_pay5 (F := Ideal)⟩,
    ⟨Rect.unit ![0, 0] ![32, 512] inb_S552x512_S32x512_0_0, k0_pay4 (F := Ideal)⟩] = X
  generalize hU : View.canon (Val := Elt Ideal) (s := S528x512) (e := .f32) [⟨Rect.unit ![16, 0] ![512, 512] inb_S528x512_S512x512_16_0, k0_pay8 (View.ld (Val := Elt Ideal) (iblk m c 2 t) (Rect.unit ![0, 0, 0] ![1, 512, 512] inb_S1x512x2560_S1x512x512_0_0_0))⟩,
    ⟨Rect.unit ![0, 0] ![16, 512] inb_S528x512_S16x512_0_0, k0_pay3 (F := Ideal)⟩] = U
  rw [show View.canon (initX (iblk m c 2 t)) = X from hX, show View.canon (initU (iblk m c 2 t)) = U from hU]
  rfl

theorem gfg_A (c : Dev nD) (t : Fin cfg0.N) (h0 : t.val % 4 = 0) (h1 : t.val % 8 = 0) :
    (outsAt0 m c t.val t.isLt).2.2.2.2.2.2.1 = k0_pay94 (k0_pay86 (iblk m c 0 t)) (mixAt m c t (View.canon (initU (iblk m c 2 t))) (View.canon (initX (iblk m c 2 t)))) (k0_pay87 (iblk m c 12 t)) (iblk m c 13 t) (iblk m c 1 t) (k0_pay7 (F := Ideal)) := by
  rw [outsAt0_A m c t h0 h1]
  frame_out
  simp only [mix_read, conv_read]
  simp only [part_read]
  generalize hX : View.canon (Val := Elt Ideal) (s := S552x512) (e := .f32) [⟨Rect.unit ![32, 0] ![512, 512] inb_S552x512_S512x512_32_0, k0_pay35 (View.ld (Val := Elt Ideal) (iblk m c 2 t) (Rect.unit ![0, 0, 1024] ![1, 512, 512] inb_S1x512x2560_S1x512x512_0_0_1024))
      (View.ld (Val := Elt Ideal) (iblk m c 2 t) (Rect.unit ![0, 0, 1536] ![1, 512, 512] inb_S1x512x2560_S1x512x512_0_0_1536))⟩,
    ⟨Rect.unit ![544, 0] ![8, 512] inb_S552x512_S8x512_544_0, k0_pay5 (F := Ideal)⟩,
    ⟨Rect.unit ![0, 0] ![32, 512] inb_S552x512_S32x512_0_0, k0_pay4 (F := Ideal)⟩] = X
  generalize hU : View.canon (Val := Elt Ideal) (s := S528x512) (e := .f32) [⟨Rect.unit ![16, 0] ![512, 512] inb_S528x512_S512x512_16_0, k0_pay8 (View.ld (Val := Elt Ideal) (iblk m c 2 t) (Rect.unit ![0, 0, 0] ![1, 512, 512] inb_S1x512x2560_S1x512x512_0_0_0))⟩,
    ⟨Rect.unit ![0, 0] ![16, 512] inb_S528x512_S16x512_0_0, k0_pay3 (F := Ideal)⟩] = U
  rw [show View.canon (initX (iblk m c 2 t)) = X from hX, show View.canon (initU (iblk m c 2 t)) = U from hU]
  rfl

theorem u_A (c : Dev nD) (t : Fin cfg0.N) (h0 : t.val % 4 = 0) (h1 : t.val % 8 = 0) (k : Fin 16) (l : Fin 512) :
    (outsAt0 m c t.val t.isLt).2.2.2.2.2.2.2.1 (ix2 ⟨k, by omega⟩ l) = (iblk m c 2 t) (ix3 0 ⟨496 + k, by omega⟩ ⟨l, by omega⟩) := by
  rw [outsAt0_A m c t h0 h1]
  frame_out
  rw [canonU]
  exact haloU (iblk m c 2 t) _ _ _ k l
theorem u_B (c : Dev nD) (t : Fin cfg0.N) (h0 : ¬t.val % 4 = 0) (h1 : ¬t.val % 8 = 0) (k : Fin 16) (l : Fin 512) :
    (outsAt0 m c t.val t.isLt).2.2.2.2.2.2.2.1 (ix2 ⟨k, by omega⟩ l) = (iblk m c 2 t) (ix3 0 ⟨496 + k, by omega⟩ ⟨l, by omega⟩) := by
  rw [outsAt0_B m c t h0 h1]
  frame_out
  rw [canonU]
  exact haloU (iblk m c 2 t) _ _ _ k l
theorem u_C (c : Dev nD) (t : Fin cfg0.N) (h0 : t.val % 4 = 0) (h1 : ¬t.val % 8 = 0) (k : Fin 16) (l : Fin 512) :
    (outsAt0 m c t.val t.isLt).2.2.2.2.2.2.2.1 (ix2 ⟨k, by omega⟩ l) = (iblk m c 2 t) (ix3 0 ⟨496 + k, by omega⟩ ⟨l, by omega⟩) := by
  rw [outsAt0_C m c t h0 h1]
  frame_out
  rw [canonU]
  exact haloU (iblk m c 2 t) _ _ _ k l
theorem x_A (c : Dev nD) (t : Fin cfg0.N) (h0 : t.val % 4 = 0) (h1 : t.val % 8 = 0) (k : Fin 32) (l : Fin 512) :
    (outsAt0 m c t.val t.isLt).2.2.2.2.2.2.2.2 (ix2 ⟨k, by omega⟩ l) = gluOf (iblk m c 2 t) ⟨480 + k, by omega⟩ l := by
  rw [outsAt0_A m c t h0 h1]
  frame_out
  rw [canonX]
  exact haloX (iblk m c 2 t) _ _ _ k l
theorem x_B (c : Dev nD) (t : Fin cfg0.N) (h0 : ¬t.val % 4 = 0) (h1 : ¬t.val % 8 = 0) (k : Fin 32) (l : Fin 512) :
    (outsAt0 m c t.val t.isLt).2.2.2.2.2.2.2.2 (ix2 ⟨k, by omega⟩ l) = gluOf (iblk m c 2 t) ⟨480 + k, by omega⟩ l := by
  rw [outsAt0_B m c t h0 h1]
  frame_out
  exact haloX (iblk m c 2 t) _ _ _ k l
theorem x_C (c : Dev nD) (t : Fin cfg0.N) (h0 : t.val % 4 = 0) (h1 : ¬t.val % 8 = 0) (k : Fin 32) (l : Fin 512) :
    (outsAt0 m c t.val t.isLt).2.2.2.2.2.2.2.2 (ix2 ⟨k, by omega⟩ l) = gluOf (iblk m c 2 t) ⟨480 + k, by omega⟩ l := by
  rw [outsAt0_C m c t h0 h1]
  frame_out
  rw [canonX]
  exact haloX (iblk m c 2 t) _ _ _ k l
end Cert.Kernel3Ideal.Forward

end
-- ==== Proof.Forward.Pool.lean ====
module

public import proofs.«01_k».proof.Proof.Forward.Pieces

@[expose] public section

set_option maxRecDepth 1000000
set_option maxHeartbeats 4000000

noncomputable section

namespace Cert.Kernel3Ideal.Forward

open Idealize.ShloMosaic Idealize.ShloMosaic.TcCoe Idealize.SL.Sem
open Cert.Kernel3Ideal Cert.Kernel3Ideal.Gen Cert.MixGrad Cert.Forward
open scoped BigOperators

/-- A rotation's row. -/
theorem wrap (k n : ℕ) (h : n ≤ k) (hk : k < 528) : (k + 528 - n) % 528 = k - n := by omega
/-- A value of a column, by its row's number. -/
def colU (v : Vec Ideal S528x128 .f32) (e : Fin 128) (n : ℕ) : EReal := if h : n < 528 then v (ix2 ⟨n, h⟩ e) else 0
theorem colU_eq (v : Vec Ideal S528x128 .f32) (e : Fin 128) (n : ℕ) (h : n < 528) : v (ix2 ⟨n, h⟩ e) = colU v e n := by
  unfold colU
  rw [dif_pos h]
/-- A token's number as the tile's words count it. -/
theorem token (r : Fin 512) (i : Fin 4) : IntOp.addi (BitVec.ofNat 32 r.val) (Scalar.muli (BitVec.ofNat 32 i.val) 512#32) = BitVec.ofNat 32 (512 * i + r) := by
  show BitVec.ofNat 32 r.val + BitVec.ofNat 32 i.val * BitVec.ofNat 32 512 = _
  rw [← BitVec.ofNat_mul, ← BitVec.ofNat_add]
  congr 1; omega
theorem mean_of (w s : ℕ) (hw : 0 < w) (S x : EReal) : S * Ideal.div 1 (cnt w s) - x = Ideal.div S (cnt w s) - x := by
  have h : ((min (s + 1) w : ℕ) : ℝ) ≠ 0 := by
    have : 0 < min (s + 1) w := by omega
    exact_mod_cast this.ne'
  unfold cnt
  rw [Cert.Kernel2Ideal.GradIn.div_coe _ _ h, Cert.Kernel2Ideal.GradIn.div_coe _ _ h, one_mul]
/-- The pooled value of row `r` of a tile from token `512 i`. -/
def poolRow (w : ℕ) (v : Vec Ideal S528x128 .f32) (i : ℕ) (r : Fin 512) (e : Fin 128) : EReal :=
  Ideal.div (∑ j : Fin w, colU v e (16 + r - j)) (cnt w (512 * i + r)) - colU v e (16 + r)

theorem pool2 (i : grid0.Coords) (v : Vec Ideal S528x128 .f32) (r : Fin 512) (e : Fin 128) :
    (k0_pay10 i v : FVec Ideal S512x128 .bf16) (ix2 r e) = poolRow 2 v (i 1).val r e := by
  have hi : (i 1).val < 4 := (i 1).isLt
  open_payloads
  pointwise
  simp only [colU_eq]
  simp (disch := omega) only [wrap, Nat.sub_sub, Nat.reduceAdd]
  rw [token r (i 1), show FloatOps.sitofp FTy.f32 (IntOp.minsi (IntOp.addi (BitVec.ofNat 32 (512 * (i 1).val + r.val)) 1#32) 2#32) = _ from
    cnt_word 2 (512 * (i 1).val + r.val) (by omega) (by omega), mean_of _ _ (by omega)]
  unfold poolRow
  rw [← tree2 (fun j => colU v e (16 + r - j))]
  rfl
theorem pool4 (i : grid0.Coords) (v : Vec Ideal S528x128 .f32) (r : Fin 512) (e : Fin 128) :
    (k0_pay17 v (k0_pay15 v) (k0_pay16 (F := Ideal) (k0_pay9 i)) (Scalar.ofBits .f32 0x3F800000#32) : FVec Ideal S512x128 .bf16) (ix2 r e) = poolRow 4 v (i 1).val r e := by
  have hi : (i 1).val < 4 := (i 1).isLt
  open_payloads
  pointwise
  simp only [colU_eq]
  simp (disch := omega) only [wrap, Nat.sub_sub, Nat.reduceAdd]
  rw [token r (i 1), show FloatOps.sitofp FTy.f32 (IntOp.minsi (IntOp.addi (BitVec.ofNat 32 (512 * (i 1).val + r.val)) 1#32) 4#32) = _ from
    cnt_word 4 (512 * (i 1).val + r.val) (by omega) (by omega), mean_of _ _ (by omega)]
  unfold poolRow
  rw [← tree4 (fun j => colU v e (16 + r - j))]
  rfl
theorem pool8 (i : grid0.Coords) (v : Vec Ideal S528x128 .f32) (r : Fin 512) (e : Fin 128) :
    (k0_pay22 (k0_pay9 i) v 1#32 : FVec Ideal S512x128 .bf16) (ix2 r e) = poolRow 8 v (i 1).val r e := by
  have hi : (i 1).val < 4 := (i 1).isLt
  open_payloads
  pointwise
  simp only [colU_eq]
  simp (disch := omega) only [wrap, Nat.sub_sub, Nat.reduceAdd]
  rw [token r (i 1), show FloatOps.sitofp FTy.f32 (IntOp.minsi (IntOp.addi (BitVec.ofNat 32 (512 * (i 1).val + r.val)) 1#32) 8#32) = _ from
    cnt_word 8 (512 * (i 1).val + r.val) (by omega) (by omega), mean_of _ _ (by omega)]
  unfold poolRow
  rw [← tree8 (fun j => colU v e (16 + r - j))]
  rfl
theorem pool16 (i : grid0.Coords) (v : Vec Ideal S528x128 .f32) (r : Fin 512) (e : Fin 128) :
    (k0_pay29 (k0_pay9 i) v : FVec Ideal S512x128 .bf16) (ix2 r e) = poolRow 16 v (i 1).val r e := by
  have hi : (i 1).val < 4 := (i 1).isLt
  open_payloads
  pointwise
  simp only [colU_eq]
  simp (disch := omega) only [wrap, Nat.sub_sub, Nat.reduceAdd]
  rw [token r (i 1), show FloatOps.sitofp FTy.f32 (IntOp.minsi (IntOp.addi (BitVec.ofNat 32 (512 * (i 1).val + r.val)) 1#32) 16#32) = _ from
    cnt_word 16 (512 * (i 1).val + r.val) (by omega) (by omega), mean_of _ _ (by omega)]
  unfold poolRow
  rw [← tree16 (fun j => colU v e (16 + r - j))]
  rfl

end Cert.Kernel3Ideal.Forward

end
-- ==== Proof.Forward.Conv.lean ====
module

public import proofs.«01_k».proof.Proof.Forward.Pieces

@[expose] public section

set_option maxRecDepth 1000000
set_option maxHeartbeats 4000000

noncomputable section

namespace Cert.Kernel3Ideal.Forward

open Idealize.ShloMosaic Idealize.ShloMosaic.TcCoe Idealize.SL.Sem
open Cert.Kernel3Ideal Cert.Kernel3Ideal.Gen Cert.MixGrad Cert.Forward
open scoped BigOperators

/-- A value of a column, by its row's number. -/
def col (X : Vec Ideal S552x512 .f32) (l : Fin 512) (n : ℕ) : EReal := if h : n < 552 then X (ix2 ⟨n, h⟩ l) else 0
theorem col_eq (X : Vec Ideal S552x512 .f32) (l : Fin 512) (n : ℕ) (h : n < 552) : X (ix2 ⟨n, h⟩ l) = col X l n := by
  unfold col
  rw [dif_pos h]
theorem col_two (X : Vec Ideal S552x512 .f32) (l r : Fin 512) (a b : ℕ) : col X l (a + (b + r)) = col X l (r + (a + b)) := congrArg (col X l) (by omega)
theorem col_one (X : Vec Ideal S552x512 .f32) (l r : Fin 512) (a : ℕ) : col X l (a + r) = col X l (r + a) := congrArg (col X l) (by omega)

/-- The convolution of row `r` of a tile. -/
def convRow (X : Vec Ideal S552x512 .f32) (b6 : Vec Ideal S31x512 .f32) (b7 : Vec Ideal S1x512 .f32) (r l : Fin 512) : EReal :=
  (∑ k : Fin 31, col X l (r + (2 + k)) * (b6 (ix2 k l) : EReal)) + (b7 (ix2 0 l) : EReal)

variable (X : Vec Ideal S552x512 .f32) (b6 : Vec Ideal S31x512 .f32) (b7 : Vec Ideal S1x512 .f32)

theorem conv0_at (r : Fin 512) (i : Fin 128) : conv0 X b6 b7 (ix3 0 r i) = convRow X b6 b7 r ⟨i, by omega⟩ := by
  unfold conv0
  open_payloads
  pointwise
  simp only [col_eq]
  simp only [col_two, col_one, Nat.reduceAdd]
  exact taps_tree (fun k : Fin 31 => col X ⟨i, by omega⟩ (r + (2 + k)) * (b6 (ix2 k ⟨i, by omega⟩) : EReal)) _
theorem conv1_at (r : Fin 512) (i : Fin 128) : conv1 X b6 b7 (ix3 0 r i) = convRow X b6 b7 r ⟨128 + i, by omega⟩ := by
  unfold conv1
  open_payloads
  pointwise
  simp only [col_eq]
  simp only [col_two, col_one, Nat.reduceAdd]
  exact taps_tree (fun k : Fin 31 => col X ⟨128 + i, by omega⟩ (r + (2 + k)) * (b6 (ix2 k ⟨128 + i, by omega⟩) : EReal)) _
theorem conv2_at (r : Fin 512) (i : Fin 128) : conv2 X b6 b7 (ix3 0 r i) = convRow X b6 b7 r ⟨256 + i, by omega⟩ := by
  unfold conv2
  open_payloads
  pointwise
  simp only [col_eq]
  simp only [col_two, col_one, Nat.reduceAdd]
  exact taps_tree (fun k : Fin 31 => col X ⟨256 + i, by omega⟩ (r + (2 + k)) * (b6 (ix2 k ⟨256 + i, by omega⟩) : EReal)) _
theorem conv3_at (r : Fin 512) (i : Fin 128) : conv3 X b6 b7 (ix3 0 r i) = convRow X b6 b7 r ⟨384 + i, by omega⟩ := by
  unfold conv3
  open_payloads
  pointwise
  simp only [col_eq]
  simp only [col_two, col_one, Nat.reduceAdd]
  exact taps_tree (fun k : Fin 31 => col X ⟨384 + i, by omega⟩ (r + (2 + k)) * (b6 (ix2 k ⟨384 + i, by omega⟩) : EReal)) _

theorem group_emb (b : ℕ) (inb : ∀ k, (![0, 0, b] : Fin 3 → ℕ) k + (![1, 512, 128] : Fin 3 → ℕ) k ≤ S1x512x512.size k) (x : Shape.Idx ⟨3, ![1, 512, 128]⟩) :
    (Rect.unit (s := S1x512x512) ![0, 0, b] ![1, 512, 128] inb).emb x
      = ix3 0 (x 1) ⟨b + (x 2).val, Nat.lt_of_lt_of_le (Nat.add_lt_add_left (x 2).isLt b) (inb 2)⟩ := by
  funext k
  refine Fin.ext ?_
  fin_cases k
  · show 0 + 1 * (x 0).val = 0; have : (x 0).val < 1 := (x 0).isLt; omega
  · show 0 + 1 * (x 1).val = (x 1).val; omega
  · show b + 1 * (x 2).val = _; rw [Nat.one_mul]; rfl

theorem conv_pieces : View.PiecesOf (Val := Elt Ideal) (e := .f32) (fun j : S1x512x512.Idx => convRow X b6 b7 (j 1) (j 2)) (convPieces X b6 b7) := by
  have e3 : ∀ x : Shape.Idx ⟨3, ![1, 512, 128]⟩, x = ix3 0 (x 1) (x 2) := fun x => by
    have h : (x 0).val < 1 := (x 0).isLt
    funext k; fin_cases k
    · exact Fin.ext (show (x 0).val = 0 by omega)
    · rfl
    · rfl
  refine ⟨fun x => ?_, fun x => ?_, fun x => ?_, fun x => ?_, trivial⟩
  · rw [group_emb]; exact (congrArg (conv3 X b6 b7) (e3 x)).trans (conv3_at X b6 b7 (x 1) (x 2))
  · rw [group_emb]; exact (congrArg (conv2 X b6 b7) (e3 x)).trans (conv2_at X b6 b7 (x 1) (x 2))
  · rw [group_emb]; exact (congrArg (conv1 X b6 b7) (e3 x)).trans (conv1_at X b6 b7 (x 1) (x 2))
  · rw [group_emb]; exact ((congrArg (conv0 X b6 b7) (e3 x)).trans (conv0_at X b6 b7 (x 1) (x 2))).trans
      (congrArg (convRow X b6 b7 (x 1)) (Fin.ext (Nat.zero_add _).symm))

theorem conv_cover (y : S1x512x512.Idx) : ∃ p ∈ convPieces X b6 b7, y ∈ p.1.set := by
  have h0 : (y 0).val < 1 := (y 0).isLt
  have h1 : (y 1).val < 512 := (y 1).isLt
  have h2 : (y 2).val < 512 := (y 2).isLt
  rcases (by omega : 384 ≤ (y 2).val ∨ (256 ≤ (y 2).val ∧ (y 2).val < 384) ∨ (128 ≤ (y 2).val ∧ (y 2).val < 256) ∨ (y 2).val < 128) with h | h | h | h
  · exact ⟨_, List.mem_cons_self, show y ∈ (Rect.unit (s := S1x512x512) ![0, 0, 384] ![1, 512, 128] inb_S1x512x512_S1x512x128_0_0_384).set from Rect.mem_set_unit.mpr fun k => by
      fin_cases k
      · show 0 ≤ (y 0).val ∧ (y 0).val < 0 + 1; omega
      · show 0 ≤ (y 1).val ∧ (y 1).val < 0 + 512; omega
      · show 384 ≤ (y 2).val ∧ (y 2).val < 384 + 128; omega⟩
  · exact ⟨_, List.mem_cons_of_mem _ List.mem_cons_self, show y ∈ (Rect.unit (s := S1x512x512) ![0, 0, 256] ![1, 512, 128] inb_S1x512x512_S1x512x128_0_0_256).set from Rect.mem_set_unit.mpr fun k => by
      fin_cases k
      · show 0 ≤ (y 0).val ∧ (y 0).val < 0 + 1; omega
      · show 0 ≤ (y 1).val ∧ (y 1).val < 0 + 512; omega
      · show 256 ≤ (y 2).val ∧ (y 2).val < 256 + 128; omega⟩
  · exact ⟨_, List.mem_cons_of_mem _ (List.mem_cons_of_mem _ List.mem_cons_self), show y ∈ (Rect.unit (s := S1x512x512) ![0, 0, 128] ![1, 512, 128] inb_S1x512x512_S1x512x128_0_0_128).set from Rect.mem_set_unit.mpr fun k => by
      fin_cases k
      · show 0 ≤ (y 0).val ∧ (y 0).val < 0 + 1; omega
      · show 0 ≤ (y 1).val ∧ (y 1).val < 0 + 512; omega
      · show 128 ≤ (y 2).val ∧ (y 2).val < 128 + 128; omega⟩
  · exact ⟨_, List.mem_cons_of_mem _ (List.mem_cons_of_mem _ (List.mem_cons_of_mem _ List.mem_cons_self)), show y ∈ (Rect.unit (s := S1x512x512) ![0, 0, 0] ![1, 512, 128] inb_S1x512x512_S1x512x128_0_0_0).set from Rect.mem_set_unit.mpr fun k => by
      fin_cases k
      · show 0 ≤ (y 0).val ∧ (y 0).val < 0 + 1; omega
      · show 0 ≤ (y 1).val ∧ (y 1).val < 0 + 512; omega
      · show 0 ≤ (y 2).val ∧ (y 2).val < 0 + 128; omega⟩

/-- The convolution's output of a tile, at an index. -/
theorem conv_at (r l : Fin 512) : View.canon (convPieces X b6 b7) (ix3 0 r l) = convRow X b6 b7 r l := by
  have h := View.canon_append_of_piecesOf (Val := Elt Ideal) (e := .f32) (fun j : S1x512x512.Idx => convRow X b6 b7 (j 1) (j 2)) [] (convPieces X b6 b7)
    (conv_pieces X b6 b7) (ix3 0 r l) (conv_cover X b6 b7 _)
  rw [List.append_nil] at h
  exact h

end Cert.Kernel3Ideal.Forward

end
-- ==== Proof.Forward.Mix.lean ====
module

public import proofs.«01_k».proof.Proof.Forward.Pool
public import proofs.«01_k».proof.Proof.Forward.Conv

@[expose] public section

set_option maxRecDepth 1000000
set_option maxHeartbeats 4000000

noncomputable section

namespace Cert.Kernel3Ideal.Forward

open Idealize.ShloMosaic Idealize.ShloMosaic.TcCoe Idealize.SL.Sem
open Cert.Kernel3Ideal Cert.Kernel3Ideal.Gen Cert.MixGrad Cert.Forward
open scoped BigOperators

/-- The token of row `r` of the tile at grid coordinates `i`. -/
def tok (i : grid0.Coords) (r : Fin 512) : Fin 2048 := ⟨512 * (i 1).val + r, by have h : (i 1).val < 4 := (i 1).isLt; omega⟩

theorem pool_tok (w : ℕ) (hw : w ≤ 16) (v : Vec Ideal S528x128 .f32) (i : grid0.Coords) (r : Fin 512) (e : Fin 128) (u : Fin 2048 → EReal)
    (hv : ∀ k : Fin 528, v (ix2 k e) = ext 16 u (512 * (i 1).val + k)) : poolRow w v (i 1).val r e = pooled w u (tok i r) := by
  have hc : ∀ n, n < 528 → colU v e n = ext 16 u (512 * (i 1).val + n) := fun n hn => (colU_eq v e n hn).symm.trans (hv ⟨n, hn⟩)
  unfold poolRow pooled
  refine congrArg₂ (fun a b : EReal => a - b) (congrArg₂ Ideal.div (Finset.sum_congr rfl fun j _ => ?_) rfl) ?_
  · have hj := j.isLt
    rw [hc _ (by omega)]
    exact congrArg (ext 16 u) (show 512 * (i 1).val + (16 + r.val - j.val) = 512 * (i 1).val + r.val + 16 - j.val by omega)
  · rw [hc _ (by omega)]
    exact ext_in 16 u (tok i r) _ (show 512 * (i 1).val + (16 + r.val) = 16 + (512 * (i 1).val + r.val) by omega)

theorem lanesU (U : Vec Ideal S528x512 .f32) (b : ℕ) (inb : ∀ k, (![0, b] : Fin 2 → ℕ) k + (![528, 128] : Fin 2 → ℕ) k ≤ S528x512.size k) (k : Fin 528) (e : Fin 128) :
    View.ld (Val := Elt Ideal) (e' := .f32) U (Rect.unit ![0, b] ![528, 128] inb) (ix2 k e) = U (ix2 k ⟨b + e.val, Nat.lt_of_lt_of_le (Nat.add_lt_add_left e.isLt b) (inb 1)⟩) := by
  refine congrArg U ?_
  funext a
  refine Fin.ext ?_
  fin_cases a
  · show 0 + 1 * k.val = k.val; omega
  · show b + 1 * e.val = _; rw [Nat.one_mul]; rfl

variable (K : Pars) (P : Fin 2048 → Fin 2560 → EReal) (i : grid0.Coords)

/-- The convolution's output of a tile is the layer's. -/
theorem conv_tok (X : Vec Ideal S552x512 .f32) (b6 : Vec Ideal S31x512 .f32) (b7 : Vec Ideal S1x512 .f32) (r l : Fin 512)
    (hX : ∀ (k : Fin 544) (l : Fin 512), X (ix2 ⟨k, by omega⟩ l) = ext 32 (glu P l) (512 * (i 1).val + k))
    (h6 : ∀ (k : Fin 31) (l : Fin 512), b6 (ix2 k l) = K.dw k l) (h7 : ∀ l : Fin 512, b7 (ix2 0 l) = K.cb l) :
    convRow X b6 b7 r l = cTok K P (tok i r) l := by
  unfold convRow cTok conv
  refine congrArg₂ (fun a b : EReal => a + b) (Finset.sum_congr rfl fun k _ => congrArg₂ (fun a b : EReal => a * b) ?_ (h6 k l)) (h7 l)
  have hk := k.isLt
  refine ((col_eq X l _ (by omega)).symm.trans (hX ⟨r.val + (2 + k.val), by omega⟩ l)).trans ?_
  exact congrArg (ext 32 (glu P l)) (show 512 * (i 1).val + (r.val + (2 + k.val)) = 512 * (i 1).val + r.val + 2 + k.val by omega)

variable (U : Vec Ideal S528x512 .f32) (h1 : Vec Ideal S1x512x512 .f32) (bp : Vec Ideal S1x512x2560 .f32) (b3 : Vec Ideal S4x128x128 .f32)
    (b4 b5 b8 b9 : Vec Ideal S1x512 .f32) (b10 : Vec Ideal S512x512 .bf16) (b11 : Vec Ideal S1x512 .f32)

/-- A tile's blocks hold the layer's parameters and the projections of its tokens. -/
structure Holds : Prop where
  u : ∀ (k : Fin 528) (l : Fin 512), U (ix2 k l) = ext 16 (fun s => P s ⟨l, by omega⟩) (512 * (i 1).val + k)
  h1 : ∀ r l : Fin 512, h1 (ix3 0 r l) = cTok K P (tok i r) l
  p : ∀ (r : Fin 512) (l : Fin 2560), bp (ix3 0 r l) = P (tok i r) l
  pw : ∀ g a b, b3 (ix3 g a b) = K.pw g a b
  pb : ∀ l : Fin 512, b4 (ix2 0 l) = K.pb l
  ps : ∀ l : Fin 512, b5 (ix2 0 l) = K.ps l
  lg : ∀ l : Fin 512, b8 (ix2 0 l) = K.lg l
  lb : ∀ l : Fin 512, b9 (ix2 0 l) = K.lb l
  ww : ∀ k l : Fin 512, (b10 (ix2 k l) : EReal) = K.ww k l
  wb : ∀ l : Fin 512, b11 (ix2 0 l) = K.wb l

variable (H : Holds K P i U h1 bp b3 b4 b5 b8 b9 b10 b11)
include H

/-- The gated output of the convolution mixer, -/
theorem mixHi_at (r j : Fin 512) : (mixHi i U h1 bp b3 b4 b5 b8 b9 b10 b11 (ix2 r j) : EReal) = hiTok K P (tok i r) j := by
  unfold mixHi
  open_payloads
  pointwise
  simp only [H.h1, H.p, H.lg, H.lb, H.ww, H.wb]
  rfl
/-- and of group 0 of the pooling mixer. -/
theorem mix0_at (r : Fin 512) (j : Fin 128) : (mix0 i U h1 bp b3 b4 b5 b8 b9 b10 b11 (ix2 r j) : EReal) = loTok K P (tok i r) 0 j := by
  unfold mix0 k0_pay14 k0_pay12
  generalize hQ : k0_pay10 (F := Ideal) i _ = Q
  have hq : ∀ x : Fin 128, (Q (ix2 r x) : EReal) = pooled 2 (fun s => P s ⟨lane 0 x, by have := (lane 0 x).isLt; omega⟩) (tok i r) := fun x => by
    rw [← hQ]
    refine (pool2 i _ r x).trans (pool_tok 2 (by omega) _ i r x _ fun k => ?_)
    refine ((lanesU U _ _ k x).trans (H.u k _)).trans (congrArg (fun f => ext 16 f (512 * (i 1).val + k.val)) (funext fun s => congrArg (P s) (Fin.ext ?_)))
    show 0 + x.val = 0 * 128 + x.val; omega
  open_payloads
  pointwise
  simp only [hq, H.p, H.pw, H.pb, H.ps]
  unfold loTok zTok
  have el : ∀ h, (⟨j.val, h⟩ : Fin 512) = lane 0 j := fun h => Fin.ext (show j.val = 0 * 128 + j.val by omega)
  have ep : ∀ h, (⟨512 + j.val, h⟩ : Fin 2560) = ⟨512 + lane 0 j, by have := (lane 0 j).isLt; omega⟩ := fun h => Fin.ext (show 512 + j.val = 512 + (0 * 128 + j.val) by omega)
  simp only [el, ep]
  rfl
/-- and of group 1 of the pooling mixer. -/
theorem mix1_at (r : Fin 512) (j : Fin 128) : (mix1 i U h1 bp b3 b4 b5 b8 b9 b10 b11 (ix2 r j) : EReal) = loTok K P (tok i r) 1 j := by
  unfold mix1 k0_pay21 k0_pay19
  generalize hQ : k0_pay17 (F := Ideal) _ _ _ _ = Q
  have hq : ∀ x : Fin 128, (Q (ix2 r x) : EReal) = pooled 4 (fun s => P s ⟨lane 1 x, by have := (lane 1 x).isLt; omega⟩) (tok i r) := fun x => by
    rw [← hQ]
    refine (pool4 i _ r x).trans (pool_tok 4 (by omega) _ i r x _ fun k => ?_)
    refine ((lanesU U _ _ k x).trans (H.u k _)).trans (congrArg (fun f => ext 16 f (512 * (i 1).val + k.val)) (funext fun s => congrArg (P s) (Fin.ext ?_)))
    show 128 + x.val = 1 * 128 + x.val; omega
  open_payloads
  pointwise
  simp only [hq, H.p, H.pw, H.pb, H.ps]
  unfold loTok zTok
  have el : ∀ h, (⟨128 + j.val, h⟩ : Fin 512) = lane 1 j := fun h => Fin.ext (show 128 + j.val = 1 * 128 + j.val by omega)
  have ep : ∀ h, (⟨640 + j.val, h⟩ : Fin 2560) = ⟨512 + lane 1 j, by have := (lane 1 j).isLt; omega⟩ := fun h => Fin.ext (show 640 + j.val = 512 + (1 * 128 + j.val) by omega)
  simp only [el, ep]
  rfl
/-- and of group 2 of the pooling mixer. -/
theorem mix2_at (r : Fin 512) (j : Fin 128) : (mix2 i U h1 bp b3 b4 b5 b8 b9 b10 b11 (ix2 r j) : EReal) = loTok K P (tok i r) 2 j := by
  unfold mix2 k0_pay24
  generalize hQ : k0_pay22 (F := Ideal) _ _ _ = Q
  have hq : ∀ x : Fin 128, (Q (ix2 r x) : EReal) = pooled 8 (fun s => P s ⟨lane 2 x, by have := (lane 2 x).isLt; omega⟩) (tok i r) := fun x => by
    rw [← hQ]
    refine (pool8 i _ r x).trans (pool_tok 8 (by omega) _ i r x _ fun k => ?_)
    refine ((lanesU U _ _ k x).trans (H.u k _)).trans (congrArg (fun f => ext 16 f (512 * (i 1).val + k.val)) (funext fun s => congrArg (P s) (Fin.ext ?_)))
    show 256 + x.val = 2 * 128 + x.val; omega
  open_payloads
  pointwise
  simp only [hq, H.p, H.pw, H.pb, H.ps]
  unfold loTok zTok
  have el : ∀ h, (⟨256 + j.val, h⟩ : Fin 512) = lane 2 j := fun h => Fin.ext (show 256 + j.val = 2 * 128 + j.val by omega)
  have ep : ∀ h, (⟨768 + j.val, h⟩ : Fin 2560) = ⟨512 + lane 2 j, by have := (lane 2 j).isLt; omega⟩ := fun h => Fin.ext (show 768 + j.val = 512 + (2 * 128 + j.val) by omega)
  simp only [el, ep]
  rfl
/-- and of group 3 of the pooling mixer. -/
theorem mix3_at (r : Fin 512) (j : Fin 128) : (mix3 i U h1 bp b3 b4 b5 b8 b9 b10 b11 (ix2 r j) : EReal) = loTok K P (tok i r) 3 j := by
  unfold mix3 k0_pay31
  generalize hQ : k0_pay29 (F := Ideal) _ _ = Q
  have hq : ∀ x : Fin 128, (Q (ix2 r x) : EReal) = pooled 16 (fun s => P s ⟨lane 3 x, by have := (lane 3 x).isLt; omega⟩) (tok i r) := fun x => by
    rw [← hQ]
    refine (pool16 i _ r x).trans (pool_tok 16 (by omega) _ i r x _ fun k => ?_)
    refine ((lanesU U _ _ k x).trans (H.u k _)).trans (congrArg (fun f => ext 16 f (512 * (i 1).val + k.val)) (funext fun s => congrArg (P s) (Fin.ext ?_)))
    show 384 + x.val = 3 * 128 + x.val; omega
  open_payloads
  pointwise
  simp only [hq, H.p, H.pw, H.pb, H.ps]
  unfold loTok zTok
  have el : ∀ h, (⟨384 + j.val, h⟩ : Fin 512) = lane 3 j := fun h => Fin.ext (show 384 + j.val = 3 * 128 + j.val by omega)
  have ep : ∀ h, (⟨896 + j.val, h⟩ : Fin 2560) = ⟨512 + lane 3 j, by have := (lane 3 j).isLt; omega⟩ := fun h => Fin.ext (show 896 + j.val = 512 + (3 * 128 + j.val) by omega)
  simp only [el, ep]
  rfl
omit H in
theorem mix_emb (b n : ℕ) (inb : ∀ k, (![0, b] : Fin 2 → ℕ) k + (![512, n] : Fin 2 → ℕ) k ≤ S512x1024.size k) (x : Shape.Idx ⟨2, ![512, n]⟩) :
    (Rect.unit (s := S512x1024) ![0, b] ![512, n] inb).emb x = ix2 (x 0) ⟨b + (x 1).val, Nat.lt_of_lt_of_le (Nat.add_lt_add_left (x 1).isLt b) (inb 1)⟩ := by
  funext k
  refine Fin.ext ?_
  fin_cases k
  · show 0 + 1 * (x 0).val = (x 0).val; omega
  · show b + 1 * (x 1).val = _; rw [Nat.one_mul]; rfl

theorem mix_pieces : View.PiecesOf (Val := Elt Ideal) (e := .bf16) (fun j : S512x1024.Idx => yTok K P (tok i (j 0)) (j 1)) (mixPieces i U h1 bp b3 b4 b5 b8 b9 b10 b11) := by
  have e2 : ∀ {n : ℕ} (x : Shape.Idx ⟨2, ![512, n]⟩), x = ix2 (x 0) (x 1) := fun x => by
    funext k; fin_cases k <;> rfl
  refine ⟨fun x => ?_, fun x => ?_, fun x => ?_, fun x => ?_, fun x => ?_, trivial⟩
  · rw [mix_emb]
    exact ((congrArg (mixHi i U h1 bp b3 b4 b5 b8 b9 b10 b11) (e2 x)).trans (mixHi_at K P i U h1 bp b3 b4 b5 b8 b9 b10 b11 H (x 0) (x 1))).trans (yTok_hi K P _ _ _ rfl).symm
  · rw [mix_emb]
    exact ((congrArg (mix3 i U h1 bp b3 b4 b5 b8 b9 b10 b11) (e2 x)).trans (mix3_at K P i U h1 bp b3 b4 b5 b8 b9 b10 b11 H (x 0) (x 1))).trans
      (yTok_lo K P _ 3 (x 1) _ (show 384 + (x 1).val = 3 * 128 + (x 1).val by omega)).symm
  · rw [mix_emb]
    exact ((congrArg (mix2 i U h1 bp b3 b4 b5 b8 b9 b10 b11) (e2 x)).trans (mix2_at K P i U h1 bp b3 b4 b5 b8 b9 b10 b11 H (x 0) (x 1))).trans
      (yTok_lo K P _ 2 (x 1) _ (show 256 + (x 1).val = 2 * 128 + (x 1).val by omega)).symm
  · rw [mix_emb]
    exact ((congrArg (mix1 i U h1 bp b3 b4 b5 b8 b9 b10 b11) (e2 x)).trans (mix1_at K P i U h1 bp b3 b4 b5 b8 b9 b10 b11 H (x 0) (x 1))).trans
      (yTok_lo K P _ 1 (x 1) _ (show 128 + (x 1).val = 1 * 128 + (x 1).val by omega)).symm
  · rw [mix_emb]
    exact ((congrArg (mix0 i U h1 bp b3 b4 b5 b8 b9 b10 b11) (e2 x)).trans (mix0_at K P i U h1 bp b3 b4 b5 b8 b9 b10 b11 H (x 0) (x 1))).trans
      (yTok_lo K P _ 0 (x 1) _ (show 0 + (x 1).val = 0 * 128 + (x 1).val by omega)).symm

omit H in
theorem mix_cover (y : S512x1024.Idx) : ∃ p ∈ mixPieces i U h1 bp b3 b4 b5 b8 b9 b10 b11, y ∈ p.1.set := by
  have h0 : (y 0).val < 512 := (y 0).isLt
  have h1 : (y 1).val < 1024 := (y 1).isLt
  rcases (by omega : 512 ≤ (y 1).val ∨ (384 ≤ (y 1).val ∧ (y 1).val < 512) ∨ (256 ≤ (y 1).val ∧ (y 1).val < 384) ∨ (128 ≤ (y 1).val ∧ (y 1).val < 256) ∨ (y 1).val < 128) with h | h | h | h | h
  · exact ⟨_, List.mem_cons_self, show y ∈ (Rect.unit (s := S512x1024) ![0, 512] ![512, 512] inb_S512x1024_S512x512_0_512).set from Rect.mem_set_unit.mpr fun k => by
      fin_cases k
      · show 0 ≤ (y 0).val ∧ (y 0).val < 0 + 512; omega
      · show 512 ≤ (y 1).val ∧ (y 1).val < 512 + 512; omega⟩
  · exact ⟨_, List.mem_cons_of_mem _ (List.mem_cons_self), show y ∈ (Rect.unit (s := S512x1024) ![0, 384] ![512, 128] inb_S512x1024_S512x128_0_384).set from Rect.mem_set_unit.mpr fun k => by
      fin_cases k
      · show 0 ≤ (y 0).val ∧ (y 0).val < 0 + 512; omega
      · show 384 ≤ (y 1).val ∧ (y 1).val < 384 + 128; omega⟩
  · exact ⟨_, List.mem_cons_of_mem _ (List.mem_cons_of_mem _ (List.mem_cons_self)), show y ∈ (Rect.unit (s := S512x1024) ![0, 256] ![512, 128] inb_S512x1024_S512x128_0_256).set from Rect.mem_set_unit.mpr fun k => by
      fin_cases k
      · show 0 ≤ (y 0).val ∧ (y 0).val < 0 + 512; omega
      · show 256 ≤ (y 1).val ∧ (y 1).val < 256 + 128; omega⟩
  · exact ⟨_, List.mem_cons_of_mem _ (List.mem_cons_of_mem _ (List.mem_cons_of_mem _ (List.mem_cons_self))), show y ∈ (Rect.unit (s := S512x1024) ![0, 128] ![512, 128] inb_S512x1024_S512x128_0_128).set from Rect.mem_set_unit.mpr fun k => by
      fin_cases k
      · show 0 ≤ (y 0).val ∧ (y 0).val < 0 + 512; omega
      · show 128 ≤ (y 1).val ∧ (y 1).val < 128 + 128; omega⟩
  · exact ⟨_, List.mem_cons_of_mem _ (List.mem_cons_of_mem _ (List.mem_cons_of_mem _ (List.mem_cons_of_mem _ (List.mem_cons_self)))), show y ∈ (Rect.unit (s := S512x1024) ![0, 0] ![512, 128] inb_S512x1024_S512x128_0_0).set from Rect.mem_set_unit.mpr fun k => by
      fin_cases k
      · show 0 ≤ (y 0).val ∧ (y 0).val < 0 + 512; omega
      · show 0 ≤ (y 1).val ∧ (y 1).val < 0 + 128; omega⟩

/-- The concatenated mixers of a tile, at an index. -/
theorem mix_at (r : Fin 512) (e : Fin 1024) : (View.canon (mixPieces i U h1 bp b3 b4 b5 b8 b9 b10 b11) (ix2 r e) : EReal) = yTok K P (tok i r) e := by
  have h := View.canon_append_of_piecesOf (Val := Elt Ideal) (e := .bf16) (fun j : S512x1024.Idx => yTok K P (tok i (j 0)) (j 1)) [] (mixPieces i U h1 bp b3 b4 b5 b8 b9 b10 b11)
    (mix_pieces K P i U h1 bp b3 b4 b5 b8 b9 b10 b11 H) (ix2 r e) (mix_cover i U h1 bp b3 b4 b5 b8 b9 b10 b11 _)
  rw [List.append_nil] at h
  exact h

end Cert.Kernel3Ideal.Forward

end
-- ==== Proof.Forward.Out.lean ====
module

public import proofs.«01_k».proof.Proof.Forward.Pieces

@[expose] public section

set_option maxRecDepth 1000000
set_option maxHeartbeats 4000000

noncomputable section

namespace Cert.Kernel3Ideal.Forward

open Idealize.ShloMosaic Idealize.ShloMosaic.TcCoe Idealize.SL.Sem
open Cert.Kernel3Ideal Cert.Kernel3Ideal.Gen Cert.MixGrad Cert.Forward
open scoped BigOperators

variable (bx : Vec Ideal S1x512x1024 .f32) (Y : Vec Ideal S512x1024 .bf16) (w : Vec Ideal S1024x1024 .bf16) (fg : Vec Ideal S1x1024 .f32) (bt : Vec Ideal S1x512x1024 .f32)

/-- A row of the residual stream after the layer, from the concatenated mixers. -/
def hRow (r : Fin 512) (e : Fin 1024) : EReal := (bx (ix3 0 r e) : EReal) + ∑ l : Fin 1024, (Y (ix2 r l) : EReal) * (w (ix2 l e) : EReal)

theorem dh_at (r : Fin 512) (k : Fin 1024) :
    k0_pay95 (k0_pay89 (k0_pay86 bx) Y (k0_pay87 w)) (k0_pay90 (k0_pay86 bx) Y (k0_pay87 w)) (k0_pay93 (k0_pay86 bx) Y (k0_pay87 w) fg bt) fg (ix3 0 r k)
      = dhTok (hRow bx Y w r) (fun e => fg (ix2 0 e)) (fun e => bt (ix3 0 r e)) k := by
  open_payloads
  pointwise
  rfl

theorem loss_at (prev : Vec Ideal S8x128 .f32) (a : Fin 8) (b : Fin 128) :
    k0_pay92 (k0_pay86 bx) Y (k0_pay87 w) fg bt prev (ix2 a b) = (prev (ix2 a b) : EReal) + (∑ r : Fin 512, ∑ e : Fin 1024, err (hRow bx Y w r) (fun e => fg (ix2 0 e)) (fun e => bt (ix3 0 r e)) e
        * err (hRow bx Y w r) (fun e => fg (ix2 0 e)) (fun e => bt (ix3 0 r e)) e) * Ideal.ofBits .f32 0x3A000000#32 := by
  open_payloads
  pointwise
  rfl

theorem gfg_at (prev : Vec Ideal S8x1024 .f32) (a : Fin 8) (b : Fin 1024) :
    k0_pay94 (k0_pay86 bx) Y (k0_pay87 w) fg bt prev (ix2 a b) = (prev (ix2 a b) : EReal) + ∑ x : Fin 64, dout (hRow bx Y w ⟨x * 8 + a, by omega⟩) (fun e => fg (ix2 0 e)) (fun e => bt (ix3 0 ⟨x * 8 + a, by omega⟩ e)) b
        * (hRow bx Y w ⟨x * 8 + a, by omega⟩ b * rms (hRow bx Y w ⟨x * 8 + a, by omega⟩)) := by
  open_payloads
  pointwise
  rfl

end Cert.Kernel3Ideal.Forward

end
-- ==== Proof.Forward.State.lean ====
module

public import proofs.«01_k».proof.Proof.Forward.Blocks
public import proofs.«01_k».proof.Proof.Forward.Case
public import proofs.«01_k».proof.Proof.Forward.Mix
public import proofs.«01_k».proof.Proof.Forward.Out

@[expose] public section

set_option maxRecDepth 16384
set_option maxHeartbeats 400000

noncomputable section

/-! What each grid point computes, token by token: the carried rows are the tokens before the tile, so each tile's mixers, residual stream
and gradients are those of its tokens. -/

namespace Cert.Kernel3Ideal.Forward

open Idealize.ShloMosaic Idealize.ShloMosaic.TcCoe Idealize.SL.Sem
open Idealize.ShloMosaic.Pipeline (Dat)
open Cert.Kernel3Ideal Cert.Kernel3Ideal.Gen Cert.MixGrad Cert.Forward
open scoped BigOperators

variable (m : (ℓ : Loc nD τ sig) → Buf (Elt Ideal) ℓ)

/-- A tile's row is its token of the sequence. -/
theorem tok_eq (t : Fin cfg0.N) (r : Fin 512) : tok (grid0.coords t) r = tk t.val r :=
  Fin.ext (by show 512 * (grid0.coords t 1).val + r.val = 512 * (t.val % 4) + r.val; rw [coord t])

theorem glu_at (c : Dev nD) (t : Fin cfg0.N) (r l : Fin 512) : gluOf (iblk m c 2 t) r l = glu (P m c (sq t.val)) l (tk t.val r) := by
  unfold gluOf glu
  rw [proj_at, proj_at]

/-- What any point leaves for the next one. -/
theorem u_any (c : Dev nD) (t : Fin cfg0.N) (k : Fin 16) (l : Fin 512) :
    (outsAt0 m c t.val t.isLt).2.2.2.2.2.2.2.1 (ix2 ⟨k, by omega⟩ l) = P m c (sq t.val) (tk t.val ⟨496 + k, by omega⟩) ⟨l, by omega⟩ := by
  refine Eq.trans ?_ (proj_at m c t ⟨496 + k, by omega⟩ ⟨l, by omega⟩)
  by_cases h0 : t.val % 4 = 0
  · by_cases h1 : t.val % 8 = 0
    · exact u_A m c t h0 h1 k l
    · exact u_C m c t h0 h1 k l
  · exact u_B m c t h0 (by omega) k l
theorem x_any (c : Dev nD) (t : Fin cfg0.N) (k : Fin 32) (l : Fin 512) :
    (outsAt0 m c t.val t.isLt).2.2.2.2.2.2.2.2 (ix2 ⟨k, by omega⟩ l) = glu (P m c (sq t.val)) l (tk t.val ⟨480 + k, by omega⟩) := by
  refine Eq.trans ?_ (glu_at m c t ⟨480 + k, by omega⟩ l)
  by_cases h0 : t.val % 4 = 0
  · by_cases h1 : t.val % 8 = 0
    · exact x_A m c t h0 h1 k l
    · exact x_C m c t h0 h1 k l
  · exact x_B m c t h0 (by omega) k l

/-- The point before within a sequence. -/
def prevPt (t : Fin cfg0.N) : Fin cfg0.N := ⟨t.val - 1, Nat.lt_of_le_of_lt (Nat.sub_le _ _) t.isLt⟩
theorem sq_prev (t : Fin cfg0.N) (h0 : ¬t.val % 4 = 0) : sq (prevPt t).val = sq t.val :=
  Fin.ext (by show (t.val - 1) / 4 % 2 = t.val / 4 % 2; omega)

/-- The values the pooling reads are the projection's, with zeros before the sequence, -/
theorem U_start (c : Dev nD) (t : Fin cfg0.N) (h0 : t.val % 4 = 0) (k : Fin 528) (l : Fin 512) :
    View.canon (initU (iblk m c 2 t)) (ix2 k l) = ext 16 (fun s => P m c (sq t.val) s ⟨l, by omega⟩) (512 * (grid0.coords t 1).val + k.val) := by
  rw [initU_at _ k l k.isLt, coord t]
  split_ifs with h
  · exact (ext_before _ _ _ (by omega)).symm
  · exact (proj_at m c t _ _).trans (ext_in 16 (fun s => P m c (sq t.val) s ⟨l, by omega⟩) (tk t.val ⟨k.val - 16, by omega⟩) (512 * (t.val % 4) + k.val) (by show 512 * (t.val % 4) + k.val = 16 + (512 * (t.val % 4) + (k.val - 16)); omega)).symm
theorem U_mid (c : Dev nD) (t : Fin cfg0.N) (h0 : ¬t.val % 4 = 0) (k : Fin 528) (l : Fin 512) :
    midU m c t (ix2 k l) = ext 16 (fun s => P m c (sq t.val) s ⟨l, by omega⟩) (512 * (grid0.coords t 1).val + k.val) := by
  unfold midU
  refine (nextU (iblk m c 2 t) _ _ k l k.isLt).trans ?_
  rw [coord t]
  split_ifs with h
  · refine (u_any m c (prevPt t) ⟨k.val, h⟩ l).trans ?_
    rw [sq_prev t h0]
    exact (ext_in 16 (fun s => P m c (sq t.val) s ⟨l, by omega⟩) (tk (prevPt t).val ⟨496 + k.val, by omega⟩) _ (by show _ = 16 + (512 * ((t.val - 1) % 4) + (496 + k.val)); omega)).symm
  · exact (proj_at m c t _ _).trans (ext_in 16 (fun s => P m c (sq t.val) s ⟨l, by omega⟩) (tk t.val ⟨k.val - 16, by omega⟩) (512 * (t.val % 4) + k.val) (by show 512 * (t.val % 4) + k.val = 16 + (512 * (t.val % 4) + (k.val - 16)); omega)).symm
/-- and those the convolution reads are its input's. -/
theorem X_start (c : Dev nD) (t : Fin cfg0.N) (h0 : t.val % 4 = 0) (k : Fin 544) (l : Fin 512) :
    View.canon (initX (iblk m c 2 t)) (ix2 ⟨k, by omega⟩ l) = ext 32 (glu (P m c (sq t.val)) l) (512 * (grid0.coords t 1).val + k.val) := by
  rw [initX_at _ ⟨k, by omega⟩ l k.isLt, coord t]
  split_ifs with h
  · exact (ext_before _ _ _ (by have h' : k.val < 32 := h; omega)).symm
  · have h' : ¬k.val < 32 := h
    exact (glu_at m c t _ _).trans (ext_in 32 _ (tk t.val ⟨k.val - 32, by omega⟩) _ (by show _ = 32 + (512 * (t.val % 4) + (k.val - 32)); omega)).symm
theorem X_mid (c : Dev nD) (t : Fin cfg0.N) (h0 : ¬t.val % 4 = 0) (k : Fin 544) (l : Fin 512) :
    midX m c t (ix2 ⟨k, by omega⟩ l) = ext 32 (glu (P m c (sq t.val)) l) (512 * (grid0.coords t 1).val + k.val) := by
  unfold midX
  refine (nextX (iblk m c 2 t) _ _ ⟨k, by omega⟩ l k.isLt).trans ?_
  rw [coord t]
  split_ifs with h
  · have h' : k.val < 32 := h
    refine (x_any m c (prevPt t) ⟨k.val, h'⟩ l).trans ?_
    rw [sq_prev t h0]
    exact (ext_in 32 (glu (P m c (sq t.val)) l) (tk (prevPt t).val ⟨480 + k.val, by omega⟩) _ (by show _ = 32 + (512 * ((t.val - 1) % 4) + (480 + k.val)); omega)).symm
  · have h' : ¬k.val < 32 := h
    exact (glu_at m c t _ _).trans (ext_in 32 _ (tk t.val ⟨k.val - 32, by omega⟩) _ (by show _ = 32 + (512 * (t.val % 4) + (k.val - 32)); omega)).symm

/-- The mixers of a tile are those of its tokens. -/
theorem mixAt_at (c : Dev nD) (t : Fin cfg0.N) (U : Vec Ideal S528x512 .f32) (X : Vec Ideal S552x512 .f32)
    (hU : ∀ (k : Fin 528) (l : Fin 512), U (ix2 k l) = ext 16 (fun s => P m c (sq t.val) s ⟨l, by omega⟩) (512 * (grid0.coords t 1).val + k.val))
    (hX : ∀ (k : Fin 544) (l : Fin 512), X (ix2 ⟨k, by omega⟩ l) = ext 32 (glu (P m c (sq t.val)) l) (512 * (grid0.coords t 1).val + k.val))
    (r : Fin 512) (e : Fin 1024) : (mixAt m c t U X (ix2 r e) : EReal) = yTok (K m c) (P m c (sq t.val)) (tk t.val r) e := by
  rw [← tok_eq t r]
  refine mix_at (K m c) (P m c (sq t.val)) (grid0.coords t) U _ (iblk m c 2 t) (iblk m c 3 t) (iblk m c 4 t) (iblk m c 5 t) (iblk m c 8 t) (iblk m c 9 t) (iblk m c 10 t) (iblk m c 11 t)
    { u := hU
      h1 := fun r l => (conv_at X (iblk m c 6 t) (iblk m c 7 t) r l).trans (conv_tok (K m c) (P m c (sq t.val)) (grid0.coords t) X (iblk m c 6 t) (iblk m c 7 t) r l hX (dw_at m c t) (cb_at m c t))
      p := fun r l => (proj_at m c t r l).trans (by rw [tok_eq t r])
      pw := pw_at m c t
      pb := pb_at m c t
      ps := ps_at m c t
      lg := lg_at m c t
      lb := lb_at m c t
      ww := ww_at m c t
      wb := wb_at m c t } r e

/-- The residual stream after the layer at a token. -/
def hAt (c : Dev nD) (q : Fin 2) (s : Fin 2048) (e : Fin 1024) : EReal := hTok (K m c) (P m c q) (X0 m c q s) s e

/-- The concatenated mixers hold a tile's. -/
def Mixed (c : Dev nD) (t : Fin cfg0.N) (Y : Vec Ideal S512x1024 .bf16) : Prop :=
  ∀ (r : Fin 512) (e : Fin 1024), (Y (ix2 r e) : EReal) = yTok (K m c) (P m c (sq t.val)) (tk t.val r) e

theorem mixed_start (c : Dev nD) (t : Fin cfg0.N) (h0 : t.val % 4 = 0) : Mixed m c t (mixAt m c t (View.canon (initU (iblk m c 2 t))) (View.canon (initX (iblk m c 2 t)))) :=
  mixAt_at m c t _ _ (U_start m c t h0) (X_start m c t h0)
theorem mixed_mid (c : Dev nD) (t : Fin cfg0.N) (h0 : ¬t.val % 4 = 0) : Mixed m c t (mixAt m c t (midU m c t) (midX m c t)) :=
  mixAt_at m c t _ _ (U_mid m c t h0) (X_mid m c t h0)

section
variable (c : Dev nD) (t : Fin cfg0.N) (Y : Vec Ideal S512x1024 .bf16) (hY : Mixed m c t Y)
include hY

theorem hRow_eq (r : Fin 512) : hRow (iblk m c 0 t) Y (iblk m c 12 t) r = hAt m c (sq t.val) (tk t.val r) := by
  funext e
  unfold hRow hAt hTok
  exact congrArg₂ (fun a b : EReal => a + b) (x_at m c t r e) (Finset.sum_congr rfl fun l _ => congrArg₂ (fun a b : EReal => a * b) (hY r l) (wo_at m c t l e))
omit hY in
theorem fg_row : (fun e : Fin 1024 => iblk m c 13 t (ix2 0 e : S1x1024.Idx)) = (K m c).fg := funext (fg_at m c t)
omit hY in
theorem tgt_row (r : Fin 512) : (fun e : Fin 1024 => iblk m c 1 t (ix3 0 r e : S1x512x1024.Idx)) = T0 m c (sq t.val) (tk t.val r) := funext (tgt_at m c t r)

/-- The gradient a tile stores, -/
theorem dhAt_at (r : Fin 512) (k : Fin 1024) : dhAt m c t Y (ix3 0 r k) = dhTok (hAt m c (sq t.val) (tk t.val r)) (K m c).fg (T0 m c (sq t.val) (tk t.val r)) k := by
  unfold dhAt
  refine (dh_at (iblk m c 0 t) Y (iblk m c 12 t) (iblk m c 13 t) (iblk m c 1 t) r k).trans ?_
  rw [hRow_eq m c t Y hY r]
  exact congrArg₂ (fun a b => dhTok (hAt m c (sq t.val) (tk t.val r)) a b k) (fg_row m c t) (tgt_row m c t r)
end

/-- A token's term of the loss and of the gain's gradient. -/
def lossTok (c : Dev nD) (q : Fin 2) (s : Fin 2048) : EReal :=
  (∑ e, err (hAt m c q s) (K m c).fg (T0 m c q s) e * err (hAt m c q s) (K m c).fg (T0 m c q s) e) * Ideal.ofBits .f32 0x3A000000#32
def gainTok (c : Dev nD) (b : Fin 1024) (q : Fin 2) (s : Fin 2048) : EReal :=
  dout (hAt m c q s) (K m c).fg (T0 m c q s) b * (hAt m c q s b * rms (hAt m c q s))

section
variable (c : Dev nD) (t : Fin cfg0.N) (Y : Vec Ideal S512x1024 .bf16) (hY : Mixed m c t Y)
include hY

/-- what it adds to the loss, -/
theorem lossAt_at (prev : Vec Ideal S8x128 .f32) (a : Fin 8) (b : Fin 128) :
    k0_pay92 (k0_pay86 (iblk m c 0 t)) Y (k0_pay87 (iblk m c 12 t)) (iblk m c 13 t) (iblk m c 1 t) prev (ix2 a b)
      = (prev (ix2 a b) : EReal) + ∑ r : Fin 512, lossTok m c (sq t.val) (tk t.val r) := by
  refine (loss_at (iblk m c 0 t) Y (iblk m c 12 t) (iblk m c 13 t) (iblk m c 1 t) prev a b).trans ?_
  rw [mul_real_sum]
  refine congrArg ((prev (ix2 a b) : EReal) + ·) (Finset.sum_congr rfl fun r _ => ?_)
  rw [hRow_eq m c t Y hY r]
  exact congrArg₂ (fun f g => (∑ e, err (hAt m c (sq t.val) (tk t.val r)) f g e * err (hAt m c (sq t.val) (tk t.val r)) f g e) * Ideal.ofBits .f32 0x3A000000#32) (fg_row m c t) (tgt_row m c t r)

/-- and to the gain's gradient. -/
theorem gainAt_at (prev : Vec Ideal S8x1024 .f32) (a : Fin 8) (b : Fin 1024) :
    k0_pay94 (k0_pay86 (iblk m c 0 t)) Y (k0_pay87 (iblk m c 12 t)) (iblk m c 13 t) (iblk m c 1 t) prev (ix2 a b)
      = (prev (ix2 a b) : EReal) + ∑ x : Fin 64, gainTok m c b (sq t.val) (tk t.val ⟨x.val * 8 + a.val, by omega⟩) := by
  refine (gfg_at (iblk m c 0 t) Y (iblk m c 12 t) (iblk m c 13 t) (iblk m c 1 t) prev a b).trans ?_
  refine congrArg ((prev (ix2 a b) : EReal) + ·) (Finset.sum_congr rfl fun x _ => ?_)
  rw [hRow_eq m c t Y hY ⟨x.val * 8 + a.val, by omega⟩]
  exact congrArg₂ (fun f g => dout (hAt m c (sq t.val) (tk t.val ⟨x.val * 8 + a.val, by omega⟩)) f g b * (hAt m c (sq t.val) (tk t.val ⟨x.val * 8 + a.val, by omega⟩) b * rms (hAt m c (sq t.val) (tk t.val ⟨x.val * 8 + a.val, by omega⟩))))
    (fg_row m c t) (tgt_row m c t ⟨x.val * 8 + a.val, by omega⟩)
end

/-- The gradient of the residual stream a point leaves in its block, -/
theorem dh_point (c : Dev nD) (t : Fin cfg0.N) (r : Fin 512) (k : Fin 1024) :
    (outsAt0 m c t.val t.isLt).2.2.2.2.1 (ix3 0 r k) = dhTok (hAt m c (sq t.val) (tk t.val r)) (K m c).fg (T0 m c (sq t.val) (tk t.val r)) k := by
  by_cases h0 : t.val % 4 = 0
  · by_cases h1 : t.val % 8 = 0
    · rw [dh_A m c t h0 h1]; exact dhAt_at m c t _ (mixed_start m c t h0) r k
    · rw [dh_C m c t h0 h1]; exact dhAt_at m c t _ (mixed_start m c t h0) r k
  · obtain ⟨U, X, rfl, rfl, h, -, -⟩ := out_B m c t h0 (by omega)
    rw [h]; exact dhAt_at m c t _ (mixed_mid m c t h0) r k

theorem zero6 (a : Fin 8) (b : Fin 128) : k0_pay6 (F := Ideal) (ix2 a b) = (0 : EReal) := by
  open_payloads
  pointwise
theorem zero7 (a : Fin 8) (b : Fin 1024) : k0_pay7 (F := Ideal) (ix2 a b) = (0 : EReal) := by
  open_payloads
  pointwise

/-- the loss after the first point and after any other, -/
theorem loss_first (c : Dev nD) (t : Fin cfg0.N) (h1 : t.val % 8 = 0) (a : Fin 8) (b : Fin 128) :
    (outsAt0 m c t.val t.isLt).2.2.2.2.2.1 (ix2 a b) = (∑ r : Fin 512, lossTok m c (sq t.val) (tk t.val r) : EReal) := by
  have h0 : t.val % 4 = 0 := by omega
  rw [loss_A m c t h0 h1]
  refine (lossAt_at m c t _ (mixed_start m c t h0) _ a b).trans ?_
  rw [zero6, zero_add]
theorem loss_step (c : Dev nD) (t : Fin cfg0.N) (h1 : ¬t.val % 8 = 0) (a : Fin 8) (b : Fin 128) :
    (outsAt0 m c t.val t.isLt).2.2.2.2.2.1 (ix2 a b) = ((before m c t).2.2.2.2.2.1 (ix2 a b) : EReal) + ∑ r : Fin 512, lossTok m c (sq t.val) (tk t.val r) := by
  by_cases h0 : t.val % 4 = 0
  · rw [loss_C m c t h0 h1]; exact lossAt_at m c t _ (mixed_start m c t h0) _ a b
  · obtain ⟨U, X, rfl, rfl, -, h, -⟩ := out_B m c t h0 h1
    rw [h]; exact lossAt_at m c t _ (mixed_mid m c t h0) _ a b

/-- and so for the gain's gradient. -/
theorem gain_first (c : Dev nD) (t : Fin cfg0.N) (h1 : t.val % 8 = 0) (a : Fin 8) (b : Fin 1024) :
    (outsAt0 m c t.val t.isLt).2.2.2.2.2.2.1 (ix2 a b) = (∑ x : Fin 64, gainTok m c b (sq t.val) (tk t.val ⟨x.val * 8 + a.val, by omega⟩) : EReal) := by
  have h0 : t.val % 4 = 0 := by omega
  rw [gfg_A m c t h0 h1]
  refine (gainAt_at m c t _ (mixed_start m c t h0) _ a b).trans ?_
  rw [zero7, zero_add]
theorem gain_step (c : Dev nD) (t : Fin cfg0.N) (h1 : ¬t.val % 8 = 0) (a : Fin 8) (b : Fin 1024) :
    (outsAt0 m c t.val t.isLt).2.2.2.2.2.2.1 (ix2 a b) = ((before m c t).2.2.2.2.2.2.1 (ix2 a b) : EReal) + ∑ x : Fin 64, gainTok m c b (sq t.val) (tk t.val ⟨x.val * 8 + a.val, by omega⟩) := by
  by_cases h0 : t.val % 4 = 0
  · rw [gfg_C m c t h0 h1]; exact gainAt_at m c t _ (mixed_start m c t h0) _ a b
  · obtain ⟨U, X, rfl, rfl, -, -, h⟩ := out_B m c t h0 h1
    rw [h]; exact gainAt_at m c t _ (mixed_mid m c t h0) _ a b

end Cert.Kernel3Ideal.Forward

end
-- ==== Proof.Forward.Ref.lean ====
module

public import proofs.«01_k».proof.Proof.Gen.Reference3Ideal.Run
public import proofs.«01_k».proof.Proof.Forward.Rows
public import Idealize.ShloMosaic.Lib.Pipeline.ValueKit
public import Idealize.ShloMosaic.Lib.KernelVsHost

@[expose] public section

set_option maxRecDepth 16384

noncomputable section

namespace Cert.Reference3Ideal.Forward

open Idealize.ShloMosaic Idealize.ShloMosaic.TcCoe Idealize.SL.Sem
open Cert.Reference3Ideal Cert.Reference3Ideal.Gen Cert.MixGrad Cert.Forward
open scoped BigOperators

variable (V0 : Valuation τ sig (Elt Ideal))

abbrev aP : FVec Ideal S2x2048x2560 .f32 := V0 (Proc.devRef .tc main_arg2)
def proj (q : Fin 2) (s : Fin 2048) (e : Fin 2560) : EReal := aP V0 (ix3 q s e)

theorem padded {n p L : ℕ} (x : FVec Ideal ⟨3, ![2, 2048, n]⟩ .f32) (v : FVec Ideal S_ .f32) (hv : ∀ i, v i = (0 : EReal))
    (h : Shape.Pads (s := ⟨3, ![2, 2048, n]⟩) ![0, p, 0] ![0, 0, 0] ![0, 0, 0] ⟨3, ![2, L, n]⟩) (hL : L = 2048 + p) (hu : 0 < S_.numel) (q : Fin 2) (s : Fin L) (e : Fin n) :
    (pad ⟨3, ![2, L, n]⟩ ![0, p, 0] ![0, 0, 0] ![0, 0, 0] x v h hu : FVec Ideal ⟨3, ![2, L, n]⟩ .f32) (ix3 q s e) = ext p (fun s => x (ix3 q s e)) s := by
  unfold ext
  by_cases hs : p ≤ s.val ∧ s.val - p < 2048
  · rw [dif_pos hs]
    refine pad_apply_of_inside _ _ _ x v h hu _ (ix3 q ⟨s - p, hs.2⟩ e) fun a => ?_
    fin_cases a
    · show q.val = 0 + q.val * (0 + 1); omega
    · show s.val = p + (s.val - p) * (0 + 1); omega
    · show e.val = 0 + e.val * (0 + 1); omega
  · rw [dif_neg hs]
    refine (pad_apply_of_not_inside _ _ _ x v h hu _ (1 : Fin 3) fun ha => ?_).trans (hv _)
    have h1 : p ≤ s.val := ha.1
    have h2 : (s.val - p) / (0 + 1) < 2048 := ha.2.2
    exact hs ⟨h1, by omega⟩

theorem zero_lit (i : S_.Idx) : (constant S_ .f32 0x00000000#32 : FVec Ideal S_ .f32) i = (0 : EReal) := by pointwise

theorem v10_at (q : Fin 2) (s : Fin 2049) (e : Fin 128) : Value.res_main_v10 V0 (ix3 q s e : S2x2049x128.Idx) = ext 1 (fun s => proj V0 q s ⟨e, by omega⟩) s := by
  unfold Value.res_main_v10
  refine (padded (n := 128) (p := 1) (L := 2049) _ _ zero_lit _ rfl _ q s e).trans ?_
  unfold proj
  refine congrArg (fun f => ext 1 f s.val) (funext fun s => ?_)
  pointwise [Value.res_main_v1]
theorem v24_at (q : Fin 2) (s : Fin 2051) (e : Fin 128) : Value.res_main_v24 V0 (ix3 q s e : S2x2051x128.Idx) = ext 3 (fun s => proj V0 q s ⟨128 + e, by omega⟩) s := by
  unfold Value.res_main_v24
  refine (padded (n := 128) (p := 3) (L := 2051) _ _ zero_lit _ rfl _ q s e).trans ?_
  unfold proj
  refine congrArg (fun f => ext 3 f s.val) (funext fun s => ?_)
  pointwise [Value.res_main_v1]
theorem v42_at (q : Fin 2) (s : Fin 2055) (e : Fin 128) : Value.res_main_v42 V0 (ix3 q s e : S2x2055x128.Idx) = ext 7 (fun s => proj V0 q s ⟨256 + e, by omega⟩) s := by
  unfold Value.res_main_v42
  refine (padded (n := 128) (p := 7) (L := 2055) _ _ zero_lit _ rfl _ q s e).trans ?_
  unfold proj
  refine congrArg (fun f => ext 7 f s.val) (funext fun s => ?_)
  pointwise [Value.res_main_v1]
theorem v68_at (q : Fin 2) (s : Fin 2063) (e : Fin 128) : Value.res_main_v68 V0 (ix3 q s e : S2x2063x128.Idx) = ext 15 (fun s => proj V0 q s ⟨384 + e, by omega⟩) s := by
  unfold Value.res_main_v68
  refine (padded (n := 128) (p := 15) (L := 2063) _ _ zero_lit _ rfl _ q s e).trans ?_
  unfold proj
  refine congrArg (fun f => ext 15 f s.val) (funext fun s => ?_)
  pointwise [Value.res_main_v1]
theorem v132_at (q : Fin 2) (s : Fin 2078) (e : Fin 512) : Value.res_main_v132 V0 (ix3 q s e : S2x2078x512.Idx) = ext 30 (glu (proj V0 q) e) s := by
  unfold Value.res_main_v132
  refine (padded (n := 512) (p := 30) (L := 2078) _ _ zero_lit _ rfl _ q s e).trans ?_
  unfold glu proj
  refine congrArg (fun f => ext 30 f s.val) (funext fun s => ?_)
  pointwise
  rfl

abbrev av102 : FVec Ideal S2x2048x512 .f32 := Value.res_main_v102 V0
theorem sum2 (q : Fin 2) (s : Fin 2048) (e : Fin 128) : av102 V0 (ix3 q s ⟨e, by omega⟩)
    = Ideal.div (∑ j : Fin 2, ext 16 (fun s => proj V0 q s ⟨e, by omega⟩) (s + 16 - j)) (cnt 2 s) := by
  unfold av102 Value.res_main_v102
  pointwise
  simp only [v10_at]
  refine congrArg₂ Ideal.div ?_ (cnt_word 2 s (by omega) s.isLt)
  refine Eq.trans ?_ (tree2 (fun j => ext 16 (fun s => proj V0 q s ⟨e, by omega⟩) (s + 16 - j)))
  exact congrArg₂ (fun a b : EReal => a + b) (ext_eq _ (by omega)) (ext_eq _ (by omega))
theorem sum4 (q : Fin 2) (s : Fin 2048) (e : Fin 128) : av102 V0 (ix3 q s ⟨128 + e, by omega⟩)
    = Ideal.div (∑ j : Fin 4, ext 16 (fun s => proj V0 q s ⟨128 + e, by omega⟩) (s + 16 - j)) (cnt 4 s) := by
  unfold av102 Value.res_main_v102
  pointwise
  simp only [v24_at]
  refine congrArg₂ Ideal.div ?_ (cnt_word 4 s (by omega) s.isLt)
  refine Eq.trans ?_ (line4 (fun j => ext 16 (fun s => proj V0 q s ⟨128 + e, by omega⟩) (s + 16 - j)))
  exact congrArg₂ (fun a b : EReal => a + b) (congrArg₂ (fun a b : EReal => a + b) (congrArg₂ (fun a b : EReal => a + b) (ext_eq _ (by omega)) (ext_eq _ (by omega))) (ext_eq _ (by omega))) (ext_eq _ (by omega))
theorem sum8 (q : Fin 2) (s : Fin 2048) (e : Fin 128) : av102 V0 (ix3 q s ⟨256 + e, by omega⟩)
    = Ideal.div (∑ j : Fin 8, ext 16 (fun s => proj V0 q s ⟨256 + e, by omega⟩) (s + 16 - j)) (cnt 8 s) := by
  unfold av102 Value.res_main_v102
  pointwise
  rw [dif_neg (by omega), dif_neg (by omega), dif_pos (by omega)]
  have he : 256 + e.val - 128 - 128 = e.val := by omega
  simp only [he, v42_at]
  refine congrArg₂ Ideal.div ?_ (cnt_word 8 s (by omega) s.isLt)
  refine Eq.trans ?_ (line8 (fun j => ext 16 (fun s => proj V0 q s ⟨256 + e, by omega⟩) (s + 16 - j)))
  exact congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (ext_eq _ (by omega)) (ext_eq _ (by omega))) (ext_eq _ (by omega))) (ext_eq _ (by omega))) (ext_eq _ (by omega))) (ext_eq _ (by omega))) (ext_eq _ (by omega))) (ext_eq _ (by omega))
theorem sum16 (q : Fin 2) (s : Fin 2048) (e : Fin 128) : av102 V0 (ix3 q s ⟨384 + e, by omega⟩)
    = Ideal.div (∑ j : Fin 16, ext 16 (fun s => proj V0 q s ⟨384 + e, by omega⟩) (s + 16 - j)) (cnt 16 s) := by
  unfold av102 Value.res_main_v102
  pointwise
  rw [dif_neg (by omega), dif_neg (by omega), dif_neg (by omega)]
  have he : 384 + e.val - 128 - 128 - 128 = e.val := by omega
  simp only [he, v68_at]
  refine congrArg₂ Ideal.div ?_ (cnt_word 16 s (by omega) s.isLt)
  refine Eq.trans ?_ (line16 (fun j => ext 16 (fun s => proj V0 q s ⟨384 + e, by omega⟩) (s + 16 - j)))
  exact congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (ext_eq _ (by omega)) (ext_eq _ (by omega))) (ext_eq _ (by omega))) (ext_eq _ (by omega))) (ext_eq _ (by omega))) (ext_eq _ (by omega))) (ext_eq _ (by omega))) (ext_eq _ (by omega))) (ext_eq _ (by omega))) (ext_eq _ (by omega))) (ext_eq _ (by omega))) (ext_eq _ (by omega))) (ext_eq _ (by omega))) (ext_eq _ (by omega))) (ext_eq _ (by omega))) (ext_eq _ (by omega))

abbrev dwA : FVec Ideal S31x512 .f32 := V0 (Proc.devRef .tc main_arg6)
abbrev cbA : FVec Ideal S512 .f32 := V0 (Proc.devRef .tc main_arg7)
abbrev av320 : FVec Ideal S2x2048x512 .f32 := Value.res_main_v320 V0
theorem conv_at (q : Fin 2) (s : Fin 2048) (e : Fin 512) : av320 V0 (ix3 q s e) = conv (glu (proj V0 q) e) (fun k => dwA V0 (ix2 k e)) (cbA V0 (ix1 e)) s := by
  unfold av320 Value.res_main_v320 Value.res_main_v310 Value.res_main_v298
  pointwise
  simp only [v132_at]
  have h : ∀ k : ℕ, ext 30 (glu (proj V0 q) e) (k + s) = ext 32 (glu (proj V0 q) e) (s + 2 + k) := fun k => ext_eq _ (by omega)
  have h0 : ext 30 (glu (proj V0 q) e) s = ext 32 (glu (proj V0 q) e) (s + 2 + (0 : ℕ)) := ext_eq _ (by omega)
  simp only [h, h0]
  exact taps_line (fun k : Fin 31 => ext 32 (glu (proj V0 q) e) (s + 2 + k) * dwA V0 (ix2 k e)) (cbA V0 (ix1 e))

end Cert.Reference3Ideal.Forward
-- ==== Proof.Forward.RefOut.lean ====
module

public import proofs.«01_k».proof.Proof.Forward.Ref

@[expose] public section

set_option maxRecDepth 16384

noncomputable section

/-! The reference's layer and its three results, read at an index. -/

namespace Cert.Reference3Ideal.Forward

open Idealize.ShloMosaic Idealize.ShloMosaic.TcCoe Idealize.SL.Sem
open Cert.Reference3Ideal Cert.Reference3Ideal.Gen Cert.MixGrad Cert.Forward
open scoped BigOperators

/-- The gate's function of every element. -/
def silu (x : FVec Ideal S2x2048x512 .f32) : FVec Ideal S2x2048x512 .f32 :=
  mulf x (Host.divf (broadcastInDim S2x2048x512 ![] bcast_S_S2x2048x512 (constant S_ .f32 0x3F800000#32)) (addf (broadcastInDim S2x2048x512 ![] bcast_S_S2x2048x512 (constant S_ .f32 0x3F800000#32)) (Host.exp (Host.negf x))))
/-- A vector of the mixer laid along every token. -/
def along (v : FVec Ideal S512 .f32) : FVec Ideal S2x2048x512 .f32 :=
  broadcastInDim S2x2048x512 ![0, 1, 2] bcast_S1x1x512_S2x2048x512_0_1_2 (broadcastInDim S1x1x512 ![2] bcast_S512_S1x1x512_2 v)
/-- The pooling mixer's linear map, and the convolution mixer's. -/
def zz (D : FVec Ideal S2x2048x512 .f32) (pw : FVec Ideal S4x128x128 .f32) (pb : FVec Ideal S4x128 .f32) : FVec Ideal S2x2048x512 .f32 :=
  shapeCast S2x2048x512 (addf (transpose S2x2048x4x128 [2, 3, 0, 1] (Host.dotGeneral dot_S4x128x128_S2x2048x4x128_S4x128x2x2048_1_3_2_01_0_2 none pw (shapeCast S2x2048x4x128 D shapeCasts_S2x2048x512_S2x2048x4x128)) transposes_S4x128x2x2048_S2x2048x4x128_2_3_0_1) (broadcastInDim S2x2048x4x128 ![0, 1, 2, 3] bcast_S1x1x4x128_S2x2048x4x128_0_1_2_3 (broadcastInDim S1x1x4x128 ![2, 3] bcast_S4x128_S1x1x4x128_2_3 pb))) shapeCasts_S2x2048x4x128_S2x2048x512
def oo (L : FVec Ideal S2x2048x512 .f32) (pw : FVec Ideal S512x512 .f32) (pb : FVec Ideal S512 .f32) : FVec Ideal S2x2048x512 .f32 :=
  addf (Host.dotGeneral dot_S2x2048x512_S512x512_S2x2048x512_2_0_01_1_n_n none (silu L) pw) (along pb)
def gateA (p : FVec Ideal S2x2048x2560 .f32) : FVec Ideal S2x2048x512 .f32 :=
  silu (extractStridedSlice S2x2048x512 ![0, 0, 512] p slices_S2x2048x2560_S2x2048x512_0_0_512)
def gateB (p : FVec Ideal S2x2048x2560 .f32) : FVec Ideal S2x2048x512 .f32 :=
  silu (extractStridedSlice S2x2048x512 ![0, 0, 2048] p slices_S2x2048x2560_S2x2048x512_0_0_2048)
/-- The concatenated outputs of the mixers. -/
def yy (Z O : FVec Ideal S2x2048x512 .f32) (p : FVec Ideal S2x2048x2560 .f32) (ps : FVec Ideal S512 .f32) : FVec Ideal S2x2048x1024 .f32 :=
  concatenate S2x2048x1024 2 [⟨S2x2048x512, mulf (mulf Z (along ps)) (gateA p)⟩, ⟨S2x2048x512, mulf O (gateB p)⟩] concatenates_S2x2048x512_S2x2048x512_S2x2048x1024_d2

theorem silu_at (x : FVec Ideal S2x2048x512 .f32) (b : Fin 2) (s : Fin 2048) (i : Fin 512) : silu x (ix3 b s i) = swish (x (ix3 b s i)) := by
  pointwise [silu]
  rfl
theorem along_at (v : FVec Ideal S512 .f32) (b : Fin 2) (s : Fin 2048) (i : Fin 512) : along v (ix3 b s i) = v (ix1 i) := by
  pointwise [along]
theorem gateA_at (p : FVec Ideal S2x2048x2560 .f32) (b : Fin 2) (s : Fin 2048) (i : Fin 512) :
    gateA p (ix3 b s i) = swish (p (ix3 b s ⟨512 + i, by omega⟩)) := by
  unfold gateA
  rw [silu_at]
  pointwise
theorem gateB_at (p : FVec Ideal S2x2048x2560 .f32) (b : Fin 2) (s : Fin 2048) (i : Fin 512) :
    gateB p (ix3 b s i) = swish (p (ix3 b s ⟨2048 + i, by omega⟩)) := by
  unfold gateB
  rw [silu_at]
  pointwise
theorem zz_at (D : FVec Ideal S2x2048x512 .f32) (pw : FVec Ideal S4x128x128 .f32) (pb : FVec Ideal S4x128 .f32) (q : Fin 2) (s : Fin 2048) (a : Fin 4) (j : Fin 128) :
    zz D pw pb (ix3 q s (lane a j)) = (∑ i : Fin 128, D (ix3 q s (lane a i)) * pw (ix3 a i j)) + pb (ix2 a j) := by
  unfold lane
  pointwise [zz]
  exact congrArg (fun x : EReal => x + pb (ix2 a j)) (Finset.sum_congr rfl fun i _ => mul_comm (G := EReal) _ _)
theorem oo_at (L : FVec Ideal S2x2048x512 .f32) (pw : FVec Ideal S512x512 .f32) (pb : FVec Ideal S512 .f32) (q : Fin 2) (s : Fin 2048) (j : Fin 512) :
    oo L pw pb (ix3 q s j) = (∑ i : Fin 512, swish (L (ix3 q s i)) * pw (ix2 i j)) + pb (ix1 j) := by
  pointwise [oo]
  simp only [silu_at, along_at]
theorem yy_lo (Z O : FVec Ideal S2x2048x512 .f32) (p : FVec Ideal S2x2048x2560 .f32) (ps : FVec Ideal S512 .f32) (q : Fin 2) (s : Fin 2048) (i : Fin 512) :
    yy Z O p ps (ix3 q s ⟨i, by omega⟩) = Z (ix3 q s i) * ps (ix1 i) * swish (p (ix3 q s ⟨512 + i, by omega⟩)) := by
  pointwise [yy]
  simp only [gateA_at, along_at]
theorem yy_hi (Z O : FVec Ideal S2x2048x512 .f32) (p : FVec Ideal S2x2048x2560 .f32) (ps : FVec Ideal S512 .f32) (q : Fin 2) (s : Fin 2048) (i : Fin 512) :
    yy Z O p ps (ix3 q s ⟨512 + i, by omega⟩) = O (ix3 q s i) * swish (p (ix3 q s ⟨2048 + i, by omega⟩)) := by
  pointwise [yy]
  simp only [gateB_at]

/-- The layer's parameters over the typed arrays. -/
def parsOf (pw : FVec Ideal S4x128x128 .f32) (pb : FVec Ideal S4x128 .f32) (ps : FVec Ideal S512 .f32) (dw : FVec Ideal S31x512 .f32)
    (cb lg lb : FVec Ideal S512 .f32) (ww : FVec Ideal S512x512 .f32) (wb : FVec Ideal S512 .f32) (wo : FVec Ideal S1024x1024 .f32) (fg : FVec Ideal S1024 .f32) : Pars where
  pw a i j := pw (ix3 a i j)
  pb l := pb (ix2 ⟨l / 128, by omega⟩ ⟨l % 128, by omega⟩)
  ps l := ps (ix1 l)
  dw k l := dw (ix2 k l)
  cb l := cb (ix1 l)
  lg l := lg (ix1 l)
  lb l := lb (ix1 l)
  ww i j := ww (ix2 i j)
  wb l := wb (ix1 l)
  wo i j := wo (ix2 i j)
  fg l := fg (ix1 l)

variable (V0 : Valuation τ sig (Elt Ideal))

def pars : Pars := parsOf (V0 (Proc.devRef .tc main_arg3)) (V0 (Proc.devRef .tc main_arg4)) (V0 (Proc.devRef .tc main_arg5)) (V0 (Proc.devRef .tc main_arg6))
  (V0 (Proc.devRef .tc main_arg7)) (V0 (Proc.devRef .tc main_arg8)) (V0 (Proc.devRef .tc main_arg9)) (V0 (Proc.devRef .tc main_arg10))
  (V0 (Proc.devRef .tc main_arg11)) (V0 (Proc.devRef .tc main_arg12)) (V0 (Proc.devRef .tc main_arg13))

abbrev xA : FVec Ideal S2x2048x1024 .f32 := V0 (Proc.devRef .tc main_arg0)
abbrev tA : FVec Ideal S2x2048x1024 .f32 := V0 (Proc.devRef .tc main_arg1)
abbrev D : FVec Ideal S2x2048x512 .f32 := subf (Value.res_main_v102 V0) (Value.res_main_v1 V0)
abbrev LN : FVec Ideal S2x2048x512 .f32 := Value.res_main_v344 V0
abbrev Y : FVec Ideal S2x2048x1024 .f32 :=
  yy (zz (D V0) (V0 (Proc.devRef .tc main_arg3)) (V0 (Proc.devRef .tc main_arg4))) (oo (LN V0) (V0 (Proc.devRef .tc main_arg10)) (V0 (Proc.devRef .tc main_arg11))) (aP V0) (V0 (Proc.devRef .tc main_arg5))
abbrev H : FVec Ideal S2x2048x1024 .f32 := Value.res_main_v367 V0

theorem H_of : H V0 = addf (xA V0) (Host.dotGeneral dot_S2x2048x1024_S1024x1024_S2x2048x1024_2_0_01_1_n_n (φ₂ := .f32) none (Y V0) (V0 (Proc.devRef .tc main_arg12) : FVec Ideal S1024x1024 .f32)) := rfl

theorem D_at (q : Fin 2) (s : Fin 2048) (a : Fin 4) (i : Fin 128) :
    D V0 (ix3 q s (lane a i)) = pooled (width a) (fun s => proj V0 q s ⟨lane a i, by have := (lane a i).isLt; omega⟩) s := by
  have h : ∀ l : Fin 512, D V0 (ix3 q s l) = av102 V0 (ix3 q s l) - proj V0 q s ⟨l, by omega⟩ := by
    intro l
    unfold proj av102
    pointwise [Value.res_main_v1]
  rw [h]
  unfold pooled
  congr 1
  match a with
  | ⟨0, _⟩ => exact (congrArg (fun l => av102 V0 (ix3 q s l)) (Fin.ext (by show 0 * 128 + i.val = i.val; omega) : lane 0 i = ⟨i, by omega⟩)).trans ((sum2 V0 q s i).trans (by
      have e : (lane 0 i).val = i.val := by show 0 * 128 + i.val = i.val; omega
      simp only [← e]; rfl))
  | ⟨1, _⟩ => exact sum4 V0 q s i
  | ⟨2, _⟩ => exact sum8 V0 q s i
  | ⟨3, _⟩ => exact sum16 V0 q s i

theorem LN_at (q : Fin 2) (s : Fin 2048) (i : Fin 512) : LN V0 (ix3 q s i) = normed (cTok (pars V0) (proj V0 q) s) (pars V0).lg (pars V0).lb i := by
  have h : LN V0 (ix3 q s i) = normed (fun l => av320 V0 (ix3 q s l)) (pars V0).lg (pars V0).lb i := by
    unfold normed mean LN av320 pars parsOf
    pointwise [Value.res_main_v344, Value.res_main_v324, Value.res_main_v326]
  rw [h]
  exact congrArg (fun f => normed f (pars V0).lg (pars V0).lb i) (funext fun l => conv_at V0 q s l)

theorem Y_at (q : Fin 2) (s : Fin 2048) (e : Fin 1024) : Y V0 (ix3 q s e) = yTok (pars V0) (proj V0 q) s e := by
  by_cases h : e.val < 512
  · rw [yTok_lo (pars V0) (proj V0 q) s ⟨e / 128, by omega⟩ ⟨e % 128, by omega⟩ e (by show e.val = e.val / 128 * 128 + e.val % 128; omega)]
    have hl : (⟨e.val, h⟩ : Fin 512) = lane ⟨e / 128, by omega⟩ ⟨e % 128, by omega⟩ := Fin.ext (by show e.val = e.val / 128 * 128 + e.val % 128; omega)
    refine (yy_lo _ _ _ _ q s ⟨e, h⟩).trans ?_
    unfold loTok zTok
    rw [hl, zz_at]
    simp only [D_at]
    have hp : ∀ a j, (pars V0).pb (lane a j) = (V0 (Proc.devRef .tc main_arg4) : FVec Ideal S4x128 .f32) (ix2 a j) := by
      intro a j
      refine congrArg₂ (fun x y => (V0 (Proc.devRef .tc main_arg4) : FVec Ideal S4x128 .f32) (ix2 x y)) (Fin.ext ?_) (Fin.ext ?_)
      · show (a.val * 128 + j.val) / 128 = a.val; omega
      · show (a.val * 128 + j.val) % 128 = j.val; omega
    rw [hp]
    rfl
  · rw [yTok_hi (pars V0) (proj V0 q) s ⟨e - 512, by omega⟩ e (by show e.val = 512 + (e.val - 512); omega)]
    have hl : e = ⟨512 + (⟨e - 512, by omega⟩ : Fin 512), by show 512 + (e.val - 512) < 1024; omega⟩ := Fin.ext (by show e.val = 512 + (e.val - 512); omega)
    conv_lhs => rw [hl]
    refine (yy_hi _ _ _ _ q s ⟨e - 512, by omega⟩).trans ?_
    unfold hiTok oTok
    rw [oo_at]
    simp only [LN_at]
    rfl

theorem H_at (q : Fin 2) (s : Fin 2048) (e : Fin 1024) : H V0 (ix3 q s e) = hTok (pars V0) (proj V0 q) (fun e => xA V0 (ix3 q s e)) s e := by
  rw [H_of]
  unfold hTok
  pointwise
  simp only [Y_at]
  rfl

end Cert.Reference3Ideal.Forward

end
-- ==== Proof.Forward.RefRes.lean ====
module

public import proofs.«01_k».proof.Proof.Forward.RefOut
public import proofs.«01_k».proof.Proof.GradIn.Ref

@[expose] public section

set_option maxRecDepth 16384
set_option maxHeartbeats 400000

noncomputable section

/-! The reference's loss and its two gradients over the residual stream, read at an index. -/

namespace Cert.Reference3Ideal.Forward

open Idealize.ShloMosaic Idealize.ShloMosaic.TcCoe Idealize.SL.Sem
open Cert.Reference3Ideal Cert.Reference3Ideal.Gen Cert.MixGrad Cert.Forward
open scoped BigOperators

section
variable (h tgt : FVec Ideal S2x2048x1024 .f32) (fg : FVec Ideal S1024 .f32)

/-- The mean square of a row plus the guard, and the reciprocal root of it. -/
def ms : FVec Ideal S2x2048x1 .f32 :=
  addf (Host.divf (broadcastInDim S2x2048x1 ![0, 1] bcast_S2x2048_S2x2048x1_0_1 (Host.reduceAdd (mulf h h) (constant S_ .f32 0x00000000#32) reducesTo_S2x2048x1024_S2x2048_d2 h_S_)) (broadcastInDim S2x2048x1 ![] bcast_S_S2x2048x1 (constant S_ .f32 0x44800000#32))) (broadcastInDim S2x2048x1 ![] bcast_S_S2x2048x1 (constant S_ .f32 0x358637BD#32))
def spread : FVec Ideal S2x2048x1024 .f32 := broadcastInDim S2x2048x1024 ![0, 1, 2] bcast_S2x2048x1_S2x2048x1024_0_1_2 (Host.rsqrt (ms h))
/-- The normalised rows and the gain, tokens in groups of eight. -/
def hn : FVec Ideal S2x256x8x1024 .f32 := shapeCast S2x256x8x1024 (mulf h (spread h)) shapeCasts_S2x2048x1024_S2x256x8x1024
def gain : FVec Ideal S2x256x8x1024 .f32 :=
  broadcastInDim S2x256x8x1024 ![0, 1, 2, 3] bcast_S1x1x8x1024_S2x256x8x1024_0_1_2_3 (broadcastInDim S1x1x8x1024 ![2, 3] bcast_S8x1024_S1x1x8x1024_2_3 (broadcastInDim S8x1024 ![1] bcast_S1024_S8x1024_1 fg))
/-- The error, -/
def er : FVec Ideal S2x2048x1024 .f32 := subf (shapeCast S2x2048x1024 (mulf (hn h) (gain fg)) shapeCasts_S2x256x8x1024_S2x2048x1024) tgt
/-- the gradient of the output, -/
def dof : FVec Ideal S2x2048x1024 .f32 :=
  mulf (broadcastInDim S2x2048x1024 ![0, 1] bcast_S2x2048_S2x2048x1024_0_1 (Host.divf (broadcastInDim S2x2048 ![] bcast_S_S2x2048 (mulf (constant S_ .f32 0x3F000000#32) (constant S_ .f32 0x3F800000#32))) (broadcastInDim S2x2048 ![] bcast_S_S2x2048 (constant S_ .f32 0x44800000#32)))) (mulf (broadcastInDim S2x2048x1024 ![] bcast_S_S2x2048x1024 (constant S_ .f32 0x40000000#32)) (er h tgt fg))
def dog : FVec Ideal S2x256x8x1024 .f32 := shapeCast S2x256x8x1024 (dof h tgt fg) shapeCasts_S2x2048x1024_S2x256x8x1024
/-- that times the gain, -/
def gy : FVec Ideal S2x2048x1024 .f32 := shapeCast S2x2048x1024 (mulf (dog h tgt fg) (gain fg)) shapeCasts_S2x256x8x1024_S2x2048x1024
/-- and the share that comes through the mean square. -/
def through : FVec Ideal S2x2048x1024 .f32 :=
  broadcastInDim S2x2048x1024 ![0, 1] bcast_S2x2048_S2x2048x1024_0_1 (Host.reduceAdd (Host.divf (mulf (shapeCast S2x2048x1 (Host.reduceAdd (mulf h (gy h tgt fg)) (constant S_ .f32 0x00000000#32) reducesTo_S2x2048x1024_S2x2048_d2 h_S_) shapeCasts_S2x2048_S2x2048x1) (mulf (broadcastInDim S2x2048x1 ![] bcast_S_S2x2048x1 (constant S_ .f32 0xBF000000#32)) (Host.divf (Host.rsqrt (ms h)) (ms h)))) (broadcastInDim S2x2048x1 ![] bcast_S_S2x2048x1 (constant S_ .f32 0x44800000#32))) (constant S_ .f32 0x00000000#32) reducesTo_S2x2048x1_S2x2048_d2 h_S_)

/-- The gradient of the residual stream, the loss and the gradient of the gain. -/
def gh : FVec Ideal S2x2048x1024 .f32 :=
  addf (addf (mulf (gy h tgt fg) (spread h)) (mulf h (through h tgt fg))) (mulf (through h tgt fg) h)
def loss : FVec Ideal S8x128 .f32 :=
  broadcastInDim S8x128 ![] bcast_S_S8x128 (mulf (constant S_ .f32 0x3F000000#32) (Host.reduceAdd (Host.divf (Host.reduceAdd (mulf (er h tgt fg) (er h tgt fg)) (constant S_ .f32 0x00000000#32) reducesTo_S2x2048x1024_S2x2048_d2 h_S_) (broadcastInDim S2x2048 ![] bcast_S_S2x2048 (constant S_ .f32 0x44800000#32))) (constant S_ .f32 0x00000000#32) reducesTo_S2x2048_S_d0_1 h_S_))
def gg : FVec Ideal S8x1024 .f32 :=
  Host.reduceAdd (shapeCast S1x1x8x1024 (Host.reduceAdd (mulf (hn h) (dog h tgt fg)) (constant S_ .f32 0x00000000#32) reducesTo_S2x256x8x1024_S8x1024_d0_1 h_S_) shapeCasts_S8x1024_S1x1x8x1024) (constant S_ .f32 0x00000000#32) reducesTo_S1x1x8x1024_S8x1024_d0_1 h_S_

theorem spread_at (q : Fin 2) (s : Fin 2048) (k : Fin 1024) : spread h (ix3 q s k) = rms (fun l => h (ix3 q s l)) := by
  unfold rms
  pointwise [spread, ms]
theorem er_at (q : Fin 2) (s : Fin 2048) (k : Fin 1024) :
    er h tgt fg (ix3 q s k) = err (fun l => h (ix3 q s l)) (fun l => fg (ix1 l)) (fun l => tgt (ix3 q s l)) k := by
  unfold err
  pointwise [er, hn, gain]
  rw [spread_at]
theorem dof_at (q : Fin 2) (s : Fin 2048) (k : Fin 1024) :
    dof h tgt fg (ix3 q s k) = dout (fun l => h (ix3 q s l)) (fun l => fg (ix1 l)) (fun l => tgt (ix3 q s l)) k := by
  rw [← dout_eq]
  pointwise [dof]
  rw [er_at]
theorem gy_at (q : Fin 2) (s : Fin 2048) (k : Fin 1024) :
    gy h tgt fg (ix3 q s k) = dout (fun l => h (ix3 q s l)) (fun l => fg (ix1 l)) (fun l => tgt (ix3 q s l)) k * fg (ix1 k) := by
  pointwise [gy, dog, gain]
  rw [dof_at]
theorem through_at (q : Fin 2) (s : Fin 2048) (k : Fin 1024) : through h tgt fg (ix3 q s k)
    = Ideal.div ((∑ l, h (ix3 q s l) * (dout (fun l => h (ix3 q s l)) (fun l => fg (ix1 l)) (fun l => tgt (ix3 q s l)) l * fg (ix1 l))) * (Ideal.ofBits .f32 3204448256#32
          * Ideal.div (rms (fun l => h (ix3 q s l))) (Ideal.div (∑ l, h (ix3 q s l) * h (ix3 q s l)) (Ideal.ofBits .f32 1149239296#32) + Ideal.ofBits .f32 897988541#32))) (Ideal.ofBits .f32 1149239296#32) := by
  unfold rms
  pointwise [through, ms]
  simp only [Finset.univ_unique, Finset.sum_singleton, gy_at]

theorem gh_at (q : Fin 2) (s : Fin 2048) (k : Fin 1024) :
    gh h tgt fg (ix3 q s k) = dhTok (fun l => h (ix3 q s l)) (fun l => fg (ix1 l)) (fun l => tgt (ix3 q s l)) k := by
  rw [← dhTok_eq _ _ _ k _ (through_at h tgt fg q s k)]
  pointwise [gh]
  rw [gy_at, spread_at]

theorem loss_at (a : Fin 8) (b : Fin 128) : loss h tgt fg (ix2 a b)
    = ∑ q : Fin 2, ∑ s : Fin 2048, (∑ e, err (fun l => h (ix3 q s l)) (fun l => fg (ix1 l)) (fun l => tgt (ix3 q s l)) e
        * err (fun l => h (ix3 q s l)) (fun l => fg (ix1 l)) (fun l => tgt (ix3 q s l)) e) * Ideal.ofBits .f32 0x3A000000#32 := by
  have e := loss_eq (fun (i : Fin 2 × Fin 2048) => err (fun l => h (ix3 i.1 i.2 l)) (fun l => fg (ix1 l)) (fun l => tgt (ix3 i.1 i.2 l)))
  rw [Fintype.sum_prod_type, Fintype.sum_prod_type] at e
  refine Eq.trans ?_ e
  pointwise [loss]
  simp only [er_at]

theorem gg_at (i : Fin 8) (k : Fin 1024) : gg h tgt fg (ix2 i k)
    = ∑ q : Fin 2, ∑ b : Fin 256, h (ix3 q ⟨b.val * 8 + i.val, by omega⟩ k) * rms (fun l => h (ix3 q ⟨b.val * 8 + i.val, by omega⟩ l))
        * dout (fun l => h (ix3 q ⟨b.val * 8 + i.val, by omega⟩ l)) (fun l => fg (ix1 l)) (fun l => tgt (ix3 q ⟨b.val * 8 + i.val, by omega⟩ l)) k := by
  unfold gg
  rw [ValueIdx.hostReduceAdd_apply, Cert.Reference2Ideal.GradIn.sum01]
  simp only [Finset.univ_unique, Finset.sum_singleton]
  have e : ∀ (y : FVec Ideal S8x1024 .f32) (a b : Fin 1), shapeCast S1x1x8x1024 y shapeCasts_S8x1024_S1x1x8x1024 (ix4 a b i k) = y (ix2 i k) := by
    intro y a b; pointwise
  rw [e, ValueIdx.hostReduceAdd_apply, Cert.Reference2Ideal.GradIn.sum01]
  pointwise [hn, dog]
  simp only [dof_at, spread_at]
end

/-- The three results the reference's run names are these. -/
theorem gh_of (V0 : Valuation τ sig (Elt Ideal)) :
    addf (addf (mulf (Value.res_main_v408 V0) (broadcastInDim S2x2048x1024 ![0, 1, 2] bcast_S2x2048x1_S2x2048x1024_0_1_2 (Value.res_main_v375 V0))) (mulf (Value.res_main_v367 V0) (Value.res_main_v418 V0))) (mulf (Value.res_main_v418 V0) (Value.res_main_v367 V0))
      = gh (H V0) (V0 (Proc.devRef .tc main_arg1)) (V0 (Proc.devRef .tc main_arg13)) := rfl

end Cert.Reference3Ideal.Forward

end
-- ==== Proof.Forward.Value.lean ====
module

public import proofs.«01_k».proof.Proof.Forward.State
public import proofs.«01_k».proof.Proof.Forward.RefRes

@[expose] public section

set_option maxRecDepth 16384
set_option maxHeartbeats 400000

noncomputable section

/-! The three arrays the call leaves are the reference's gradient of the residual stream, loss and gradient of the gain. -/

namespace Cert.Kernel3Ideal.Forward

open Idealize.ShloMosaic Idealize.ShloMosaic.TcCoe Idealize.SL.Sem
open Idealize.ShloMosaic.Pipeline (Dat)
open Cert.Kernel3Ideal Cert.Kernel3Ideal.Gen Cert.MixGrad Cert.Forward
open scoped BigOperators

variable (m : (ℓ : Loc nD τ sig) → Buf (Elt Ideal) ℓ)

theorem seven : 7 < cfg0.N := lt_of_lt_of_eq (by decide) (show cfg0.N = 8 from N_0).symm

/-- What is started afresh at the first point and added to at every other is in the end the sum over the points. -/
theorem summed {ι : Type} (f : (n : ℕ) → n < cfg0.N → ι → EReal) (g : ℕ → ι → EReal)
    (h0 : ∀ t : Fin cfg0.N, t.val % 8 = 0 → ∀ i, f t.val t.isLt i = g t.val i)
    (hs : ∀ t : Fin cfg0.N, ¬t.val % 8 = 0 → ∀ i, f t.val t.isLt i = f (t.val - 1) (Nat.lt_of_le_of_lt (Nat.sub_le _ _) t.isLt) i + g t.val i) (i : ι) :
    f 7 seven i = ∑ t : Fin cfg0.N, g t.val i :=
  (Pipeline.eq_sum_fin_of_reset_step_apply_last f 8 (fun _ => (0 : EReal)) (fun t i => g t.val i)
    (fun t h i => (h0 t h i).trans (zero_add _).symm) hs (le_of_eq N_0) ⟨7, seven⟩ N_0.symm i).trans (zero_add _)

/-- The gradient of the residual stream, the loss and the gradient of the gain, over the call's arguments. -/
def dhAll (c : Dev nD) : FVec Ideal S2x2048x1024 .f32 := fun j => dhTok (hAt m c (j 0) (j 1)) (K m c).fg (T0 m c (j 0) (j 1)) (j 2)
def lossAll (c : Dev nD) : FVec Ideal S8x128 .f32 := fun _ => (∑ q : Fin 2, ∑ s : Fin 2048, lossTok m c q s : EReal)
def gainAll (c : Dev nD) : FVec Ideal S8x1024 .f32 := fun j => (∑ q : Fin 2, ∑ b : Fin 256, gainTok m c (j 1) q ⟨b.val * 8 + (j 0).val, by have h : (j 0).val < 8 := (j 0).isLt; omega⟩ : EReal)

/-- Where an element of the block point `t` writes lies. -/
theorem emb18 (t : Fin cfg0.N) (r : Fin 512) (k : Fin 1024) : ((cfg0.win 18).blk t).view.emb (ix3 0 r k : S1x512x1024.Idx)
    = (ix3 (sq t.val) (tk t.val r) k : S2x2048x1024.Idx) :=
  tile_ext t r k _ (by blk_simp [idx t]; rfl) (by blk_simp [idx t]) (by blk_simp [idx t])

theorem dh_final (c : Dev nD) : (dats m 0 c).arrAt 18 cfg0.N = dhAll m c := by
  refine (dats m 0 c).arrAt_eq_of_covers 18 _ (by decide +kernel) fun t _ y => ?_
  blk_simp
  rw [after0_18]
  obtain ⟨z, r, k, rfl⟩ : ∃ (z : Fin 1) (r : Fin 512) (k : Fin 1024), y = (ix3 z r k : S1x512x1024.Idx) :=
    ⟨y 0, y 1, y 2, funext fun a => by match a with | ⟨0, _⟩ => rfl | ⟨1, _⟩ => rfl | ⟨2, _⟩ => rfl⟩
  obtain rfl : z = 0 := Subsingleton.elim _ _
  refine Eq.trans ?_ (congrArg _ (emb18 t r k)).symm
  exact dh_point m c t r k

def accLoss (c : Dev nD) (n : ℕ) (h : n < cfg0.N) : S8x128.Idx → EReal := (outsAt0 m c n h).2.2.2.2.2.1
def accGain (c : Dev nD) (n : ℕ) (h : n < cfg0.N) : S8x1024.Idx → EReal := (outsAt0 m c n h).2.2.2.2.2.2.1

theorem loss_sum (c : Dev nD) (j : S8x128.Idx) : accLoss m c 7 seven j = ∑ q : Fin 2, ∑ s : Fin 2048, lossTok m c q s := by
  have e : ∀ j : S8x128.Idx, j = ix2 (j 0) (j 1) := fun j => funext fun a => by match a with | ⟨0, _⟩ => rfl | ⟨1, _⟩ => rfl
  refine (summed (accLoss m c) (fun n _ => ∑ r : Fin 512, lossTok m c (sq n) (tk n r)) (fun t h j => ?_) (fun t h j => ?_) j).trans ?_
  · rw [e j]; exact loss_first m c t h _ _
  · rw [e j]; exact loss_step m c t h _ _
  · refine Fin.sum_points_lanes_congr 4 fun t r ha hl => ?_
    exact congrArg₂ (lossTok m c) (Fin.ext (sq_val t)) (Fin.ext (by show 512 * (t.val % 4) + r.val = t.val % 4 * 512 + r.val; omega))

theorem gain_sum (c : Dev nD) (j : S8x1024.Idx) : accGain m c 7 seven j = gainAll m c j := by
  have e : ∀ j : S8x1024.Idx, j = ix2 (j 0) (j 1) := fun j => funext fun a => by match a with | ⟨0, _⟩ => rfl | ⟨1, _⟩ => rfl
  have hj : ∀ j : S8x1024.Idx, (j 0).val < 8 := fun j => (j 0).isLt
  refine (summed (accGain m c) (fun n j => ∑ x : Fin 64, gainTok m c (j 1) (sq n) (tk n ⟨x.val * 8 + (j 0).val, by have := hj j; omega⟩)) (fun t h j => ?_) (fun t h j => ?_) j).trans ?_
  · rw [e j]; exact gain_first m c t h _ _
  · rw [e j]; exact gain_step m c t h _ _
  · refine Fin.sum_points_lanes_congr 4 fun t x ha hl => ?_
    exact congrArg₂ (gainTok m c (j 1)) (Fin.ext (sq_val t)) (Fin.ext (by show 512 * (t.val % 4) + (x.val * 8 + (j 0).val) = (t.val % 4 * 64 + x.val) * 8 + (j 0).val; omega))

theorem loss_final (c : Dev nD) : (dats m 0 c).arrAt 19 cfg0.N = lossAll m c := by
  refine (dats m 0 c).arrAt_eq_of_after_last 19 (⟨7, by decide +kernel⟩ : Fin grid0.N) (by decide +kernel) _ fun j => ?_
  obtain ⟨i, k, rfl⟩ : ∃ (i : Fin 8) (k : Fin 128), j = (ix2 i k : S8x128.Idx) := ⟨j 0, j 1, funext fun a => by match a with | ⟨0, _⟩ => rfl | ⟨1, _⟩ => rfl⟩
  rw [after0_19]
  exact loss_sum m c (ix2 i k)
theorem gain_final (c : Dev nD) : (dats m 0 c).arrAt 20 cfg0.N = gainAll m c := by
  refine (dats m 0 c).arrAt_eq_of_after_last 20 (⟨7, by decide +kernel⟩ : Fin grid0.N) (by decide +kernel) _ fun j => ?_
  obtain ⟨i, k, rfl⟩ : ∃ (i : Fin 8) (k : Fin 1024), j = (ix2 i k : S8x1024.Idx) := ⟨j 0, j 1, funext fun a => by match a with | ⟨0, _⟩ => rfl | ⟨1, _⟩ => rfl⟩
  rw [after0_20]
  exact gain_sum m c (ix2 i k)

section
variable (c : Dev nD) (V0 : Valuation Cert.Reference3Ideal.τ Cert.Reference3Ideal.sig (Elt Ideal))

/-- The reference's arguments are the call's. -/
structure Same : Prop where
  h0 : V0 (Proc.devRef .tc Cert.Reference3Ideal.main_arg0) = m ((c : Thread nD τ).loc main_arg0)
  h1 : V0 (Proc.devRef .tc Cert.Reference3Ideal.main_arg1) = m ((c : Thread nD τ).loc main_arg1)
  h2 : V0 (Proc.devRef .tc Cert.Reference3Ideal.main_arg2) = m ((c : Thread nD τ).loc main_arg2)
  h3 : V0 (Proc.devRef .tc Cert.Reference3Ideal.main_arg3) = m ((c : Thread nD τ).loc main_arg3)
  h4 : V0 (Proc.devRef .tc Cert.Reference3Ideal.main_arg4) = m ((c : Thread nD τ).loc main_arg4)
  h5 : V0 (Proc.devRef .tc Cert.Reference3Ideal.main_arg5) = m ((c : Thread nD τ).loc main_arg5)
  h6 : V0 (Proc.devRef .tc Cert.Reference3Ideal.main_arg6) = m ((c : Thread nD τ).loc main_arg6)
  h7 : V0 (Proc.devRef .tc Cert.Reference3Ideal.main_arg7) = m ((c : Thread nD τ).loc main_arg7)
  h8 : V0 (Proc.devRef .tc Cert.Reference3Ideal.main_arg8) = m ((c : Thread nD τ).loc main_arg8)
  h9 : V0 (Proc.devRef .tc Cert.Reference3Ideal.main_arg9) = m ((c : Thread nD τ).loc main_arg9)
  h10 : V0 (Proc.devRef .tc Cert.Reference3Ideal.main_arg10) = m ((c : Thread nD τ).loc main_arg10)
  h11 : V0 (Proc.devRef .tc Cert.Reference3Ideal.main_arg11) = m ((c : Thread nD τ).loc main_arg11)
  h12 : V0 (Proc.devRef .tc Cert.Reference3Ideal.main_arg12) = m ((c : Thread nD τ).loc main_arg12)
  h13 : V0 (Proc.devRef .tc Cert.Reference3Ideal.main_arg13) = m ((c : Thread nD τ).loc main_arg13)

variable (S : Same m c V0)
include S

theorem pars_eq : Cert.Reference3Ideal.Forward.pars V0 = K m c := by
  unfold Cert.Reference3Ideal.Forward.pars
  rw [S.h3, S.h4, S.h5, S.h6, S.h7, S.h8, S.h9, S.h10, S.h11, S.h12, S.h13]
  rfl
theorem proj_eq (q : Fin 2) : Cert.Reference3Ideal.Forward.proj V0 q = P m c q := by
  funext s e
  exact congrFun S.h2 _
theorem x_eq (q : Fin 2) (s : Fin 2048) : (fun e => Cert.Reference3Ideal.Forward.xA V0 (ix3 q s e)) = X0 m c q s := by
  funext e
  exact congrFun S.h0 _
theorem t_eq (q : Fin 2) (s : Fin 2048) : (fun e => Cert.Reference3Ideal.Forward.tA V0 (ix3 q s e)) = T0 m c q s := by
  funext e
  exact congrFun S.h1 _
theorem h_eq (q : Fin 2) (s : Fin 2048) : (fun e => Cert.Reference3Ideal.Forward.H V0 (ix3 q s e)) = hAt m c q s := by
  funext e
  refine (Cert.Reference3Ideal.Forward.H_at V0 q s e).trans ?_
  rw [pars_eq m c V0 S, proj_eq m c V0 S, x_eq m c V0 S]
  rfl
theorem fg_eq : (fun l => (show FVec Ideal S1024 .f32 from V0 (Proc.devRef .tc Cert.Reference3Ideal.main_arg13)) (ix1 l)) = (K m c).fg := by
  funext l
  exact congrFun S.h13 _

theorem dh_eq : Cert.Reference3Ideal.Forward.gh (Cert.Reference3Ideal.Forward.H V0) (Cert.Reference3Ideal.Forward.tA V0) (V0 (Proc.devRef .tc Cert.Reference3Ideal.main_arg13)) = dhAll m c := by
  funext j
  obtain ⟨q, s, k, rfl⟩ : ∃ (q : Fin 2) (s : Fin 2048) (k : Fin 1024), j = (ix3 q s k : S2x2048x1024.Idx) := ⟨j 0, j 1, j 2, funext fun a => by match a with | ⟨0, _⟩ => rfl | ⟨1, _⟩ => rfl | ⟨2, _⟩ => rfl⟩
  refine (Cert.Reference3Ideal.Forward.gh_at _ _ _ q s k).trans ?_
  rw [h_eq m c V0 S q s, t_eq m c V0 S q s]
  exact congrArg (fun f => dhTok (hAt m c q s) f (T0 m c q s) k) (fg_eq m c V0 S)
theorem loss_eq' : Cert.Reference3Ideal.Forward.loss (Cert.Reference3Ideal.Forward.H V0) (Cert.Reference3Ideal.Forward.tA V0) (V0 (Proc.devRef .tc Cert.Reference3Ideal.main_arg13)) = lossAll m c := by
  funext j
  obtain ⟨i, k, rfl⟩ : ∃ (i : Fin 8) (k : Fin 128), j = (ix2 i k : S8x128.Idx) := ⟨j 0, j 1, funext fun a => by match a with | ⟨0, _⟩ => rfl | ⟨1, _⟩ => rfl⟩
  refine (Cert.Reference3Ideal.Forward.loss_at _ _ _ i k).trans ?_
  refine Finset.sum_congr rfl fun q _ => Finset.sum_congr rfl fun s _ => ?_
  rw [h_eq m c V0 S q s, t_eq m c V0 S q s]
  exact congrArg (fun f => (∑ e, err (hAt m c q s) f (T0 m c q s) e * err (hAt m c q s) f (T0 m c q s) e) * Ideal.ofBits .f32 0x3A000000#32) (fg_eq m c V0 S)
theorem gain_eq : Cert.Reference3Ideal.Forward.gg (Cert.Reference3Ideal.Forward.H V0) (Cert.Reference3Ideal.Forward.tA V0) (V0 (Proc.devRef .tc Cert.Reference3Ideal.main_arg13)) = gainAll m c := by
  funext j
  obtain ⟨i, k, rfl⟩ : ∃ (i : Fin 8) (k : Fin 1024), j = (ix2 i k : S8x1024.Idx) := ⟨j 0, j 1, funext fun a => by match a with | ⟨0, _⟩ => rfl | ⟨1, _⟩ => rfl⟩
  refine (Cert.Reference3Ideal.Forward.gg_at _ _ _ i k).trans ?_
  refine Finset.sum_congr rfl fun q _ => Finset.sum_congr rfl fun b _ => ?_
  have e := h_eq m c V0 S q ⟨b.val * 8 + i.val, by omega⟩
  have e' : Cert.Reference3Ideal.Forward.H V0 (ix3 q ⟨b.val * 8 + i.val, by omega⟩ k) = hAt m c q ⟨b.val * 8 + i.val, by omega⟩ k := congrFun e k
  rw [e, t_eq m c V0 S q ⟨b.val * 8 + i.val, by omega⟩, e']
  refine (mul_comm (G := EReal) _ _).trans ?_
  exact congrArg (fun f => dout (hAt m c q ⟨b.val * 8 + i.val, by omega⟩) f (T0 m c q ⟨b.val * 8 + i.val, by omega⟩) k * (hAt m c q ⟨b.val * 8 + i.val, by omega⟩ k * rms (hAt m c q ⟨b.val * 8 + i.val, by omega⟩))) (fg_eq m c V0 S)
end

end Cert.Kernel3Ideal.Forward

end
-- ==== Proof.Forward.Claims.lean ====
module

public import proofs.«01_k».proof.Defs
public import proofs.«01_k».proof.Proof.Gen.Kernel3
public import proofs.«01_k».proof.Proof.Gen.Kernel3Ideal.Value
public import proofs.«01_k».proof.Proof.Gen.Reference3Ideal.Run
public import proofs.«01_k».proof.Proof.Forward.Value
public import Idealize.ShloMosaic.Adequacy
public import Idealize.ShloMosaic.Init

@[expose] public section

noncomputable section

/-! The five statements about the call that runs the layer forward and turns its output's error into the loss and the first gradients. -/

namespace Cert.Forward

open Idealize.ShloMosaic Idealize.SL.Sem Idealize.ShloMosaic.TcCoe

attribute [local instance] Cert.Kernel3.Gen.facts Cert.Kernel3Ideal.Gen.facts Cert.Reference3Ideal.Gen.facts

set_option maxHeartbeats 0 in
set_option maxRecDepth 1000000 in
/-- The printed program and its ideal reading are one text: their kernel bodies agree label by label, -/
theorem bodies : Cert.Kernel3.defs₀ (F := Bits) = Cert.Kernel3Ideal.defs₀ (F := Bits) := by
  unfold Cert.Kernel3.defs₀ Cert.Kernel3Ideal.defs₀
  refine congrArg Defs.onTc (funext fun l => funext fun a => ?_)
  obtain ⟨n, hn⟩ := l
  cases n with
  | zero => obtain ⟨t, s⟩ := a; rfl
  | succ n => exact absurd hn (Nat.not_lt.2 (Nat.le_add_left _ _))
theorem tables : Cert.Kernel3.defs (F := Bits) = Cert.Kernel3Ideal.defs (F := Bits) :=
  congrArg (Pipeline.defs Cert.Kernel3Ideal.pcfgs) bodies

set_option maxHeartbeats 0 in
set_option maxRecDepth 1000000 in
/-- so one run serves both. -/
theorem frame_kernel : Cert.quiescent_Kernel3 := fun m ρ _ => by
  have h := Cert.Kernel3Ideal.Gen.frame (F := Bits) m ρ
  rw [← tables] at h
  exact h

theorem frame_ideal : Cert.quiescent_Kernel3Ideal := fun m ρ _ => Cert.Kernel3Ideal.Gen.frame m ρ

theorem frame_reference : Cert.quiescent_Reference3Ideal := fun m ρ _ =>
  (θ_run Cert.Reference3Ideal.defs _ _).mono (fun r h => ⟨fun c => (h c).2.2.2, sem_eq_zero_of_no_sems (by decide) r.2⟩)
    (Cert.Reference3Ideal.Value.run m ρ)

theorem values : Cert.algebraic_Kernel3Ideal_Reference3Ideal := by
  intro m g m' g' _ hm
  refine ⟨_, _, _, (θ_run Cert.Kernel3Ideal.defs _ _).mono (fun r h c => ⟨(h c).2.2.2.2.1.trans (Cert.Kernel3Ideal.Forward.dh_final m c),
      (h c).2.2.2.2.2.1.trans (Cert.Kernel3Ideal.Forward.loss_final m c), (h c).2.2.2.2.2.2.1.trans (Cert.Kernel3Ideal.Forward.gain_final m c), (h c).2.2.2.2.2.2.2⟩) (Cert.Kernel3Ideal.Value.run_blocks m g),
    (θ_run Cert.Reference3Ideal.defs _ _).mono (fun r h c => ?_) (Cert.Reference3Ideal.Value.run m' g')⟩
  obtain ⟨e0, e1, e2, e3, e4, e5, e6, e7, e8, e9, e10, e11, e12, e13⟩ := hm c
  obtain ⟨hd, hl, hg, hk⟩ := h c
  have S : Cert.Kernel3Ideal.Forward.Same m c (StableHlo.launchContents m' c) := ⟨e0, e1, e2, e3, e4, e5, e6, e7, e8, e9, e10, e11, e12, e13⟩
  exact ⟨hd.trans (Cert.Kernel3Ideal.Forward.dh_eq m c _ S), hl.trans (Cert.Kernel3Ideal.Forward.loss_eq' m c _ S), hg.trans (Cert.Kernel3Ideal.Forward.gain_eq m c _ S), hk⟩

end Cert.Forward

end
-- ==== Proof.lean ====
module

public import proofs.«01_k».proof.Defs
public import proofs.«01_k».proof.Proof.GradIn.Claims
public import proofs.«01_k».proof.Proof.MixGrad.Claims
public import proofs.«01_k».proof.Proof.Forward.Claims

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.MixGrad.frame_kernel, Cert.MixGrad.frame_ideal, Cert.MixGrad.frame_reference,
  Cert.GradIn.frame_kernel, Cert.GradIn.frame_ideal, Cert.GradIn.frame_reference,
  Cert.Forward.frame_kernel, Cert.Forward.frame_ideal, Cert.Forward.frame_reference,
  trivial, Cert.MixGrad.values, trivial, Cert.GradIn.values, trivial, Cert.Forward.values⟩

end Cert.Proof

end
